-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelMl (m : (ℓ : Loc Cert.KernelMl.nD Cert.KernelMl.τ Cert.KernelMl.sig) → Buf (Elt Bits) ℓ) : Prop :=
  True

def Pre_KernelMlIdeal (m : (ℓ : Loc Cert.KernelMlIdeal.nD Cert.KernelMlIdeal.τ Cert.KernelMlIdeal.sig) → Buf (Elt Ideal) ℓ) : Prop :=
  True

def Pre_ReferenceMlIdeal (m : (ℓ : Loc Cert.ReferenceMlIdeal.nD Cert.ReferenceMlIdeal.τ Cert.ReferenceMlIdeal.sig) → Buf (Elt Ideal) ℓ) : Prop :=
  True

def Pre_KernelNa (m : (ℓ : Loc Cert.KernelNa.nD Cert.KernelNa.τ Cert.KernelNa.sig) → Buf (Elt Bits) ℓ) : Prop :=
  True

def Pre_KernelNaIdeal (m : (ℓ : Loc Cert.KernelNaIdeal.nD Cert.KernelNaIdeal.τ Cert.KernelNaIdeal.sig) → Buf (Elt Ideal) ℓ) : Prop :=
  True

def Pre_ReferenceNaIdeal (m : (ℓ : Loc Cert.ReferenceNaIdeal.nD Cert.ReferenceNaIdeal.τ Cert.ReferenceNaIdeal.sig) → Buf (Elt Ideal) ℓ) : Prop :=
  True

def Pre_KernelQk (m : (ℓ : Loc Cert.KernelQk.nD Cert.KernelQk.τ Cert.KernelQk.sig) → Buf (Elt Bits) ℓ) : Prop :=
  True

def Pre_KernelQkIdeal (m : (ℓ : Loc Cert.KernelQkIdeal.nD Cert.KernelQkIdeal.τ Cert.KernelQkIdeal.sig) → Buf (Elt Ideal) ℓ) : Prop :=
  True

def Pre_ReferenceQkIdeal (m : (ℓ : Loc Cert.ReferenceQkIdeal.nD Cert.ReferenceQkIdeal.τ Cert.ReferenceQkIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDiff (m : (ℓ : Loc Cert.KernelDiff.nD Cert.KernelDiff.τ Cert.KernelDiff.sig) → Buf (Elt Bits) ℓ) : Prop :=
  True

def Pre_KernelDiffIdeal (m : (ℓ : Loc Cert.KernelDiffIdeal.nD Cert.KernelDiffIdeal.τ Cert.KernelDiffIdeal.sig) → Buf (Elt Ideal) ℓ) : Prop :=
  True

def Pre_KernelDiffIdeal_diff_finite [hPre_diff_finite : Cert.Pre_diff_finite.Facts] (m : (ℓ : Loc Cert.KernelDiffIdeal.nD Cert.KernelDiffIdeal.τ Cert.KernelDiffIdeal.sig) → Buf (Elt Ideal) ℓ) : Prop :=
  ∀ c : Dev Cert.KernelDiffIdeal.nD,
    (Cert.Pre_diff_finite.fn (F := Ideal) (m ((c.tc : Thread Cert.KernelDiffIdeal.nD Cert.KernelDiffIdeal.τ).loc Cert.KernelDiffIdeal.main_arg0)) (m ((c.tc : Thread Cert.KernelDiffIdeal.nD Cert.KernelDiffIdeal.τ).loc Cert.KernelDiffIdeal.main_arg1)) (m ((c.tc : Thread Cert.KernelDiffIdeal.nD Cert.KernelDiffIdeal.τ).loc Cert.KernelDiffIdeal.main_arg2)) (m ((c.tc : Thread Cert.KernelDiffIdeal.nD Cert.KernelDiffIdeal.τ).loc Cert.KernelDiffIdeal.main_arg3)) (m ((c.tc : Thread Cert.KernelDiffIdeal.nD Cert.KernelDiffIdeal.τ).loc Cert.KernelDiffIdeal.main_arg4)) (m ((c.tc : Thread Cert.KernelDiffIdeal.nD Cert.KernelDiffIdeal.τ).loc Cert.KernelDiffIdeal.main_arg5))) = (fun _ => 1#1)

def Pre_ReferenceDiffIdeal (m : (ℓ : Loc Cert.ReferenceDiffIdeal.nD Cert.ReferenceDiffIdeal.τ Cert.ReferenceDiffIdeal.sig) → Buf (Elt Ideal) ℓ) : Prop :=
  True

def Pre_ReferenceDiffIdeal_diff_finite [hPre_diff_finite : Cert.Pre_diff_finite.Facts] (m : (ℓ : Loc Cert.ReferenceDiffIdeal.nD Cert.ReferenceDiffIdeal.τ Cert.ReferenceDiffIdeal.sig) → Buf (Elt Ideal) ℓ) : Prop :=
  ∀ c : Dev Cert.ReferenceDiffIdeal.nD,
    (Cert.Pre_diff_finite.fn (F := Ideal) (m ((c.tc : Thread Cert.ReferenceDiffIdeal.nD Cert.ReferenceDiffIdeal.τ).loc Cert.ReferenceDiffIdeal.main_arg0)) (m ((c.tc : Thread Cert.ReferenceDiffIdeal.nD Cert.ReferenceDiffIdeal.τ).loc Cert.ReferenceDiffIdeal.main_arg1)) (m ((c.tc : Thread Cert.ReferenceDiffIdeal.nD Cert.ReferenceDiffIdeal.τ).loc Cert.ReferenceDiffIdeal.main_arg2)) (m ((c.tc : Thread Cert.ReferenceDiffIdeal.nD Cert.ReferenceDiffIdeal.τ).loc Cert.ReferenceDiffIdeal.main_arg3)) (m ((c.tc : Thread Cert.ReferenceDiffIdeal.nD Cert.ReferenceDiffIdeal.τ).loc Cert.ReferenceDiffIdeal.main_arg4)) (m ((c.tc : Thread Cert.ReferenceDiffIdeal.nD Cert.ReferenceDiffIdeal.τ).loc Cert.ReferenceDiffIdeal.main_arg5))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelComb (m : (ℓ : Loc Cert.KernelComb.nD Cert.KernelComb.τ Cert.KernelComb.sig) → Buf (Elt Bits) ℓ) : Prop :=
  True

def Pre_KernelCombIdeal (m : (ℓ : Loc Cert.KernelCombIdeal.nD Cert.KernelCombIdeal.τ Cert.KernelCombIdeal.sig) → Buf (Elt Ideal) ℓ) : Prop :=
  True

def Pre_ReferenceCombIdeal (m : (ℓ : Loc Cert.ReferenceCombIdeal.nD Cert.ReferenceCombIdeal.τ Cert.ReferenceCombIdeal.sig) → Buf (Elt Ideal) ℓ) : Prop :=
  True

def Pre_KernelRopeQ (m : (ℓ : Loc Cert.KernelRopeQ.nD Cert.KernelRopeQ.τ Cert.KernelRopeQ.sig) → Buf (Elt Bits) ℓ) : Prop :=
  True

def Pre_KernelRopeQIdeal (m : (ℓ : Loc Cert.KernelRopeQIdeal.nD Cert.KernelRopeQIdeal.τ Cert.KernelRopeQIdeal.sig) → Buf (Elt Ideal) ℓ) : Prop :=
  True

def Pre_ReferenceRopeQIdeal (m : (ℓ : Loc Cert.ReferenceRopeQIdeal.nD Cert.ReferenceRopeQIdeal.τ Cert.ReferenceRopeQIdeal.sig) → Buf (Elt Ideal) ℓ) : Prop :=
  True

def Pre_KernelRopeK (m : (ℓ : Loc Cert.KernelRopeK.nD Cert.KernelRopeK.τ Cert.KernelRopeK.sig) → Buf (Elt Bits) ℓ) : Prop :=
  True

def Pre_KernelRopeKIdeal (m : (ℓ : Loc Cert.KernelRopeKIdeal.nD Cert.KernelRopeKIdeal.τ Cert.KernelRopeKIdeal.sig) → Buf (Elt Ideal) ℓ) : Prop :=
  True

def Pre_ReferenceRopeKIdeal (m : (ℓ : Loc Cert.ReferenceRopeKIdeal.nD Cert.ReferenceRopeKIdeal.τ Cert.ReferenceRopeKIdeal.sig) → Buf (Elt Ideal) ℓ) : Prop :=
  True

def Pre_KernelRouter (m : (ℓ : Loc Cert.KernelRouter.nD Cert.KernelRouter.τ Cert.KernelRouter.sig) → Buf (Elt Bits) ℓ) : Prop :=
  True

def Pre_KernelRouterIdeal (m : (ℓ : Loc Cert.KernelRouterIdeal.nD Cert.KernelRouterIdeal.τ Cert.KernelRouterIdeal.sig) → Buf (Elt Ideal) ℓ) : Prop :=
  True

def Pre_KernelRouterIdeal_router_finite [hPre_router_finite : Cert.Pre_router_finite.Facts] (m : (ℓ : Loc Cert.KernelRouterIdeal.nD Cert.KernelRouterIdeal.τ Cert.KernelRouterIdeal.sig) → Buf (Elt Ideal) ℓ) : Prop :=
  ∀ c : Dev Cert.KernelRouterIdeal.nD,
    (Cert.Pre_router_finite.fn (F := Ideal) (m ((c.tc : Thread Cert.KernelRouterIdeal.nD Cert.KernelRouterIdeal.τ).loc Cert.KernelRouterIdeal.main_arg0)) (m ((c.tc : Thread Cert.KernelRouterIdeal.nD Cert.KernelRouterIdeal.τ).loc Cert.KernelRouterIdeal.main_arg1)) (m ((c.tc : Thread Cert.KernelRouterIdeal.nD Cert.KernelRouterIdeal.τ).loc Cert.KernelRouterIdeal.main_arg2))) = (fun _ => 1#1)

def Pre_ReferenceRouterIdeal (m : (ℓ : Loc Cert.ReferenceRouterIdeal.nD Cert.ReferenceRouterIdeal.τ Cert.ReferenceRouterIdeal.sig) → Buf (Elt Ideal) ℓ) : Prop :=
  True

def Pre_ReferenceRouterIdeal_router_finite [hPre_router_finite : Cert.Pre_router_finite.Facts] (m : (ℓ : Loc Cert.ReferenceRouterIdeal.nD Cert.ReferenceRouterIdeal.τ Cert.ReferenceRouterIdeal.sig) → Buf (Elt Ideal) ℓ) : Prop :=
  ∀ c : Dev Cert.ReferenceRouterIdeal.nD,
    (Cert.Pre_router_finite.fn (F := Ideal) (m ((c.tc : Thread Cert.ReferenceRouterIdeal.nD Cert.ReferenceRouterIdeal.τ).loc Cert.ReferenceRouterIdeal.main_arg0)) (m ((c.tc : Thread Cert.ReferenceRouterIdeal.nD Cert.ReferenceRouterIdeal.τ).loc Cert.ReferenceRouterIdeal.main_arg1)) (m ((c.tc : Thread Cert.ReferenceRouterIdeal.nD Cert.ReferenceRouterIdeal.τ).loc Cert.ReferenceRouterIdeal.main_arg2))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelMl [hKernelMl : Cert.KernelMl.Facts] : Prop :=
  ∀ (m : (ℓ : Loc Cert.KernelMl.nD Cert.KernelMl.τ Cert.KernelMl.sig) → Buf (Elt Bits) ℓ) (g : Dev Cert.KernelMl.nD → PrngReg), Pre_KernelMl m →
    θ_run (Cert.KernelMl.defs (F := Bits)) (onTc (τ := Cert.KernelMl.τ) (Cert.KernelMl.main (F := Bits))) ⟨m, fun _ => 0, g⟩ (fun r => (∀ c : Dev Cert.KernelMl.nD,
      r.2.mem ((c.tc : Thread Cert.KernelMl.nD Cert.KernelMl.τ).loc Cert.KernelMl.main_arg0) = m ((c.tc : Thread Cert.KernelMl.nD Cert.KernelMl.τ).loc Cert.KernelMl.main_arg0)
      ∧ r.2.mem ((c.tc : Thread Cert.KernelMl.nD Cert.KernelMl.τ).loc Cert.KernelMl.main_arg1) = m ((c.tc : Thread Cert.KernelMl.nD Cert.KernelMl.τ).loc Cert.KernelMl.main_arg1)
      ∧ r.2.mem ((c.tc : Thread Cert.KernelMl.nD Cert.KernelMl.τ).loc Cert.KernelMl.main_arg2) = m ((c.tc : Thread Cert.KernelMl.nD Cert.KernelMl.τ).loc Cert.KernelMl.main_arg2))
      ∧ r.2.sem = fun _ => 0)

def quiescent_KernelMlIdeal [hKernelMlIdeal : Cert.KernelMlIdeal.Facts] : Prop :=
  ∀ (m : (ℓ : Loc Cert.KernelMlIdeal.nD Cert.KernelMlIdeal.τ Cert.KernelMlIdeal.sig) → Buf (Elt Ideal) ℓ) (g : Dev Cert.KernelMlIdeal.nD → PrngReg), Pre_KernelMlIdeal m →
    θ_run (Cert.KernelMlIdeal.defs (F := Ideal)) (onTc (τ := Cert.KernelMlIdeal.τ) (Cert.KernelMlIdeal.main (F := Ideal))) ⟨m, fun _ => 0, g⟩ (fun r => (∀ c : Dev Cert.KernelMlIdeal.nD,
      r.2.mem ((c.tc : Thread Cert.KernelMlIdeal.nD Cert.KernelMlIdeal.τ).loc Cert.KernelMlIdeal.main_arg0) = m ((c.tc : Thread Cert.KernelMlIdeal.nD Cert.KernelMlIdeal.τ).loc Cert.KernelMlIdeal.main_arg0)
      ∧ r.2.mem ((c.tc : Thread Cert.KernelMlIdeal.nD Cert.KernelMlIdeal.τ).loc Cert.KernelMlIdeal.main_arg1) = m ((c.tc : Thread Cert.KernelMlIdeal.nD Cert.KernelMlIdeal.τ).loc Cert.KernelMlIdeal.main_arg1)
      ∧ r.2.mem ((c.tc : Thread Cert.KernelMlIdeal.nD Cert.KernelMlIdeal.τ).loc Cert.KernelMlIdeal.main_arg2) = m ((c.tc : Thread Cert.KernelMlIdeal.nD Cert.KernelMlIdeal.τ).loc Cert.KernelMlIdeal.main_arg2))
      ∧ r.2.sem = fun _ => 0)

def quiescent_ReferenceMlIdeal [hReferenceMlIdeal : Cert.ReferenceMlIdeal.Facts] : Prop :=
  ∀ (m : (ℓ : Loc Cert.ReferenceMlIdeal.nD Cert.ReferenceMlIdeal.τ Cert.ReferenceMlIdeal.sig) → Buf (Elt Ideal) ℓ) (g : Dev Cert.ReferenceMlIdeal.nD → PrngReg), Pre_ReferenceMlIdeal m →
    θ_run (Cert.ReferenceMlIdeal.defs (F := Ideal)) (onTc (τ := Cert.ReferenceMlIdeal.τ) (Cert.ReferenceMlIdeal.main (F := Ideal))) ⟨m, fun _ => 0, g⟩ (fun r => (∀ c : Dev Cert.ReferenceMlIdeal.nD,
      r.2.mem ((c.tc : Thread Cert.ReferenceMlIdeal.nD Cert.ReferenceMlIdeal.τ).loc Cert.ReferenceMlIdeal.main_arg0) = m ((c.tc : Thread Cert.ReferenceMlIdeal.nD Cert.ReferenceMlIdeal.τ).loc Cert.ReferenceMlIdeal.main_arg0)
      ∧ r.2.mem ((c.tc : Thread Cert.ReferenceMlIdeal.nD Cert.ReferenceMlIdeal.τ).loc Cert.ReferenceMlIdeal.main_arg1) = m ((c.tc : Thread Cert.ReferenceMlIdeal.nD Cert.ReferenceMlIdeal.τ).loc Cert.ReferenceMlIdeal.main_arg1)
      ∧ r.2.mem ((c.tc : Thread Cert.ReferenceMlIdeal.nD Cert.ReferenceMlIdeal.τ).loc Cert.ReferenceMlIdeal.main_arg2) = m ((c.tc : Thread Cert.ReferenceMlIdeal.nD Cert.ReferenceMlIdeal.τ).loc Cert.ReferenceMlIdeal.main_arg2))
      ∧ r.2.sem = fun _ => 0)

def quiescent_KernelNa [hKernelNa : Cert.KernelNa.Facts] : Prop :=
  ∀ (m : (ℓ : Loc Cert.KernelNa.nD Cert.KernelNa.τ Cert.KernelNa.sig) → Buf (Elt Bits) ℓ) (g : Dev Cert.KernelNa.nD → PrngReg), Pre_KernelNa m →
    θ_run (Cert.KernelNa.defs (F := Bits)) (onTc (τ := Cert.KernelNa.τ) (Cert.KernelNa.main (F := Bits))) ⟨m, fun _ => 0, g⟩ (fun r => (∀ c : Dev Cert.KernelNa.nD,
      r.2.mem ((c.tc : Thread Cert.KernelNa.nD Cert.KernelNa.τ).loc Cert.KernelNa.main_arg0) = m ((c.tc : Thread Cert.KernelNa.nD Cert.KernelNa.τ).loc Cert.KernelNa.main_arg0)
      ∧ r.2.mem ((c.tc : Thread Cert.KernelNa.nD Cert.KernelNa.τ).loc Cert.KernelNa.main_arg1) = m ((c.tc : Thread Cert.KernelNa.nD Cert.KernelNa.τ).loc Cert.KernelNa.main_arg1)
      ∧ r.2.mem ((c.tc : Thread Cert.KernelNa.nD Cert.KernelNa.τ).loc Cert.KernelNa.main_arg2) = m ((c.tc : Thread Cert.KernelNa.nD Cert.KernelNa.τ).loc Cert.KernelNa.main_arg2)
      ∧ r.2.mem ((c.tc : Thread Cert.KernelNa.nD Cert.KernelNa.τ).loc Cert.KernelNa.main_arg3) = m ((c.tc : Thread Cert.KernelNa.nD Cert.KernelNa.τ).loc Cert.KernelNa.main_arg3))
      ∧ r.2.sem = fun _ => 0)

def quiescent_KernelNaIdeal [hKernelNaIdeal : Cert.KernelNaIdeal.Facts] : Prop :=
  ∀ (m : (ℓ : Loc Cert.KernelNaIdeal.nD Cert.KernelNaIdeal.τ Cert.KernelNaIdeal.sig) → Buf (Elt Ideal) ℓ) (g : Dev Cert.KernelNaIdeal.nD → PrngReg), Pre_KernelNaIdeal m →
    θ_run (Cert.KernelNaIdeal.defs (F := Ideal)) (onTc (τ := Cert.KernelNaIdeal.τ) (Cert.KernelNaIdeal.main (F := Ideal))) ⟨m, fun _ => 0, g⟩ (fun r => (∀ c : Dev Cert.KernelNaIdeal.nD,
      r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
      ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1)
      ∧ r.2.mem ((c.tc : Thread Cert.KernelNaIdeal.nD Cert.KernelNaIdeal.τ).loc Cert.KernelNaIdeal.main_arg2) = m ((c.tc : Thread Cert.KernelNaIdeal.nD Cert.KernelNaIdeal.τ).loc Cert.KernelNaIdeal.main_arg2)
      ∧ r.2.mem ((c.tc : Thread Cert.KernelNaIdeal.nD Cert.KernelNaIdeal.τ).loc Cert.KernelNaIdeal.main_arg3) = m ((c.tc : Thread Cert.KernelNaIdeal.nD Cert.KernelNaIdeal.τ).loc Cert.KernelNaIdeal.main_arg3))
      ∧ r.2.sem = fun _ => 0)

def quiescent_ReferenceNaIdeal [hReferenceNaIdeal : Cert.ReferenceNaIdeal.Facts] : Prop :=
  ∀ (m : (ℓ : Loc Cert.ReferenceNaIdeal.nD Cert.ReferenceNaIdeal.τ Cert.ReferenceNaIdeal.sig) → Buf (Elt Ideal) ℓ) (g : Dev Cert.ReferenceNaIdeal.nD → PrngReg), Pre_ReferenceNaIdeal m →
    θ_run (Cert.ReferenceNaIdeal.defs (F := Ideal)) (onTc (τ := Cert.ReferenceNaIdeal.τ) (Cert.ReferenceNaIdeal.main (F := Ideal))) ⟨m, fun _ => 0, g⟩ (fun r => (∀ c : Dev Cert.ReferenceNaIdeal.nD,
      r.2.mem ((c.tc : Thread Cert.ReferenceNaIdeal.nD Cert.ReferenceNaIdeal.τ).loc Cert.ReferenceNaIdeal.main_arg0) = m ((c.tc : Thread Cert.ReferenceNaIdeal.nD Cert.ReferenceNaIdeal.τ).loc Cert.ReferenceNaIdeal.main_arg0)
      ∧ r.2.mem ((c.tc : Thread Cert.ReferenceNaIdeal.nD Cert.ReferenceNaIdeal.τ).loc Cert.ReferenceNaIdeal.main_arg1) = m ((c.tc : Thread Cert.ReferenceNaIdeal.nD Cert.ReferenceNaIdeal.τ).loc Cert.ReferenceNaIdeal.main_arg1)
      ∧ r.2.mem ((c.tc : Thread Cert.ReferenceNaIdeal.nD Cert.ReferenceNaIdeal.τ).loc Cert.ReferenceNaIdeal.main_arg2) = m ((c.tc : Thread Cert.ReferenceNaIdeal.nD Cert.ReferenceNaIdeal.τ).loc Cert.ReferenceNaIdeal.main_arg2)
      ∧ r.2.mem ((c.tc : Thread Cert.ReferenceNaIdeal.nD Cert.ReferenceNaIdeal.τ).loc Cert.ReferenceNaIdeal.main_arg3) = m ((c.tc : Thread Cert.ReferenceNaIdeal.nD Cert.ReferenceNaIdeal.τ).loc Cert.ReferenceNaIdeal.main_arg3))
      ∧ r.2.sem = fun _ => 0)

def quiescent_KernelQk [hKernelQk : Cert.KernelQk.Facts] : Prop :=
  ∀ (m : (ℓ : Loc Cert.KernelQk.nD Cert.KernelQk.τ Cert.KernelQk.sig) → Buf (Elt Bits) ℓ) (g : Dev Cert.KernelQk.nD → PrngReg), Pre_KernelQk m →
    θ_run (Cert.KernelQk.defs (F := Bits)) (onTc (τ := Cert.KernelQk.τ) (Cert.KernelQk.main (F := Bits))) ⟨m, fun _ => 0, g⟩ (fun r => (∀ c : Dev Cert.KernelQk.nD,
      r.2.mem ((c.tc : Thread Cert.KernelQk.nD Cert.KernelQk.τ).loc Cert.KernelQk.main_arg0) = m ((c.tc : Thread Cert.KernelQk.nD Cert.KernelQk.τ).loc Cert.KernelQk.main_arg0)
      ∧ r.2.mem ((c.tc : Thread Cert.KernelQk.nD Cert.KernelQk.τ).loc Cert.KernelQk.main_arg1) = m ((c.tc : Thread Cert.KernelQk.nD Cert.KernelQk.τ).loc Cert.KernelQk.main_arg1)
      ∧ r.2.mem ((c.tc : Thread Cert.KernelQk.nD Cert.KernelQk.τ).loc Cert.KernelQk.main_arg2) = m ((c.tc : Thread Cert.KernelQk.nD Cert.KernelQk.τ).loc Cert.KernelQk.main_arg2))
      ∧ r.2.sem = fun _ => 0)

def quiescent_KernelQkIdeal [hKernelQkIdeal : Cert.KernelQkIdeal.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2))
      ∧ r.2.sem = fun _ => 0)

def quiescent_ReferenceQkIdeal [hReferenceQkIdeal : Cert.ReferenceQkIdeal.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1)
      ∧ r.2.mem ((c.tc : Thread Cert.KernelV.nD Cert.KernelV.τ).loc Cert.KernelV.main_arg2) = m ((c.tc : Thread Cert.KernelV.nD Cert.KernelV.τ).loc Cert.KernelV.main_arg2))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
      ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1)
      ∧ r.2.mem ((c.tc : Thread Cert.ReferenceVIdeal.nD Cert.ReferenceVIdeal.τ).loc Cert.ReferenceVIdeal.main_arg2) = m ((c.tc : Thread Cert.ReferenceVIdeal.nD Cert.ReferenceVIdeal.τ).loc Cert.ReferenceVIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDiff [hKernelDiff : Cert.KernelDiff.Facts] : Prop :=
  ∀ (m : (ℓ : Loc Cert.KernelDiff.nD Cert.KernelDiff.τ Cert.KernelDiff.sig) → Buf (Elt Bits) ℓ) (g : Dev Cert.KernelDiff.nD → PrngReg), Pre_KernelDiff m →
    θ_run (Cert.KernelDiff.defs (F := Bits)) (onTc (τ := Cert.KernelDiff.τ) (Cert.KernelDiff.main (F := Bits))) ⟨m, fun _ => 0, g⟩ (fun r => (∀ c : Dev Cert.KernelDiff.nD,
      r.2.mem ((c.tc : Thread Cert.KernelDiff.nD Cert.KernelDiff.τ).loc Cert.KernelDiff.main_arg0) = m ((c.tc : Thread Cert.KernelDiff.nD Cert.KernelDiff.τ).loc Cert.KernelDiff.main_arg0)
      ∧ r.2.mem ((c.tc : Thread Cert.KernelDiff.nD Cert.KernelDiff.τ).loc Cert.KernelDiff.main_arg1) = m ((c.tc : Thread Cert.KernelDiff.nD Cert.KernelDiff.τ).loc Cert.KernelDiff.main_arg1)
      ∧ r.2.mem ((c.tc : Thread Cert.KernelDiff.nD Cert.KernelDiff.τ).loc Cert.KernelDiff.main_arg2) = m ((c.tc : Thread Cert.KernelDiff.nD Cert.KernelDiff.τ).loc Cert.KernelDiff.main_arg2)
      ∧ r.2.mem ((c.tc : Thread Cert.KernelDiff.nD Cert.KernelDiff.τ).loc Cert.KernelDiff.main_arg3) = m ((c.tc : Thread Cert.KernelDiff.nD Cert.KernelDiff.τ).loc Cert.KernelDiff.main_arg3)
      ∧ r.2.mem ((c.tc : Thread Cert.KernelDiff.nD Cert.KernelDiff.τ).loc Cert.KernelDiff.main_arg4) = m ((c.tc : Thread Cert.KernelDiff.nD Cert.KernelDiff.τ).loc Cert.KernelDiff.main_arg4)
      ∧ r.2.mem ((c.tc : Thread Cert.KernelDiff.nD Cert.KernelDiff.τ).loc Cert.KernelDiff.main_arg5) = m ((c.tc : Thread Cert.KernelDiff.nD Cert.KernelDiff.τ).loc Cert.KernelDiff.main_arg5))
      ∧ r.2.sem = fun _ => 0)

def quiescent_KernelDiffIdeal [hKernelDiffIdeal : Cert.KernelDiffIdeal.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg), Pre_KernelDiffIdeal m →
    θ_run (Cert.KernelDiffIdeal.defs (F := Ideal)) (onTc (τ := Cert.KernelDiffIdeal.τ) (Cert.KernelDiffIdeal.main (F := Ideal))) ⟨m, fun _ => 0, g⟩ (fun r => (∀ c : Dev Cert.KernelDiffIdeal.nD,
      r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
      ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
      ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
      ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
      ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
      ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5))
      ∧ r.2.sem = fun _ => 0)

def quiescent_KernelDiffIdeal_pre_diff_finite [hKernelDiffIdeal : Cert.KernelDiffIdeal.Facts] [hPre_diff_finite : Cert.Pre_diff_finite.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg), Pre_KernelDiffIdeal_diff_finite m →
    θ_run (Cert.KernelDiffIdeal.defs (F := Ideal)) (onTc (τ := Cert.KernelDiffIdeal.τ) (Cert.KernelDiffIdeal.main (F := Ideal))) ⟨m, fun _ => 0, g⟩ (fun r => (∀ c : Dev Cert.KernelDiffIdeal.nD,
      r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
      ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
      ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
      ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
      ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
      ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5))
      ∧ r.2.sem = fun _ => 0)

def quiescent_ReferenceDiffIdeal [hReferenceDiffIdeal : Cert.ReferenceDiffIdeal.Facts] : Prop :=
  ∀ (m : (ℓ : Loc Cert.ReferenceDiffIdeal.nD Cert.ReferenceDiffIdeal.τ Cert.ReferenceDiffIdeal.sig) → Buf (Elt Ideal) ℓ) (g : Dev Cert.ReferenceDiffIdeal.nD → PrngReg), Pre_ReferenceDiffIdeal m →
    θ_run (Cert.ReferenceDiffIdeal.defs (F := Ideal)) (onTc (τ := Cert.ReferenceDiffIdeal.τ) (Cert.ReferenceDiffIdeal.main (F := Ideal))) ⟨m, fun _ => 0, g⟩ (fun r => (∀ c : Dev Cert.ReferenceDiffIdeal.nD,
      r.2.mem ((c.tc : Thread Cert.ReferenceDiffIdeal.nD Cert.ReferenceDiffIdeal.τ).loc Cert.ReferenceDiffIdeal.main_arg0) = m ((c.tc : Thread Cert.ReferenceDiffIdeal.nD Cert.ReferenceDiffIdeal.τ).loc Cert.ReferenceDiffIdeal.main_arg0)
      ∧ r.2.mem ((c.tc : Thread Cert.ReferenceDiffIdeal.nD Cert.ReferenceDiffIdeal.τ).loc Cert.ReferenceDiffIdeal.main_arg1) = m ((c.tc : Thread Cert.ReferenceDiffIdeal.nD Cert.ReferenceDiffIdeal.τ).loc Cert.ReferenceDiffIdeal.main_arg1)
      ∧ r.2.mem ((c.tc : Thread Cert.ReferenceDiffIdeal.nD Cert.ReferenceDiffIdeal.τ).loc Cert.ReferenceDiffIdeal.main_arg2) = m ((c.tc : Thread Cert.ReferenceDiffIdeal.nD Cert.ReferenceDiffIdeal.τ).loc Cert.ReferenceDiffIdeal.main_arg2)
      ∧ r.2.mem ((c.tc : Thread Cert.ReferenceDiffIdeal.nD Cert.ReferenceDiffIdeal.τ).loc Cert.ReferenceDiffIdeal.main_arg3) = m ((c.tc : Thread Cert.ReferenceDiffIdeal.nD Cert.ReferenceDiffIdeal.τ).loc Cert.ReferenceDiffIdeal.main_arg3)
      ∧ r.2.mem ((c.tc : Thread Cert.ReferenceDiffIdeal.nD Cert.ReferenceDiffIdeal.τ).loc Cert.ReferenceDiffIdeal.main_arg4) = m ((c.tc : Thread Cert.ReferenceDiffIdeal.nD Cert.ReferenceDiffIdeal.τ).loc Cert.ReferenceDiffIdeal.main_arg4)
      ∧ r.2.mem ((c.tc : Thread Cert.ReferenceDiffIdeal.nD Cert.ReferenceDiffIdeal.τ).loc Cert.ReferenceDiffIdeal.main_arg5) = m ((c.tc : Thread Cert.ReferenceDiffIdeal.nD Cert.ReferenceDiffIdeal.τ).loc Cert.ReferenceDiffIdeal.main_arg5))
      ∧ r.2.sem = fun _ => 0)

def quiescent_ReferenceDiffIdeal_pre_diff_finite [hReferenceDiffIdeal : Cert.ReferenceDiffIdeal.Facts] [hPre_diff_finite : Cert.Pre_diff_finite.Facts] : Prop :=
  ∀ (m : (ℓ : Loc Cert.ReferenceDiffIdeal.nD Cert.ReferenceDiffIdeal.τ Cert.ReferenceDiffIdeal.sig) → Buf (Elt Ideal) ℓ) (g : Dev Cert.ReferenceDiffIdeal.nD → PrngReg), Pre_ReferenceDiffIdeal_diff_finite m →
    θ_run (Cert.ReferenceDiffIdeal.defs (F := Ideal)) (onTc (τ := Cert.ReferenceDiffIdeal.τ) (Cert.ReferenceDiffIdeal.main (F := Ideal))) ⟨m, fun _ => 0, g⟩ (fun r => (∀ c : Dev Cert.ReferenceDiffIdeal.nD,
      r.2.mem ((c.tc : Thread Cert.ReferenceDiffIdeal.nD Cert.ReferenceDiffIdeal.τ).loc Cert.ReferenceDiffIdeal.main_arg0) = m ((c.tc : Thread Cert.ReferenceDiffIdeal.nD Cert.ReferenceDiffIdeal.τ).loc Cert.ReferenceDiffIdeal.main_arg0)
      ∧ r.2.mem ((c.tc : Thread Cert.ReferenceDiffIdeal.nD Cert.ReferenceDiffIdeal.τ).loc Cert.ReferenceDiffIdeal.main_arg1) = m ((c.tc : Thread Cert.ReferenceDiffIdeal.nD Cert.ReferenceDiffIdeal.τ).loc Cert.ReferenceDiffIdeal.main_arg1)
      ∧ r.2.mem ((c.tc : Thread Cert.ReferenceDiffIdeal.nD Cert.ReferenceDiffIdeal.τ).loc Cert.ReferenceDiffIdeal.main_arg2) = m ((c.tc : Thread Cert.ReferenceDiffIdeal.nD Cert.ReferenceDiffIdeal.τ).loc Cert.ReferenceDiffIdeal.main_arg2)
      ∧ r.2.mem ((c.tc : Thread Cert.ReferenceDiffIdeal.nD Cert.ReferenceDiffIdeal.τ).loc Cert.ReferenceDiffIdeal.main_arg3) = m ((c.tc : Thread Cert.ReferenceDiffIdeal.nD Cert.ReferenceDiffIdeal.τ).loc Cert.ReferenceDiffIdeal.main_arg3)
      ∧ r.2.mem ((c.tc : Thread Cert.ReferenceDiffIdeal.nD Cert.ReferenceDiffIdeal.τ).loc Cert.ReferenceDiffIdeal.main_arg4) = m ((c.tc : Thread Cert.ReferenceDiffIdeal.nD Cert.ReferenceDiffIdeal.τ).loc Cert.ReferenceDiffIdeal.main_arg4)
      ∧ r.2.mem ((c.tc : Thread Cert.ReferenceDiffIdeal.nD Cert.ReferenceDiffIdeal.τ).loc Cert.ReferenceDiffIdeal.main_arg5) = m ((c.tc : Thread Cert.ReferenceDiffIdeal.nD Cert.ReferenceDiffIdeal.τ).loc Cert.ReferenceDiffIdeal.main_arg5))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_KernelComb [hKernelComb : Cert.KernelComb.Facts] : Prop :=
  ∀ (m : (ℓ : Loc Cert.KernelComb.nD Cert.KernelComb.τ Cert.KernelComb.sig) → Buf (Elt Bits) ℓ) (g : Dev Cert.KernelComb.nD → PrngReg), Pre_KernelComb m →
    θ_run (Cert.KernelComb.defs (F := Bits)) (onTc (τ := Cert.KernelComb.τ) (Cert.KernelComb.main (F := Bits))) ⟨m, fun _ => 0, g⟩ (fun r => (∀ c : Dev Cert.KernelComb.nD,
      r.2.mem ((c.tc : Thread Cert.KernelComb.nD Cert.KernelComb.τ).loc Cert.KernelComb.main_arg0) = m ((c.tc : Thread Cert.KernelComb.nD Cert.KernelComb.τ).loc Cert.KernelComb.main_arg0)
      ∧ r.2.mem ((c.tc : Thread Cert.KernelComb.nD Cert.KernelComb.τ).loc Cert.KernelComb.main_arg1) = m ((c.tc : Thread Cert.KernelComb.nD Cert.KernelComb.τ).loc Cert.KernelComb.main_arg1)
      ∧ r.2.mem ((c.tc : Thread Cert.KernelComb.nD Cert.KernelComb.τ).loc Cert.KernelComb.main_arg2) = m ((c.tc : Thread Cert.KernelComb.nD Cert.KernelComb.τ).loc Cert.KernelComb.main_arg2)
      ∧ r.2.mem ((c.tc : Thread Cert.KernelComb.nD Cert.KernelComb.τ).loc Cert.KernelComb.main_arg3) = m ((c.tc : Thread Cert.KernelComb.nD Cert.KernelComb.τ).loc Cert.KernelComb.main_arg3)
      ∧ r.2.mem ((c.tc : Thread Cert.KernelComb.nD Cert.KernelComb.τ).loc Cert.KernelComb.main_arg4) = m ((c.tc : Thread Cert.KernelComb.nD Cert.KernelComb.τ).loc Cert.KernelComb.main_arg4))
      ∧ r.2.sem = fun _ => 0)

def quiescent_KernelCombIdeal [hKernelCombIdeal : Cert.KernelCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg), Pre_KernelCombIdeal m →
    θ_run (Cert.KernelCombIdeal.defs (F := Ideal)) (onTc (τ := Cert.KernelCombIdeal.τ) (Cert.KernelCombIdeal.main (F := Ideal))) ⟨m, fun _ => 0, g⟩ (fun r => (∀ c : Dev Cert.KernelCombIdeal.nD,
      r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
      ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
      ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
      ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
      ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4))
      ∧ r.2.sem = fun _ => 0)

def quiescent_ReferenceCombIdeal [hReferenceCombIdeal : Cert.ReferenceCombIdeal.Facts] : Prop :=
  ∀ (m : (ℓ : Loc Cert.ReferenceCombIdeal.nD Cert.ReferenceCombIdeal.τ Cert.ReferenceCombIdeal.sig) → Buf (Elt Ideal) ℓ) (g : Dev Cert.ReferenceCombIdeal.nD → PrngReg), Pre_ReferenceCombIdeal m →
    θ_run (Cert.ReferenceCombIdeal.defs (F := Ideal)) (onTc (τ := Cert.ReferenceCombIdeal.τ) (Cert.ReferenceCombIdeal.main (F := Ideal))) ⟨m, fun _ => 0, g⟩ (fun r => (∀ c : Dev Cert.ReferenceCombIdeal.nD,
      r.2.mem ((c.tc : Thread Cert.ReferenceCombIdeal.nD Cert.ReferenceCombIdeal.τ).loc Cert.ReferenceCombIdeal.main_arg0) = m ((c.tc : Thread Cert.ReferenceCombIdeal.nD Cert.ReferenceCombIdeal.τ).loc Cert.ReferenceCombIdeal.main_arg0)
      ∧ r.2.mem ((c.tc : Thread Cert.ReferenceCombIdeal.nD Cert.ReferenceCombIdeal.τ).loc Cert.ReferenceCombIdeal.main_arg1) = m ((c.tc : Thread Cert.ReferenceCombIdeal.nD Cert.ReferenceCombIdeal.τ).loc Cert.ReferenceCombIdeal.main_arg1)
      ∧ r.2.mem ((c.tc : Thread Cert.ReferenceCombIdeal.nD Cert.ReferenceCombIdeal.τ).loc Cert.ReferenceCombIdeal.main_arg2) = m ((c.tc : Thread Cert.ReferenceCombIdeal.nD Cert.ReferenceCombIdeal.τ).loc Cert.ReferenceCombIdeal.main_arg2)
      ∧ r.2.mem ((c.tc : Thread Cert.ReferenceCombIdeal.nD Cert.ReferenceCombIdeal.τ).loc Cert.ReferenceCombIdeal.main_arg3) = m ((c.tc : Thread Cert.ReferenceCombIdeal.nD Cert.ReferenceCombIdeal.τ).loc Cert.ReferenceCombIdeal.main_arg3)
      ∧ r.2.mem ((c.tc : Thread Cert.ReferenceCombIdeal.nD Cert.ReferenceCombIdeal.τ).loc Cert.ReferenceCombIdeal.main_arg4) = m ((c.tc : Thread Cert.ReferenceCombIdeal.nD Cert.ReferenceCombIdeal.τ).loc Cert.ReferenceCombIdeal.main_arg4))
      ∧ r.2.sem = fun _ => 0)

def quiescent_KernelRopeQ [hKernelRopeQ : Cert.KernelRopeQ.Facts] : Prop :=
  ∀ (m : (ℓ : Loc Cert.KernelRopeQ.nD Cert.KernelRopeQ.τ Cert.KernelRopeQ.sig) → Buf (Elt Bits) ℓ) (g : Dev Cert.KernelRopeQ.nD → PrngReg), Pre_KernelRopeQ m →
    θ_run (Cert.KernelRopeQ.defs (F := Bits)) (onTc (τ := Cert.KernelRopeQ.τ) (Cert.KernelRopeQ.main (F := Bits))) ⟨m, fun _ => 0, g⟩ (fun r => (∀ c : Dev Cert.KernelRopeQ.nD,
      r.2.mem ((c.tc : Thread Cert.KernelRopeQ.nD Cert.KernelRopeQ.τ).loc Cert.KernelRopeQ.main_arg0) = m ((c.tc : Thread Cert.KernelRopeQ.nD Cert.KernelRopeQ.τ).loc Cert.KernelRopeQ.main_arg0))
      ∧ r.2.sem = fun _ => 0)

def quiescent_KernelRopeQIdeal [hKernelRopeQIdeal : Cert.KernelRopeQIdeal.Facts] : Prop :=
  ∀ (m : (ℓ : Loc Cert.KernelRopeQIdeal.nD Cert.KernelRopeQIdeal.τ Cert.KernelRopeQIdeal.sig) → Buf (Elt Ideal) ℓ) (g : Dev Cert.KernelRopeQIdeal.nD → PrngReg), Pre_KernelRopeQIdeal m →
    θ_run (Cert.KernelRopeQIdeal.defs (F := Ideal)) (onTc (τ := Cert.KernelRopeQIdeal.τ) (Cert.KernelRopeQIdeal.main (F := Ideal))) ⟨m, fun _ => 0, g⟩ (fun r => (∀ c : Dev Cert.KernelRopeQIdeal.nD,
      r.2.mem ((c.tc : Thread Cert.KernelRopeQIdeal.nD Cert.KernelRopeQIdeal.τ).loc Cert.KernelRopeQIdeal.main_arg0) = m ((c.tc : Thread Cert.KernelRopeQIdeal.nD Cert.KernelRopeQIdeal.τ).loc Cert.KernelRopeQIdeal.main_arg0))
      ∧ r.2.sem = fun _ => 0)

def quiescent_ReferenceRopeQIdeal [hReferenceRopeQIdeal : Cert.ReferenceRopeQIdeal.Facts] : Prop :=
  ∀ (m : (ℓ : Loc Cert.ReferenceRopeQIdeal.nD Cert.ReferenceRopeQIdeal.τ Cert.ReferenceRopeQIdeal.sig) → Buf (Elt Ideal) ℓ) (g : Dev Cert.ReferenceRopeQIdeal.nD → PrngReg), Pre_ReferenceRopeQIdeal m →
    θ_run (Cert.ReferenceRopeQIdeal.defs (F := Ideal)) (onTc (τ := Cert.ReferenceRopeQIdeal.τ) (Cert.ReferenceRopeQIdeal.main (F := Ideal))) ⟨m, fun _ => 0, g⟩ (fun r => (∀ c : Dev Cert.ReferenceRopeQIdeal.nD,
      r.2.mem ((c.tc : Thread Cert.ReferenceRopeQIdeal.nD Cert.ReferenceRopeQIdeal.τ).loc Cert.ReferenceRopeQIdeal.main_arg0) = m ((c.tc : Thread Cert.ReferenceRopeQIdeal.nD Cert.ReferenceRopeQIdeal.τ).loc Cert.ReferenceRopeQIdeal.main_arg0))
      ∧ r.2.sem = fun _ => 0)

def quiescent_KernelRopeK [hKernelRopeK : Cert.KernelRopeK.Facts] : Prop :=
  ∀ (m : (ℓ : Loc Cert.KernelRopeK.nD Cert.KernelRopeK.τ Cert.KernelRopeK.sig) → Buf (Elt Bits) ℓ) (g : Dev Cert.KernelRopeK.nD → PrngReg), Pre_KernelRopeK m →
    θ_run (Cert.KernelRopeK.defs (F := Bits)) (onTc (τ := Cert.KernelRopeK.τ) (Cert.KernelRopeK.main (F := Bits))) ⟨m, fun _ => 0, g⟩ (fun r => (∀ c : Dev Cert.KernelRopeK.nD,
      r.2.mem ((c.tc : Thread Cert.KernelRopeK.nD Cert.KernelRopeK.τ).loc Cert.KernelRopeK.main_arg0) = m ((c.tc : Thread Cert.KernelRopeK.nD Cert.KernelRopeK.τ).loc Cert.KernelRopeK.main_arg0))
      ∧ r.2.sem = fun _ => 0)

def quiescent_KernelRopeKIdeal [hKernelRopeKIdeal : Cert.KernelRopeKIdeal.Facts] : Prop :=
  ∀ (m : (ℓ : Loc Cert.KernelRopeKIdeal.nD Cert.KernelRopeKIdeal.τ Cert.KernelRopeKIdeal.sig) → Buf (Elt Ideal) ℓ) (g : Dev Cert.KernelRopeKIdeal.nD → PrngReg), Pre_KernelRopeKIdeal m →
    θ_run (Cert.KernelRopeKIdeal.defs (F := Ideal)) (onTc (τ := Cert.KernelRopeKIdeal.τ) (Cert.KernelRopeKIdeal.main (F := Ideal))) ⟨m, fun _ => 0, g⟩ (fun r => (∀ c : Dev Cert.KernelRopeKIdeal.nD,
      r.2.mem ((c.tc : Thread Cert.KernelRopeKIdeal.nD Cert.KernelRopeKIdeal.τ).loc Cert.KernelRopeKIdeal.main_arg0) = m ((c.tc : Thread Cert.KernelRopeKIdeal.nD Cert.KernelRopeKIdeal.τ).loc Cert.KernelRopeKIdeal.main_arg0))
      ∧ r.2.sem = fun _ => 0)

def quiescent_ReferenceRopeKIdeal [hReferenceRopeKIdeal : Cert.ReferenceRopeKIdeal.Facts] : Prop :=
  ∀ (m : (ℓ : Loc Cert.ReferenceRopeKIdeal.nD Cert.ReferenceRopeKIdeal.τ Cert.ReferenceRopeKIdeal.sig) → Buf (Elt Ideal) ℓ) (g : Dev Cert.ReferenceRopeKIdeal.nD → PrngReg), Pre_ReferenceRopeKIdeal m →
    θ_run (Cert.ReferenceRopeKIdeal.defs (F := Ideal)) (onTc (τ := Cert.ReferenceRopeKIdeal.τ) (Cert.ReferenceRopeKIdeal.main (F := Ideal))) ⟨m, fun _ => 0, g⟩ (fun r => (∀ c : Dev Cert.ReferenceRopeKIdeal.nD,
      r.2.mem ((c.tc : Thread Cert.ReferenceRopeKIdeal.nD Cert.ReferenceRopeKIdeal.τ).loc Cert.ReferenceRopeKIdeal.main_arg0) = m ((c.tc : Thread Cert.ReferenceRopeKIdeal.nD Cert.ReferenceRopeKIdeal.τ).loc Cert.ReferenceRopeKIdeal.main_arg0))
      ∧ r.2.sem = fun _ => 0)

def quiescent_KernelRouter [hKernelRouter : Cert.KernelRouter.Facts] : Prop :=
  ∀ (m : (ℓ : Loc Cert.KernelRouter.nD Cert.KernelRouter.τ Cert.KernelRouter.sig) → Buf (Elt Bits) ℓ) (g : Dev Cert.KernelRouter.nD → PrngReg), Pre_KernelRouter m →
    θ_run (Cert.KernelRouter.defs (F := Bits)) (onTc (τ := Cert.KernelRouter.τ) (Cert.KernelRouter.main (F := Bits))) ⟨m, fun _ => 0, g⟩ (fun r => (∀ c : Dev Cert.KernelRouter.nD,
      r.2.mem ((c.tc : Thread Cert.KernelRouter.nD Cert.KernelRouter.τ).loc Cert.KernelRouter.main_arg0) = m ((c.tc : Thread Cert.KernelRouter.nD Cert.KernelRouter.τ).loc Cert.KernelRouter.main_arg0)
      ∧ r.2.mem ((c.tc : Thread Cert.KernelRouter.nD Cert.KernelRouter.τ).loc Cert.KernelRouter.main_arg1) = m ((c.tc : Thread Cert.KernelRouter.nD Cert.KernelRouter.τ).loc Cert.KernelRouter.main_arg1)
      ∧ r.2.mem ((c.tc : Thread Cert.KernelRouter.nD Cert.KernelRouter.τ).loc Cert.KernelRouter.main_arg2) = m ((c.tc : Thread Cert.KernelRouter.nD Cert.KernelRouter.τ).loc Cert.KernelRouter.main_arg2))
      ∧ r.2.sem = fun _ => 0)

def quiescent_KernelRouterIdeal [hKernelRouterIdeal : Cert.KernelRouterIdeal.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg), Pre_KernelRouterIdeal m →
    θ_run (Cert.KernelRouterIdeal.defs (F := Ideal)) (onTc (τ := Cert.KernelRouterIdeal.τ) (Cert.KernelRouterIdeal.main (F := Ideal))) ⟨m, fun _ => 0, g⟩ (fun r => (∀ c : Dev Cert.KernelRouterIdeal.nD,
      r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
      ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
      ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ r.2.sem = fun _ => 0)

def quiescent_KernelRouterIdeal_pre_router_finite [hKernelRouterIdeal : Cert.KernelRouterIdeal.Facts] [hPre_router_finite : Cert.Pre_router_finite.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg), Pre_KernelRouterIdeal_router_finite m →
    θ_run (Cert.KernelRouterIdeal.defs (F := Ideal)) (onTc (τ := Cert.KernelRouterIdeal.τ) (Cert.KernelRouterIdeal.main (F := Ideal))) ⟨m, fun _ => 0, g⟩ (fun r => (∀ c : Dev Cert.KernelRouterIdeal.nD,
      r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
      ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
      ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ r.2.sem = fun _ => 0)

def quiescent_ReferenceRouterIdeal [hReferenceRouterIdeal : Cert.ReferenceRouterIdeal.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2))
      ∧ r.2.sem = fun _ => 0)

def quiescent_ReferenceRouterIdeal_pre_router_finite [hReferenceRouterIdeal : Cert.ReferenceRouterIdeal.Facts] [hPre_router_finite : Cert.Pre_router_finite.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal_router_finite m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelMl_KernelMlIdeal : Prop :=
  True

def algebraic_KernelMlIdeal_ReferenceMlIdeal [hKernelMlIdeal : Cert.KernelMlIdeal.Facts] [hReferenceMlIdeal : Cert.ReferenceMlIdeal.Facts] : Prop :=
  ∀ (m : (ℓ : Loc Cert.KernelMlIdeal.nD Cert.KernelMlIdeal.τ Cert.KernelMlIdeal.sig) → Buf (Elt Ideal) ℓ) (g : Dev Cert.KernelMlIdeal.nD → PrngReg)
    (m' : (ℓ : Loc Cert.ReferenceMlIdeal.nD Cert.ReferenceMlIdeal.τ Cert.ReferenceMlIdeal.sig) → Buf (Elt Ideal) ℓ) (g' : Dev Cert.ReferenceMlIdeal.nD → PrngReg), Pre_KernelMlIdeal m →
    (∀ c : Dev Cert.KernelMlIdeal.nD,
      m' ((c.tc : Thread Cert.ReferenceMlIdeal.nD Cert.ReferenceMlIdeal.τ).loc Cert.ReferenceMlIdeal.main_arg0) = m ((c.tc : Thread Cert.KernelMlIdeal.nD Cert.KernelMlIdeal.τ).loc Cert.KernelMlIdeal.main_arg0)
      ∧ m' ((c.tc : Thread Cert.ReferenceMlIdeal.nD Cert.ReferenceMlIdeal.τ).loc Cert.ReferenceMlIdeal.main_arg1) = m ((c.tc : Thread Cert.KernelMlIdeal.nD Cert.KernelMlIdeal.τ).loc Cert.KernelMlIdeal.main_arg1)
      ∧ m' ((c.tc : Thread Cert.ReferenceMlIdeal.nD Cert.ReferenceMlIdeal.τ).loc Cert.ReferenceMlIdeal.main_arg2) = m ((c.tc : Thread Cert.KernelMlIdeal.nD Cert.KernelMlIdeal.τ).loc Cert.KernelMlIdeal.main_arg2)) →
    ∃ (v0 : (c : Dev Cert.KernelMlIdeal.nD) → Buf (Elt Ideal) ((c.tc : Thread Cert.KernelMlIdeal.nD Cert.KernelMlIdeal.τ).loc Cert.KernelMlIdeal.main_v0)),
      θ_run (Cert.KernelMlIdeal.defs (F := Ideal)) (onTc (τ := Cert.KernelMlIdeal.τ) (Cert.KernelMlIdeal.main (F := Ideal))) ⟨m, fun _ => 0, g⟩ (fun r => ∀ c : Dev Cert.KernelMlIdeal.nD,
          r.2.mem ((c.tc : Thread Cert.KernelMlIdeal.nD Cert.KernelMlIdeal.τ).loc Cert.KernelMlIdeal.main_v0) = v0 c
          ∧ r.2.mem ((c.tc : Thread Cert.KernelMlIdeal.nD Cert.KernelMlIdeal.τ).loc Cert.KernelMlIdeal.main_arg0) = m ((c.tc : Thread Cert.KernelMlIdeal.nD Cert.KernelMlIdeal.τ).loc Cert.KernelMlIdeal.main_arg0)
          ∧ r.2.mem ((c.tc : Thread Cert.KernelMlIdeal.nD Cert.KernelMlIdeal.τ).loc Cert.KernelMlIdeal.main_arg1) = m ((c.tc : Thread Cert.KernelMlIdeal.nD Cert.KernelMlIdeal.τ).loc Cert.KernelMlIdeal.main_arg1)
          ∧ r.2.mem ((c.tc : Thread Cert.KernelMlIdeal.nD Cert.KernelMlIdeal.τ).loc Cert.KernelMlIdeal.main_arg2) = m ((c.tc : Thread Cert.KernelMlIdeal.nD Cert.KernelMlIdeal.τ).loc Cert.KernelMlIdeal.main_arg2))
      ∧ θ_run (Cert.ReferenceMlIdeal.defs (F := Ideal)) (onTc (τ := Cert.ReferenceMlIdeal.τ) (Cert.ReferenceMlIdeal.main (F := Ideal))) ⟨m', fun _ => 0, g'⟩ (fun r => ∀ c : Dev Cert.ReferenceMlIdeal.nD,
          r.2.mem ((c.tc : Thread Cert.ReferenceMlIdeal.nD Cert.ReferenceMlIdeal.τ).loc Cert.ReferenceMlIdeal.main_v5) = v0 c
          ∧ r.2.mem ((c.tc : Thread Cert.ReferenceMlIdeal.nD Cert.ReferenceMlIdeal.τ).loc Cert.ReferenceMlIdeal.main_arg0) = m' ((c.tc : Thread Cert.ReferenceMlIdeal.nD Cert.ReferenceMlIdeal.τ).loc Cert.ReferenceMlIdeal.main_arg0)
          ∧ r.2.mem ((c.tc : Thread Cert.ReferenceMlIdeal.nD Cert.ReferenceMlIdeal.τ).loc Cert.ReferenceMlIdeal.main_arg1) = m' ((c.tc : Thread Cert.ReferenceMlIdeal.nD Cert.ReferenceMlIdeal.τ).loc Cert.ReferenceMlIdeal.main_arg1)
          ∧ r.2.mem ((c.tc : Thread Cert.ReferenceMlIdeal.nD Cert.ReferenceMlIdeal.τ).loc Cert.ReferenceMlIdeal.main_arg2) = m' ((c.tc : Thread Cert.ReferenceMlIdeal.nD Cert.ReferenceMlIdeal.τ).loc Cert.ReferenceMlIdeal.main_arg2))

def preserves_KernelNa_KernelNaIdeal : Prop :=
  True

def algebraic_KernelNaIdeal_ReferenceNaIdeal [hKernelNaIdeal : Cert.KernelNaIdeal.Facts] [hReferenceNaIdeal : Cert.ReferenceNaIdeal.Facts] : Prop :=
  ∀ (m : (ℓ : Loc Cert.KernelNaIdeal.nD Cert.KernelNaIdeal.τ Cert.KernelNaIdeal.sig) → Buf (Elt Ideal) ℓ) (g : Dev Cert.KernelNaIdeal.nD → PrngReg)
    (m' : (ℓ : Loc Cert.ReferenceNaIdeal.nD Cert.ReferenceNaIdeal.τ Cert.ReferenceNaIdeal.sig) → Buf (Elt Ideal) ℓ) (g' : Dev Cert.ReferenceNaIdeal.nD → PrngReg), Pre_KernelNaIdeal m →
    (∀ c : Dev Cert.KernelNaIdeal.nD,
      m' ((c.tc : Thread Cert.ReferenceNaIdeal.nD Cert.ReferenceNaIdeal.τ).loc Cert.ReferenceNaIdeal.main_arg0) = m ((c.tc : Thread Cert.KernelNaIdeal.nD Cert.KernelNaIdeal.τ).loc Cert.KernelNaIdeal.main_arg0)
      ∧ m' ((c.tc : Thread Cert.ReferenceNaIdeal.nD Cert.ReferenceNaIdeal.τ).loc Cert.ReferenceNaIdeal.main_arg1) = m ((c.tc : Thread Cert.KernelNaIdeal.nD Cert.KernelNaIdeal.τ).loc Cert.KernelNaIdeal.main_arg1)
      ∧ m' ((c.tc : Thread Cert.ReferenceNaIdeal.nD Cert.ReferenceNaIdeal.τ).loc Cert.ReferenceNaIdeal.main_arg2) = m ((c.tc : Thread Cert.KernelNaIdeal.nD Cert.KernelNaIdeal.τ).loc Cert.KernelNaIdeal.main_arg2)
      ∧ m' ((c.tc : Thread Cert.ReferenceNaIdeal.nD Cert.ReferenceNaIdeal.τ).loc Cert.ReferenceNaIdeal.main_arg3) = m ((c.tc : Thread Cert.KernelNaIdeal.nD Cert.KernelNaIdeal.τ).loc Cert.KernelNaIdeal.main_arg3)) →
    ∃ (v0 : (c : Dev Cert.KernelNaIdeal.nD) → Buf (Elt Ideal) ((c.tc : Thread Cert.KernelNaIdeal.nD Cert.KernelNaIdeal.τ).loc Cert.KernelNaIdeal.main_v0)),
      θ_run (Cert.KernelNaIdeal.defs (F := Ideal)) (onTc (τ := Cert.KernelNaIdeal.τ) (Cert.KernelNaIdeal.main (F := Ideal))) ⟨m, fun _ => 0, g⟩ (fun r => ∀ c : Dev Cert.KernelNaIdeal.nD,
          r.2.mem ((c.tc : Thread Cert.KernelNaIdeal.nD Cert.KernelNaIdeal.τ).loc Cert.KernelNaIdeal.main_v0) = v0 c
          ∧ r.2.mem ((c.tc : Thread Cert.KernelNaIdeal.nD Cert.KernelNaIdeal.τ).loc Cert.KernelNaIdeal.main_arg0) = m ((c.tc : Thread Cert.KernelNaIdeal.nD Cert.KernelNaIdeal.τ).loc Cert.KernelNaIdeal.main_arg0)
          ∧ r.2.mem ((c.tc : Thread Cert.KernelNaIdeal.nD Cert.KernelNaIdeal.τ).loc Cert.KernelNaIdeal.main_arg1) = m ((c.tc : Thread Cert.KernelNaIdeal.nD Cert.KernelNaIdeal.τ).loc Cert.KernelNaIdeal.main_arg1)
          ∧ r.2.mem ((c.tc : Thread Cert.KernelNaIdeal.nD Cert.KernelNaIdeal.τ).loc Cert.KernelNaIdeal.main_arg2) = m ((c.tc : Thread Cert.KernelNaIdeal.nD Cert.KernelNaIdeal.τ).loc Cert.KernelNaIdeal.main_arg2)
          ∧ r.2.mem ((c.tc : Thread Cert.KernelNaIdeal.nD Cert.KernelNaIdeal.τ).loc Cert.KernelNaIdeal.main_arg3) = m ((c.tc : Thread Cert.KernelNaIdeal.nD Cert.KernelNaIdeal.τ).loc Cert.KernelNaIdeal.main_arg3))
      ∧ θ_run (Cert.ReferenceNaIdeal.defs (F := Ideal)) (onTc (τ := Cert.ReferenceNaIdeal.τ) (Cert.ReferenceNaIdeal.main (F := Ideal))) ⟨m', fun _ => 0, g'⟩ (fun r => ∀ c : Dev Cert.ReferenceNaIdeal.nD,
          r.2.mem ((c.tc : Thread Cert.ReferenceNaIdeal.nD Cert.ReferenceNaIdeal.τ).loc Cert.ReferenceNaIdeal.main_v8) = v0 c
          ∧ r.2.mem ((c.tc : Thread Cert.ReferenceNaIdeal.nD Cert.ReferenceNaIdeal.τ).loc Cert.ReferenceNaIdeal.main_arg0) = m' ((c.tc : Thread Cert.ReferenceNaIdeal.nD Cert.ReferenceNaIdeal.τ).loc Cert.ReferenceNaIdeal.main_arg0)
          ∧ r.2.mem ((c.tc : Thread Cert.ReferenceNaIdeal.nD Cert.ReferenceNaIdeal.τ).loc Cert.ReferenceNaIdeal.main_arg1) = m' ((c.tc : Thread Cert.ReferenceNaIdeal.nD Cert.ReferenceNaIdeal.τ).loc Cert.ReferenceNaIdeal.main_arg1)
          ∧ r.2.mem ((c.tc : Thread Cert.ReferenceNaIdeal.nD Cert.ReferenceNaIdeal.τ).loc Cert.ReferenceNaIdeal.main_arg2) = m' ((c.tc : Thread Cert.ReferenceNaIdeal.nD Cert.ReferenceNaIdeal.τ).loc Cert.ReferenceNaIdeal.main_arg2)
          ∧ r.2.mem ((c.tc : Thread Cert.ReferenceNaIdeal.nD Cert.ReferenceNaIdeal.τ).loc Cert.ReferenceNaIdeal.main_arg3) = m' ((c.tc : Thread Cert.ReferenceNaIdeal.nD Cert.ReferenceNaIdeal.τ).loc Cert.ReferenceNaIdeal.main_arg3))

def preserves_KernelQk_KernelQkIdeal : Prop :=
  True

def algebraic_KernelQkIdeal_ReferenceQkIdeal [hKernelQkIdeal : Cert.KernelQkIdeal.Facts] [hReferenceQkIdeal : Cert.ReferenceQkIdeal.Facts] : Prop :=
  ∀ (m : (ℓ : Loc Cert.KernelQkIdeal.nD Cert.KernelQkIdeal.τ Cert.KernelQkIdeal.sig) → Buf (Elt Ideal) ℓ) (g : Dev Cert.KernelQkIdeal.nD → PrngReg)
    (m' : (ℓ : Loc Cert.ReferenceQkIdeal.nD Cert.ReferenceQkIdeal.τ Cert.ReferenceQkIdeal.sig) → Buf (Elt Ideal) ℓ) (g' : Dev Cert.ReferenceQkIdeal.nD → PrngReg), Pre_KernelQkIdeal m →
    (∀ c : Dev Cert.KernelQkIdeal.nD,
      m' ((c.tc : Thread Cert.ReferenceQkIdeal.nD Cert.ReferenceQkIdeal.τ).loc Cert.ReferenceQkIdeal.main_arg0) = m ((c.tc : Thread Cert.KernelQkIdeal.nD Cert.KernelQkIdeal.τ).loc Cert.KernelQkIdeal.main_arg0)
      ∧ m' ((c.tc : Thread Cert.ReferenceQkIdeal.nD Cert.ReferenceQkIdeal.τ).loc Cert.ReferenceQkIdeal.main_arg1) = m ((c.tc : Thread Cert.KernelQkIdeal.nD Cert.KernelQkIdeal.τ).loc Cert.KernelQkIdeal.main_arg1)
      ∧ m' ((c.tc : Thread Cert.ReferenceQkIdeal.nD Cert.ReferenceQkIdeal.τ).loc Cert.ReferenceQkIdeal.main_arg2) = m ((c.tc : Thread Cert.KernelQkIdeal.nD Cert.KernelQkIdeal.τ).loc Cert.KernelQkIdeal.main_arg2)) →
    ∃ (v0 : (c : Dev Cert.KernelQkIdeal.nD) → Buf (Elt Ideal) ((c.tc : Thread Cert.KernelQkIdeal.nD Cert.KernelQkIdeal.τ).loc Cert.KernelQkIdeal.main_v0)),
      θ_run (Cert.KernelQkIdeal.defs (F := Ideal)) (onTc (τ := Cert.KernelQkIdeal.τ) (Cert.KernelQkIdeal.main (F := Ideal))) ⟨m, fun _ => 0, g⟩ (fun r => ∀ c : Dev Cert.KernelQkIdeal.nD,
          r.2.mem ((c.tc : Thread Cert.KernelQkIdeal.nD Cert.KernelQkIdeal.τ).loc Cert.KernelQkIdeal.main_v0) = v0 c
          ∧ r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
          ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
          ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2))
      ∧ θ_run (Cert.ReferenceQkIdeal.defs (F := Ideal)) (onTc (τ := Cert.ReferenceQkIdeal.τ) (Cert.ReferenceQkIdeal.main (F := Ideal))) ⟨m', fun _ => 0, g'⟩ (fun r => ∀ c : Dev Cert.ReferenceQkIdeal.nD,
          r.2.mem ((c.tc : Thread Cert.ReferenceQkIdeal.nD Cert.ReferenceQkIdeal.τ).loc Cert.ReferenceQkIdeal.main_v5) = v0 c
          ∧ r.2.mem ((c.tc : Thread Cert.ReferenceQkIdeal.nD Cert.ReferenceQkIdeal.τ).loc Cert.ReferenceQkIdeal.main_arg0) = m' ((c.tc : Thread Cert.ReferenceQkIdeal.nD Cert.ReferenceQkIdeal.τ).loc Cert.ReferenceQkIdeal.main_arg0)
          ∧ r.2.mem ((c.tc : Thread Cert.ReferenceQkIdeal.nD Cert.ReferenceQkIdeal.τ).loc Cert.ReferenceQkIdeal.main_arg1) = m' ((c.tc : Thread Cert.ReferenceQkIdeal.nD Cert.ReferenceQkIdeal.τ).loc Cert.ReferenceQkIdeal.main_arg1)
          ∧ r.2.mem ((c.tc : Thread Cert.ReferenceQkIdeal.nD Cert.ReferenceQkIdeal.τ).loc Cert.ReferenceQkIdeal.main_arg2) = m' ((c.tc : Thread Cert.ReferenceQkIdeal.nD Cert.ReferenceQkIdeal.τ).loc Cert.ReferenceQkIdeal.main_arg2))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)
      ∧ m' ((c.tc : Thread Cert.ReferenceVIdeal.nD Cert.ReferenceVIdeal.τ).loc Cert.ReferenceVIdeal.main_arg2) = m ((c.tc : Thread Cert.KernelVIdeal.nD Cert.KernelVIdeal.τ).loc Cert.KernelVIdeal.main_arg2)) →
    ∃ (v0 : (c : Dev Cert.KernelVIdeal.nD) → Buf (Elt Ideal) ((c.tc : Thread Cert.KernelVIdeal.nD Cert.KernelVIdeal.τ).loc Cert.KernelVIdeal.main_v0)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v0) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1)
          ∧ r.2.mem ((c.tc : Thread Cert.KernelVIdeal.nD Cert.KernelVIdeal.τ).loc Cert.KernelVIdeal.main_arg2) = m ((c.tc : Thread Cert.KernelVIdeal.nD Cert.KernelVIdeal.τ).loc Cert.KernelVIdeal.main_arg2))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v6) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1)
          ∧ r.2.mem ((c.tc : Thread Cert.ReferenceVIdeal.nD Cert.ReferenceVIdeal.τ).loc Cert.ReferenceVIdeal.main_arg2) = m' ((c.tc : Thread Cert.ReferenceVIdeal.nD Cert.ReferenceVIdeal.τ).loc Cert.ReferenceVIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDiff_KernelDiffIdeal : Prop :=
  True

def algebraic_KernelDiffIdeal_ReferenceDiffIdeal_pre_diff_finite [hKernelDiffIdeal : Cert.KernelDiffIdeal.Facts] [hReferenceDiffIdeal : Cert.ReferenceDiffIdeal.Facts] [hPre_diff_finite : Cert.Pre_diff_finite.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg)
    (m' : (ℓ : Loc Cert.ReferenceDiffIdeal.nD Cert.ReferenceDiffIdeal.τ Cert.ReferenceDiffIdeal.sig) → Buf (Elt Ideal) ℓ) (g' : Dev Cert.ReferenceDiffIdeal.nD → PrngReg), Pre_KernelDiffIdeal_diff_finite m →
    (∀ c : Dev Cert.KernelDiffIdeal.nD,
      m' ((c.tc : Thread Cert.ReferenceDiffIdeal.nD Cert.ReferenceDiffIdeal.τ).loc Cert.ReferenceDiffIdeal.main_arg0) = m ((c.tc : Thread Cert.KernelDiffIdeal.nD Cert.KernelDiffIdeal.τ).loc Cert.KernelDiffIdeal.main_arg0)
      ∧ m' ((c.tc : Thread Cert.ReferenceDiffIdeal.nD Cert.ReferenceDiffIdeal.τ).loc Cert.ReferenceDiffIdeal.main_arg1) = m ((c.tc : Thread Cert.KernelDiffIdeal.nD Cert.KernelDiffIdeal.τ).loc Cert.KernelDiffIdeal.main_arg1)
      ∧ m' ((c.tc : Thread Cert.ReferenceDiffIdeal.nD Cert.ReferenceDiffIdeal.τ).loc Cert.ReferenceDiffIdeal.main_arg2) = m ((c.tc : Thread Cert.KernelDiffIdeal.nD Cert.KernelDiffIdeal.τ).loc Cert.KernelDiffIdeal.main_arg2)
      ∧ m' ((c.tc : Thread Cert.ReferenceDiffIdeal.nD Cert.ReferenceDiffIdeal.τ).loc Cert.ReferenceDiffIdeal.main_arg3) = m ((c.tc : Thread Cert.KernelDiffIdeal.nD Cert.KernelDiffIdeal.τ).loc Cert.KernelDiffIdeal.main_arg3)
      ∧ m' ((c.tc : Thread Cert.ReferenceDiffIdeal.nD Cert.ReferenceDiffIdeal.τ).loc Cert.ReferenceDiffIdeal.main_arg4) = m ((c.tc : Thread Cert.KernelDiffIdeal.nD Cert.KernelDiffIdeal.τ).loc Cert.KernelDiffIdeal.main_arg4)
      ∧ m' ((c.tc : Thread Cert.ReferenceDiffIdeal.nD Cert.ReferenceDiffIdeal.τ).loc Cert.ReferenceDiffIdeal.main_arg5) = m ((c.tc : Thread Cert.KernelDiffIdeal.nD Cert.KernelDiffIdeal.τ).loc Cert.KernelDiffIdeal.main_arg5)) →
    ∃ (v0 : (c : Dev Cert.KernelDiffIdeal.nD) → Buf (Elt Ideal) ((c.tc : Thread Cert.KernelDiffIdeal.nD Cert.KernelDiffIdeal.τ).loc Cert.KernelDiffIdeal.main_v7)),
      θ_run (Cert.KernelDiffIdeal.defs (F := Ideal)) (onTc (τ := Cert.KernelDiffIdeal.τ) (Cert.KernelDiffIdeal.main (F := Ideal))) ⟨m, fun _ => 0, g⟩ (fun r => ∀ c : Dev Cert.KernelDiffIdeal.nD,
          r.2.mem ((c.tc : Thread Cert.KernelDiffIdeal.nD Cert.KernelDiffIdeal.τ).loc Cert.KernelDiffIdeal.main_v7) = v0 c
          ∧ r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
          ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
          ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
          ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
          ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
          ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5))
      ∧ θ_run (Cert.ReferenceDiffIdeal.defs (F := Ideal)) (onTc (τ := Cert.ReferenceDiffIdeal.τ) (Cert.ReferenceDiffIdeal.main (F := Ideal))) ⟨m', fun _ => 0, g'⟩ (fun r => ∀ c : Dev Cert.ReferenceDiffIdeal.nD,
          r.2.mem ((c.tc : Thread Cert.ReferenceDiffIdeal.nD Cert.ReferenceDiffIdeal.τ).loc Cert.ReferenceDiffIdeal.main_v64) = v0 c
          ∧ r.2.mem ((c.tc : Thread Cert.ReferenceDiffIdeal.nD Cert.ReferenceDiffIdeal.τ).loc Cert.ReferenceDiffIdeal.main_arg0) = m' ((c.tc : Thread Cert.ReferenceDiffIdeal.nD Cert.ReferenceDiffIdeal.τ).loc Cert.ReferenceDiffIdeal.main_arg0)
          ∧ r.2.mem ((c.tc : Thread Cert.ReferenceDiffIdeal.nD Cert.ReferenceDiffIdeal.τ).loc Cert.ReferenceDiffIdeal.main_arg1) = m' ((c.tc : Thread Cert.ReferenceDiffIdeal.nD Cert.ReferenceDiffIdeal.τ).loc Cert.ReferenceDiffIdeal.main_arg1)
          ∧ r.2.mem ((c.tc : Thread Cert.ReferenceDiffIdeal.nD Cert.ReferenceDiffIdeal.τ).loc Cert.ReferenceDiffIdeal.main_arg2) = m' ((c.tc : Thread Cert.ReferenceDiffIdeal.nD Cert.ReferenceDiffIdeal.τ).loc Cert.ReferenceDiffIdeal.main_arg2)
          ∧ r.2.mem ((c.tc : Thread Cert.ReferenceDiffIdeal.nD Cert.ReferenceDiffIdeal.τ).loc Cert.ReferenceDiffIdeal.main_arg3) = m' ((c.tc : Thread Cert.ReferenceDiffIdeal.nD Cert.ReferenceDiffIdeal.τ).loc Cert.ReferenceDiffIdeal.main_arg3)
          ∧ r.2.mem ((c.tc : Thread Cert.ReferenceDiffIdeal.nD Cert.ReferenceDiffIdeal.τ).loc Cert.ReferenceDiffIdeal.main_arg4) = m' ((c.tc : Thread Cert.ReferenceDiffIdeal.nD Cert.ReferenceDiffIdeal.τ).loc Cert.ReferenceDiffIdeal.main_arg4)
          ∧ r.2.mem ((c.tc : Thread Cert.ReferenceDiffIdeal.nD Cert.ReferenceDiffIdeal.τ).loc Cert.ReferenceDiffIdeal.main_arg5) = m' ((c.tc : Thread Cert.ReferenceDiffIdeal.nD Cert.ReferenceDiffIdeal.τ).loc Cert.ReferenceDiffIdeal.main_arg5))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v4) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)) →
    ∃ (v0 : (c : Dev Cert.KernelLnIdeal.nD) → Buf (Elt Ideal) ((c.tc : Thread Cert.KernelLnIdeal.nD Cert.KernelLnIdeal.τ).loc Cert.KernelLnIdeal.main_v2_0)) (v1 : (c : Dev Cert.KernelLnIdeal.nD) → Buf (Elt Ideal) ((c.tc : Thread Cert.KernelLnIdeal.nD Cert.KernelLnIdeal.τ).loc Cert.KernelLnIdeal.main_v2_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2_0) = v0 c
          ∧ r.2.mem ((c.tc : Thread Cert.KernelLnIdeal.nD Cert.KernelLnIdeal.τ).loc Cert.KernelLnIdeal.main_v2_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v23) = v0 c
          ∧ r.2.mem ((c.tc : Thread Cert.ReferenceLnIdeal.nD Cert.ReferenceLnIdeal.τ).loc Cert.ReferenceLnIdeal.main_v24) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2))

def preserves_KernelComb_KernelCombIdeal : Prop :=
  True

def algebraic_KernelCombIdeal_ReferenceCombIdeal [hKernelCombIdeal : Cert.KernelCombIdeal.Facts] [hReferenceCombIdeal : Cert.ReferenceCombIdeal.Facts] : Prop :=
  ∀ (m : (ℓ : Loc Cert.KernelCombIdeal.nD Cert.KernelCombIdeal.τ Cert.KernelCombIdeal.sig) → Buf (Elt Ideal) ℓ) (g : Dev Cert.KernelCombIdeal.nD → PrngReg)
    (m' : (ℓ : Loc Cert.ReferenceCombIdeal.nD Cert.ReferenceCombIdeal.τ Cert.ReferenceCombIdeal.sig) → Buf (Elt Ideal) ℓ) (g' : Dev Cert.ReferenceCombIdeal.nD → PrngReg), Pre_KernelCombIdeal m →
    (∀ c : Dev Cert.KernelCombIdeal.nD,
      m' ((c.tc : Thread Cert.ReferenceCombIdeal.nD Cert.ReferenceCombIdeal.τ).loc Cert.ReferenceCombIdeal.main_arg0) = m ((c.tc : Thread Cert.KernelCombIdeal.nD Cert.KernelCombIdeal.τ).loc Cert.KernelCombIdeal.main_arg0)
      ∧ m' ((c.tc : Thread Cert.ReferenceCombIdeal.nD Cert.ReferenceCombIdeal.τ).loc Cert.ReferenceCombIdeal.main_arg1) = m ((c.tc : Thread Cert.KernelCombIdeal.nD Cert.KernelCombIdeal.τ).loc Cert.KernelCombIdeal.main_arg1)
      ∧ m' ((c.tc : Thread Cert.ReferenceCombIdeal.nD Cert.ReferenceCombIdeal.τ).loc Cert.ReferenceCombIdeal.main_arg2) = m ((c.tc : Thread Cert.KernelCombIdeal.nD Cert.KernelCombIdeal.τ).loc Cert.KernelCombIdeal.main_arg2)
      ∧ m' ((c.tc : Thread Cert.ReferenceCombIdeal.nD Cert.ReferenceCombIdeal.τ).loc Cert.ReferenceCombIdeal.main_arg3) = m ((c.tc : Thread Cert.KernelCombIdeal.nD Cert.KernelCombIdeal.τ).loc Cert.KernelCombIdeal.main_arg3)
      ∧ m' ((c.tc : Thread Cert.ReferenceCombIdeal.nD Cert.ReferenceCombIdeal.τ).loc Cert.ReferenceCombIdeal.main_arg4) = m ((c.tc : Thread Cert.KernelCombIdeal.nD Cert.KernelCombIdeal.τ).loc Cert.KernelCombIdeal.main_arg4)) →
    ∃ (v0 : (c : Dev Cert.KernelCombIdeal.nD) → Buf (Elt Ideal) ((c.tc : Thread Cert.KernelCombIdeal.nD Cert.KernelCombIdeal.τ).loc Cert.KernelCombIdeal.main_v2_0)) (v1 : (c : Dev Cert.KernelCombIdeal.nD) → Buf (Elt Ideal) ((c.tc : Thread Cert.KernelCombIdeal.nD Cert.KernelCombIdeal.τ).loc Cert.KernelCombIdeal.main_v2_1)),
      θ_run (Cert.KernelCombIdeal.defs (F := Ideal)) (onTc (τ := Cert.KernelCombIdeal.τ) (Cert.KernelCombIdeal.main (F := Ideal))) ⟨m, fun _ => 0, g⟩ (fun r => ∀ c : Dev Cert.KernelCombIdeal.nD,
          r.2.mem ((c.tc : Thread Cert.KernelCombIdeal.nD Cert.KernelCombIdeal.τ).loc Cert.KernelCombIdeal.main_v2_0) = v0 c
          ∧ r.2.mem ((c.tc : Thread Cert.KernelCombIdeal.nD Cert.KernelCombIdeal.τ).loc Cert.KernelCombIdeal.main_v2_1) = v1 c
          ∧ r.2.mem ((c.tc : Thread Cert.KernelCombIdeal.nD Cert.KernelCombIdeal.τ).loc Cert.KernelCombIdeal.main_arg0) = m ((c.tc : Thread Cert.KernelCombIdeal.nD Cert.KernelCombIdeal.τ).loc Cert.KernelCombIdeal.main_arg0)
          ∧ r.2.mem ((c.tc : Thread Cert.KernelCombIdeal.nD Cert.KernelCombIdeal.τ).loc Cert.KernelCombIdeal.main_arg1) = m ((c.tc : Thread Cert.KernelCombIdeal.nD Cert.KernelCombIdeal.τ).loc Cert.KernelCombIdeal.main_arg1)
          ∧ r.2.mem ((c.tc : Thread Cert.KernelCombIdeal.nD Cert.KernelCombIdeal.τ).loc Cert.KernelCombIdeal.main_arg2) = m ((c.tc : Thread Cert.KernelCombIdeal.nD Cert.KernelCombIdeal.τ).loc Cert.KernelCombIdeal.main_arg2)
          ∧ r.2.mem ((c.tc : Thread Cert.KernelCombIdeal.nD Cert.KernelCombIdeal.τ).loc Cert.KernelCombIdeal.main_arg3) = m ((c.tc : Thread Cert.KernelCombIdeal.nD Cert.KernelCombIdeal.τ).loc Cert.KernelCombIdeal.main_arg3)
          ∧ r.2.mem ((c.tc : Thread Cert.KernelCombIdeal.nD Cert.KernelCombIdeal.τ).loc Cert.KernelCombIdeal.main_arg4) = m ((c.tc : Thread Cert.KernelCombIdeal.nD Cert.KernelCombIdeal.τ).loc Cert.KernelCombIdeal.main_arg4))
      ∧ θ_run (Cert.ReferenceCombIdeal.defs (F := Ideal)) (onTc (τ := Cert.ReferenceCombIdeal.τ) (Cert.ReferenceCombIdeal.main (F := Ideal))) ⟨m', fun _ => 0, g'⟩ (fun r => ∀ c : Dev Cert.ReferenceCombIdeal.nD,
          r.2.mem ((c.tc : Thread Cert.ReferenceCombIdeal.nD Cert.ReferenceCombIdeal.τ).loc Cert.ReferenceCombIdeal.main_v39) = v0 c
          ∧ r.2.mem ((c.tc : Thread Cert.ReferenceCombIdeal.nD Cert.ReferenceCombIdeal.τ).loc Cert.ReferenceCombIdeal.main_v40) = v1 c
          ∧ r.2.mem ((c.tc : Thread Cert.ReferenceCombIdeal.nD Cert.ReferenceCombIdeal.τ).loc Cert.ReferenceCombIdeal.main_arg0) = m' ((c.tc : Thread Cert.ReferenceCombIdeal.nD Cert.ReferenceCombIdeal.τ).loc Cert.ReferenceCombIdeal.main_arg0)
          ∧ r.2.mem ((c.tc : Thread Cert.ReferenceCombIdeal.nD Cert.ReferenceCombIdeal.τ).loc Cert.ReferenceCombIdeal.main_arg1) = m' ((c.tc : Thread Cert.ReferenceCombIdeal.nD Cert.ReferenceCombIdeal.τ).loc Cert.ReferenceCombIdeal.main_arg1)
          ∧ r.2.mem ((c.tc : Thread Cert.ReferenceCombIdeal.nD Cert.ReferenceCombIdeal.τ).loc Cert.ReferenceCombIdeal.main_arg2) = m' ((c.tc : Thread Cert.ReferenceCombIdeal.nD Cert.ReferenceCombIdeal.τ).loc Cert.ReferenceCombIdeal.main_arg2)
          ∧ r.2.mem ((c.tc : Thread Cert.ReferenceCombIdeal.nD Cert.ReferenceCombIdeal.τ).loc Cert.ReferenceCombIdeal.main_arg3) = m' ((c.tc : Thread Cert.ReferenceCombIdeal.nD Cert.ReferenceCombIdeal.τ).loc Cert.ReferenceCombIdeal.main_arg3)
          ∧ r.2.mem ((c.tc : Thread Cert.ReferenceCombIdeal.nD Cert.ReferenceCombIdeal.τ).loc Cert.ReferenceCombIdeal.main_arg4) = m' ((c.tc : Thread Cert.ReferenceCombIdeal.nD Cert.ReferenceCombIdeal.τ).loc Cert.ReferenceCombIdeal.main_arg4))

def preserves_KernelRopeQ_KernelRopeQIdeal : Prop :=
  True

def algebraic_KernelRopeQIdeal_ReferenceRopeQIdeal [hKernelRopeQIdeal : Cert.KernelRopeQIdeal.Facts] [hReferenceRopeQIdeal : Cert.ReferenceRopeQIdeal.Facts] : Prop :=
  ∀ (m : (ℓ : Loc Cert.KernelRopeQIdeal.nD Cert.KernelRopeQIdeal.τ Cert.KernelRopeQIdeal.sig) → Buf (Elt Ideal) ℓ) (g : Dev Cert.KernelRopeQIdeal.nD → PrngReg)
    (m' : (ℓ : Loc Cert.ReferenceRopeQIdeal.nD Cert.ReferenceRopeQIdeal.τ Cert.ReferenceRopeQIdeal.sig) → Buf (Elt Ideal) ℓ) (g' : Dev Cert.ReferenceRopeQIdeal.nD → PrngReg), Pre_KernelRopeQIdeal m →
    (∀ c : Dev Cert.KernelRopeQIdeal.nD,
      m' ((c.tc : Thread Cert.ReferenceRopeQIdeal.nD Cert.ReferenceRopeQIdeal.τ).loc Cert.ReferenceRopeQIdeal.main_arg0) = m ((c.tc : Thread Cert.KernelRopeQIdeal.nD Cert.KernelRopeQIdeal.τ).loc Cert.KernelRopeQIdeal.main_arg0)) →
    ∃ (v0 : (c : Dev Cert.KernelRopeQIdeal.nD) → Buf (Elt Ideal) ((c.tc : Thread Cert.KernelRopeQIdeal.nD Cert.KernelRopeQIdeal.τ).loc Cert.KernelRopeQIdeal.main_v35)),
      θ_run (Cert.KernelRopeQIdeal.defs (F := Ideal)) (onTc (τ := Cert.KernelRopeQIdeal.τ) (Cert.KernelRopeQIdeal.main (F := Ideal))) ⟨m, fun _ => 0, g⟩ (fun r => ∀ c : Dev Cert.KernelRopeQIdeal.nD,
          r.2.mem ((c.tc : Thread Cert.KernelRopeQIdeal.nD Cert.KernelRopeQIdeal.τ).loc Cert.KernelRopeQIdeal.main_v35) = v0 c
          ∧ r.2.mem ((c.tc : Thread Cert.KernelRopeQIdeal.nD Cert.KernelRopeQIdeal.τ).loc Cert.KernelRopeQIdeal.main_arg0) = m ((c.tc : Thread Cert.KernelRopeQIdeal.nD Cert.KernelRopeQIdeal.τ).loc Cert.KernelRopeQIdeal.main_arg0))
      ∧ θ_run (Cert.ReferenceRopeQIdeal.defs (F := Ideal)) (onTc (τ := Cert.ReferenceRopeQIdeal.τ) (Cert.ReferenceRopeQIdeal.main (F := Ideal))) ⟨m', fun _ => 0, g'⟩ (fun r => ∀ c : Dev Cert.ReferenceRopeQIdeal.nD,
          r.2.mem ((c.tc : Thread Cert.ReferenceRopeQIdeal.nD Cert.ReferenceRopeQIdeal.τ).loc Cert.ReferenceRopeQIdeal.main_v42) = v0 c
          ∧ r.2.mem ((c.tc : Thread Cert.ReferenceRopeQIdeal.nD Cert.ReferenceRopeQIdeal.τ).loc Cert.ReferenceRopeQIdeal.main_arg0) = m' ((c.tc : Thread Cert.ReferenceRopeQIdeal.nD Cert.ReferenceRopeQIdeal.τ).loc Cert.ReferenceRopeQIdeal.main_arg0))

def preserves_KernelRopeK_KernelRopeKIdeal : Prop :=
  True

def algebraic_KernelRopeKIdeal_ReferenceRopeKIdeal [hKernelRopeKIdeal : Cert.KernelRopeKIdeal.Facts] [hReferenceRopeKIdeal : Cert.ReferenceRopeKIdeal.Facts] : Prop :=
  ∀ (m : (ℓ : Loc Cert.KernelRopeKIdeal.nD Cert.KernelRopeKIdeal.τ Cert.KernelRopeKIdeal.sig) → Buf (Elt Ideal) ℓ) (g : Dev Cert.KernelRopeKIdeal.nD → PrngReg)
    (m' : (ℓ : Loc Cert.ReferenceRopeKIdeal.nD Cert.ReferenceRopeKIdeal.τ Cert.ReferenceRopeKIdeal.sig) → Buf (Elt Ideal) ℓ) (g' : Dev Cert.ReferenceRopeKIdeal.nD → PrngReg), Pre_KernelRopeKIdeal m →
    (∀ c : Dev Cert.KernelRopeKIdeal.nD,
      m' ((c.tc : Thread Cert.ReferenceRopeKIdeal.nD Cert.ReferenceRopeKIdeal.τ).loc Cert.ReferenceRopeKIdeal.main_arg0) = m ((c.tc : Thread Cert.KernelRopeKIdeal.nD Cert.KernelRopeKIdeal.τ).loc Cert.KernelRopeKIdeal.main_arg0)) →
    ∃ (v0 : (c : Dev Cert.KernelRopeKIdeal.nD) → Buf (Elt Ideal) ((c.tc : Thread Cert.KernelRopeKIdeal.nD Cert.KernelRopeKIdeal.τ).loc Cert.KernelRopeKIdeal.main_v29_0)) (v1 : (c : Dev Cert.KernelRopeKIdeal.nD) → Buf (Elt Ideal) ((c.tc : Thread Cert.KernelRopeKIdeal.nD Cert.KernelRopeKIdeal.τ).loc Cert.KernelRopeKIdeal.main_v29_1)),
      θ_run (Cert.KernelRopeKIdeal.defs (F := Ideal)) (onTc (τ := Cert.KernelRopeKIdeal.τ) (Cert.KernelRopeKIdeal.main (F := Ideal))) ⟨m, fun _ => 0, g⟩ (fun r => ∀ c : Dev Cert.KernelRopeKIdeal.nD,
          r.2.mem ((c.tc : Thread Cert.KernelRopeKIdeal.nD Cert.KernelRopeKIdeal.τ).loc Cert.KernelRopeKIdeal.main_v29_0) = v0 c
          ∧ r.2.mem ((c.tc : Thread Cert.KernelRopeKIdeal.nD Cert.KernelRopeKIdeal.τ).loc Cert.KernelRopeKIdeal.main_v29_1) = v1 c
          ∧ r.2.mem ((c.tc : Thread Cert.KernelRopeKIdeal.nD Cert.KernelRopeKIdeal.τ).loc Cert.KernelRopeKIdeal.main_arg0) = m ((c.tc : Thread Cert.KernelRopeKIdeal.nD Cert.KernelRopeKIdeal.τ).loc Cert.KernelRopeKIdeal.main_arg0))
      ∧ θ_run (Cert.ReferenceRopeKIdeal.defs (F := Ideal)) (onTc (τ := Cert.ReferenceRopeKIdeal.τ) (Cert.ReferenceRopeKIdeal.main (F := Ideal))) ⟨m', fun _ => 0, g'⟩ (fun r => ∀ c : Dev Cert.ReferenceRopeKIdeal.nD,
          r.2.mem ((c.tc : Thread Cert.ReferenceRopeKIdeal.nD Cert.ReferenceRopeKIdeal.τ).loc Cert.ReferenceRopeKIdeal.main_v48) = v0 c
          ∧ r.2.mem ((c.tc : Thread Cert.ReferenceRopeKIdeal.nD Cert.ReferenceRopeKIdeal.τ).loc Cert.ReferenceRopeKIdeal.main_v50) = v1 c
          ∧ r.2.mem ((c.tc : Thread Cert.ReferenceRopeKIdeal.nD Cert.ReferenceRopeKIdeal.τ).loc Cert.ReferenceRopeKIdeal.main_arg0) = m' ((c.tc : Thread Cert.ReferenceRopeKIdeal.nD Cert.ReferenceRopeKIdeal.τ).loc Cert.ReferenceRopeKIdeal.main_arg0))

def preserves_KernelRouter_KernelRouterIdeal : Prop :=
  True

def algebraic_KernelRouterIdeal_ReferenceRouterIdeal_pre_router_finite [hKernelRouterIdeal : Cert.KernelRouterIdeal.Facts] [hReferenceRouterIdeal : Cert.ReferenceRouterIdeal.Facts] [hPre_router_finite : Cert.Pre_router_finite.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg)
    (m' : (ℓ : Loc Cert.ReferenceRouterIdeal.nD Cert.ReferenceRouterIdeal.τ Cert.ReferenceRouterIdeal.sig) → Buf (Elt Ideal) ℓ) (g' : Dev Cert.ReferenceRouterIdeal.nD → PrngReg), Pre_KernelRouterIdeal_router_finite m →
    (∀ c : Dev Cert.KernelRouterIdeal.nD,
      m' ((c.tc : Thread Cert.ReferenceRouterIdeal.nD Cert.ReferenceRouterIdeal.τ).loc Cert.ReferenceRouterIdeal.main_arg0) = m ((c.tc : Thread Cert.KernelRouterIdeal.nD Cert.KernelRouterIdeal.τ).loc Cert.KernelRouterIdeal.main_arg0)
      ∧ m' ((c.tc : Thread Cert.ReferenceRouterIdeal.nD Cert.ReferenceRouterIdeal.τ).loc Cert.ReferenceRouterIdeal.main_arg1) = m ((c.tc : Thread Cert.KernelRouterIdeal.nD Cert.KernelRouterIdeal.τ).loc Cert.KernelRouterIdeal.main_arg1)
      ∧ m' ((c.tc : Thread Cert.ReferenceRouterIdeal.nD Cert.ReferenceRouterIdeal.τ).loc Cert.ReferenceRouterIdeal.main_arg2) = m ((c.tc : Thread Cert.KernelRouterIdeal.nD Cert.KernelRouterIdeal.τ).loc Cert.KernelRouterIdeal.main_arg2)) →
    ∃ (v0 : (c : Dev Cert.KernelRouterIdeal.nD) → Buf (Elt Ideal) ((c.tc : Thread Cert.KernelRouterIdeal.nD Cert.KernelRouterIdeal.τ).loc Cert.KernelRouterIdeal.main_v24_0)) (v1 : (c : Dev Cert.KernelRouterIdeal.nD) → Buf (Elt Ideal) ((c.tc : Thread Cert.KernelRouterIdeal.nD Cert.KernelRouterIdeal.τ).loc Cert.KernelRouterIdeal.main_v24_1)),
      θ_run (Cert.KernelRouterIdeal.defs (F := Ideal)) (onTc (τ := Cert.KernelRouterIdeal.τ) (Cert.KernelRouterIdeal.main (F := Ideal))) ⟨m, fun _ => 0, g⟩ (fun r => ∀ c : Dev Cert.KernelRouterIdeal.nD,
          r.2.mem ((c.tc : Thread Cert.KernelRouterIdeal.nD Cert.KernelRouterIdeal.τ).loc Cert.KernelRouterIdeal.main_v24_0) = v0 c
          ∧ r.2.mem ((c.tc : Thread Cert.KernelRouterIdeal.nD Cert.KernelRouterIdeal.τ).loc Cert.KernelRouterIdeal.main_v24_1) = v1 c
          ∧ r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
          ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
          ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ θ_run (Cert.ReferenceRouterIdeal.defs (F := Ideal)) (onTc (τ := Cert.ReferenceRouterIdeal.τ) (Cert.ReferenceRouterIdeal.main (F := Ideal))) ⟨m', fun _ => 0, g'⟩ (fun r => ∀ c : Dev Cert.ReferenceRouterIdeal.nD,
          r.2.mem ((c.tc : Thread Cert.ReferenceRouterIdeal.nD Cert.ReferenceRouterIdeal.τ).loc Cert.ReferenceRouterIdeal.main_v29) = v0 c
          ∧ r.2.mem ((c.tc : Thread Cert.ReferenceRouterIdeal.nD Cert.ReferenceRouterIdeal.τ).loc Cert.ReferenceRouterIdeal.main_v30) = v1 c
          ∧ r.2.mem ((c.tc : Thread Cert.ReferenceRouterIdeal.nD Cert.ReferenceRouterIdeal.τ).loc Cert.ReferenceRouterIdeal.main_arg0) = m' ((c.tc : Thread Cert.ReferenceRouterIdeal.nD Cert.ReferenceRouterIdeal.τ).loc Cert.ReferenceRouterIdeal.main_arg0)
          ∧ r.2.mem ((c.tc : Thread Cert.ReferenceRouterIdeal.nD Cert.ReferenceRouterIdeal.τ).loc Cert.ReferenceRouterIdeal.main_arg1) = m' ((c.tc : Thread Cert.ReferenceRouterIdeal.nD Cert.ReferenceRouterIdeal.τ).loc Cert.ReferenceRouterIdeal.main_arg1)
          ∧ r.2.mem ((c.tc : Thread Cert.ReferenceRouterIdeal.nD Cert.ReferenceRouterIdeal.τ).loc Cert.ReferenceRouterIdeal.main_arg2) = m' ((c.tc : Thread Cert.ReferenceRouterIdeal.nD Cert.ReferenceRouterIdeal.τ).loc Cert.ReferenceRouterIdeal.main_arg2))

def Claim : Prop :=
  ∃ (hKernel : Cert.Kernel.Facts) (hKernelIdeal : Cert.KernelIdeal.Facts) (hReferenceIdeal : Cert.ReferenceIdeal.Facts) (hKernelMl : Cert.KernelMl.Facts) (hKernelMlIdeal : Cert.KernelMlIdeal.Facts) (hReferenceMlIdeal : Cert.ReferenceMlIdeal.Facts) (hKernelNa : Cert.KernelNa.Facts) (hKernelNaIdeal : Cert.KernelNaIdeal.Facts) (hReferenceNaIdeal : Cert.ReferenceNaIdeal.Facts) (hKernelQk : Cert.KernelQk.Facts) (hKernelQkIdeal : Cert.KernelQkIdeal.Facts) (hReferenceQkIdeal : Cert.ReferenceQkIdeal.Facts) (hKernelV : Cert.KernelV.Facts) (hKernelVIdeal : Cert.KernelVIdeal.Facts) (hReferenceVIdeal : Cert.ReferenceVIdeal.Facts) (hKernelOut : Cert.KernelOut.Facts) (hKernelOutIdeal : Cert.KernelOutIdeal.Facts) (hReferenceOutIdeal : Cert.ReferenceOutIdeal.Facts) (hKernelDiff : Cert.KernelDiff.Facts) (hKernelDiffIdeal : Cert.KernelDiffIdeal.Facts) (hReferenceDiffIdeal : Cert.ReferenceDiffIdeal.Facts) (hKernelGates : Cert.KernelGates.Facts) (hKernelGatesIdeal : Cert.KernelGatesIdeal.Facts) (hReferenceGatesIdeal : Cert.ReferenceGatesIdeal.Facts) (hKernelLn : Cert.KernelLn.Facts) (hKernelLnIdeal : Cert.KernelLnIdeal.Facts) (hReferenceLnIdeal : Cert.ReferenceLnIdeal.Facts) (hKernelComb : Cert.KernelComb.Facts) (hKernelCombIdeal : Cert.KernelCombIdeal.Facts) (hReferenceCombIdeal : Cert.ReferenceCombIdeal.Facts) (hKernelRopeQ : Cert.KernelRopeQ.Facts) (hKernelRopeQIdeal : Cert.KernelRopeQIdeal.Facts) (hReferenceRopeQIdeal : Cert.ReferenceRopeQIdeal.Facts) (hKernelRopeK : Cert.KernelRopeK.Facts) (hKernelRopeKIdeal : Cert.KernelRopeKIdeal.Facts) (hReferenceRopeKIdeal : Cert.ReferenceRopeKIdeal.Facts) (hKernelRouter : Cert.KernelRouter.Facts) (hKernelRouterIdeal : Cert.KernelRouterIdeal.Facts) (hReferenceRouterIdeal : Cert.ReferenceRouterIdeal.Facts) (hPre_experts_exist : Cert.Pre_experts_exist.Facts) (hPre_diff_finite : Cert.Pre_diff_finite.Facts) (hPre_router_finite : Cert.Pre_router_finite.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal) (hPre_experts_exist := hPre_experts_exist)
    ∧ quiescent_KernelMl (hKernelMl := hKernelMl)
    ∧ quiescent_KernelMlIdeal (hKernelMlIdeal := hKernelMlIdeal)
    ∧ quiescent_ReferenceMlIdeal (hReferenceMlIdeal := hReferenceMlIdeal)
    ∧ quiescent_KernelNa (hKernelNa := hKernelNa)
    ∧ quiescent_KernelNaIdeal (hKernelNaIdeal := hKernelNaIdeal)
    ∧ quiescent_ReferenceNaIdeal (hReferenceNaIdeal := hReferenceNaIdeal)
    ∧ quiescent_KernelQk (hKernelQk := hKernelQk)
    ∧ quiescent_KernelQkIdeal (hKernelQkIdeal := hKernelQkIdeal)
    ∧ quiescent_ReferenceQkIdeal (hReferenceQkIdeal := hReferenceQkIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDiff (hKernelDiff := hKernelDiff)
    ∧ quiescent_KernelDiffIdeal (hKernelDiffIdeal := hKernelDiffIdeal)
    ∧ quiescent_KernelDiffIdeal_pre_diff_finite (hKernelDiffIdeal := hKernelDiffIdeal) (hPre_diff_finite := hPre_diff_finite)
    ∧ quiescent_ReferenceDiffIdeal (hReferenceDiffIdeal := hReferenceDiffIdeal)
    ∧ quiescent_ReferenceDiffIdeal_pre_diff_finite (hReferenceDiffIdeal := hReferenceDiffIdeal) (hPre_diff_finite := hPre_diff_finite)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelComb (hKernelComb := hKernelComb)
    ∧ quiescent_KernelCombIdeal (hKernelCombIdeal := hKernelCombIdeal)
    ∧ quiescent_ReferenceCombIdeal (hReferenceCombIdeal := hReferenceCombIdeal)
    ∧ quiescent_KernelRopeQ (hKernelRopeQ := hKernelRopeQ)
    ∧ quiescent_KernelRopeQIdeal (hKernelRopeQIdeal := hKernelRopeQIdeal)
    ∧ quiescent_ReferenceRopeQIdeal (hReferenceRopeQIdeal := hReferenceRopeQIdeal)
    ∧ quiescent_KernelRopeK (hKernelRopeK := hKernelRopeK)
    ∧ quiescent_KernelRopeKIdeal (hKernelRopeKIdeal := hKernelRopeKIdeal)
    ∧ quiescent_ReferenceRopeKIdeal (hReferenceRopeKIdeal := hReferenceRopeKIdeal)
    ∧ quiescent_KernelRouter (hKernelRouter := hKernelRouter)
    ∧ quiescent_KernelRouterIdeal (hKernelRouterIdeal := hKernelRouterIdeal)
    ∧ quiescent_KernelRouterIdeal_pre_router_finite (hKernelRouterIdeal := hKernelRouterIdeal) (hPre_router_finite := hPre_router_finite)
    ∧ quiescent_ReferenceRouterIdeal (hReferenceRouterIdeal := hReferenceRouterIdeal)
    ∧ quiescent_ReferenceRouterIdeal_pre_router_finite (hReferenceRouterIdeal := hReferenceRouterIdeal) (hPre_router_finite := hPre_router_finite)
    ∧ preserves_Kernel_KernelIdeal
    ∧ algebraic_KernelIdeal_ReferenceIdeal (hKernelIdeal := hKernelIdeal) (hReferenceIdeal := hReferenceIdeal) (hPre_experts_exist := hPre_experts_exist)
    ∧ preserves_KernelMl_KernelMlIdeal
    ∧ algebraic_KernelMlIdeal_ReferenceMlIdeal (hKernelMlIdeal := hKernelMlIdeal) (hReferenceMlIdeal := hReferenceMlIdeal)
    ∧ preserves_KernelNa_KernelNaIdeal
    ∧ algebraic_KernelNaIdeal_ReferenceNaIdeal (hKernelNaIdeal := hKernelNaIdeal) (hReferenceNaIdeal := hReferenceNaIdeal)
    ∧ preserves_KernelQk_KernelQkIdeal
    ∧ algebraic_KernelQkIdeal_ReferenceQkIdeal (hKernelQkIdeal := hKernelQkIdeal) (hReferenceQkIdeal := hReferenceQkIdeal)
    ∧ preserves_KernelV_KernelVIdeal
    ∧ algebraic_KernelVIdeal_ReferenceVIdeal (hKernelVIdeal := hKernelVIdeal) (hReferenceVIdeal := hReferenceVIdeal)
    ∧ preserves_KernelOut_KernelOutIdeal
    ∧ algebraic_KernelOutIdeal_ReferenceOutIdeal (hKernelOutIdeal := hKernelOutIdeal) (hReferenceOutIdeal := hReferenceOutIdeal)
    ∧ preserves_KernelDiff_KernelDiffIdeal
    ∧ algebraic_KernelDiffIdeal_ReferenceDiffIdeal_pre_diff_finite (hKernelDiffIdeal := hKernelDiffIdeal) (hReferenceDiffIdeal := hReferenceDiffIdeal) (hPre_diff_finite := hPre_diff_finite)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelLn_KernelLnIdeal
    ∧ algebraic_KernelLnIdeal_ReferenceLnIdeal (hKernelLnIdeal := hKernelLnIdeal) (hReferenceLnIdeal := hReferenceLnIdeal)
    ∧ preserves_KernelComb_KernelCombIdeal
    ∧ algebraic_KernelCombIdeal_ReferenceCombIdeal (hKernelCombIdeal := hKernelCombIdeal) (hReferenceCombIdeal := hReferenceCombIdeal)
    ∧ preserves_KernelRopeQ_KernelRopeQIdeal
    ∧ algebraic_KernelRopeQIdeal_ReferenceRopeQIdeal (hKernelRopeQIdeal := hKernelRopeQIdeal) (hReferenceRopeQIdeal := hReferenceRopeQIdeal)
    ∧ preserves_KernelRopeK_KernelRopeKIdeal
    ∧ algebraic_KernelRopeKIdeal_ReferenceRopeKIdeal (hKernelRopeKIdeal := hKernelRopeKIdeal) (hReferenceRopeKIdeal := hReferenceRopeKIdeal)
    ∧ preserves_KernelRouter_KernelRouterIdeal
    ∧ algebraic_KernelRouterIdeal_ReferenceRouterIdeal_pre_router_finite (hKernelRouterIdeal := hKernelRouterIdeal) (hReferenceRouterIdeal := hReferenceRouterIdeal) (hPre_router_finite := hPre_router_finite)
-- ==== Pre_diff_finite.lean ====
abbrev S2x8192x1536 : Shape := ⟨3, ![2, 8192, 1536]⟩
abbrev S16384x1536 : Shape := ⟨2, ![16384, 1536]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S2x8192x1536 : S_.BroadcastsInDim S2x8192x1536 (![] : Fin 0 → Fin S2x8192x1536.rank)
  shapeCasts_S16384x1536_S2x8192x1536 : S16384x1536.ShapeCasts S2x8192x1536
  reducesTo_S4x64_S_d0_1 : S4x64.ReducesTo [0, 1] S_
  h_S_ : 0 < S_.numel

variable [Facts]

def fn_part1 {F : FTy → Type} [FloatOps F] (main_arg4 : FVec F S4x64 .f32) (main_v19 : IVec S2x8192x1536 1) : IVec S2x8192x1536 1 :=
  let main_v20 : FVec F S4x64 .f32 := Host.absf main_arg4
  let main_cst_3 : FVec F S_ .f32 := constant S_ .f32 0xFF800000#32
  let main_v21 : FVec F S_ .f32 := (fun x v => Host.reduce FloatOps.maximumf x v reducesTo_S4x64_S_d0_1 h_S_) main_v20 main_cst_3
  let main_v22 : FVec F S_ .f32 := Host.absf main_v21
  let main_cst_4 : FVec F S_ .f32 := constant S_ .f32 0x7F800000#32
  let main_v23 : IVec S_ 1 := cmpf .olt main_v22 main_cst_4
  let main_v24 : IVec S2x8192x1536 1 := broadcastInDim S2x8192x1536 ![] bcast_S_S2x8192x1536 main_v23
  let main_v25 : IVec S2x8192x1536 1 := andi main_v19 main_v24
  main_v25

def fn {F : FTy → Type} [FloatOps F] (main_arg0 : FVec F S2x8192x1536 .bf16) (main_arg1 : FVec F S2x8192x1536 .bf16) (main_arg2 : FVec F S2x8192x1536 .bf16) (main_arg3 : FVec F S16384x1536 .bf16) (main_arg4 : FVec F S4x64 .f32) (main_arg5 : FVec F S128 .f32) : IVec S2x8192x1536 1 :=
  let main_v0 : FVec F S2x8192x1536 .f32 := (extf .f32 · bitsLt_bf16_f32) main_arg0
  let main_v1 : FVec F S2x8192x1536 .f32 := Host.absf main_v0
  let main_cst : FVec F S_ .f32 := constant S_ .f32 0x7F800000#32
  let main_v2 : FVec F S2x8192x1536 .f32 := broadcastInDim S2x8192x1536 ![] bcast_S_S2x8192x1536 main_cst
  let main_v3 : IVec S2x8192x1536 1 := cmpf .olt main_v1 main_v2
  let main_v4 : FVec F S2x8192x1536 .f32 := (extf .f32 · bitsLt_bf16_f32) main_arg1
  let main_v5 : FVec F S2x8192x1536 .f32 := Host.absf main_v4
  let main_cst_0 : FVec F S_ .f32 := constant S_ .f32 0x7F800000#32
  let main_v6 : FVec F S2x8192x1536 .f32 := broadcastInDim S2x8192x1536 ![] bcast_S_S2x8192x1536 main_cst_0
  let main_v7 : IVec S2x8192x1536 1 := cmpf .olt main_v5 main_v6
  let main_v8 : IVec S2x8192x1536 1 := andi main_v3 main_v7
  let main_v9 : FVec F S2x8192x1536 .f32 := (extf .f32 · bitsLt_bf16_f32) main_arg2
  let main_v10 : FVec F S2x8192x1536 .f32 := Host.absf main_v9
  let main_cst_1 : FVec F S_ .f32 := constant S_ .f32 0x7F800000#32
  let main_v11 : FVec F S2x8192x1536 .f32 := broadcastInDim S2x8192x1536 ![] bcast_S_S2x8192x1536 main_cst_1
  let main_v12 : IVec S2x8192x1536 1 := cmpf .olt main_v10 main_v11
  let main_v13 : IVec S2x8192x1536 1 := andi main_v8 main_v12
  let main_v14 : FVec F S2x8192x1536 .bf16 := shapeCast S2x8192x1536 main_arg3 shapeCasts_S16384x1536_S2x8192x1536
  let main_v15 : FVec F S2x8192x1536 .f32 := (extf .f32 · bitsLt_bf16_f32) main_v14
  let main_v16 : FVec F S2x8192x1536 .f32 := Host.absf main_v15
  let main_cst_2 : FVec F S_ .f32 := constant S_ .f32 0x7F800000#32
  let main_v17 : FVec F S2x8192x1536 .f32 := broadcastInDim S2x8192x1536 ![] bcast_S_S2x8192x1536 main_cst_2
  let main_v18 : IVec S2x8192x1536 1 := cmpf .olt main_v16 main_v17
  let main_v19 : IVec S2x8192x1536 1 := andi main_v13 main_v18
  fn_part1 (F := F) main_arg4 main_v19
-- ==== Pre_experts_exist.lean ====
abbrev S81920x4096 : Shape := ⟨2, ![81920, 4096]⟩
abbrev S160 : Shape := ⟨1, ![160]⟩
abbrev S1 : Shape := ⟨1, ![1]⟩
abbrev S4x32x4096x2048 : Shape := ⟨4, ![4, 32, 4096, 2048]⟩
abbrev S4x32x2048x4096 : Shape := ⟨4, ![4, 32, 2048, 4096]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S81920x4096 .bf16) (main_arg1 : IVec S160 32) (main_arg2 : IVec S1 32) (main_arg3 : FVec F S4x32x4096x2048 .f32) (main_arg4 : FVec F S4x32x4096x2048 .f32) (main_arg5 : FVec F S4x32x2048x4096 .f32) : IVec S160 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  main_v4
-- ==== Pre_router_finite.lean ====
abbrev S32768x4096 : Shape := ⟨2, ![32768, 4096]⟩
abbrev S4096x32 : Shape := ⟨2, ![4096, 32]⟩
abbrev S32 : Shape := ⟨1, ![32]⟩
abbrev S_ : Shape := ⟨0, ![]⟩

class Facts : Prop where
  bitsLt_bf16_f32 : FTy.bits .bf16 < FTy.bits .f32
  bcast_S_S32768x4096 : S_.BroadcastsInDim S32768x4096 (![] : Fin 0 → Fin S32768x4096.rank)
  reducesTo_S4096x32_S_d0_1 : S4096x32.ReducesTo [0, 1] S_
  h_S_ : 0 < S_.numel
  reducesTo_S32_S_d0 : S32.ReducesTo [0] S_

variable [Facts]

def fn {F : FTy → Type} [FloatOps F] (main_arg0 : FVec F S32768x4096 .bf16) (main_arg1 : FVec F S4096x32 .f32) (main_arg2 : FVec F S32 .f32) : IVec S32768x4096 1 :=
  let main_v0 : FVec F S32768x4096 .f32 := (extf .f32 · bitsLt_bf16_f32) main_arg0
  let main_v1 : FVec F S32768x4096 .f32 := Host.absf main_v0
  let main_cst : FVec F S_ .f32 := constant S_ .f32 0x7F800000#32
  let main_v2 : FVec F S32768x4096 .f32 := broadcastInDim S32768x4096 ![] bcast_S_S32768x4096 main_cst
  let main_v3 : IVec S32768x4096 1 := cmpf .olt main_v1 main_v2
  let main_v4 : FVec F S4096x32 .f32 := Host.absf main_arg1
  let main_cst_0 : FVec F S_ .f32 := constant S_ .f32 0xFF800000#32
  let main_v5 : FVec F S_ .f32 := (fun x v => Host.reduce FloatOps.maximumf x v reducesTo_S4096x32_S_d0_1 h_S_) main_v4 main_cst_0
  let main_v6 : FVec F S_ .f32 := Host.absf main_v5
  let main_cst_1 : FVec F S_ .f32 := constant S_ .f32 0x7F800000#32
  let main_v7 : IVec S_ 1 := cmpf .olt main_v6 main_cst_1
  let main_v8 : IVec S32768x4096 1 := broadcastInDim S32768x4096 ![] bcast_S_S32768x4096 main_v7
  let main_v9 : IVec S32768x4096 1 := andi main_v3 main_v8
  let main_v10 : FVec F S32 .f32 := Host.absf main_arg2
  let main_cst_2 : FVec F S_ .f32 := constant S_ .f32 0xFF800000#32
  let main_v11 : FVec F S_ .f32 := (fun x v => Host.reduce FloatOps.maximumf x v reducesTo_S32_S_d0 h_S_) main_v10 main_cst_2
  let main_v12 : FVec F S_ .f32 := Host.absf main_v11
  let main_cst_3 : FVec F S_ .f32 := constant S_ .f32 0x7F800000#32
  let main_v13 : IVec S_ 1 := cmpf .olt main_v12 main_cst_3
  let main_v14 : IVec S32768x4096 1 := broadcastInDim S32768x4096 ![] bcast_S_S32768x4096 main_v13
  let main_v15 : IVec S32768x4096 1 := andi main_v9 main_v14
  main_v15
-- ==== Kernel.lean ====
abbrev S81920x4096 : Shape := ⟨2, ![81920, 4096]⟩
abbrev S160 : Shape := ⟨1, ![160]⟩
abbrev S1 : Shape := ⟨1, ![1]⟩
abbrev S4x32x4096x2048 : Shape := ⟨4, ![4, 32, 4096, 2048]⟩
abbrev S4x32x2048x4096 : Shape := ⟨4, ![4, 32, 2048, 4096]⟩
abbrev S512x4096 : Shape := ⟨2, ![512, 4096]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S512x256 : Shape := ⟨2, ![512, 256]⟩
abbrev S256x4096 : Shape := ⟨2, ![256, 4096]⟩

abbrev nBuf : Space → Nat
  | .hbm => 5
  | .vmem => 11
  | .smem => 2
  | _ => 0

abbrev bufTy : (tb : Table) → Fin (tcTables nBuf tb) → BufTy
  | .hbm, ⟨0, _⟩ => ⟨S81920x4096, .bf16⟩
  | .hbm, ⟨1, _⟩ => ⟨S4x32x4096x2048, .f32⟩
  | .hbm, ⟨2, _⟩ => ⟨S4x32x4096x2048, .f32⟩
  | .hbm, ⟨3, _⟩ => ⟨S4x32x2048x4096, .f32⟩
  | .hbm, ⟨4, _⟩ => ⟨S81920x4096, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x256x4096, .f32⟩
  | .local _ .vmem, ⟨7, _⟩ => ⟨S1x1x256x4096, .f32⟩
  | .local _ .vmem, ⟨8, _⟩ => ⟨S512x4096, .bf16⟩
  | .local _ .vmem, ⟨9, _⟩ => ⟨S512x4096, .bf16⟩
  | .local _ .vmem, ⟨10, _⟩ => ⟨S512x4096, .f32⟩
  | .local _ .smem, ⟨0, _⟩ => ⟨S160, .i32⟩
  | .local _ .smem, ⟨1, _⟩ => ⟨S1, .i32⟩
  | _, _ => ⟨S81920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![160, 8], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S81920x4096 : Shape := ⟨2, ![81920, 4096]⟩
abbrev S160 : Shape := ⟨1, ![160]⟩
abbrev S1 : Shape := ⟨1, ![1]⟩
abbrev S4x32x4096x2048 : Shape := ⟨4, ![4, 32, 4096, 2048]⟩
abbrev S4x32x2048x4096 : Shape := ⟨4, ![4, 32, 2048, 4096]⟩
abbrev S160x512x4096 : Shape := ⟨3, ![160, 512, 4096]⟩
abbrev S1x32x4096x2048 : Shape := ⟨4, ![1, 32, 4096, 2048]⟩
abbrev S32x4096x2048 : Shape := ⟨3, ![32, 4096, 2048]⟩
abbrev S1x32x2048x4096 : Shape := ⟨4, ![1, 32, 2048, 4096]⟩
abbrev S32x2048x4096 : Shape := ⟨3, ![32, 2048, 4096]⟩
abbrev S_ : Shape := ⟨0, ![]⟩
abbrev S160x1 : Shape := ⟨2, ![160, 1]⟩
abbrev S160x4096x2048 : Shape := ⟨3, ![160, 4096, 2048]⟩
abbrev S160x512x2048 : Shape := ⟨3, ![160, 512, 2048]⟩
abbrev S160x2048x4096 : Shape := ⟨3, ![160, 2048, 4096]⟩
abbrev S160x1x1 : Shape := ⟨3, ![160, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S81920x4096, .bf16⟩
  | .hbm, ⟨1, _⟩ => ⟨S160, .i32⟩
  | .hbm, ⟨2, _⟩ => ⟨S1, .i32⟩
  | .hbm, ⟨3, _⟩ => ⟨S4x32x4096x2048, .f32⟩
  | .hbm, ⟨4, _⟩ => ⟨S4x32x4096x2048, .f32⟩
  | .hbm, ⟨5, _⟩ => ⟨S4x32x2048x4096, .f32⟩
  | .hbm, ⟨6, _⟩ => ⟨S81920x4096, .f32⟩
  | .hbm, ⟨7, _⟩ => ⟨S160x512x4096, .f32⟩
  | .hbm, ⟨8, _⟩ => ⟨S1x32x4096x2048, .f32⟩
  | .hbm, ⟨9, _⟩ => ⟨S32x4096x2048, .f32⟩
  | .hbm, ⟨10, _⟩ => ⟨S1x32x4096x2048, .f32⟩
  | .hbm, ⟨11, _⟩ => ⟨S32x4096x2048, .f32⟩
  | .hbm, ⟨12, _⟩ => ⟨S1x32x2048x4096, .f32⟩
  | .hbm, ⟨13, _⟩ => ⟨S32x2048x4096, .f32⟩
  | .hbm, ⟨14, _⟩ => ⟨S_, .i32⟩
  | .hbm, ⟨15, _⟩ => ⟨S160, .i32⟩
  | .hbm, ⟨16, _⟩ => ⟨S160, .i1⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S160, .i32⟩
  | .hbm, ⟨21, _⟩ => ⟨S160x1, .i32⟩
  | .hbm, ⟨22, _⟩ => ⟨S160x4096x2048, .f32⟩
  | .hbm, ⟨23, _⟩ => ⟨S160x512x2048, .f32⟩
  | .hbm, ⟨24, _⟩ => ⟨S160x512x2048, .f32⟩
  | .hbm, ⟨25, _⟩ => ⟨S160x512x2048, .f32⟩
  | .hbm, ⟨26, _⟩ => ⟨S_, .f32⟩
  | .hbm, ⟨27, _⟩ => ⟨S160x512x2048, .f32⟩
  | .hbm, ⟨28, _⟩ => ⟨S160x512x2048, .f32⟩
  | .hbm, ⟨29, _⟩ => ⟨S_, .f32⟩
  | .hbm, ⟨30, _⟩ => ⟨S160x512x2048, .f32⟩
  | .hbm, ⟨31, _⟩ => ⟨S160x512x2048, .f32⟩
  | .hbm, ⟨32, _⟩ => ⟨S160x512x2048, .f32⟩
  | .hbm, ⟨33, _⟩ => ⟨S_, .i32⟩
  | .hbm, ⟨34, _⟩ => ⟨S160, .i32⟩
  | .hbm, ⟨35, _⟩ => ⟨S160, .i1⟩
  | .hbm, ⟨36, _⟩ => ⟨S_, .i32⟩
  | .hbm, ⟨37, _⟩ => ⟨S160, .i32⟩
  | .hbm, ⟨38, _⟩ => ⟨S160, .i32⟩
  | .hbm, ⟨39, _⟩ => ⟨S160, .i32⟩
  | .hbm, ⟨40, _⟩ => ⟨S160x1, .i32⟩
  | .hbm, ⟨41, _⟩ => ⟨S160x4096x2048, .f32⟩
  | .hbm, ⟨42, _⟩ => ⟨S160x512x2048, .f32⟩
  | .hbm, ⟨43, _⟩ => ⟨S160x512x2048, .f32⟩
  | .hbm, ⟨44, _⟩ => ⟨S_, .i32⟩
  | .hbm, ⟨45, _⟩ => ⟨S160, .i32⟩
  | .hbm, ⟨46, _⟩ => ⟨S160, .i1⟩
  | .hbm, ⟨47, _⟩ => ⟨S_, .i32⟩
  | .hbm, ⟨48, _⟩ => ⟨S160, .i32⟩
  | .hbm, ⟨49, _⟩ => ⟨S160, .i32⟩
  | .hbm, ⟨50, _⟩ => ⟨S160, .i32⟩
  | .hbm, ⟨51, _⟩ => ⟨S160x1, .i32⟩
  | .hbm, ⟨52, _⟩ => ⟨S160x2048x4096, .f32⟩
  | .hbm, ⟨53, _⟩ => ⟨S160x512x4096, .f32⟩
  | .hbm, ⟨54, _⟩ => ⟨S160, .i32⟩
  | .hbm, ⟨55, _⟩ => ⟨S_, .i32⟩
  | .hbm, ⟨56, _⟩ => ⟨S160, .i32⟩
  | .hbm, ⟨57, _⟩ => ⟨S160, .i1⟩
  | .hbm, ⟨58, _⟩ => ⟨S160x1x1, .i1⟩
  | .hbm, ⟨59, _⟩ => ⟨S_, .f32⟩
  | .hbm, ⟨60, _⟩ => ⟨S_, .f32⟩
  | .hbm, ⟨61, _⟩ => ⟨S160x512x4096, .i1⟩
  | .hbm, ⟨62, _⟩ => ⟨S160x512x4096, .f32⟩
  | .hbm, ⟨63, _⟩ => ⟨S160x512x4096, .f32⟩
  | .hbm, ⟨64, _⟩ => ⟨S81920x4096, .f32⟩
  | .hbm, ⟨65, _⟩ => ⟨S81920x4096, .bf16⟩
  | _, _ => ⟨S81920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== KernelMl.lean ====
abbrev S32768x4096 : Shape := ⟨2, ![32768, 4096]⟩
abbrev S4096x13312 : Shape := ⟨2, ![4096, 13312]⟩
abbrev S1x13312 : Shape := ⟨2, ![1, 13312]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMlIdeal.lean ====
abbrev S32768x4096 : Shape := ⟨2, ![32768, 4096]⟩
abbrev S4096x13312 : Shape := ⟨2, ![4096, 13312]⟩
abbrev S1x13312 : Shape := ⟨2, ![1, 13312]⟩
abbrev S32768x13312 : Shape := ⟨2, ![32768, 13312]⟩

abbrev nBuf : Space → Nat
  | .hbm => 9
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x4096, .f32⟩
  | .hbm, ⟨4, _⟩ => ⟨S4096x13312, .f32⟩
  | .hbm, ⟨5, _⟩ => ⟨S32768x13312, .f32⟩
  | .hbm, ⟨6, _⟩ => ⟨S32768x13312, .f32⟩
  | .hbm, ⟨7, _⟩ => ⟨S32768x13312, .f32⟩
  | .hbm, ⟨8, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelNa.lean ====
abbrev S32768x4096 : Shape := ⟨2, ![32768, 4096]⟩
abbrev S4096x13312 : Shape := ⟨2, ![4096, 13312]⟩
abbrev S1x13312 : Shape := ⟨2, ![1, 13312]⟩
abbrev S32768x4608 : Shape := ⟨2, ![32768, 4608]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S1x13312, .f32⟩
  | .hbm, ⟨4, _⟩ => ⟨S32768x4608, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNaIdeal.lean ====
abbrev S32768x4096 : Shape := ⟨2, ![32768, 4096]⟩
abbrev S4096x13312 : Shape := ⟨2, ![4096, 13312]⟩
abbrev S1x13312 : Shape := ⟨2, ![1, 13312]⟩
abbrev S32768x13312 : Shape := ⟨2, ![32768, 13312]⟩
abbrev S32768x4608 : Shape := ⟨2, ![32768, 4608]⟩

abbrev nBuf : Space → Nat
  | .hbm => 13
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S1x13312, .f32⟩
  | .hbm, ⟨4, _⟩ => ⟨S32768x4096, .f32⟩
  | .hbm, ⟨5, _⟩ => ⟨S4096x13312, .f32⟩
  | .hbm, ⟨6, _⟩ => ⟨S32768x13312, .f32⟩
  | .hbm, ⟨7, _⟩ => ⟨S32768x13312, .f32⟩
  | .hbm, ⟨8, _⟩ => ⟨S32768x13312, .f32⟩
  | .hbm, ⟨9, _⟩ => ⟨S32768x13312, .f32⟩
  | .hbm, ⟨10, _⟩ => ⟨S32768x13312, .f32⟩
  | .hbm, ⟨11, _⟩ => ⟨S32768x4608, .f32⟩
  | .hbm, ⟨12, _⟩ => ⟨S32768x4608, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelQk.lean ====
abbrev S32768x4096 : Shape := ⟨2, ![32768, 4096]⟩
abbrev S4096x13312 : Shape := ⟨2, ![4096, 13312]⟩
abbrev S1x13312 : Shape := ⟨2, ![1, 13312]⟩
abbrev S32768x3072 : Shape := ⟨2, ![32768, 3072]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi arg1 c17_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQkIdeal.lean ====
abbrev S32768x4096 : Shape := ⟨2, ![32768, 4096]⟩
abbrev S4096x13312 : Shape := ⟨2, ![4096, 13312]⟩
abbrev S1x13312 : Shape := ⟨2, ![1, 13312]⟩
abbrev S32768x13312 : Shape := ⟨2, ![32768, 13312]⟩
abbrev S32768x3072 : Shape := ⟨2, ![32768, 3072]⟩

abbrev nBuf : Space → Nat
  | .hbm => 9
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x4096, .f32⟩
  | .hbm, ⟨4, _⟩ => ⟨S4096x13312, .f32⟩
  | .hbm, ⟨5, _⟩ => ⟨S32768x13312, .f32⟩
  | .hbm, ⟨6, _⟩ => ⟨S32768x13312, .f32⟩
  | .hbm, ⟨7, _⟩ => ⟨S32768x13312, .f32⟩
  | .hbm, ⟨8, _⟩ => ⟨S32768x3072, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelV.lean ====
abbrev S32768x4096 : Shape := ⟨2, ![32768, 4096]⟩
abbrev S4096x13312 : Shape := ⟨2, ![4096, 13312]⟩
abbrev S1x13312 : Shape := ⟨2, ![1, 13312]⟩
abbrev S32768x1536 : Shape := ⟨2, ![32768, 1536]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x1536, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi arg1 c23_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi arg1 c23_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S32768x4096 : Shape := ⟨2, ![32768, 4096]⟩
abbrev S4096x13312 : Shape := ⟨2, ![4096, 13312]⟩
abbrev S1x13312 : Shape := ⟨2, ![1, 13312]⟩
abbrev S32768x13312 : Shape := ⟨2, ![32768, 13312]⟩
abbrev S32768x1536 : Shape := ⟨2, ![32768, 1536]⟩

abbrev nBuf : Space → Nat
  | .hbm => 10
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x13312, .bf16⟩
  | .hbm, ⟨2, _⟩ => ⟨S1x13312, .f32⟩
  | .hbm, ⟨3, _⟩ => ⟨S32768x4096, .f32⟩
  | .hbm, ⟨4, _⟩ => ⟨S4096x13312, .f32⟩
  | .hbm, ⟨5, _⟩ => ⟨S32768x13312, .f32⟩
  | .hbm, ⟨6, _⟩ => ⟨S32768x13312, .f32⟩
  | .hbm, ⟨7, _⟩ => ⟨S32768x13312, .f32⟩
  | .hbm, ⟨8, _⟩ => ⟨S32768x1536, .f32⟩
  | .hbm, ⟨9, _⟩ => ⟨S32768x1536, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S32768x4096 : Shape := ⟨2, ![32768, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | .hbm, ⟨3, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S32768x4096 : Shape := ⟨2, ![32768, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | .hbm, ⟨3, _⟩ => ⟨S_, .f32⟩
  | .hbm, ⟨4, _⟩ => ⟨S32768x4096, .f32⟩
  | .hbm, ⟨5, _⟩ => ⟨S32768x4096, .f32⟩
  | .hbm, ⟨6, _⟩ => ⟨S32768x4096, .f32⟩
  | .hbm, ⟨7, _⟩ => ⟨S4096x4096, .f32⟩
  | .hbm, ⟨8, _⟩ => ⟨S32768x4096, .f32⟩
  | .hbm, ⟨9, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDiff.lean ====
abbrev S2x8192x1536 : Shape := ⟨3, ![2, 8192, 1536]⟩
abbrev S16384x1536 : Shape := ⟨2, ![16384, 1536]⟩
abbrev S4x64 : Shape := ⟨2, ![4, 64]⟩
abbrev S128 : Shape := ⟨1, ![128]⟩
abbrev S2x16x512x12x128 : Shape := ⟨5, ![2, 16, 512, 12, 128]⟩
abbrev S2x12x16x128x512 : Shape := ⟨5, ![2, 12, 16, 128, 512]⟩
abbrev S_ : Shape := ⟨0, ![]⟩
abbrev S2x12x16x1x512 : Shape := ⟨5, ![2, 12, 16, 1, 512]⟩
abbrev S2x12x16x15x512 : Shape := ⟨5, ![2, 12, 16, 15, 512]⟩
abbrev S2x12x16x144x512 : Shape := ⟨5, ![2, 12, 16, 144, 512]⟩
abbrev S128x1 : Shape := ⟨2, ![128, 1]⟩
abbrev S1x1024x128 : Shape := ⟨3, ![1, 1024, 128]⟩
abbrev S1x8192x128 : Shape := ⟨3, ![1, 8192, 128]⟩
abbrev S1x1x16x144x512 : Shape := ⟨5, ![1, 1, 16, 144, 512]⟩
abbrev S2x1x1024 : Shape := ⟨3, ![2, 1, 1024]⟩
abbrev S2x144x1024 : Shape := ⟨3, ![2, 144, 1024]⟩
abbrev S2x512x1024 : Shape := ⟨3, ![2, 512, 1024]⟩
abbrev S1024x128 : Shape := ⟨2, ![1024, 128]⟩
abbrev S1x512x128 : Shape := ⟨3, ![1, 512, 128]⟩
abbrev S512x128 : Shape := ⟨2, ![512, 128]⟩
abbrev S512x1024 : Shape := ⟨2, ![512, 1024]⟩
abbrev S1x512x1024 : Shape := ⟨3, ![1, 512, 1024]⟩
abbrev S1x1x1x144x512 : Shape := ⟨5, ![1, 1, 1, 144, 512]⟩
abbrev S144x512 : Shape := ⟨2, ![144, 512]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S1x64 : Shape := ⟨2, ![1, 64]⟩
abbrev S1 : Shape := ⟨1, ![1]⟩
abbrev S1x1 : Shape := ⟨2, ![1, 1]⟩
abbrev S128x1024 : Shape := ⟨2, ![128, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x1536, .bf16⟩
  | .hbm, ⟨2, _⟩ => ⟨S2x8192x1536, .bf16⟩
  | .hbm, ⟨3, _⟩ => ⟨S16384x1536, .bf16⟩
  | .hbm, ⟨4, _⟩ => ⟨S4x64, .f32⟩
  | .hbm, ⟨5, _⟩ => ⟨S128, .f32⟩
  | .hbm, ⟨6, _⟩ => ⟨S2x16x512x12x128, .bf16⟩
  | .hbm, ⟨7, _⟩ => ⟨S2x12x16x128x512, .bf16⟩
  | .hbm, ⟨8, _⟩ => ⟨S_, .bf16⟩
  | .hbm, ⟨9, _⟩ => ⟨S2x12x16x1x512, .bf16⟩
  | .hbm, ⟨10, _⟩ => ⟨S_, .bf16⟩
  | .hbm, ⟨11, _⟩ => ⟨S2x12x16x15x512, .bf16⟩
  | .hbm, ⟨12, _⟩ => ⟨S2x12x16x144x512, .bf16⟩
  | .hbm, ⟨13, _⟩ => ⟨S128x1, .f32⟩
  | .hbm, ⟨14, _⟩ => ⟨S2x8192x1536, .bf16⟩
  | .hbm, ⟨15, _⟩ => ⟨S16384x1536, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x16x144x512, .bf16⟩
  | .local _ .vmem, ⟨7, _⟩ => ⟨S1x1x16x144x512, .bf16⟩
  | .local _ .vmem, ⟨8, _⟩ => ⟨S4x64, .f32⟩
  | .local _ .vmem, ⟨9, _⟩ => ⟨S128x1, .f32⟩
  | .local _ .vmem, ⟨10, _⟩ => ⟨S1x1024x128, .bf16⟩
  | .local _ .vmem, ⟨11, _⟩ => ⟨S1x1024x128, .bf16⟩
  | .local _ .vmem, ⟨12, _⟩ => ⟨S2x1x1024, .f32⟩
  | .local _ .vmem, ⟨13, _⟩ => ⟨S2x144x1024, .f32⟩
  | .local _ .vmem, ⟨14, _⟩ => ⟨S2x512x1024, .f32⟩
  | .local _ .vmem, ⟨15, _⟩ => ⟨S2x512x1024, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 12, 8], ![false, false, false]⟩

def k0_mult1 : BitVec 32 :=
  let c0_i32 : BitVec 32 := 0#32
  c0_i32
@[reducible] def k0_t1_loop : Scf.Loop 32 :=
  let c0_i32_20 : BitVec 32 := 0#32
  let c7_i32 : BitVec 32 := 7#32
  let v25 : BitVec 32 := Scalar.addi c0_i32_20 c7_i32
  let c1_i32 : BitVec 32 := 1#32
  ⟨c0_i32_20, v25, c1_i32⟩
def k0_mult2 (k0_t1 : Fin k0_t1_loop.trips) : BitVec 32 :=
  let c2_i32 : BitVec 32 := 2#32
  let c0_i32_20 : BitVec 32 := 0#32
  let c1_i32 : BitVec 32 := 1#32
  let arg14 : BitVec 32 := Scf.iv c0_i32_20 c1_i32 k0_t1
  let v197 : BitVec 32 := Scalar.muli c2_i32 arg14
  let c1_i32_130 : BitVec 32 := 1#32
  let v198 : BitVec 32 := Scalar.addi v197 c1_i32_130
  let c512_i32 : BitVec 32 := 512#32
  let v199 : BitVec 32 := Scalar.muli v198 c512_i32
  v199
def k0_off1 (k0_t1 : Fin k0_t1_loop.trips) (c1_i32_130 : BitVec 32) : Fin 3 → Nat :=
  let c0_131 : Index := 0#32
  let c2_i32 : BitVec 32 := 2#32
  let c0_i32_20 : BitVec 32 := 0#32
  let c1_i32 : BitVec 32 := 1#32
  let arg14 : BitVec 32 := Scf.iv c0_i32_20 c1_i32 k0_t1
  let v197 : BitVec 32 := Scalar.muli c2_i32 arg14
  let v198 : BitVec 32 := Scalar.addi v197 c1_i32_130
  let c512_i32 : BitVec 32 := 512#32
  let v199 : BitVec 32 := Scalar.muli v198 c512_i32
  let v200 : BitVec 32 := v199
  let v201 : Index := Scalar.indexCast v200
  let c0_132 : Index := 0#32
  ![0, v201.toNat, 0]
def k0_off2 (k0_t1 : Fin k0_t1_loop.trips) : Fin 5 → Nat :=
  let c0_143 : Index := 0#32
  let c0_144 : Index := 0#32
  let c2_i32 : BitVec 32 := 2#32
  let c0_i32_20 : BitVec 32 := 0#32
  let c1_i32 : BitVec 32 := 1#32
  let arg14 : BitVec 32 := Scf.iv c0_i32_20 c1_i32 k0_t1
  let v197 : BitVec 32 := Scalar.muli c2_i32 arg14
  let v215 : Index := Scalar.indexCast v197
  let c0_145 : Index := 0#32
  let c0_146 : Index := 0#32
  ![0, 0, v215.toNat, 0, 0]
def k0_mult3 (k0_t1 : Fin k0_t1_loop.trips) : BitVec 32 :=
  let c2_i32 : BitVec 32 := 2#32
  let c0_i32_20 : BitVec 32 := 0#32
  let c1_i32 : BitVec 32 := 1#32
  let arg14 : BitVec 32 := Scf.iv c0_i32_20 c1_i32 k0_t1
  let v197 : BitVec 32 := Scalar.muli c2_i32 arg14
  let c2_i32_181 : BitVec 32 := 2#32
  let v268 : BitVec 32 := Scalar.addi v197 c2_i32_181
  let c512_i32_182 : BitVec 32 := 512#32
  let v269 : BitVec 32 := Scalar.muli v268 c512_i32_182
  v269
def k0_off3 (k0_t1 : Fin k0_t1_loop.trips) : Fin 5 → Nat :=
  let c0_196 : Index := 0#32
  let c0_197 : Index := 0#32
  let c2_i32 : BitVec 32 := 2#32
  let c0_i32_20 : BitVec 32 := 0#32
  let c1_i32 : BitVec 32 := 1#32
  let arg14 : BitVec 32 := Scf.iv c0_i32_20 c1_i32 k0_t1
  let v197 : BitVec 32 := Scalar.muli c2_i32 arg14
  let c1_i32_195 : BitVec 32 := 1#32
  let v285 : BitVec 32 := Scalar.addi v197 c1_i32_195
  let v286 : Index := Scalar.indexCast v285
  let c0_198 : Index := 0#32
  let c0_199 : Index := 0#32
  ![0, 0, v286.toNat, 0, 0]
def k0_mult4 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceDiffIdeal.lean ====
abbrev S2x8192x1536 : Shape := ⟨3, ![2, 8192, 1536]⟩
abbrev S16384x1536 : Shape := ⟨2, ![16384, 1536]⟩
abbrev S4x64 : Shape := ⟨2, ![4, 64]⟩
abbrev S128 : Shape := ⟨1, ![128]⟩
abbrev S2x8192x12x128 : Shape := ⟨4, ![2, 8192, 12, 128]⟩
abbrev S1x64 : Shape := ⟨2, ![1, 64]⟩
abbrev S64 : Shape := ⟨1, ![64]⟩
abbrev S_ : Shape := ⟨0, ![]⟩
abbrev S2x12x8192x8192 : Shape := ⟨4, ![2, 12, 8192, 8192]⟩
abbrev S2x12x8192 : Shape := ⟨3, ![2, 12, 8192]⟩
abbrev S2x12x8192x1 : Shape := ⟨4, ![2, 12, 8192, 1]⟩
abbrev S2x12x128x8192 : Shape := ⟨4, ![2, 12, 128, 8192]⟩
abbrev S2x8192x12 : Shape := ⟨3, ![2, 8192, 12]⟩
abbrev S2x8192x12x1 : Shape := ⟨4, ![2, 8192, 12, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x1536, .bf16⟩
  | .hbm, ⟨2, _⟩ => ⟨S2x8192x1536, .bf16⟩
  | .hbm, ⟨3, _⟩ => ⟨S16384x1536, .bf16⟩
  | .hbm, ⟨4, _⟩ => ⟨S4x64, .f32⟩
  | .hbm, ⟨5, _⟩ => ⟨S128, .f32⟩
  | .hbm, ⟨6, _⟩ => ⟨S2x8192x12x128, .bf16⟩
  | .hbm, ⟨7, _⟩ => ⟨S2x8192x12x128, .bf16⟩
  | .hbm, ⟨8, _⟩ => ⟨S2x8192x12x128, .bf16⟩
  | .hbm, ⟨9, _⟩ => ⟨S2x8192x12x128, .bf16⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x12x8192x8192, .f32⟩
  | .hbm, ⟨30, _⟩ => ⟨S_, .f32⟩
  | .hbm, ⟨31, _⟩ => ⟨S2x12x8192, .f32⟩
  | .hbm, ⟨32, _⟩ => ⟨S2x12x8192x1, .f32⟩
  | .hbm, ⟨33, _⟩ => ⟨S2x12x8192x8192, .f32⟩
  | .hbm, ⟨34, _⟩ => ⟨S2x12x8192x8192, .f32⟩
  | .hbm, ⟨35, _⟩ => ⟨S_, .f32⟩
  | .hbm, ⟨36, _⟩ => ⟨S2x12x8192x8192, .f32⟩
  | .hbm, ⟨37, _⟩ => ⟨S2x12x8192x8192, .f32⟩
  | .hbm, ⟨38, _⟩ => ⟨S_, .f32⟩
  | .hbm, ⟨39, _⟩ => ⟨S2x12x8192, .f32⟩
  | .hbm, ⟨40, _⟩ => ⟨S2x12x8192x1, .f32⟩
  | .hbm, ⟨41, _⟩ => ⟨S2x12x8192x8192, .f32⟩
  | .hbm, ⟨42, _⟩ => ⟨S2x12x8192x8192, .f32⟩
  | .hbm, ⟨43, _⟩ => ⟨S2x12x8192x8192, .f32⟩
  | .hbm, ⟨44, _⟩ => ⟨S_, .f32⟩
  | .hbm, ⟨45, _⟩ => ⟨S2x12x8192, .f32⟩
  | .hbm, ⟨46, _⟩ => ⟨S2x12x8192x1, .f32⟩
  | .hbm, ⟨47, _⟩ => ⟨S2x12x8192x8192, .f32⟩
  | .hbm, ⟨48, _⟩ => ⟨S2x12x8192x8192, .f32⟩
  | .hbm, ⟨49, _⟩ => ⟨S_, .f32⟩
  | .hbm, ⟨50, _⟩ => ⟨S2x12x8192x8192, .f32⟩
  | .hbm, ⟨51, _⟩ => ⟨S2x12x8192x8192, .f32⟩
  | .hbm, ⟨52, _⟩ => ⟨S_, .f32⟩
  | .hbm, ⟨53, _⟩ => ⟨S2x12x8192, .f32⟩
  | .hbm, ⟨54, _⟩ => ⟨S2x12x8192x1, .f32⟩
  | .hbm, ⟨55, _⟩ => ⟨S2x12x8192x8192, .f32⟩
  | .hbm, ⟨56, _⟩ => ⟨S2x12x8192x8192, .f32⟩
  | .hbm, ⟨57, _⟩ => ⟨S2x12x8192x8192, .f32⟩
  | .hbm, ⟨58, _⟩ => ⟨S2x12x8192x8192, .f32⟩
  | .hbm, ⟨59, _⟩ => ⟨S2x12x8192x8192, .f32⟩
  | .hbm, ⟨60, _⟩ => ⟨S2x12x8192x8192, .bf16⟩
  | .hbm, ⟨61, _⟩ => ⟨S2x12x128x8192, .f32⟩
  | .hbm, ⟨62, _⟩ => ⟨S2x8192x12x128, .f32⟩
  | .hbm, ⟨63, _⟩ => ⟨S2x8192x12x128, .f32⟩
  | .hbm, ⟨64, _⟩ => ⟨S_, .f32⟩
  | .hbm, ⟨65, _⟩ => ⟨S2x8192x12, .f32⟩
  | .hbm, ⟨66, _⟩ => ⟨S2x8192x12x1, .f32⟩
  | .hbm, ⟨67, _⟩ => ⟨S_, .f32⟩
  | .hbm, ⟨68, _⟩ => ⟨S2x8192x12x1, .f32⟩
  | .hbm, ⟨69, _⟩ => ⟨S2x8192x12x1, .f32⟩
  | .hbm, ⟨70, _⟩ => ⟨S_, .f32⟩
  | .hbm, ⟨71, _⟩ => ⟨S2x8192x12x1, .f32⟩
  | .hbm, ⟨72, _⟩ => ⟨S2x8192x12x1, .f32⟩
  | .hbm, ⟨73, _⟩ => ⟨S2x8192x12x1, .f32⟩
  | .hbm, ⟨74, _⟩ => ⟨S2x8192x12x128, .f32⟩
  | .hbm, ⟨75, _⟩ => ⟨S2x8192x12x128, .f32⟩
  | .hbm, ⟨76, _⟩ => ⟨S1x1x1x128, .f32⟩
  | .hbm, ⟨77, _⟩ => ⟨S2x8192x12x128, .f32⟩
  | .hbm, ⟨78, _⟩ => ⟨S2x8192x12x128, .f32⟩
  | .hbm, ⟨79, _⟩ => ⟨S_, .f32⟩
  | .hbm, ⟨80, _⟩ => ⟨S2x8192x12x128, .f32⟩
  | .hbm, ⟨81, _⟩ => ⟨S2x8192x12x128, .f32⟩
  | .hbm, ⟨82, _⟩ => ⟨S16384x1536, .f32⟩
  | .hbm, ⟨83, _⟩ => ⟨S16384x1536, .bf16⟩
  | _, _ => ⟨S2x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== KernelGates.lean ====
abbrev S32768x4096 : Shape := ⟨2, ![32768, 4096]⟩
abbrev S4096x128 : Shape := ⟨2, ![4096, 128]⟩
abbrev S1x128 : Shape := ⟨2, ![1, 128]⟩
abbrev S32768x128 : Shape := ⟨2, ![32768, 128]⟩
abbrev S1024x4096 : Shape := ⟨2, ![1024, 4096]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x128, .bf16⟩
  | .hbm, ⟨2, _⟩ => ⟨S1x128, .f32⟩
  | .hbm, ⟨3, _⟩ => ⟨S32768x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S32768x4096 : Shape := ⟨2, ![32768, 4096]⟩
abbrev S4096x128 : Shape := ⟨2, ![4096, 128]⟩
abbrev S1x128 : Shape := ⟨2, ![1, 128]⟩
abbrev S32768x128 : Shape := ⟨2, ![32768, 128]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x128, .bf16⟩
  | .hbm, ⟨2, _⟩ => ⟨S1x128, .f32⟩
  | .hbm, ⟨3, _⟩ => ⟨S32768x4096, .f32⟩
  | .hbm, ⟨4, _⟩ => ⟨S4096x128, .f32⟩
  | .hbm, ⟨5, _⟩ => ⟨S32768x128, .f32⟩
  | .hbm, ⟨6, _⟩ => ⟨S32768x128, .f32⟩
  | .hbm, ⟨7, _⟩ => ⟨S32768x128, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelLn.lean ====
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S32768x4096, .f32⟩
  | .hbm, ⟨6, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLnIdeal.lean ====
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x4096, .f32⟩
  | .hbm, ⟨25, _⟩ => ⟨S32768x4096, .f32⟩
  | .hbm, ⟨26, _⟩ => ⟨S1x4096, .f32⟩
  | .hbm, ⟨27, _⟩ => ⟨S32768x4096, .f32⟩
  | .hbm, ⟨28, _⟩ => ⟨S32768x4096, .f32⟩
  | .hbm, ⟨29, _⟩ => ⟨S1x4096, .f32⟩
  | .hbm, ⟨30, _⟩ => ⟨S32768x4096, .f32⟩
  | .hbm, ⟨31, _⟩ => ⟨S32768x4096, .f32⟩
  | .hbm, ⟨32, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelComb.lean ====
abbrev S32768x4096 : Shape := ⟨2, ![32768, 4096]⟩
abbrev S65536x4096 : Shape := ⟨2, ![65536, 4096]⟩
abbrev S32768x2 : Shape := ⟨2, ![32768, 2]⟩
abbrev S4096 : Shape := ⟨1, ![4096]⟩
abbrev S1x4096 : Shape := ⟨2, ![1, 4096]⟩
abbrev S256x4096 : Shape := ⟨2, ![256, 4096]⟩
abbrev S256x2 : Shape := ⟨2, ![256, 2]⟩
abbrev S256x1 : Shape := ⟨2, ![256, 1]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S32768x4096, .f32⟩
  | .hbm, ⟨1, _⟩ => ⟨S65536x4096, .bf16⟩
  | .hbm, ⟨2, _⟩ => ⟨S32768x2, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S32768x4096, .f32⟩
  | .hbm, ⟨8, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x2, .f32⟩
  | .local _ .vmem, ⟨7, _⟩ => ⟨S256x2, .f32⟩
  | .local _ .vmem, ⟨8, _⟩ => ⟨S1x4096, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .bf16⟩
  | .local _ .vmem, ⟨13, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCombIdeal.lean ====
abbrev S32768x4096 : Shape := ⟨2, ![32768, 4096]⟩
abbrev S65536x4096 : Shape := ⟨2, ![65536, 4096]⟩
abbrev S32768x2 : Shape := ⟨2, ![32768, 2]⟩
abbrev S4096 : Shape := ⟨1, ![4096]⟩
abbrev S2x32768x4096 : Shape := ⟨3, ![2, 32768, 4096]⟩
abbrev S1x32768x4096 : Shape := ⟨3, ![1, 32768, 4096]⟩
abbrev S_ : Shape := ⟨0, ![]⟩
abbrev S32768x1 : Shape := ⟨2, ![32768, 1]⟩
abbrev S32768 : Shape := ⟨1, ![32768]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S65536x4096, .bf16⟩
  | .hbm, ⟨2, _⟩ => ⟨S32768x2, .f32⟩
  | .hbm, ⟨3, _⟩ => ⟨S4096, .f32⟩
  | .hbm, ⟨4, _⟩ => ⟨S4096, .f32⟩
  | .hbm, ⟨5, _⟩ => ⟨S65536x4096, .f32⟩
  | .hbm, ⟨6, _⟩ => ⟨S2x32768x4096, .f32⟩
  | .hbm, ⟨7, _⟩ => ⟨S1x32768x4096, .f32⟩
  | .hbm, ⟨8, _⟩ => ⟨S32768x4096, .f32⟩
  | .hbm, ⟨9, _⟩ => ⟨S1x32768x4096, .f32⟩
  | .hbm, ⟨10, _⟩ => ⟨S32768x4096, .f32⟩
  | .hbm, ⟨11, _⟩ => ⟨S_, .f32⟩
  | .hbm, ⟨12, _⟩ => ⟨S32768x4096, .f32⟩
  | .hbm, ⟨13, _⟩ => ⟨S32768x4096, .f32⟩
  | .hbm, ⟨14, _⟩ => ⟨S32768x1, .f32⟩
  | .hbm, ⟨15, _⟩ => ⟨S32768x4096, .f32⟩
  | .hbm, ⟨16, _⟩ => ⟨S32768x4096, .f32⟩
  | .hbm, ⟨17, _⟩ => ⟨S32768x1, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S32768x4096, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x4096, .f32⟩
  | .hbm, ⟨38, _⟩ => ⟨S32768x4096, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x4096, .f32⟩
  | .hbm, ⟨44, _⟩ => ⟨S32768x4096, .f32⟩
  | .hbm, ⟨45, _⟩ => ⟨S1x4096, .f32⟩
  | .hbm, ⟨46, _⟩ => ⟨S32768x4096, .f32⟩
  | .hbm, ⟨47, _⟩ => ⟨S32768x4096, .f32⟩
  | .hbm, ⟨48, _⟩ => ⟨S1x4096, .f32⟩
  | .hbm, ⟨49, _⟩ => ⟨S32768x4096, .f32⟩
  | .hbm, ⟨50, _⟩ => ⟨S32768x4096, .f32⟩
  | .hbm, ⟨51, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KernelRopeQ.lean ====
abbrev S32768x3072 : Shape := ⟨2, ![32768, 3072]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S4x8192x3072 : Shape := ⟨3, ![4, 8192, 3072]⟩
abbrev S2x8192x1536 : Shape := ⟨3, ![2, 8192, 1536]⟩
abbrev S1x512x1536 : Shape := ⟨3, ![1, 512, 1536]⟩
abbrev S512x128 : Shape := ⟨2, ![512, 128]⟩
abbrev S1x512x128 : Shape := ⟨3, ![1, 512, 128]⟩

abbrev nBuf : Space → Nat
  | .hbm => 47
  | .vmem => 10
  | .smem => 0
  | _ => 0

abbrev bufTy : (tb : Table) → Fin (tcTables nBuf tb) → BufTy
  | .hbm, ⟨0, _⟩ => ⟨S32768x3072, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x48, .f32⟩
  | .hbm, ⟨25, _⟩ => ⟨S_, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S8192x64, .f32⟩
  | .hbm, ⟨30, _⟩ => ⟨S8192x8, .f32⟩
  | .hbm, ⟨31, _⟩ => ⟨S8192x64, .f32⟩
  | .hbm, ⟨32, _⟩ => ⟨S8192x64, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S4x8192x3072, .f32⟩
  | .hbm, ⟨46, _⟩ => ⟨S2x8192x1536, .bf16⟩
  | .local _ .vmem, ⟨0, _⟩ => ⟨S1x512x1536, .f32⟩
  | .local _ .vmem, ⟨1, _⟩ => ⟨S1x512x1536, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x1536, .bf16⟩
  | .local _ .vmem, ⟨9, _⟩ => ⟨S1x512x1536, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceRopeQIdeal.lean ====
abbrev S32768x3072 : Shape := ⟨2, ![32768, 3072]⟩
abbrev S16384x1536 : Shape := ⟨2, ![16384, 1536]⟩
abbrev S2x8192x12x2x64 : Shape := ⟨5, ![2, 8192, 12, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x12x2x8 : Shape := ⟨5, ![2, 8192, 12, 2, 8]⟩
abbrev S1x8192x1x1x8 : Shape := ⟨5, ![1, 8192, 1, 1, 8]⟩
abbrev S2x8192x12x2x48 : Shape := ⟨5, ![2, 8192, 12, 2, 48]⟩
abbrev S2x8192x1536 : Shape := ⟨3, ![2, 8192, 1536]⟩

abbrev nBuf : Space → Nat
  | .hbm => 49
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S16384x1536, .f32⟩
  | .hbm, ⟨2, _⟩ => ⟨S2x8192x12x2x64, .f32⟩
  | .hbm, ⟨3, _⟩ => ⟨S8192, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x1x8, .f32⟩
  | .hbm, ⟨24, _⟩ => ⟨S8192x1x1x8, .f32⟩
  | .hbm, ⟨25, _⟩ => ⟨S8192x1x1x8, .f32⟩
  | .hbm, ⟨26, _⟩ => ⟨S2x8192x12x2x8, .f32⟩
  | .hbm, ⟨27, _⟩ => ⟨S2x8192x12x2x8, .f32⟩
  | .hbm, ⟨28, _⟩ => ⟨S1x8192x1x1x8, .f32⟩
  | .hbm, ⟨29, _⟩ => ⟨S2x8192x12x2x8, .f32⟩
  | .hbm, ⟨30, _⟩ => ⟨S2x8192x12x2x8, .f32⟩
  | .hbm, ⟨31, _⟩ => ⟨S1x8192x1x1x8, .f32⟩
  | .hbm, ⟨32, _⟩ => ⟨S2x8192x12x2x8, .f32⟩
  | .hbm, ⟨33, _⟩ => ⟨S2x8192x12x2x8, .f32⟩
  | .hbm, ⟨34, _⟩ => ⟨S2x8192x12x2x8, .f32⟩
  | .hbm, ⟨35, _⟩ => ⟨S1x8192x1x1x8, .f32⟩
  | .hbm, ⟨36, _⟩ => ⟨S2x8192x12x2x8, .f32⟩
  | .hbm, ⟨37, _⟩ => ⟨S2x8192x12x2x8, .f32⟩
  | .hbm, ⟨38, _⟩ => ⟨S1x8192x1x1x8, .f32⟩
  | .hbm, ⟨39, _⟩ => ⟨S2x8192x12x2x8, .f32⟩
  | .hbm, ⟨40, _⟩ => ⟨S2x8192x12x2x8, .f32⟩
  | .hbm, ⟨41, _⟩ => ⟨S2x8192x12x2x8, .f32⟩
  | .hbm, ⟨42, _⟩ => ⟨S2x8192x12x2x48, .f32⟩
  | .hbm, ⟨43, _⟩ => ⟨S2x8192x12x2x64, .f32⟩
  | .hbm, ⟨44, _⟩ => ⟨S_, .f32⟩
  | .hbm, ⟨45, _⟩ => ⟨S2x8192x12x2x64, .f32⟩
  | .hbm, ⟨46, _⟩ => ⟨S2x8192x12x2x64, .f32⟩
  | .hbm, ⟨47, _⟩ => ⟨S2x8192x1536, .f32⟩
  | .hbm, ⟨48, _⟩ => ⟨S2x8192x1536, .bf16⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== KernelRopeK.lean ====
abbrev S32768x3072 : Shape := ⟨2, ![32768, 3072]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S4x8192x3072 : Shape := ⟨3, ![4, 8192, 3072]⟩
abbrev S2x8192x1536 : Shape := ⟨3, ![2, 8192, 1536]⟩
abbrev S1x512x1536 : Shape := ⟨3, ![1, 512, 1536]⟩
abbrev S512x128 : Shape := ⟨2, ![512, 128]⟩
abbrev S1x512x128 : Shape := ⟨3, ![1, 512, 128]⟩

abbrev nBuf : Space → Nat
  | .hbm => 39
  | .vmem => 12
  | .smem => 0
  | _ => 0

abbrev bufTy : (tb : Table) → Fin (tcTables nBuf tb) → BufTy
  | .hbm, ⟨0, _⟩ => ⟨S32768x3072, .f32⟩
  | .hbm, ⟨1, _⟩ => ⟨S8192, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192x1, .f32⟩
  | .hbm, ⟨17, _⟩ => ⟨S1x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x48, .f32⟩
  | .hbm, ⟨25, _⟩ => ⟨S_, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S8192x64, .f32⟩
  | .hbm, ⟨30, _⟩ => ⟨S8192x8, .f32⟩
  | .hbm, ⟨31, _⟩ => ⟨S8192x64, .f32⟩
  | .hbm, ⟨32, _⟩ => ⟨S8192x64, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S4x8192x3072, .f32⟩
  | .hbm, ⟨37, _⟩ => ⟨S2x8192x1536, .bf16⟩
  | .hbm, ⟨38, _⟩ => ⟨S2x8192x1536, .bf16⟩
  | .local _ .vmem, ⟨0, _⟩ => ⟨S1x512x1536, .f32⟩
  | .local _ .vmem, ⟨1, _⟩ => ⟨S1x512x1536, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x1536, .bf16⟩
  | .local _ .vmem, ⟨9, _⟩ => ⟨S1x512x1536, .bf16⟩
  | .local _ .vmem, ⟨10, _⟩ => ⟨S1x512x1536, .bf16⟩
  | .local _ .vmem, ⟨11, _⟩ => ⟨S1x512x1536, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c1_i32 : BitVec 32 := 1#32
  let c0_i32 : BitVec 32 := 0#32
  ![v0.toNat, arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceRopeKIdeal.lean ====
abbrev S32768x3072 : Shape := ⟨2, ![32768, 3072]⟩
abbrev S16384x1536 : Shape := ⟨2, ![16384, 1536]⟩
abbrev S2x8192x12x2x64 : Shape := ⟨5, ![2, 8192, 12, 2, 64]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x1x8 : Shape := ⟨4, ![8192, 1, 1, 8]⟩
abbrev S2x8192x12x2x8 : Shape := ⟨5, ![2, 8192, 12, 2, 8]⟩
abbrev S1x8192x1x1x8 : Shape := ⟨5, ![1, 8192, 1, 1, 8]⟩
abbrev S2x8192x12x2x48 : Shape := ⟨5, ![2, 8192, 12, 2, 48]⟩
abbrev S2 : Shape := ⟨1, ![2]⟩
abbrev S2x1 : Shape := ⟨2, ![2, 1]⟩
abbrev S2x8192x1536 : Shape := ⟨3, ![2, 8192, 1536]⟩

abbrev nBuf : Space → Nat
  | .hbm => 66
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S16384x1536, .f32⟩
  | .hbm, ⟨2, _⟩ => ⟨S2x8192x12x2x64, .f32⟩
  | .hbm, ⟨3, _⟩ => ⟨S8192, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x1x8, .f32⟩
  | .hbm, ⟨24, _⟩ => ⟨S8192x1x1x8, .f32⟩
  | .hbm, ⟨25, _⟩ => ⟨S8192x1x1x8, .f32⟩
  | .hbm, ⟨26, _⟩ => ⟨S2x8192x12x2x8, .f32⟩
  | .hbm, ⟨27, _⟩ => ⟨S2x8192x12x2x8, .f32⟩
  | .hbm, ⟨28, _⟩ => ⟨S1x8192x1x1x8, .f32⟩
  | .hbm, ⟨29, _⟩ => ⟨S2x8192x12x2x8, .f32⟩
  | .hbm, ⟨30, _⟩ => ⟨S2x8192x12x2x8, .f32⟩
  | .hbm, ⟨31, _⟩ => ⟨S1x8192x1x1x8, .f32⟩
  | .hbm, ⟨32, _⟩ => ⟨S2x8192x12x2x8, .f32⟩
  | .hbm, ⟨33, _⟩ => ⟨S2x8192x12x2x8, .f32⟩
  | .hbm, ⟨34, _⟩ => ⟨S2x8192x12x2x8, .f32⟩
  | .hbm, ⟨35, _⟩ => ⟨S1x8192x1x1x8, .f32⟩
  | .hbm, ⟨36, _⟩ => ⟨S2x8192x12x2x8, .f32⟩
  | .hbm, ⟨37, _⟩ => ⟨S2x8192x12x2x8, .f32⟩
  | .hbm, ⟨38, _⟩ => ⟨S1x8192x1x1x8, .f32⟩
  | .hbm, ⟨39, _⟩ => ⟨S2x8192x12x2x8, .f32⟩
  | .hbm, ⟨40, _⟩ => ⟨S2x8192x12x2x8, .f32⟩
  | .hbm, ⟨41, _⟩ => ⟨S2x8192x12x2x8, .f32⟩
  | .hbm, ⟨42, _⟩ => ⟨S2x8192x12x2x48, .f32⟩
  | .hbm, ⟨43, _⟩ => ⟨S2x8192x12x2x64, .f32⟩
  | .hbm, ⟨44, _⟩ => ⟨S2, .i32⟩
  | .hbm, ⟨45, _⟩ => ⟨S2x1, .i32⟩
  | .hbm, ⟨46, _⟩ => ⟨S_, .i32⟩
  | .hbm, ⟨47, _⟩ => ⟨S2x1, .i32⟩
  | .hbm, ⟨48, _⟩ => ⟨S2x1, .i1⟩
  | .hbm, ⟨49, _⟩ => ⟨S_, .f32⟩
  | .hbm, ⟨50, _⟩ => ⟨S_, .f32⟩
  | .hbm, ⟨51, _⟩ => ⟨S2x8192x12x2x64, .i1⟩
  | .hbm, ⟨52, _⟩ => ⟨S2x8192x12x2x64, .f32⟩
  | .hbm, ⟨53, _⟩ => ⟨S2x8192x12x2x64, .f32⟩
  | .hbm, ⟨54, _⟩ => ⟨S_, .i32⟩
  | .hbm, ⟨55, _⟩ => ⟨S2x1, .i32⟩
  | .hbm, ⟨56, _⟩ => ⟨S2x1, .i1⟩
  | .hbm, ⟨57, _⟩ => ⟨S_, .f32⟩
  | .hbm, ⟨58, _⟩ => ⟨S_, .f32⟩
  | .hbm, ⟨59, _⟩ => ⟨S2x8192x12x2x64, .i1⟩
  | .hbm, ⟨60, _⟩ => ⟨S2x8192x12x2x64, .f32⟩
  | .hbm, ⟨61, _⟩ => ⟨S2x8192x12x2x64, .f32⟩
  | .hbm, ⟨62, _⟩ => ⟨S2x8192x1536, .f32⟩
  | .hbm, ⟨63, _⟩ => ⟨S2x8192x1536, .bf16⟩
  | .hbm, ⟨64, _⟩ => ⟨S2x8192x1536, .f32⟩
  | .hbm, ⟨65, _⟩ => ⟨S2x8192x1536, .bf16⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== KernelRouter.lean ====
abbrev S32768x4096 : Shape := ⟨2, ![32768, 4096]⟩
abbrev S4096x32 : Shape := ⟨2, ![4096, 32]⟩
abbrev S32 : Shape := ⟨1, ![32]⟩
abbrev S_ : Shape := ⟨0, ![]⟩
abbrev S32x4096 : Shape := ⟨2, ![32, 4096]⟩
abbrev S32x1 : Shape := ⟨2, ![32, 1]⟩
abbrev S2x32768 : Shape := ⟨2, ![2, 32768]⟩
abbrev S512x4096 : Shape := ⟨2, ![512, 4096]⟩
abbrev S2x512 : Shape := ⟨2, ![2, 512]⟩
abbrev S32x512 : Shape := ⟨2, ![32, 512]⟩
abbrev S512 : Shape := ⟨1, ![512]⟩
abbrev S1x512 : Shape := ⟨2, ![1, 512]⟩
abbrev S8x512 : Shape := ⟨2, ![8, 512]⟩

abbrev nBuf : Space → Nat
  | .hbm => 72
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x32, .f32⟩
  | .hbm, ⟨2, _⟩ => ⟨S32, .f32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S_, .i1⟩
  | .hbm, ⟨20, _⟩ => ⟨S32, .i1⟩
  | .hbm, ⟨21, _⟩ => ⟨S32, .i1⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i1⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i1⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S32, .i32⟩
  | .hbm, ⟨48, _⟩ => ⟨S32, .i32⟩
  | .hbm, ⟨49, _⟩ => ⟨S32x4096, .f32⟩
  | .hbm, ⟨50, _⟩ => ⟨S_, .i32⟩
  | .hbm, ⟨51, _⟩ => ⟨S32, .i32⟩
  | .hbm, ⟨52, _⟩ => ⟨S32, .i1⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S32, .i32⟩
  | .hbm, ⟨57, _⟩ => ⟨S32x1, .i32⟩
  | .hbm, ⟨58, _⟩ => ⟨S32x4096, .f32⟩
  | .hbm, ⟨59, _⟩ => ⟨S32x4096, .bf16⟩
  | .hbm, ⟨60, _⟩ => ⟨S_, .i32⟩
  | .hbm, ⟨61, _⟩ => ⟨S32, .i32⟩
  | .hbm, ⟨62, _⟩ => ⟨S32, .i1⟩
  | .hbm, ⟨63, _⟩ => ⟨S_, .i32⟩
  | .hbm, ⟨64, _⟩ => ⟨S32, .i32⟩
  | .hbm, ⟨65, _⟩ => ⟨S32, .i32⟩
  | .hbm, ⟨66, _⟩ => ⟨S32, .i32⟩
  | .hbm, ⟨67, _⟩ => ⟨S32x1, .i32⟩
  | .hbm, ⟨68, _⟩ => ⟨S32, .f32⟩
  | .hbm, ⟨69, _⟩ => ⟨S32x1, .f32⟩
  | .hbm, ⟨70, _⟩ => ⟨S2x32768, .i32⟩
  | .hbm, ⟨71, _⟩ => ⟨S2x32768, .f32⟩
  | .local _ .vmem, ⟨0, _⟩ => ⟨S512x4096, .bf16⟩
  | .local _ .vmem, ⟨1, _⟩ => ⟨S512x4096, .bf16⟩
  | .local _ .vmem, ⟨2, _⟩ => ⟨S32x4096, .bf16⟩
  | .local _ .vmem, ⟨3, _⟩ => ⟨S32x1, .f32⟩
  | .local _ .vmem, ⟨4, _⟩ => ⟨S2x512, .i32⟩
  | .local _ .vmem, ⟨5, _⟩ => ⟨S2x512, .i32⟩
  | .local _ .vmem, ⟨6, _⟩ => ⟨S2x512, .f32⟩
  | .local _ .vmem, ⟨7, _⟩ => ⟨S2x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_c_2 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_c_4 : Ref sig .tc := ⟨.hbm, 60, rfl⟩
abbrev main_v16 : Ref sig .tc := ⟨.hbm, 61, rfl⟩
abbrev main_v17 : Ref sig .tc := ⟨.hbm, 62, rfl⟩
abbrev main_c_5 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24_0 : Ref sig .tc := ⟨.hbm, 70, rfl⟩
abbrev main_v24_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRouterIdeal.lean ====
abbrev S32768x4096 : Shape := ⟨2, ![32768, 4096]⟩
abbrev S4096x32 : Shape := ⟨2, ![4096, 32]⟩
abbrev S32 : Shape := ⟨1, ![32]⟩
abbrev S32768x32 : Shape := ⟨2, ![32768, 32]⟩
abbrev S1x32 : Shape := ⟨2, ![1, 32]⟩
abbrev S_ : Shape := ⟨0, ![]⟩
abbrev S32768 : Shape := ⟨1, ![32768]⟩
abbrev S32768x1 : Shape := ⟨2, ![32768, 1]⟩
abbrev S32768x8x4 : Shape := ⟨3, ![32768, 8, 4]⟩
abbrev S32768x8x2 : Shape := ⟨3, ![32768, 8, 2]⟩
abbrev S32768x8 : Shape := ⟨2, ![32768, 8]⟩
abbrev S32768x1x1 : Shape := ⟨3, ![32768, 1, 1]⟩
abbrev S1 : Shape := ⟨1, ![1]⟩
abbrev S1x1x1 : Shape := ⟨3, ![1, 1, 1]⟩
abbrev S32768x1x4 : Shape := ⟨3, ![32768, 1, 4]⟩
abbrev S32768x4 : Shape := ⟨2, ![32768, 4]⟩
abbrev S32768x2 : Shape := ⟨2, ![32768, 2]⟩
abbrev S2x32768 : Shape := ⟨2, ![2, 32768]⟩

abbrev nBuf : Space → Nat
  | .hbm => 66
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x32, .f32⟩
  | .hbm, ⟨2, _⟩ => ⟨S32, .f32⟩
  | .hbm, ⟨3, _⟩ => ⟨S4096x32, .bf16⟩
  | .hbm, ⟨4, _⟩ => ⟨S32768x32, .f32⟩
  | .hbm, ⟨5, _⟩ => ⟨S1x32, .f32⟩
  | .hbm, ⟨6, _⟩ => ⟨S32768x32, .f32⟩
  | .hbm, ⟨7, _⟩ => ⟨S32768x32, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S32768x32, .f32⟩
  | .hbm, ⟨12, _⟩ => ⟨S32768x32, .f32⟩
  | .hbm, ⟨13, _⟩ => ⟨S32768x32, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x32, .f32⟩
  | .hbm, ⟨18, _⟩ => ⟨S32768x32, .f32⟩
  | .hbm, ⟨19, _⟩ => ⟨S32768x8x4, .f32⟩
  | .hbm, ⟨20, _⟩ => ⟨S32768x8x2, .f32⟩
  | .hbm, ⟨21, _⟩ => ⟨S32768x8x2, .i32⟩
  | .hbm, ⟨22, _⟩ => ⟨S_, .f32⟩
  | .hbm, ⟨23, _⟩ => ⟨S32768x8, .f32⟩
  | .hbm, ⟨24, _⟩ => ⟨S32768x1, .f32⟩
  | .hbm, ⟨25, _⟩ => ⟨S32768x1, .i32⟩
  | .hbm, ⟨26, _⟩ => ⟨S32768, .i32⟩
  | .hbm, ⟨27, _⟩ => ⟨S32768x1x1, .i32⟩
  | .hbm, ⟨28, _⟩ => ⟨S_, .i32⟩
  | .hbm, ⟨29, _⟩ => ⟨S32768x1x1, .i32⟩
  | .hbm, ⟨30, _⟩ => ⟨S32768x1x1, .i1⟩
  | .hbm, ⟨31, _⟩ => ⟨S_, .i32⟩
  | .hbm, ⟨32, _⟩ => ⟨S32768x1x1, .i32⟩
  | .hbm, ⟨33, _⟩ => ⟨S32768x1x1, .i32⟩
  | .hbm, ⟨34, _⟩ => ⟨S32768x1x1, .i32⟩
  | .hbm, ⟨35, _⟩ => ⟨S1, .i32⟩
  | .hbm, ⟨36, _⟩ => ⟨S_, .i32⟩
  | .hbm, ⟨37, _⟩ => ⟨S32768x1x1, .i32⟩
  | .hbm, ⟨38, _⟩ => ⟨S32768x1x1, .i1⟩
  | .hbm, ⟨39, _⟩ => ⟨S1x1x1, .i32⟩
  | .hbm, ⟨40, _⟩ => ⟨S32768x1x1, .i32⟩
  | .hbm, ⟨41, _⟩ => ⟨S32768x1x1, .i1⟩
  | .hbm, ⟨42, _⟩ => ⟨S32768x1x1, .i1⟩
  | .hbm, ⟨43, _⟩ => ⟨S_, .i1⟩
  | .hbm, ⟨44, _⟩ => ⟨S32768x1, .i1⟩
  | .hbm, ⟨45, _⟩ => ⟨S32768x1x4, .f32⟩
  | .hbm, ⟨46, _⟩ => ⟨S32768x1x4, .i1⟩
  | .hbm, ⟨47, _⟩ => ⟨S_, .f32⟩
  | .hbm, ⟨48, _⟩ => ⟨S32768x1x4, .f32⟩
  | .hbm, ⟨49, _⟩ => ⟨S32768x1x4, .f32⟩
  | .hbm, ⟨50, _⟩ => ⟨S32768x4, .f32⟩
  | .hbm, ⟨51, _⟩ => ⟨S32768x2, .f32⟩
  | .hbm, ⟨52, _⟩ => ⟨S32768x2, .i32⟩
  | .hbm, ⟨53, _⟩ => ⟨S32768x1, .i32⟩
  | .hbm, ⟨54, _⟩ => ⟨S_, .i32⟩
  | .hbm, ⟨55, _⟩ => ⟨S32768x1, .i32⟩
  | .hbm, ⟨56, _⟩ => ⟨S32768x1, .i32⟩
  | .hbm, ⟨57, _⟩ => ⟨S32768x2, .i32⟩
  | .hbm, ⟨58, _⟩ => ⟨S32768x2, .i32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S32768x2, .f32⟩
  | .hbm, ⟨63, _⟩ => ⟨S32768x2, .f32⟩
  | .hbm, ⟨64, _⟩ => ⟨S2x32768, .i32⟩
  | .hbm, ⟨65, _⟩ => ⟨S2x32768, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_cst_1 : Ref sig .tc := ⟨.hbm, 22, rfl⟩
abbrev main_v15 : Ref sig .tc := ⟨.hbm, 23, rfl⟩
abbrev main_values_2 : Ref sig .tc := ⟨.hbm, 24, rfl⟩
abbrev main_indices_3 : Ref sig .tc := ⟨.hbm, 25, rfl⟩
abbrev main_v16 : Ref sig .tc := ⟨.hbm, 26, rfl⟩
abbrev main_v17 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_c_2 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_c_3 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_cst : Ref sig .tc := ⟨.hbm, 47, rfl⟩
abbrev main_call0_v14 : Ref sig .tc := ⟨.hbm, 48, rfl⟩
abbrev main_v18 : Ref sig .tc := ⟨.hbm, 49, rfl⟩
abbrev main_v19 : Ref sig .tc := ⟨.hbm, 50, rfl⟩
abbrev main_values_4 : Ref sig .tc := ⟨.hbm, 51, rfl⟩
abbrev main_indices_5 : Ref sig .tc := ⟨.hbm, 52, rfl⟩
abbrev main_v20 : Ref sig .tc := ⟨.hbm, 53, rfl⟩
abbrev main_c : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Common.lean ====
/-
  Facts shared by the value proofs of the layer's matrix products.
-/
module

public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.Common

open Idealize.ShloMosaic Idealize.ShloMosaic.ValueIdx
open scoped BigOperators

/-- The offset of a load or store of a whole two-axis buffer is zero on both axes. -/
theorem zero2 : (![0, 0] : Fin 2 → Nat) = fun _ => 0 := funext fun a => by fin_cases a <;> rfl

/-- The same for a four-axis buffer. -/
theorem zero4 : (![0, 0, 0, 0] : Fin 4 → Nat) = fun _ => 0 := funext fun a => by fin_cases a <;> rfl

/-- A product of an `M × K` by a `K × N` block, started from zero: entry `j` is row `j 0` of the left times column
    `j 1` of the right. -/
theorem product_apply {M K N : ℕ} {φ₁ φ₂ : FTy}
    (d : DotDims ⟨2, ![M, K]⟩ ⟨2, ![K, N]⟩ ⟨2, ![M, N]⟩) (hd : d = DotDims.plain M K N) (prec : Option ContractPrecision)
    (x : FVec Ideal ⟨2, ![M, K]⟩ φ₁) (y : FVec Ideal ⟨2, ![K, N]⟩ φ₂) (r : Fin M) (q : Fin N) :
    FloatOps.matmul d prec x y (constant ⟨2, ![M, N]⟩ .f32 0x00000000#32) (ix2 r q)
      = ∑ k : Fin K, x (ix2 r k) * y (ix2 k q) := by
  subst hd
  rw [Ideal.matmul_plain_apply]
  show Ideal.ofBits .f32 0x00000000#32 + _ = _
  rw [Ideal.ofBits_zero_f32, zero_add]

/-- A one-row block spread over the rows of an `M × N` block: entry `(r, q)` is entry `q` of the row. -/
theorem row_apply {M N : ℕ} (hN : N ≠ 1) (x : FVec Ideal ⟨2, ![1, N]⟩ .f32)
    (h : (⟨2, ![1, N]⟩ : Shape).Broadcasts ⟨2, ![M, N]⟩) (r : Fin M) (q : Fin N) :
    broadcastTo ⟨2, ![M, N]⟩ x h (ix2 r q) = x (ix2 0 q) :=
  broadcastTo_apply x h (ix2 r q) (ix2 0 q) fun a => match a with
    | ⟨0, _⟩ => by show 0 = if (1 : Nat) = 1 then 0 else _; rw [if_pos rfl]
    | ⟨1, _⟩ => by show q.val = if N = 1 then 0 else q.val; rw [if_neg hN]

end Cert.Common

end
-- ==== Proof.MlValue.lean ====
/-
  The gated-memory projection `x @ w + b`, columns 0–4095: the value of the kernel's result.
-/
module

public import proofs.«01_k».proof.Defs
public import proofs.«01_k».proof.Proof.Common
public import proofs.«01_k».proof.Proof.Gen.KernelMlIdeal.Value
public import proofs.«01_k».proof.Proof.Gen.ReferenceMlIdeal.Read

@[expose] public section

noncomputable section

namespace Cert.MlValue

open Cert.KernelMlIdeal Cert.KernelMlIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- Column `q` of the result is column `q` of the fused weights. -/
def col (q : Fin 4096) : Fin 13312 := ⟨q.val, by omega⟩

/-- The result, entry by entry: `∑ₖ x[r,k] · w[k,q] + b[q]`. -/
def G (x : Vec Ideal S32768x4096 .bf16) (w : Vec Ideal S4096x13312 .bf16) (b : Vec Ideal S1x13312 .f32) :
    Vec Ideal S32768x4096 .f32 :=
  fun i => (∑ k : Fin 4096, x (ix2 (i 0) k) * w (ix2 k (col (i 1)))) + b (ix2 0 (col (i 1)))

/-- What one grid point leaves in its output block, entry by entry. -/
theorem block_apply (x : Vec Ideal S1024x4096 .bf16) (w : Vec Ideal S4096x512 .bf16) (b : Vec Ideal S1x512 .f32)
    (r : Fin 1024) (q : Fin 512) :
    out0_3 x w b (ix2 r q) = (∑ k : Fin 4096, x (ix2 r k) * w (ix2 k q)) + b (ix2 0 q) := by
  unfold out0_3
  rw [View.canon_unit_zero Common.zero2]
  unfold k0_pay1
  simp only [View.ld_unit_zero (S := S1024x4096) Common.zero2, View.ld_unit_zero (S := S4096x512) Common.zero2,
    View.ld_unit_zero (S := S1x512) Common.zero2]
  refine congrArg₂ (· + ·) (Common.product_apply _ rfl none x w r q) (Common.row_apply (by decide) b _ r q)

/-- The block of each window at a grid point. -/
theorem index0 : ∀ t : Fin grid0.N, win0_0.index t 0 = t.val / 8 ∧ win0_0.index t 1 = 0 := by decide +kernel
theorem index1 : ∀ t : Fin grid0.N, win0_1.index t 0 = 0 ∧ win0_1.index t 1 = t.val % 8 := by decide +kernel
theorem index2 : ∀ t : Fin grid0.N, win0_2.index t 0 = 0 ∧ win0_2.index t 1 = t.val % 8 := by decide +kernel
theorem index3 : ∀ t : Fin grid0.N, win0_3.index t 0 = t.val / 8 ∧ win0_3.index t 1 = t.val % 8 := by decide +kernel

/-- The left block at a point, read off `x`. -/
theorem left_apply (c : Dev nD) (t : Fin cfg0.N) (r : Fin 1024) (k : Fin 4096) (h : t.val / 8 * 1024 + r.val < 32768) :
    iblk m c 0 t (ix2 r k) = m ((c : Thread nD τ).loc main_arg0) (ix2 ⟨t.val / 8 * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 512) (h : t.val % 8 * 512 + q.val < 13312) :
    iblk m c 1 t (ix2 k q) = m ((c : Thread nD τ).loc main_arg1) (ix2 k ⟨t.val % 8 * 512 + q.val, h⟩) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 512 + 1 * q.val = _; rw [(index1 t).2, one_mul]

/-- The bias block at a point, read off `b`. -/
theorem bias_apply (c : Dev nD) (t : Fin cfg0.N) (q : Fin 512) (h : t.val % 8 * 512 + q.val < 13312) :
    iblk m c 2 t (ix2 0 q) = m ((c : Thread nD τ).loc main_arg2) (ix2 0 ⟨t.val % 8 * 512 + q.val, h⟩) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = 0; rw [(index2 t).1]
  | ⟨1, _⟩ => show win0_2.index t 1 * 512 + 1 * q.val = _; rw [(index2 t).2, one_mul]

/-- Every grid point writes back its own block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 256 := t.isLt
  have h0 : (j 0).val < 1024 := (j 0).isLt
  have h1 : (j 1).val < 512 := (j 1).isLt
  have e : ((cfg0.win 3).blk t).view.emb j = (ix2 ⟨t.val / 8 * 1024 + (j 0).val, by omega⟩ ⟨t.val % 8 * 512 + (j 1).val, by omega⟩ : S32768x4096.Idx) := by
    funext a; apply Fin.ext
    match a with
    | ⟨0, _⟩ => show win0_3.index t 0 * 1024 + 1 * (j 0).val = _; rw [(index3 t).1, one_mul]
    | ⟨1, _⟩ => show win0_3.index t 1 * 512 + 1 * (j 1).val = _; rw [(index3 t).2, one_mul]
  rw [View.read_apply, e]
  refine (congrArg (out0_3 (iblk m c 0 t) (iblk m c 1 t) (iblk m c 2 t)) (eq_ix2 (n0 := 1024) (n1 := 512) j)).trans
    ((block_apply _ _ _ (j 0) (j 1)).trans ?_)
  refine congrArg₂ (· + ·) (Finset.sum_congr rfl fun k _ => ?_) (bias_apply m c t (j 1) (by omega))
  exact congrArg₂ (· * ·) (left_apply m c t (j 0) k (by omega)) (right_apply m c t k (j 1) (by omega))

/-- Every entry of the result lies in some point's block. -/
theorem cover (i : S32768x4096.Idx) : ∃ t : Fin cfg0.N, (cfg0.win 3).flush t = true ∧ i ∈ ((cfg0.win 3).blk t).view.set := by
  have h0 : (i 0).val < 32768 := (i 0).isLt
  have h1 : (i 1).val < 4096 := (i 1).isLt
  have hN : cfg0.N = 256 := by decide
  obtain ⟨t, ht⟩ : ∃ t : Fin grid0.N, t.val = (i 0).val / 1024 * 8 + (i 1).val / 512 :=
    ⟨⟨(i 0).val / 1024 * 8 + (i 1).val / 512, by show _ < cfg0.N; rw [hN]; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 512 ≤ (i 1).val ∧ (i 1).val < win0_3.index t 1 * 512 + 512
    rw [(index3 t).2]; omega

/-- The result after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is `G` of the arguments. -/
theorem reference_eq (x : Vec Ideal S32768x4096 .bf16) (w : Vec Ideal S4096x13312 .bf16) (b : Vec Ideal S1x13312 .f32) :
    Cert.ReferenceMlIdeal.Read.val_main_v5 (F := Ideal) x w b = G x w b := by
  funext i
  rw [Cert.ReferenceMlIdeal.Read.val_main_v5_apply, Cert.ReferenceMlIdeal.Read.val_main_v4_apply,
    Cert.ReferenceMlIdeal.Read.val_main_v2_apply, Cert.ReferenceMlIdeal.Read.val_main_v3_apply]
  have e0 : ∀ k, Cert.ReferenceMlIdeal.Read.lidx_main_v2 (Cert.ReferenceMlIdeal.Read.idx_main_v5 i) k = ix2 (i 0) k :=
    fun k => funext fun a => match a with | ⟨0, _⟩ => rfl | ⟨1, _⟩ => rfl
  have hc : (Cert.ReferenceMlIdeal.Read.idx_main_v5 i) 1 = col (i 1) := Fin.ext (by first | rfl | exact Nat.add_comm _ _)
  have e1 : ∀ k, Cert.ReferenceMlIdeal.Read.ridx_main_v2 (Cert.ReferenceMlIdeal.Read.idx_main_v5 i) k = ix2 k (col (i 1)) :=
    fun k => funext fun a => match a with | ⟨0, _⟩ => rfl | ⟨1, _⟩ => hc
  have e2 : Cert.ReferenceMlIdeal.Read.idx_main_v3 (Cert.ReferenceMlIdeal.Read.idx_main_v5 i) = ix2 0 (col (i 1)) :=
    funext fun a => match a with | ⟨0, _⟩ => rfl | ⟨1, _⟩ => hc
  rw [e2]
  refine congrArg (· + b (ix2 0 (col (i 1)))) (Finset.sum_congr rfl fun k _ => ?_)
  rw [e0, e1]
  rfl

/-- Kernel and reference end with the same result, entry by entry, from equal arguments. -/
theorem algebraic : Cert.algebraic_KernelMlIdeal_ReferenceMlIdeal := by
  intro m g m' g' _ hargs
  refine ⟨fun c => G (m ((c : Thread nD τ).loc main_arg0)) (m ((c : Thread nD τ).loc main_arg1)) (m ((c : Thread nD τ).loc main_arg2)), ?_, ?_⟩
  · exact (θ_run Cert.KernelMlIdeal.defs _ _).mono (fun r h c => ⟨(h c).1.trans (final m c), (h c).2⟩) (Value.run_blocks m g)
  · refine (θ_run Cert.ReferenceMlIdeal.defs _ _).mono (fun r h c => ⟨(h c).1.trans ?_, (h c).2⟩) (Cert.ReferenceMlIdeal.Value.run m' g')
    have ha := hargs c
    rw [ha.1, ha.2.1, ha.2.2]
    exact (Cert.ReferenceMlIdeal.Read.val_main_v5_eq (F := Ideal) _ _ _).trans (reference_eq _ _ _)

/-- The reference runs, leaves its arguments unchanged and every semaphore counter at zero. -/
theorem reference_quiescent : Cert.quiescent_ReferenceMlIdeal := fun m g _ =>
  (θ_run Cert.ReferenceMlIdeal.defs _ _).mono (fun _ h => ⟨fun c => (h c).2, sem_eq_zero_of_no_sems rfl _⟩)
    (Cert.ReferenceMlIdeal.Value.run m g)

end Cert.MlValue

end
-- ==== Proof.NaValue.lean ====
/-
  The neighbourhood-attention projection `(x @ w + b) * scale`, columns 4096–8703, rounded to bf16: the value of the kernel's result.
-/
module

public import proofs.«01_k».proof.Defs
public import proofs.«01_k».proof.Proof.Common
public import proofs.«01_k».proof.Proof.Gen.KernelNaIdeal.Value
public import proofs.«01_k».proof.Proof.Gen.ReferenceNaIdeal.Read

@[expose] public section

noncomputable section

namespace Cert.NaValue

open Cert.KernelNaIdeal Cert.KernelNaIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- Column `q` of the result is column `4096 + q` of the fused weights. -/
def col (q : Fin 4608) : Fin 13312 := ⟨4096 + q.val, by omega⟩

/-- The result, entry by entry: `(∑ₖ x[r,k] · w[k,q] + b[q]) · s[q]`. -/
def G (x : Vec Ideal S32768x4096 .bf16) (w : Vec Ideal S4096x13312 .bf16) (b s : Vec Ideal S1x13312 .f32) :
    Vec Ideal S32768x4608 .bf16 :=
  fun i => ((∑ k : Fin 4096, x (ix2 (i 0) k) * w (ix2 k (col (i 1)))) + b (ix2 0 (col (i 1)))) * s (ix2 0 (col (i 1)))

/-- `G` at a row and a column. -/
theorem G_apply (x : Vec Ideal S32768x4096 .bf16) (w : Vec Ideal S4096x13312 .bf16) (b s : Vec Ideal S1x13312 .f32)
    (r : Fin 32768) (q : Fin 4608) :
    G x w b s (ix2 r q) = ((∑ k : Fin 4096, x (ix2 r k) * w (ix2 k (col q))) + b (ix2 0 (col q))) * s (ix2 0 (col q)) := rfl

/-- What one grid point leaves in its output block, entry by entry. -/
theorem block_apply (x : Vec Ideal S1024x4096 .bf16) (w : Vec Ideal S4096x512 .bf16) (b s : Vec Ideal S1x512 .f32)
    (r : Fin 1024) (q : Fin 512) :
    out0_4 x w b s (ix2 r q) = ((∑ k : Fin 4096, x (ix2 r k) * w (ix2 k q)) + b (ix2 0 q)) * s (ix2 0 q) := by
  unfold out0_4
  rw [View.canon_unit_zero Common.zero2]
  unfold k0_pay1
  simp only [View.ld_unit_zero (S := S1024x4096) Common.zero2, View.ld_unit_zero (S := S4096x512) Common.zero2,
    View.ld_unit_zero (S := S1x512) Common.zero2]
  show (mulf (addf (matmul dot_S1024x4096_S4096x512_S1024x512_1_0_0_1_n_n none x w (constant S1024x512 .f32 0x00000000#32))
    (broadcastTo S1024x512 b broadcasts_S1x512_S1024x512)) (broadcastTo S1024x512 s broadcasts_S1x512_S1024x512) (ix2 r q) : Ideal .f32) = _
  exact congrArg₂ (· * ·) (congrArg₂ (· + ·) (Common.product_apply _ rfl none x w r q) (Common.row_apply (by decide) b _ r q))
    (Common.row_apply (by decide) s _ r q)

/-- The block of each window at a grid point. -/
theorem index0 : ∀ t : Fin grid0.N, win0_0.index t 0 = t.val / 9 ∧ win0_0.index t 1 = 0 := by decide +kernel
theorem index1 : ∀ t : Fin grid0.N, win0_1.index t 0 = 0 ∧ win0_1.index t 1 = t.val % 9 + 8 := by decide +kernel
theorem index2 : ∀ t : Fin grid0.N, win0_2.index t 0 = 0 ∧ win0_2.index t 1 = t.val % 9 + 8 := by decide +kernel
theorem index3 : ∀ t : Fin grid0.N, win0_3.index t 0 = 0 ∧ win0_3.index t 1 = t.val % 9 + 8 := by decide +kernel
theorem index4 : ∀ t : Fin grid0.N, win0_4.index t 0 = t.val / 9 ∧ win0_4.index t 1 = t.val % 9 := by decide +kernel

/-- The left block at a point, read off `x`. -/
theorem left_apply (c : Dev nD) (t : Fin cfg0.N) (r : Fin 1024) (k : Fin 4096) (h : t.val / 9 * 1024 + r.val < 32768) :
    iblk m c 0 t (ix2 r k) = m ((c : Thread nD τ).loc main_arg0) (ix2 ⟨t.val / 9 * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 512) (h : (t.val % 9 + 8) * 512 + q.val < 13312) :
    iblk m c 1 t (ix2 k q) = m ((c : Thread nD τ).loc main_arg1) (ix2 k ⟨(t.val % 9 + 8) * 512 + q.val, h⟩) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 512 + 1 * q.val = _; rw [(index1 t).2, one_mul]

/-- The bias block at a point, read off `b`. -/
theorem bias_apply (c : Dev nD) (t : Fin cfg0.N) (q : Fin 512) (h : (t.val % 9 + 8) * 512 + q.val < 13312) :
    iblk m c 2 t (ix2 0 q) = m ((c : Thread nD τ).loc main_arg2) (ix2 0 ⟨(t.val % 9 + 8) * 512 + q.val, h⟩) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = 0; rw [(index2 t).1]
  | ⟨1, _⟩ => show win0_2.index t 1 * 512 + 1 * q.val = _; rw [(index2 t).2, one_mul]

/-- The scale block at a point, read off `s`. -/
theorem scale_apply (c : Dev nD) (t : Fin cfg0.N) (q : Fin 512) (h : (t.val % 9 + 8) * 512 + q.val < 13312) :
    iblk m c 3 t (ix2 0 q) = m ((c : Thread nD τ).loc main_arg3) (ix2 0 ⟨(t.val % 9 + 8) * 512 + q.val, h⟩) := by
  unfold iblk
  rw [View.read_apply]
  show V m c main_arg3 _ = m ((c : Thread nD τ).loc main_arg3) _
  rw [V_main_arg3]
  congr 1
  funext a; apply Fin.ext
  match a with
  | ⟨0, _⟩ => show win0_3.index t 0 * 1 + 1 * 0 = 0; rw [(index3 t).1]
  | ⟨1, _⟩ => show win0_3.index t 1 * 512 + 1 * q.val = _; rw [(index3 t).2, one_mul]

/-- Every grid point writes back its own block of `G`. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2)) (m ((c : Thread nD τ).loc main_arg3))) := by
  rw [Value.flushed4]
  funext j
  have ht : t.val < 288 := t.isLt
  have h0 : (j 0).val < 1024 := (j 0).isLt
  have h1 : (j 1).val < 512 := (j 1).isLt
  have e : ((cfg0.win 4).blk t).view.emb j = (ix2 ⟨t.val / 9 * 1024 + (j 0).val, by omega⟩ ⟨t.val % 9 * 512 + (j 1).val, by omega⟩ : S32768x4608.Idx) := by
    funext a; apply Fin.ext
    match a with
    | ⟨0, _⟩ => show win0_4.index t 0 * 1024 + 1 * (j 0).val = _; rw [(index4 t).1, one_mul]
    | ⟨1, _⟩ => show win0_4.index t 1 * 512 + 1 * (j 1).val = _; rw [(index4 t).2, one_mul]
  rw [View.read_apply, e]
  refine (congrArg (out0_4 (iblk m c 0 t) (iblk m c 1 t) (iblk m c 2 t) (iblk m c 3 t)) (eq_ix2 (n0 := 1024) (n1 := 512) j)).trans
    ((block_apply _ _ _ _ (j 0) (j 1)).trans ?_)
  have hq : col ⟨t.val % 9 * 512 + (j 1).val, by omega⟩ = ⟨(t.val % 9 + 8) * 512 + (j 1).val, by omega⟩ :=
    Fin.ext (by show 4096 + (t.val % 9 * 512 + (j 1).val) = (t.val % 9 + 8) * 512 + (j 1).val; omega)
  refine Eq.trans ?_ (G_apply _ _ _ _ _ _).symm
  rw [hq]
  refine congrArg₂ (· * ·) (congrArg₂ (· + ·) (Finset.sum_congr rfl fun k _ => ?_) (bias_apply m c t (j 1) (by omega)))
    (scale_apply m c t (j 1) (by omega))
  exact congrArg₂ (· * ·) (left_apply m c t (j 0) k (by omega)) (right_apply m c t k (j 1) (by omega))

/-- Every entry of the result lies in some point's block. -/
theorem cover (i : S32768x4608.Idx) : ∃ t : Fin cfg0.N, (cfg0.win 4).flush t = true ∧ i ∈ ((cfg0.win 4).blk t).view.set := by
  have h0 : (i 0).val < 32768 := (i 0).isLt
  have h1 : (i 1).val < 4608 := (i 1).isLt
  have hN : cfg0.N = 288 := by decide
  obtain ⟨t, ht⟩ : ∃ t : Fin grid0.N, t.val = (i 0).val / 1024 * 9 + (i 1).val / 512 :=
    ⟨⟨(i 0).val / 1024 * 9 + (i 1).val / 512, by show _ < cfg0.N; rw [hN]; omega⟩, rfl⟩
  refine ⟨t, flush0_4 t, ?_⟩
  show i ∈ ((View.whole main_v0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(index4 t).1]; omega
  | ⟨1, _⟩ =>
    show win0_4.index t 1 * 512 ≤ (i 1).val ∧ (i 1).val < win0_4.index t 1 * 512 + 512
    rw [(index4 t).2]; omega

/-- The result after the run is `G` of the arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- The reference's result is `G` of the arguments. -/
theorem reference_eq (x : Vec Ideal S32768x4096 .bf16) (w : Vec Ideal S4096x13312 .bf16) (b s : Vec Ideal S1x13312 .f32) :
    Cert.ReferenceNaIdeal.Read.val_main_v8 (F := Ideal) x w b s = G x w b s := by
  funext i
  rw [Cert.ReferenceNaIdeal.Read.val_main_v8_apply, Cert.ReferenceNaIdeal.Read.val_main_v7_apply, Cert.ReferenceNaIdeal.Read.val_main_v6_apply,
    Cert.ReferenceNaIdeal.Read.val_main_v5_apply, Cert.ReferenceNaIdeal.Read.val_main_v4_apply,
    Cert.ReferenceNaIdeal.Read.val_main_v2_apply, Cert.ReferenceNaIdeal.Read.val_main_v3_apply]
  have e0 : ∀ k, Cert.ReferenceNaIdeal.Read.lidx_main_v2 (Cert.ReferenceNaIdeal.Read.idx_main_v7 i) k = ix2 (i 0) k :=
    fun k => funext fun a => match a with | ⟨0, _⟩ => rfl | ⟨1, _⟩ => rfl
  have hc : (Cert.ReferenceNaIdeal.Read.idx_main_v7 i) 1 = col (i 1) := rfl
  have e1 : ∀ k, Cert.ReferenceNaIdeal.Read.ridx_main_v2 (Cert.ReferenceNaIdeal.Read.idx_main_v7 i) k = ix2 k (col (i 1)) :=
    fun k => funext fun a => match a with | ⟨0, _⟩ => rfl | ⟨1, _⟩ => hc
  have e2 : Cert.ReferenceNaIdeal.Read.idx_main_v3 (Cert.ReferenceNaIdeal.Read.idx_main_v7 i) = ix2 0 (col (i 1)) :=
    funext fun a => match a with | ⟨0, _⟩ => rfl | ⟨1, _⟩ => hc
  have e3 : Cert.ReferenceNaIdeal.Read.idx_main_v5 (Cert.ReferenceNaIdeal.Read.idx_main_v7 i) = ix2 0 (col (i 1)) :=
    funext fun a => match a with | ⟨0, _⟩ => rfl | ⟨1, _⟩ => hc
  rw [e2, e3]
  refine congrArg (fun z => (z + b (ix2 0 (col (i 1)))) * s (ix2 0 (col (i 1)))) (Finset.sum_congr rfl fun k _ => ?_)
  rw [e0, e1]
  rfl

/-- Kernel and reference end with the same result, entry by entry, from equal arguments. -/
theorem algebraic : Cert.algebraic_KernelNaIdeal_ReferenceNaIdeal := by
  intro m g m' g' _ hargs
  refine ⟨fun c => G (m ((c : Thread nD τ).loc main_arg0)) (m ((c : Thread nD τ).loc main_arg1)) (m ((c : Thread nD τ).loc main_arg2)) (m ((c : Thread nD τ).loc main_arg3)), ?_, ?_⟩
  · exact (θ_run Cert.KernelNaIdeal.defs _ _).mono (fun r h c => ⟨(h c).1.trans (final m c), (h c).2⟩) (Value.run_blocks m g)
  · refine (θ_run Cert.ReferenceNaIdeal.defs _ _).mono (fun r h c => ⟨(h c).1.trans ?_, (h c).2⟩) (Cert.ReferenceNaIdeal.Value.run m' g')
    have ha := hargs c
    rw [ha.1, ha.2.1, ha.2.2.1, ha.2.2.2]
    exact (Cert.ReferenceNaIdeal.Read.val_main_v8_eq (F := Ideal) _ _ _ _).trans (reference_eq _ _ _ _)

/-- The reference runs, leaves its arguments unchanged and every semaphore counter at zero. -/
theorem reference_quiescent : Cert.quiescent_ReferenceNaIdeal := fun m g _ =>
  (θ_run Cert.ReferenceNaIdeal.defs _ _).mono (fun _ h => ⟨fun c => (h c).2, sem_eq_zero_of_no_sems rfl _⟩)
    (Cert.ReferenceNaIdeal.Value.run m g)

end Cert.NaValue

end
-- ==== Proof.QkValue.lean ====
/-
  The query/key projection `x @ w + b`, columns 8704–11775: the value of the kernel's result.
-/
module

public import proofs.«01_k».proof.Defs
public import proofs.«01_k».proof.Proof.Common
public import proofs.«01_k».proof.Proof.Gen.KernelQkIdeal.Value
public import proofs.«01_k».proof.Proof.Gen.ReferenceQkIdeal.Read

@[expose] public section

noncomputable section

namespace Cert.QkValue

open Cert.KernelQkIdeal Cert.KernelQkIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- Column `q` of the result is column `8704 + q` of the fused weights. -/
def col (q : Fin 3072) : Fin 13312 := ⟨8704 + q.val, by omega⟩

/-- The result, entry by entry: `∑ₖ x[r,k] · w[k,q] + b[q]`. -/
def G (x : Vec Ideal S32768x4096 .bf16) (w : Vec Ideal S4096x13312 .bf16) (b : Vec Ideal S1x13312 .f32) :
    Vec Ideal S32768x3072 .f32 :=
  fun i => (∑ k : Fin 4096, x (ix2 (i 0) k) * w (ix2 k (col (i 1)))) + b (ix2 0 (col (i 1)))

/-- `G` at a row and a column. -/
theorem G_apply (x : Vec Ideal S32768x4096 .bf16) (w : Vec Ideal S4096x13312 .bf16) (b : Vec Ideal S1x13312 .f32)
    (r : Fin 32768) (q : Fin 3072) :
    G x w b (ix2 r q) = (∑ k : Fin 4096, x (ix2 r k) * w (ix2 k (col q))) + b (ix2 0 (col q)) := rfl

/-- What one grid point leaves in its output block, entry by entry. -/
theorem block_apply (x : Vec Ideal S1024x4096 .bf16) (w : Vec Ideal S4096x512 .bf16) (b : Vec Ideal S1x512 .f32)
    (r : Fin 1024) (q : Fin 512) :
    out0_3 x w b (ix2 r q) = (∑ k : Fin 4096, x (ix2 r k) * w (ix2 k q)) + b (ix2 0 q) := by
  unfold out0_3
  rw [View.canon_unit_zero Common.zero2]
  unfold k0_pay1
  simp only [View.ld_unit_zero (S := S1024x4096) Common.zero2, View.ld_unit_zero (S := S4096x512) Common.zero2,
    View.ld_unit_zero (S := S1x512) Common.zero2]
  refine congrArg₂ (· + ·) (Common.product_apply _ rfl none x w r q) (Common.row_apply (by decide) b _ r q)

/-- The block of each window at a grid point. -/
theorem index0 : ∀ t : Fin grid0.N, win0_0.index t 0 = t.val / 6 ∧ win0_0.index t 1 = 0 := by decide +kernel
theorem index1 : ∀ t : Fin grid0.N, win0_1.index t 0 = 0 ∧ win0_1.index t 1 = t.val % 6 + 17 := by decide +kernel
theorem index2 : ∀ t : Fin grid0.N, win0_2.index t 0 = 0 ∧ win0_2.index t 1 = t.val % 6 + 17 := by decide +kernel
theorem index3 : ∀ t : Fin grid0.N, win0_3.index t 0 = t.val / 6 ∧ win0_3.index t 1 = t.val % 6 := by decide +kernel

/-- The left block at a point, read off `x`. -/
theorem left_apply (c : Dev nD) (t : Fin cfg0.N) (r : Fin 1024) (k : Fin 4096) (h : t.val / 6 * 1024 + r.val < 32768) :
    iblk m c 0 t (ix2 r k) = m ((c : Thread nD τ).loc main_arg0) (ix2 ⟨t.val / 6 * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 512) (h : (t.val % 6 + 17) * 512 + q.val < 13312) :
    iblk m c 1 t (ix2 k q) = m ((c : Thread nD τ).loc main_arg1) (ix2 k ⟨(t.val % 6 + 17) * 512 + q.val, h⟩) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 512 + 1 * q.val = _; rw [(index1 t).2, one_mul]

/-- The bias block at a point, read off `b`. -/
theorem bias_apply (c : Dev nD) (t : Fin cfg0.N) (q : Fin 512) (h : (t.val % 6 + 17) * 512 + q.val < 13312) :
    iblk m c 2 t (ix2 0 q) = m ((c : Thread nD τ).loc main_arg2) (ix2 0 ⟨(t.val % 6 + 17) * 512 + q.val, h⟩) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = 0; rw [(index2 t).1]
  | ⟨1, _⟩ => show win0_2.index t 1 * 512 + 1 * q.val = _; rw [(index2 t).2, one_mul]

/-- Every grid point writes back its own block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 192 := t.isLt
  have h0 : (j 0).val < 1024 := (j 0).isLt
  have h1 : (j 1).val < 512 := (j 1).isLt
  have e : ((cfg0.win 3).blk t).view.emb j = (ix2 ⟨t.val / 6 * 1024 + (j 0).val, by omega⟩ ⟨t.val % 6 * 512 + (j 1).val, by omega⟩ : S32768x3072.Idx) := by
    funext a; apply Fin.ext
    match a with
    | ⟨0, _⟩ => show win0_3.index t 0 * 1024 + 1 * (j 0).val = _; rw [(index3 t).1, one_mul]
    | ⟨1, _⟩ => show win0_3.index t 1 * 512 + 1 * (j 1).val = _; rw [(index3 t).2, one_mul]
  rw [View.read_apply, e]
  refine (congrArg (out0_3 (iblk m c 0 t) (iblk m c 1 t) (iblk m c 2 t)) (eq_ix2 (n0 := 1024) (n1 := 512) j)).trans
    ((block_apply _ _ _ (j 0) (j 1)).trans ?_)
  have hq : col ⟨t.val % 6 * 512 + (j 1).val, by omega⟩ = ⟨(t.val % 6 + 17) * 512 + (j 1).val, by omega⟩ :=
    Fin.ext (by show 8704 + (t.val % 6 * 512 + (j 1).val) = (t.val % 6 + 17) * 512 + (j 1).val; omega)
  refine Eq.trans ?_ (G_apply _ _ _ _ _).symm
  rw [hq]
  refine congrArg₂ (· + ·) (Finset.sum_congr rfl fun k _ => ?_) (bias_apply m c t (j 1) (by omega))
  exact congrArg₂ (· * ·) (left_apply m c t (j 0) k (by omega)) (right_apply m c t k (j 1) (by omega))

/-- Every entry of the result lies in some point's block. -/
theorem cover (i : S32768x3072.Idx) : ∃ t : Fin cfg0.N, (cfg0.win 3).flush t = true ∧ i ∈ ((cfg0.win 3).blk t).view.set := by
  have h0 : (i 0).val < 32768 := (i 0).isLt
  have h1 : (i 1).val < 3072 := (i 1).isLt
  have hN : cfg0.N = 192 := by decide
  obtain ⟨t, ht⟩ : ∃ t : Fin grid0.N, t.val = (i 0).val / 1024 * 6 + (i 1).val / 512 :=
    ⟨⟨(i 0).val / 1024 * 6 + (i 1).val / 512, by show _ < cfg0.N; rw [hN]; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 512 ≤ (i 1).val ∧ (i 1).val < win0_3.index t 1 * 512 + 512
    rw [(index3 t).2]; omega

/-- The result after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is `G` of the arguments. -/
theorem reference_eq (x : Vec Ideal S32768x4096 .bf16) (w : Vec Ideal S4096x13312 .bf16) (b : Vec Ideal S1x13312 .f32) :
    Cert.ReferenceQkIdeal.Read.val_main_v5 (F := Ideal) x w b = G x w b := by
  funext i
  rw [Cert.ReferenceQkIdeal.Read.val_main_v5_apply, Cert.ReferenceQkIdeal.Read.val_main_v4_apply,
    Cert.ReferenceQkIdeal.Read.val_main_v2_apply, Cert.ReferenceQkIdeal.Read.val_main_v3_apply]
  have e0 : ∀ k, Cert.ReferenceQkIdeal.Read.lidx_main_v2 (Cert.ReferenceQkIdeal.Read.idx_main_v5 i) k = ix2 (i 0) k :=
    fun k => funext fun a => match a with | ⟨0, _⟩ => rfl | ⟨1, _⟩ => rfl
  have hc : (Cert.ReferenceQkIdeal.Read.idx_main_v5 i) 1 = col (i 1) := rfl
  have e1 : ∀ k, Cert.ReferenceQkIdeal.Read.ridx_main_v2 (Cert.ReferenceQkIdeal.Read.idx_main_v5 i) k = ix2 k (col (i 1)) :=
    fun k => funext fun a => match a with | ⟨0, _⟩ => rfl | ⟨1, _⟩ => hc
  have e2 : Cert.ReferenceQkIdeal.Read.idx_main_v3 (Cert.ReferenceQkIdeal.Read.idx_main_v5 i) = ix2 0 (col (i 1)) :=
    funext fun a => match a with | ⟨0, _⟩ => rfl | ⟨1, _⟩ => hc
  rw [e2]
  refine congrArg (· + b (ix2 0 (col (i 1)))) (Finset.sum_congr rfl fun k _ => ?_)
  rw [e0, e1]
  rfl

/-- Kernel and reference end with the same result, entry by entry, from equal arguments. -/
theorem algebraic : Cert.algebraic_KernelQkIdeal_ReferenceQkIdeal := by
  intro m g m' g' _ hargs
  refine ⟨fun c => G (m ((c : Thread nD τ).loc main_arg0)) (m ((c : Thread nD τ).loc main_arg1)) (m ((c : Thread nD τ).loc main_arg2)), ?_, ?_⟩
  · exact (θ_run Cert.KernelQkIdeal.defs _ _).mono (fun r h c => ⟨(h c).1.trans (final m c), (h c).2⟩) (Value.run_blocks m g)
  · refine (θ_run Cert.ReferenceQkIdeal.defs _ _).mono (fun r h c => ⟨(h c).1.trans ?_, (h c).2⟩) (Cert.ReferenceQkIdeal.Value.run m' g')
    have ha := hargs c
    rw [ha.1, ha.2.1, ha.2.2]
    exact (Cert.ReferenceQkIdeal.Read.val_main_v5_eq (F := Ideal) _ _ _).trans (reference_eq _ _ _)

/-- The reference runs, leaves its arguments unchanged and every semaphore counter at zero. -/
theorem reference_quiescent : Cert.quiescent_ReferenceQkIdeal := fun m g _ =>
  (θ_run Cert.ReferenceQkIdeal.defs _ _).mono (fun _ h => ⟨fun c => (h c).2, sem_eq_zero_of_no_sems rfl _⟩)
    (Cert.ReferenceQkIdeal.Value.run m g)

end Cert.QkValue

end
-- ==== Proof.VValue.lean ====
/-
  The value projection `x @ w + b`, columns 11776–13311, rounded to bf16: the value of the kernel's result.
-/
module

public import proofs.«01_k».proof.Defs
public import proofs.«01_k».proof.Proof.Common
public import proofs.«01_k».proof.Proof.Gen.KernelVIdeal.Value
public import proofs.«01_k».proof.Proof.Gen.ReferenceVIdeal.Read

@[expose] public section

noncomputable section

namespace Cert.VValue

open Cert.KernelVIdeal Cert.KernelVIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- Column `q` of the result is column `11776 + q` of the fused weights. -/
def col (q : Fin 1536) : Fin 13312 := ⟨11776 + q.val, by omega⟩

/-- The result, entry by entry: `∑ₖ x[r,k] · w[k,q] + b[q]`. -/
def G (x : Vec Ideal S32768x4096 .bf16) (w : Vec Ideal S4096x13312 .bf16) (b : Vec Ideal S1x13312 .f32) :
    Vec Ideal S32768x1536 .bf16 :=
  fun i => (∑ k : Fin 4096, x (ix2 (i 0) k) * w (ix2 k (col (i 1)))) + b (ix2 0 (col (i 1)))

/-- `G` at a row and a column. -/
theorem G_apply (x : Vec Ideal S32768x4096 .bf16) (w : Vec Ideal S4096x13312 .bf16) (b : Vec Ideal S1x13312 .f32)
    (r : Fin 32768) (q : Fin 1536) :
    G x w b (ix2 r q) = (∑ k : Fin 4096, x (ix2 r k) * w (ix2 k (col q))) + b (ix2 0 (col q)) := rfl

/-- What one grid point leaves in its output block, entry by entry. -/
theorem block_apply (x : Vec Ideal S1024x4096 .bf16) (w : Vec Ideal S4096x512 .bf16) (b : Vec Ideal S1x512 .f32)
    (r : Fin 1024) (q : Fin 512) :
    out0_3 x w b (ix2 r q) = (∑ k : Fin 4096, x (ix2 r k) * w (ix2 k q)) + b (ix2 0 q) := by
  unfold out0_3
  rw [View.canon_unit_zero Common.zero2]
  unfold k0_pay1
  simp only [View.ld_unit_zero (S := S1024x4096) Common.zero2, View.ld_unit_zero (S := S4096x512) Common.zero2,
    View.ld_unit_zero (S := S1x512) Common.zero2]
  show (addf (matmul dot_S1024x4096_S4096x512_S1024x512_1_0_0_1_n_n none x w (constant S1024x512 .f32 0x00000000#32))
    (broadcastTo S1024x512 b broadcasts_S1x512_S1024x512) (ix2 r q) : Ideal .f32) = _
  refine congrArg₂ (· + ·) (Common.product_apply _ rfl none x w r q) (Common.row_apply (by decide) b _ r q)

/-- The block of each window at a grid point. -/
theorem index0 : ∀ t : Fin grid0.N, win0_0.index t 0 = t.val / 3 ∧ win0_0.index t 1 = 0 := by decide +kernel
theorem index1 : ∀ t : Fin grid0.N, win0_1.index t 0 = 0 ∧ win0_1.index t 1 = t.val % 3 + 23 := by decide +kernel
theorem index2 : ∀ t : Fin grid0.N, win0_2.index t 0 = 0 ∧ win0_2.index t 1 = t.val % 3 + 23 := by decide +kernel
theorem index3 : ∀ t : Fin grid0.N, win0_3.index t 0 = t.val / 3 ∧ win0_3.index t 1 = t.val % 3 := by decide +kernel

/-- The left block at a point, read off `x`. -/
theorem left_apply (c : Dev nD) (t : Fin cfg0.N) (r : Fin 1024) (k : Fin 4096) (h : t.val / 3 * 1024 + r.val < 32768) :
    iblk m c 0 t (ix2 r k) = m ((c : Thread nD τ).loc main_arg0) (ix2 ⟨t.val / 3 * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 512) (h : (t.val % 3 + 23) * 512 + q.val < 13312) :
    iblk m c 1 t (ix2 k q) = m ((c : Thread nD τ).loc main_arg1) (ix2 k ⟨(t.val % 3 + 23) * 512 + q.val, h⟩) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 512 + 1 * q.val = _; rw [(index1 t).2, one_mul]

/-- The bias block at a point, read off `b`. -/
theorem bias_apply (c : Dev nD) (t : Fin cfg0.N) (q : Fin 512) (h : (t.val % 3 + 23) * 512 + q.val < 13312) :
    iblk m c 2 t (ix2 0 q) = m ((c : Thread nD τ).loc main_arg2) (ix2 0 ⟨(t.val % 3 + 23) * 512 + q.val, h⟩) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = 0; rw [(index2 t).1]
  | ⟨1, _⟩ => show win0_2.index t 1 * 512 + 1 * q.val = _; rw [(index2 t).2, one_mul]

/-- Every grid point writes back its own block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 96 := t.isLt
  have h0 : (j 0).val < 1024 := (j 0).isLt
  have h1 : (j 1).val < 512 := (j 1).isLt
  have e : ((cfg0.win 3).blk t).view.emb j = (ix2 ⟨t.val / 3 * 1024 + (j 0).val, by omega⟩ ⟨t.val % 3 * 512 + (j 1).val, by omega⟩ : S32768x1536.Idx) := by
    funext a; apply Fin.ext
    match a with
    | ⟨0, _⟩ => show win0_3.index t 0 * 1024 + 1 * (j 0).val = _; rw [(index3 t).1, one_mul]
    | ⟨1, _⟩ => show win0_3.index t 1 * 512 + 1 * (j 1).val = _; rw [(index3 t).2, one_mul]
  rw [View.read_apply, e]
  refine (congrArg (out0_3 (iblk m c 0 t) (iblk m c 1 t) (iblk m c 2 t)) (eq_ix2 (n0 := 1024) (n1 := 512) j)).trans
    ((block_apply _ _ _ (j 0) (j 1)).trans ?_)
  have hq : col ⟨t.val % 3 * 512 + (j 1).val, by omega⟩ = ⟨(t.val % 3 + 23) * 512 + (j 1).val, by omega⟩ :=
    Fin.ext (by show 11776 + (t.val % 3 * 512 + (j 1).val) = (t.val % 3 + 23) * 512 + (j 1).val; omega)
  refine Eq.trans ?_ (G_apply _ _ _ _ _).symm
  rw [hq]
  refine congrArg₂ (· + ·) (Finset.sum_congr rfl fun k _ => ?_) (bias_apply m c t (j 1) (by omega))
  exact congrArg₂ (· * ·) (left_apply m c t (j 0) k (by omega)) (right_apply m c t k (j 1) (by omega))

/-- Every entry of the result lies in some point's block. -/
theorem cover (i : S32768x1536.Idx) : ∃ t : Fin cfg0.N, (cfg0.win 3).flush t = true ∧ i ∈ ((cfg0.win 3).blk t).view.set := by
  have h0 : (i 0).val < 32768 := (i 0).isLt
  have h1 : (i 1).val < 1536 := (i 1).isLt
  have hN : cfg0.N = 96 := by decide
  obtain ⟨t, ht⟩ : ∃ t : Fin grid0.N, t.val = (i 0).val / 1024 * 3 + (i 1).val / 512 :=
    ⟨⟨(i 0).val / 1024 * 3 + (i 1).val / 512, by show _ < cfg0.N; rw [hN]; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 512 ≤ (i 1).val ∧ (i 1).val < win0_3.index t 1 * 512 + 512
    rw [(index3 t).2]; omega

/-- The result after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is `G` of the arguments. -/
theorem reference_eq (x : Vec Ideal S32768x4096 .bf16) (w : Vec Ideal S4096x13312 .bf16) (b : Vec Ideal S1x13312 .f32) :
    Cert.ReferenceVIdeal.Read.val_main_v6 (F := Ideal) x w b = G x w b := by
  funext i
  rw [Cert.ReferenceVIdeal.Read.val_main_v6_apply, Cert.ReferenceVIdeal.Read.val_main_v5_apply, Cert.ReferenceVIdeal.Read.val_main_v4_apply,
    Cert.ReferenceVIdeal.Read.val_main_v2_apply, Cert.ReferenceVIdeal.Read.val_main_v3_apply]
  have e0 : ∀ k, Cert.ReferenceVIdeal.Read.lidx_main_v2 (Cert.ReferenceVIdeal.Read.idx_main_v5 i) k = ix2 (i 0) k :=
    fun k => funext fun a => match a with | ⟨0, _⟩ => rfl | ⟨1, _⟩ => rfl
  have hc : (Cert.ReferenceVIdeal.Read.idx_main_v5 i) 1 = col (i 1) := rfl
  have e1 : ∀ k, Cert.ReferenceVIdeal.Read.ridx_main_v2 (Cert.ReferenceVIdeal.Read.idx_main_v5 i) k = ix2 k (col (i 1)) :=
    fun k => funext fun a => match a with | ⟨0, _⟩ => rfl | ⟨1, _⟩ => hc
  have e2 : Cert.ReferenceVIdeal.Read.idx_main_v3 (Cert.ReferenceVIdeal.Read.idx_main_v5 i) = ix2 0 (col (i 1)) :=
    funext fun a => match a with | ⟨0, _⟩ => rfl | ⟨1, _⟩ => hc
  rw [e2]
  refine congrArg (· + b (ix2 0 (col (i 1)))) (Finset.sum_congr rfl fun k _ => ?_)
  rw [e0, e1]
  rfl

/-- Kernel and reference end with the same result, entry by entry, from equal arguments. -/
theorem algebraic : Cert.algebraic_KernelVIdeal_ReferenceVIdeal := by
  intro m g m' g' _ hargs
  refine ⟨fun c => G (m ((c : Thread nD τ).loc main_arg0)) (m ((c : Thread nD τ).loc main_arg1)) (m ((c : Thread nD τ).loc main_arg2)), ?_, ?_⟩
  · exact (θ_run Cert.KernelVIdeal.defs _ _).mono (fun r h c => ⟨(h c).1.trans (final m c), (h c).2⟩) (Value.run_blocks m g)
  · refine (θ_run Cert.ReferenceVIdeal.defs _ _).mono (fun r h c => ⟨(h c).1.trans ?_, (h c).2⟩) (Cert.ReferenceVIdeal.Value.run m' g')
    have ha := hargs c
    rw [ha.1, ha.2.1, ha.2.2]
    exact (Cert.ReferenceVIdeal.Read.val_main_v6_eq (F := Ideal) _ _ _).trans (reference_eq _ _ _)

/-- The reference runs, leaves its arguments unchanged and every semaphore counter at zero. -/
theorem reference_quiescent : Cert.quiescent_ReferenceVIdeal := fun m g _ =>
  (θ_run Cert.ReferenceVIdeal.defs _ _).mono (fun _ h => ⟨fun c => (h c).2, sem_eq_zero_of_no_sems rfl _⟩)
    (Cert.ReferenceVIdeal.Value.run m g)

end Cert.VValue

end
-- ==== Proof.OutValue.lean ====
/-
  The output projection `α · x + y @ w`: the value of the kernel's result.
-/
module

public import proofs.«01_k».proof.Defs
public import proofs.«01_k».proof.Proof.Common
public import proofs.«01_k».proof.Proof.Gen.KernelOutIdeal.Value
public import proofs.«01_k».proof.Proof.Gen.ReferenceOutIdeal.Read

@[expose] public section

noncomputable section

namespace Cert.OutValue

open Cert.KernelOutIdeal Cert.KernelOutIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- The residual scale of the layer, as the program's literal states it. -/
def α : Ideal .f32 := Scalar.ofBits .f32 0x3FD744FD#32

/-- The result, entry by entry: `∑ₖ y[r,k] · w[k,q] + α · x[r,q]`. -/
def G (x : Vec Ideal S32768x4096 .bf16) (w : Vec Ideal S4096x4096 .bf16) (b : Vec Ideal S32768x4096 .f32) :
    Vec Ideal S32768x4096 .f32 :=
  fun i => (∑ k : Fin 4096, x (ix2 (i 0) k) * w (ix2 k (i 1))) + α * b (ix2 (i 0) (i 1))

/-- What one grid point leaves in its output block, entry by entry. -/
theorem block_apply (x : Vec Ideal S1024x4096 .bf16) (w : Vec Ideal S4096x512 .bf16) (b : Vec Ideal S1024x512 .f32)
    (r : Fin 1024) (q : Fin 512) :
    out0_3 x w b (ix2 r q) = (∑ k : Fin 4096, x (ix2 r k) * w (ix2 k q)) + α * b (ix2 r q) := by
  unfold out0_3
  rw [View.canon_unit_zero Common.zero2]
  unfold k0_pay1
  simp only [View.ld_unit_zero (S := S1024x4096) Common.zero2, View.ld_unit_zero (S := S4096x512) Common.zero2,
    View.ld_unit_zero (S := S1024x512) Common.zero2]
  refine congrArg₂ (· + ·) (Common.product_apply _ rfl none x w r q) rfl

/-- The block of each window at a grid point. -/
theorem index0 : ∀ t : Fin grid0.N, win0_0.index t 0 = t.val / 8 ∧ win0_0.index t 1 = 0 := by decide +kernel
theorem index1 : ∀ t : Fin grid0.N, win0_1.index t 0 = 0 ∧ win0_1.index t 1 = t.val % 8 := by decide +kernel
theorem index2 : ∀ t : Fin grid0.N, win0_2.index t 0 = t.val / 8 ∧ win0_2.index t 1 = t.val % 8 := by decide +kernel
theorem index3 : ∀ t : Fin grid0.N, win0_3.index t 0 = t.val / 8 ∧ win0_3.index t 1 = t.val % 8 := by decide +kernel

/-- The left block at a point, read off `y`. -/
theorem left_apply (c : Dev nD) (t : Fin cfg0.N) (r : Fin 1024) (k : Fin 4096) (h : t.val / 8 * 1024 + r.val < 32768) :
    iblk m c 0 t (ix2 r k) = m ((c : Thread nD τ).loc main_arg0) (ix2 ⟨t.val / 8 * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 512) (h : t.val % 8 * 512 + q.val < 4096) :
    iblk m c 1 t (ix2 k q) = m ((c : Thread nD τ).loc main_arg1) (ix2 k ⟨t.val % 8 * 512 + q.val, h⟩) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 512 + 1 * q.val = _; rw [(index1 t).2, one_mul]

/-- The residual block at a point, read off `x`. -/
theorem residual_apply (c : Dev nD) (t : Fin cfg0.N) (r : Fin 1024) (q : Fin 512) (h : t.val / 8 * 1024 + r.val < 32768)
    (h' : t.val % 8 * 512 + q.val < 4096) :
    iblk m c 2 t (ix2 r q) = m ((c : Thread nD τ).loc main_arg2) (ix2 ⟨t.val / 8 * 1024 + r.val, h⟩ ⟨t.val % 8 * 512 + q.val, h'⟩) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1024 + 1 * r.val = _; rw [(index2 t).1, one_mul]
  | ⟨1, _⟩ => show win0_2.index t 1 * 512 + 1 * q.val = _; rw [(index2 t).2, one_mul]

/-- Every grid point writes back its own block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 256 := t.isLt
  have h0 : (j 0).val < 1024 := (j 0).isLt
  have h1 : (j 1).val < 512 := (j 1).isLt
  have e : ((cfg0.win 3).blk t).view.emb j = (ix2 ⟨t.val / 8 * 1024 + (j 0).val, by omega⟩ ⟨t.val % 8 * 512 + (j 1).val, by omega⟩ : S32768x4096.Idx) := by
    funext a; apply Fin.ext
    match a with
    | ⟨0, _⟩ => show win0_3.index t 0 * 1024 + 1 * (j 0).val = _; rw [(index3 t).1, one_mul]
    | ⟨1, _⟩ => show win0_3.index t 1 * 512 + 1 * (j 1).val = _; rw [(index3 t).2, one_mul]
  rw [View.read_apply, e]
  refine (congrArg (out0_3 (iblk m c 0 t) (iblk m c 1 t) (iblk m c 2 t)) (eq_ix2 (n0 := 1024) (n1 := 512) j)).trans
    ((block_apply _ _ _ (j 0) (j 1)).trans ?_)
  refine congrArg₂ (· + ·) (Finset.sum_congr rfl fun k _ => ?_) (congrArg (α * ·) (residual_apply m c t (j 0) (j 1) (by omega) (by omega)))
  exact congrArg₂ (· * ·) (left_apply m c t (j 0) k (by omega)) (right_apply m c t k (j 1) (by omega))

/-- Every entry of the result lies in some point's block. -/
theorem cover (i : S32768x4096.Idx) : ∃ t : Fin cfg0.N, (cfg0.win 3).flush t = true ∧ i ∈ ((cfg0.win 3).blk t).view.set := by
  have h0 : (i 0).val < 32768 := (i 0).isLt
  have h1 : (i 1).val < 4096 := (i 1).isLt
  have hN : cfg0.N = 256 := by decide
  obtain ⟨t, ht⟩ : ∃ t : Fin grid0.N, t.val = (i 0).val / 1024 * 8 + (i 1).val / 512 :=
    ⟨⟨(i 0).val / 1024 * 8 + (i 1).val / 512, by show _ < cfg0.N; rw [hN]; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 512 ≤ (i 1).val ∧ (i 1).val < win0_3.index t 1 * 512 + 512
    rw [(index3 t).2]; omega

/-- The result after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is `G` of the arguments. -/
theorem reference_eq (x : Vec Ideal S32768x4096 .bf16) (w : Vec Ideal S4096x4096 .bf16) (b : Vec Ideal S32768x4096 .f32) :
    Cert.ReferenceOutIdeal.Read.val_main_v5 (F := Ideal) x w b = G x w b := by
  funext i
  rw [Cert.ReferenceOutIdeal.Read.val_main_v5_apply, Cert.ReferenceOutIdeal.Read.val_main_v4_apply,
    Cert.ReferenceOutIdeal.Read.val_main_v1_apply, Cert.ReferenceOutIdeal.Read.val_main_v0_apply]
  have e0 : ∀ k, Cert.ReferenceOutIdeal.Read.lidx_main_v4 i k = ix2 (i 0) k :=
    fun k => funext fun a => match a with | ⟨0, _⟩ => rfl | ⟨1, _⟩ => rfl
  have e1 : ∀ k, Cert.ReferenceOutIdeal.Read.ridx_main_v4 i k = ix2 k (i 1) :=
    fun k => funext fun a => match a with | ⟨0, _⟩ => rfl | ⟨1, _⟩ => rfl
  refine (add_comm _ _).trans (congrArg₂ (· + ·) (Finset.sum_congr rfl fun k _ => ?_) (congrArg (α * b ·) (eq_ix2 i)))
  rw [e0, e1]
  rfl

/-- Kernel and reference end with the same result, entry by entry, from equal arguments. -/
theorem algebraic : Cert.algebraic_KernelOutIdeal_ReferenceOutIdeal := by
  intro m g m' g' _ hargs
  refine ⟨fun c => G (m ((c : Thread nD τ).loc main_arg0)) (m ((c : Thread nD τ).loc main_arg1)) (m ((c : Thread nD τ).loc main_arg2)), ?_, ?_⟩
  · exact (θ_run Cert.KernelOutIdeal.defs _ _).mono (fun r h c => ⟨(h c).1.trans (final m c), (h c).2⟩) (Value.run_blocks m g)
  · refine (θ_run Cert.ReferenceOutIdeal.defs _ _).mono (fun r h c => ⟨(h c).1.trans ?_, (h c).2⟩) (Cert.ReferenceOutIdeal.Value.run m' g')
    have ha := hargs c
    rw [ha.1, ha.2.1, ha.2.2]
    exact (Cert.ReferenceOutIdeal.Read.val_main_v5_eq (F := Ideal) _ _ _).trans (reference_eq _ _ _)

/-- The reference runs, leaves its arguments unchanged and every semaphore counter at zero. -/
theorem reference_quiescent : Cert.quiescent_ReferenceOutIdeal := fun m g _ =>
  (θ_run Cert.ReferenceOutIdeal.defs _ _).mono (fun _ h => ⟨fun c => (h c).2, sem_eq_zero_of_no_sems rfl _⟩)
    (Cert.ReferenceOutIdeal.Value.run m g)

end Cert.OutValue

end
-- ==== Proof.DiffFinite.lean ====
/-
  Differential attention's precondition: every query, key and value and every entry of the four factor vectors is a real number.
-/
module

public import proofs.«01_k».proof.Defs
public import proofs.«01_k».proof.Proof.Gen.Pre_diff_finite
public import Idealize.ShloMosaic.Lib.ValueIdx
public import Idealize.ShloMosaic.Lib.IdealHost
public import Idealize.ShloMosaic.Lib.Pipeline.Value

@[expose] public section

set_option maxRecDepth 16384

noncomputable section

namespace Cert.DiffFinite

open Cert.Pre_diff_finite Idealize.ShloMosaic Idealize.ShloMosaic.ValueIdx

theorem bits_top : Ideal.ofBits .f32 0x7F800000#32 = (⊤ : EReal) := by simp [Ideal.ofBits, Ideal.ieee]

/-- A value whose magnitude is below infinity is real. -/
theorem real_of_lt (a : EReal) (h : Ideal.cmp .olt (max a (-a)) (Ideal.ofBits .f32 0x7F800000#32) = 1#1) : ∃ r : ℝ, a = r := by
  have bit (p : Bool) : (BitVec.ofBool p = 1#1) ↔ p = true := by cases p <;> decide
  rw [bits_top] at h
  have hlt : max a (-a) < ⊤ := by
    unfold Ideal.cmp at h
    rw [bit] at h
    exact of_decide_eq_true h
  induction a using EReal.rec with
  | bot => exact absurd (le_max_right (⊥ : EReal) (-⊥)) (by rw [EReal.neg_bot]; exact fun hh => absurd (lt_of_le_of_lt hh hlt) (lt_irrefl _))
  | coe r => exact ⟨r, rfl⟩
  | top => exact absurd (lt_of_le_of_lt (le_max_left (⊤ : EReal) (-⊤)) hlt) (lt_irrefl _)

/-- The maximum over everything being below infinity, so is every entry. -/
theorem below (f : S4x64.Idx → EReal) (w : FVec Ideal S_ .f32) (h : S4x64.ReducesTo [0, 1] S_) (hu : 0 < S_.numel) (i : S_.Idx)
    (hlt : Host.reduce (FloatOps.maximumf (F := Ideal) (φ := .f32)) f w h hu i < (⊤ : EReal)) (j : S4x64.Idx) : f j < ⊤ := by
  rw [Host.reduce_eq_fold] at hlt
  exact ((Finset.fold_max_lt (⊤ : EReal)).1 hlt).2 j (Finset.mem_filter.2 ⟨Finset.mem_univ _, funext fun a => a.elim0⟩)

/-- What the precondition says. -/
theorem finite (q x y : FVec Ideal S2x8192x1536 .bf16) (v : FVec Ideal S16384x1536 .bf16) (p : FVec Ideal S4x64 .f32) (g : FVec Ideal S128 .f32)
    (h : fn (F := Ideal) q x y v p g = fun _ => 1#1) :
    (∀ i, ∃ r : ℝ, q i = (r : EReal)) ∧ (∀ i, ∃ r : ℝ, x i = (r : EReal)) ∧ (∀ i, ∃ r : ℝ, y i = (r : EReal))
      ∧ (∀ i, ∃ r : ℝ, v i = (r : EReal)) ∧ ∀ i, ∃ r : ℝ, p i = (r : EReal) := by
  have both (a b : BitVec 1) : IntOp.andi a b = 1#1 ↔ a = 1#1 ∧ b = 1#1 := by revert a b; decide
  have pre (i : S2x8192x1536.Idx) := congrFun h i
  simp only [fn, fn_part1, andi, both] at pre
  refine ⟨fun i => real_of_lt _ (pre i).1.1.1.1, fun i => real_of_lt _ (pre i).1.1.1.2, fun i => real_of_lt _ (pre i).1.1.2, fun j => ?_, fun j => ?_⟩
  · have hj : (j 0).val < 16384 := (j 0).isLt
    obtain ⟨r, hr⟩ := real_of_lt _ (pre (ix3 (⟨(j 0).val / 8192, by omega⟩ : Fin 2) (⟨(j 0).val % 8192, by omega⟩ : Fin 8192) (j 1))).1.2
    refine ⟨r, Eq.trans (shapeCast_apply v _ _ j ?_).symm hr⟩
    rewrite [Shape.rowMajor_val_two, Shape.rowMajor_val_three]
    show (j 0).val * 1536 + (j 1).val = ((j 0).val / 8192 * 8192 + (j 0).val % 8192) * 1536 + (j 1).val
    omega
  · have i0 : S2x8192x1536.Idx := ix3 (0 : Fin 2) (0 : Fin 8192) (0 : Fin 1536)
    obtain ⟨r, hr⟩ := real_of_lt _ (pre i0).2
    have hm := below _ _ _ _ _ (lt_of_eq_of_lt hr (EReal.coe_lt_top r)) j
    refine real_of_lt _ ?_
    rw [bits_top]
    unfold Ideal.cmp
    exact congrArg BitVec.ofBool (decide_eq_true hm)

end Cert.DiffFinite

end
-- ==== Proof.DiffMath.lean ====
/-
  Differential attention over the extended reals: the running softmax sums, and the two normalised maps combined.
-/
module

public import Idealize.ShloMosaic.PureOps.Ideal.Laws

@[expose] public section

noncomputable section

namespace Cert.Diff

open Idealize.ShloMosaic
open scoped BigOperators

/-- A power of two is `exp2`. -/
theorem pow_two (x : EReal) : Ideal.pow ((2 : ℝ) : EReal) x = Ideal.exp2 x := by
  induction x using EReal.rec with
  | bot => rw [Ideal.pow_coe_bot, Ideal.exp2_bot, if_neg (by norm_num), if_pos (by norm_num)]
  | coe r => rw [Ideal.pow_coe_coe, Ideal.exp2_coe]
  | top => rw [Ideal.pow_coe_top, Ideal.exp2_top, if_neg (by norm_num), if_pos (by norm_num)]

/-- A power of two is not negative. -/
theorem exp2_nonneg (x : EReal) : 0 ≤ Ideal.exp2 x := by
  induction x using EReal.rec with
  | bot => rw [Ideal.exp2_bot]
  | coe r => rw [Ideal.exp2_coe]; exact EReal.coe_nonneg.2 (Real.rpow_nonneg (by norm_num) r)
  | top => rw [Ideal.exp2_top]; exact le_top

/-- Its value below infinity is finite. -/
theorem exp2_ne_top {x : EReal} (h : x ≠ ⊤) : Ideal.exp2 x ≠ ⊤ := by
  induction x using EReal.rec with
  | bot => rw [Ideal.exp2_bot]; exact EReal.zero_ne_top
  | coe r => rw [Ideal.exp2_coe]; exact EReal.coe_ne_top _
  | top => exact absurd rfl h

/-- A difference of a value and one that is no smaller is not `⊤`. -/
theorem sub_ne_top {m m' : EReal} (h : m ≤ m') : m - m' ≠ ⊤ := by
  induction m using EReal.rec <;> induction m' using EReal.rec
  case bot.bot => decide
  case bot.coe r => exact fun e => by simp at e
  case bot.top => exact fun e => by simp at e
  case coe.bot r => simp at h
  case coe.coe r r' => rw [← EReal.coe_sub]; exact EReal.coe_ne_top _
  case coe.top r => exact fun e => by simp at e
  case top.bot => simp at h
  case top.coe r => simp at h
  case top.top => exact fun e => by simp at e

/-- Rescaling a weight from one running maximum to a later one. -/
theorem exp2_rescale {s m m' : EReal} (h : s ≤ m) (h' : m ≤ m') :
    Ideal.exp2 (m - m') * Ideal.exp2 (s - m) = Ideal.exp2 (s - m') := by
  induction m' using EReal.rec with
  | bot =>
    have hm : m = ⊥ := le_bot_iff.1 h'
    subst hm
    have hs : s = ⊥ := le_bot_iff.1 h
    subst hs
    simp
  | top =>
    have e (x : EReal) : x - ⊤ = ⊥ := EReal.sub_top x
    rw [e, e, Ideal.exp2_bot, zero_mul]
  | coe r' =>
    induction m using EReal.rec with
    | bot =>
      have hs : s = ⊥ := le_bot_iff.1 h
      subst hs
      rw [EReal.bot_sub, EReal.bot_sub, Ideal.exp2_bot, zero_mul]
    | top => simp at h'
    | coe r =>
      induction s using EReal.rec with
      | bot => rw [EReal.bot_sub, EReal.bot_sub, Ideal.exp2_bot, mul_zero]
      | top => simp at h
      | coe q =>
        rw [← EReal.coe_sub, ← EReal.coe_sub, ← EReal.coe_sub, Ideal.exp2_coe, Ideal.exp2_coe, Ideal.exp2_coe, ← EReal.coe_mul]
        congr 1
        show (2 : ℝ) ^ (r - r') * (2 : ℝ) ^ (q - r) = (2 : ℝ) ^ (q - r')
        rw [← Real.rpow_add (by norm_num)]
        congr 1; ring

/-- A finite nonnegative factor distributes over a finite sum. -/
theorem mul_sum {ι : Type} (a : EReal) (h0 : 0 ≤ a) (ht : a ≠ ⊤) (t : Finset ι) (f : ι → EReal) :
    a * ∑ k ∈ t, f k = ∑ k ∈ t, a * f k := by
  classical
  induction t using Finset.induction_on with
  | empty => simp
  | insert i t hi ih => rw [Finset.sum_insert hi, Finset.sum_insert hi, EReal.left_distrib_of_nonneg_of_ne_top h0 ht, ih]

/-- The greatest score of the first `512 * n` keys. -/
def top (s : ℕ → EReal) (n : ℕ) : EReal := (Finset.range (512 * n)).sup s

/-- The weighted sum of the first `512 * n` keys' values. -/
def acc (s v : ℕ → EReal) (n : ℕ) : EReal := ∑ k ∈ Finset.range (512 * n), v k * Ideal.exp2 (s k - top s n)

theorem range_step (n : ℕ) : 512 * (n + 1) = 512 * n + 512 := by ring

theorem top_succ (s : ℕ → EReal) (n : ℕ) :
    top s (n + 1) = max (top s n) ((Finset.univ : Finset (Fin 512)).fold max ⊥ fun k => s (512 * n + k.val)) := by
  have e : ((Finset.univ : Finset (Fin 512)).fold max ⊥ fun k => s (512 * n + k.val)) = Finset.univ.sup fun k : Fin 512 => s (512 * n + k.val) := rfl
  rw [e]
  refine le_antisymm (Finset.sup_le fun k hk => ?_) (max_le (Finset.sup_mono (Finset.range_mono (by omega))) (Finset.sup_le fun k _ => ?_))
  · have hk' := Finset.mem_range.1 hk
    by_cases hlt : k < 512 * n
    · exact le_max_of_le_left (Finset.le_sup (f := s) (Finset.mem_range.2 hlt))
    · refine le_max_of_le_right ?_
      have := Finset.le_sup (f := fun k : Fin 512 => s (512 * n + k.val)) (Finset.mem_univ (⟨k - 512 * n, by omega⟩ : Fin 512))
      have e2 : 512 * n + (k - 512 * n) = k := by omega
      simpa only [e2] using this
  · exact Finset.le_sup (f := s) (Finset.mem_range.2 (by have := k.isLt; omega))

theorem acc_succ (s v : ℕ → EReal) (n : ℕ) :
    acc s v (n + 1) = Ideal.exp2 (top s n - top s (n + 1)) * acc s v n
      + ∑ k : Fin 512, v (512 * n + k.val) * Ideal.exp2 (s (512 * n + k.val) - top s (n + 1)) := by
  have hle : top s n ≤ top s (n + 1) := Finset.sup_mono (Finset.range_mono (by omega))
  unfold acc
  rw [mul_sum _ (exp2_nonneg _) (exp2_ne_top (sub_ne_top hle)), range_step, Finset.sum_range_add]
  refine congrArg₂ (· + ·) (Finset.sum_congr rfl fun k hk => ?_)
    (Finset.sum_range fun k => v (512 * n + k) * Ideal.exp2 (s (512 * n + k) - top s (n + 1)))
  rw [mul_left_comm, exp2_rescale (show s k ≤ top s n from Finset.le_sup (f := s) hk) hle]

/-! ## Both maps combined -/

section Combine

variable (N : ℕ) (sa sb v : ℕ → EReal)

/-- A map's greatest score. -/
def most (s : ℕ → EReal) : EReal := (Finset.range N).sup s

/-- A key's weight before normalising. -/
def weight (s : ℕ → EReal) (k : ℕ) : EReal := Ideal.exp2 (s k - most N s)

/-- The greatest of finitely many real scores is real. -/
theorem most_real (hN : 0 < N) (s : ℕ → EReal) (h : ∀ k, ∃ r : ℝ, s k = r) : ∃ r : ℝ, most N s = r := by
  obtain ⟨k, _, hk⟩ := Finset.exists_mem_eq_sup (Finset.range N) ⟨0, Finset.mem_range.2 hN⟩ s
  obtain ⟨r, hr⟩ := h k
  exact ⟨r, hk.trans hr⟩

/-- So every weight is real and positive. -/
theorem weight_real (hN : 0 < N) (s : ℕ → EReal) (h : ∀ k, ∃ r : ℝ, s k = r) :
    ∃ e : ℕ → ℝ, (∀ k, 0 < e k) ∧ ∀ k, weight N s k = (e k : EReal) := by
  obtain ⟨M, hM⟩ := most_real N hN s h
  choose r hr using h
  refine ⟨fun k => Real.rpow 2 (r k - M), fun k => Real.rpow_pos_of_pos (by norm_num) _, fun k => ?_⟩
  unfold weight
  rw [hM, hr k, ← EReal.coe_sub, Ideal.exp2_coe]

theorem coe_sum {ι : Type} (t : Finset ι) (f : ι → ℝ) : ((∑ k ∈ t, f k : ℝ) : EReal) = ∑ k ∈ t, (f k : EReal) := by
  classical
  induction t using Finset.induction_on with
  | empty => simp
  | insert i t hi ih => rw [Finset.sum_insert hi, Finset.sum_insert hi, EReal.coe_add, ih]

/-- A real quotient. -/
theorem div_real {x y : ℝ} (h : y ≠ 0) : Ideal.div (x : EReal) (y : EReal) = ((x / y : ℝ) : EReal) := by
  rw [Ideal.div_coe h, ← EReal.coe_mul]; congr 1; ring

/-- With real scores, values and factor, the difference of the two normalised sums is the sum over the difference of the two
    normalised maps. -/
theorem combine (hN : 0 < N) (lam : EReal) (ha : ∀ k, ∃ r : ℝ, sa k = r) (hb : ∀ k, ∃ r : ℝ, sb k = r)
    (hv : ∀ k, ∃ r : ℝ, v k = r) (hl : ∃ r : ℝ, lam = r) :
    Ideal.div (∑ k ∈ Finset.range N, v k * weight N sa k) (∑ k ∈ Finset.range N, 1 * weight N sa k)
        - lam * Ideal.div (∑ k ∈ Finset.range N, v k * weight N sb k) (∑ k ∈ Finset.range N, 1 * weight N sb k)
      = ∑ k ∈ Finset.range N, v k * (Ideal.div (weight N sa k) (∑ k ∈ Finset.range N, weight N sa k)
          - lam * Ideal.div (weight N sb k) (∑ k ∈ Finset.range N, weight N sb k)) := by
  obtain ⟨ea, pa, wa⟩ := weight_real N hN sa ha
  obtain ⟨eb, pb, wb⟩ := weight_real N hN sb hb
  choose x hx using hv
  obtain ⟨l, rfl⟩ := hl
  simp only [one_mul, wa, wb, hx, ← EReal.coe_mul, ← coe_sum]
  have na : ∑ k ∈ Finset.range N, ea k ≠ 0 := (Finset.sum_pos (fun k _ => pa k) ⟨0, Finset.mem_range.2 hN⟩).ne'
  have nb : ∑ k ∈ Finset.range N, eb k ≠ 0 := (Finset.sum_pos (fun k _ => pb k) ⟨0, Finset.mem_range.2 hN⟩).ne'
  simp only [div_real na, div_real nb, ← EReal.coe_mul, ← EReal.coe_sub, ← coe_sum]
  congr 1
  rw [Finset.sum_div, Finset.sum_div, Finset.mul_sum, ← Finset.sum_sub_distrib]
  exact Finset.sum_congr rfl fun k _ => by ring

end Combine

end Cert.Diff

end
-- ==== Proof.DiffRun.lean ====
/-
  Differential attention: what one pass of the body over its key blocks computes, and the loop of the body.
-/
module

public import proofs.«01_k».proof.Proof.Gen.KernelDiffIdeal.Skeleton
public import Idealize.ShloMosaic.Lib.Exec
public import Idealize.ShloMosaic.Lib.Tactic
public import Idealize.ShloMosaic.Lib.ValueIdx
public import Idealize.ShloMosaic.Lib.Pipeline.Kit
public import Idealize.ShloMosaic.Lib.Pipeline.FrameBody

@[expose] public section

set_option maxRecDepth 16384

noncomputable section

namespace Cert.KernelDiffIdeal.Run

open Cert.KernelDiffIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The resource algebra of the generated runs. -/
local notation "𝕄" => MT nD τ sig Unit (Elt F) ℕ (UR sig nD τ) ℕ

/-! ## What the body computes, key block by key block -/

/-- The keys of block `n`. -/
def keys (x : Vec F S1x8192x128 .bf16) (n : ℕ) : Vec F S1x512x128 .bf16 :=
  fun y => x (ix3 (0 : Fin 1) (⟨(512 * n + (y 1).val) % 8192, Nat.mod_lt _ (by decide)⟩ : Fin 8192) (y 2 : Fin 128))

/-- The transposed values of block `n`. -/
def vals (x : Vec F S1x1x16x144x512 .bf16) (n : ℕ) : Vec F S1x1x1x144x512 .bf16 :=
  fun y => x (ix5 (0 : Fin 1) (0 : Fin 1) (⟨n % 16, Nat.mod_lt _ (by decide)⟩ : Fin 16) (y 3 : Fin 144) (y 4 : Fin 512))

/-- The scores of block `n`. -/
def scores (q : FVec F S1024x128 .bf16) (x : Vec F S1x8192x128 .bf16) (n : ℕ) : Vec F S1x512x1024 .f32 := k0_pay1 q (keys x n)

/-- The running maximum after one more block. -/
def nextMax (s : Vec F S1x512x1024 .f32) (m : Vec F S1x1x1024 .f32) : Vec F S1x1x1024 .f32 := k0_pay10 (k0_pay6 s m)

/-- The running sums after one more block. -/
def nextAcc (v : Vec F S1x1x1x144x512 .bf16) (s : Vec F S1x512x1024 .f32) (m : Vec F S1x1x1024 .f32) (a : Vec F S1x144x1024 .f32) :
    Vec F S1x144x1024 .f32 := k0_pay9 (k0_pay3 v) (k0_pay4 s) (k0_pay7 s m) (k0_pay8 s m) a

/-- The running maximum after `n` blocks. -/
def runMax (q : FVec F S1024x128 .bf16) (x : Vec F S1x8192x128 .bf16) : ℕ → Vec F S1x1x1024 .f32
  | 0 => View.ld (k0_pay31 (F := F)) (Rect.unit (s := S2x1x1024) ![0, 0, 0] S1x1x1024.size inb_S2x1x1024_S1x1x1024_0_0_0)
  | n + 1 => nextMax (scores q x n) (runMax q x n)

/-- The running sums after `n` blocks. -/
def runAcc (q : FVec F S1024x128 .bf16) (x : Vec F S1x8192x128 .bf16) (v : Vec F S1x1x16x144x512 .bf16) : ℕ → Vec F S1x144x1024 .f32
  | 0 => View.ld (k0_pay32 (F := F)) (Rect.unit (s := S2x144x1024) ![0, 0, 0] S1x144x1024.size inb_S2x144x1024_S1x144x1024_0_0_0)
  | n + 1 => nextAcc (vals v n) (scores q x n) (runMax q x n) (runAcc q x v n)

/-- What the body leaves in its block of the result. -/
def result (x0 : Vec F S1x1024x128 .bf16) (x1 x2 : Vec F S1x8192x128 .bf16) (x3 : Vec F S1x1x16x144x512 .bf16) (x4 : Vec F S4x64 .f32) (x5 : Vec F S128x1 .f32) :
    Vec F S1x1024x128 .bf16 :=
  k0_pay64 (k0_pay63 x4) (runAcc (k0_pay30 x0) x1 x3 16) (runAcc (k0_pay30 x0) x2 x3 16) x5

/-! ## The body's values, restated by these -/

section Restated
variable (q : FVec F S1024x128 .bf16) (q0 : Vec F S1x1024x128 .bf16) (k : Vec F S1x512x128 .bf16) (v : FVec F S144x512 .bf16) (w : Vec F S1x1x1x144x512 .bf16)
  (s : Vec F S1x512x1024 .f32) (m : Vec F S1x1x1024 .f32) (a : Vec F S1x144x1024 .f32)

theorem pay2_eq : k0_pay2 q k = k0_pay1 q k := rfl
theorem pay17_eq : k0_pay17 q k = k0_pay1 q k := rfl
theorem pay18_eq : k0_pay18 q k = k0_pay1 q k := rfl
theorem pay33_eq : k0_pay33 q0 k = k0_pay1 (k0_pay30 q0) k := rfl
theorem pay34_eq : k0_pay34 q0 k = k0_pay1 (k0_pay30 q0) k := rfl
theorem pay37_eq : k0_pay37 q k = k0_pay1 q k := rfl
theorem pay38_eq : k0_pay38 q k = k0_pay1 q k := rfl
theorem scores_fold (x : Vec F S1x8192x128 .bf16) (n : ℕ) : k0_pay1 q (keys x n) = scores q x n := rfl
theorem max10_eq : k0_pay10 (k0_pay6 s m) = nextMax s m := rfl
theorem max16_eq : k0_pay16 (k0_pay13 s m) = nextMax s m := rfl
theorem max24_eq : k0_pay24 (k0_pay20 s) m = nextMax s m := rfl
theorem max36_eq : k0_pay36 (k0_pay27 s m) = nextMax s m := rfl
theorem max46_eq : k0_pay46 (k0_pay42 s m) = nextMax s m := rfl
theorem max51_eq : k0_pay51 (k0_pay49 s m) = nextMax s m := rfl
theorem max57_eq : k0_pay57 s m = nextMax s m := rfl
theorem max62_eq : k0_pay62 s m = nextMax s m := rfl
theorem acc9_eq : k0_pay9 (k0_pay3 w) (k0_pay4 s) (k0_pay7 s m) (k0_pay8 s m) a = nextAcc w s m a := rfl
theorem acc15_eq : k0_pay15 (k0_pay14 (k0_pay3 w) s m a) = nextAcc w s m a := rfl
theorem acc23_eq : k0_pay23 (k0_pay19 w) (k0_pay20 s) m a = nextAcc w s m a := rfl
theorem acc35_eq : k0_pay35 (k0_pay19 w) (k0_pay28 s m) (k0_pay29 s m) a = nextAcc w s m a := rfl
theorem acc45_eq : k0_pay45 (k0_pay39 w) (k0_pay43 s m) (k0_pay44 s m) a = nextAcc w s m a := rfl
theorem acc50_eq : k0_pay50 (k0_pay39 w) s m a = nextAcc w s m a := rfl
theorem acc56_eq : k0_pay56 w s m a = nextAcc w s m a := rfl
theorem acc61_eq : k0_pay61 (k0_pay52 w) s m a = nextAcc w s m a := rfl

end Restated

/-! ## Reading the two-slab buffers -/

section Slabs
variable {κ : Kind} {sp : Space} {sh : Shape} {e : EltTy}

theorem readAt_cons (v : View sig κ sp sh e) (f : v.ty.Contents (Elt F)) (r : Rect sh) (w : r.shape.Idx → Elt F e) (L : List (View.Piece (Elt F) sh e)) :
    v.readAt (Elt F) r.toLoadRect (v.writes (Elt F) f (⟨r, w⟩ :: L)) = w :=
  funext fun x => View.read_writes_cons_emb v f r w L x

theorem readAt_skip (v : View sig κ sp sh e) (f : v.ty.Contents (Elt F)) (r r' : Rect sh) (w : r'.shape.Idx → Elt F e) (L : List (View.Piece (Elt F) sh e))
    (h : Disjoint r'.set r.toLoadRect.set) :
    v.readAt (Elt F) r.toLoadRect (v.writes (Elt F) f (⟨r', w⟩ :: L)) = v.readAt (Elt F) r.toLoadRect (v.writes (Elt F) f L) :=
  funext fun x => View.read_writes_cons_miss _ _ _ _ _ (Finset.disjoint_right.mp h (r.toLoadRect.idx_mem x))

theorem readAt_full (v : View sig κ sp sh e) (f : v.ty.Contents (Elt F)) (r : Rect sh) (off : Fin sh.rank → ℕ) (inb : ∀ a, off a + sh.size a ≤ sh.size a)
    (w : sh.Idx → Elt F e) (L : List (View.Piece (Elt F) sh e)) :
    v.readAt (Elt F) r.toLoadRect (v.writes (Elt F) f (⟨Rect.unit off sh.size inb, w⟩ :: L)) = View.ld w r := by
  funext x
  refine View.read_writes_cons_hit_of_coords v f (Rect.unit off sh.size inb) w L (show sh.Idx from r.emb x) (r.emb x) fun a => ?_
  have h := inb a
  have h0 : off a = 0 := by omega
  show (r.emb x a).val = off a + 1 * (r.emb x a).val
  rw [h0, Nat.zero_add, Nat.one_mul]

theorem readCov_cons (v : View sig κ sp sh e) (r : Rect sh) (w : r.shape.Idx → Elt F e) (L : List (View.Piece (Elt F) sh e)) :
    v.readCov (⟨r, w⟩ :: L) r.toLoadRect = w := readAt_cons v _ r w L

theorem readCov_skip (v : View sig κ sp sh e) (r r' : Rect sh) (w : r'.shape.Idx → Elt F e) (L : List (View.Piece (Elt F) sh e))
    (h : Disjoint r'.set r.toLoadRect.set) :
    v.readCov (⟨r', w⟩ :: L) r.toLoadRect = v.readCov L r.toLoadRect := readAt_skip v _ r r' w L h

end Slabs

theorem disjointM01 : Disjoint (Rect.unit (s := S2x1x1024) ![0, 0, 0] S1x1x1024.size inb_S2x1x1024_S1x1x1024_0_0_0).set (Rect.unit (s := S2x1x1024) ![1, 0, 0] S1x1x1024.size inb_S2x1x1024_S1x1x1024_1_0_0).toLoadRect.set := Rect.unit_disjoint 0 (by decide)
theorem disjointM10 : Disjoint (Rect.unit (s := S2x1x1024) ![1, 0, 0] S1x1x1024.size inb_S2x1x1024_S1x1x1024_1_0_0).set (Rect.unit (s := S2x1x1024) ![0, 0, 0] S1x1x1024.size inb_S2x1x1024_S1x1x1024_0_0_0).toLoadRect.set := Rect.unit_disjoint 0 (by decide)
theorem disjointA01 : Disjoint (Rect.unit (s := S2x144x1024) ![0, 0, 0] S1x144x1024.size inb_S2x144x1024_S1x144x1024_0_0_0).set (Rect.unit (s := S2x144x1024) ![1, 0, 0] S1x144x1024.size inb_S2x144x1024_S1x144x1024_1_0_0).toLoadRect.set := Rect.unit_disjoint 0 (by decide)
theorem disjointA10 : Disjoint (Rect.unit (s := S2x144x1024) ![1, 0, 0] S1x144x1024.size inb_S2x144x1024_S1x144x1024_1_0_0).set (Rect.unit (s := S2x144x1024) ![0, 0, 0] S1x144x1024.size inb_S2x144x1024_S1x144x1024_0_0_0).toLoadRect.set := Rect.unit_disjoint 0 (by decide)
theorem disjointS01 : Disjoint (Rect.unit (s := S2x512x1024) ![0, 0, 0] S1x512x1024.size inb_S2x512x1024_S1x512x1024_0_0_0).set (Rect.unit (s := S2x512x1024) ![1, 0, 0] S1x512x1024.size inb_S2x512x1024_S1x512x1024_1_0_0).toLoadRect.set := Rect.unit_disjoint 0 (by decide)
theorem disjointS10 : Disjoint (Rect.unit (s := S2x512x1024) ![1, 0, 0] S1x512x1024.size inb_S2x512x1024_S1x512x1024_1_0_0).set (Rect.unit (s := S2x512x1024) ![0, 0, 0] S1x512x1024.size inb_S2x512x1024_S1x512x1024_0_0_0).toLoadRect.set := Rect.unit_disjoint 0 (by decide)

/-! ## Reading the keys and the values -/

section Inputs
variable (off3 : Fin 3 → ℕ) (off5 : Fin 5 → ℕ)

theorem keys_eq (arg : Memref sig .tc .vmem S1x8192x128 .bf16) (harg : arg.IsWhole) (x : Vec F S1x8192x128 .bf16)
    (inb : ∀ a, off3 a + S1x512x128.size a ≤ S1x8192x128.size a) (n : ℕ) (hn : n < 16) (h : off3 = ![0, 512 * n, 0]) :
    arg.view.readAt (Elt F) (Rect.unit (s := S1x8192x128) off3 S1x512x128.size inb).toLoadRect (harg.unread x) = keys x n := by
  subst h
  rw [View.readAt_eq_ld, harg.read_unread]
  funext y
  have h0 : (y 0).val < 1 := (y 0).isLt
  have h1 : (y 1).val < 512 := (y 1).isLt
  refine congrArg x (funext fun a => Fin.ext ?_)
  match a with
  | ⟨0, _⟩ => show 0 + 1 * (y 0).val = 0; omega
  | ⟨1, _⟩ => show 512 * n + 1 * (y 1).val = (512 * n + (y 1).val) % 8192; omega
  | ⟨2, _⟩ => show 0 + 1 * (y 2).val = (y 2).val; omega

theorem whole_eq {sh : Shape} {e : EltTy} (arg : Memref sig .tc .vmem sh e) (harg : arg.IsWhole) (x : sh.Idx → Elt F e) (off : Fin sh.rank → ℕ)
    (inb : ∀ a, off a + sh.size a ≤ sh.size a) :
    arg.view.readAt (Elt F) (Rect.unit (s := sh) off sh.size inb).toLoadRect (harg.unread x) = x := by
  rw [View.readAt_eq_ld, harg.read_unread]
  funext y
  refine congrArg x (funext fun a => Fin.ext ?_)
  have h := inb a
  show off a + 1 * (y a).val = (y a).val
  omega

theorem vals_eq (arg : Memref sig .tc .vmem S1x1x16x144x512 .bf16) (harg : arg.IsWhole) (x : Vec F S1x1x16x144x512 .bf16)
    (inb : ∀ a, off5 a + S1x1x1x144x512.size a ≤ S1x1x16x144x512.size a) (n : ℕ) (hn : n < 16) (h : off5 = ![0, 0, n, 0, 0]) :
    arg.view.readAt (Elt F) (Rect.unit (s := S1x1x16x144x512) off5 S1x1x1x144x512.size inb).toLoadRect (harg.unread x) = vals x n := by
  subst h
  rw [View.readAt_eq_ld, harg.read_unread]
  funext y
  have h0 : (y 0).val < 1 := (y 0).isLt
  have h1 : (y 1).val < 1 := (y 1).isLt
  have h2 : (y 2).val < 1 := (y 2).isLt
  refine congrArg x (funext fun a => Fin.ext ?_)
  match a with
  | ⟨0, _⟩ => show 0 + 1 * (y 0).val = 0; omega
  | ⟨1, _⟩ => show 0 + 1 * (y 1).val = 0; omega
  | ⟨2, _⟩ => show n + 1 * (y 2).val = n % 16; omega
  | ⟨3, _⟩ => show 0 + 1 * (y 3).val = (y 3).val; omega
  | ⟨4, _⟩ => show 0 + 1 * (y 4).val = (y 4).val; omega

end Inputs

/-! ## One trip of the loop -/

set_option maxHeartbeats 4000000 in
theorem trip (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole) (q : FVec F S1024x128 .bf16) (c0 c1 : BitVec 32)
    (x1 x2 : Vec F S1x8192x128 .bf16) (x3 : Vec F S1x1x16x144x512 .bf16)
    (k : Fin k0_t1_loop.trips) (E : Set ℕ) (f10 : BufTy.Contents (Elt F) arg10.view.ty) (f11 : BufTy.Contents (Elt F) arg11.view.ty) (f12 : BufTy.Contents (Elt F) arg12.view.ty) (f13 : BufTy.Contents (Elt F) arg13.view.ty)
    (h10 : arg10.view.readAt (Elt F) (Rect.unit (s := S2x1x1024) ![0, 0, 0] S1x1x1024.size inb_S2x1x1024_S1x1x1024_0_0_0).toLoadRect f10 = runMax q x1 (2 * k.val)) (h10' : arg10.view.readAt (Elt F) (Rect.unit (s := S2x1x1024) ![1, 0, 0] S1x1x1024.size inb_S2x1x1024_S1x1x1024_1_0_0).toLoadRect f10 = runMax q x2 (2 * k.val))
    (h11 : arg11.view.readAt (Elt F) (Rect.unit (s := S2x144x1024) ![0, 0, 0] S1x144x1024.size inb_S2x144x1024_S1x144x1024_0_0_0).toLoadRect f11 = runAcc q x1 x3 (2 * k.val)) (h11' : arg11.view.readAt (Elt F) (Rect.unit (s := S2x144x1024) ![1, 0, 0] S1x144x1024.size inb_S2x144x1024_S1x144x1024_1_0_0).toLoadRect f11 = runAcc q x2 x3 (2 * k.val))
    (h12 : arg12.view.readAt (Elt F) (Rect.unit (s := S2x512x1024) ![0, 0, 0] S1x512x1024.size inb_S2x512x1024_S1x512x1024_0_0_0).toLoadRect f12 = scores q x1 (2 * k.val)) (h12' : arg12.view.readAt (Elt F) (Rect.unit (s := S2x512x1024) ![1, 0, 0] S1x512x1024.size inb_S2x512x1024_S1x512x1024_1_0_0).toLoadRect f12 = scores q x2 (2 * k.val)) :
    (iprop((arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 q c0 c1 k PUnit.unit)
          (fun _ => iprop((arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (∃ f, (arg10.view.loc (c : Thread nD τ) ↦[arg10.view.set]{fullShare} f) ∗ ⌜arg10.view.readAt (Elt F) (Rect.unit (s := S2x1x1024) ![0, 0, 0] S1x1x1024.size inb_S2x1x1024_S1x1x1024_0_0_0).toLoadRect f = runMax q x1 (2 * (k.val + 1)) ∧ arg10.view.readAt (Elt F) (Rect.unit (s := S2x1x1024) ![1, 0, 0] S1x1x1024.size inb_S2x1x1024_S1x1x1024_1_0_0).toLoadRect f = runMax q x2 (2 * (k.val + 1))⌝) ∗ (∃ f, (arg11.view.loc (c : Thread nD τ) ↦[arg11.view.set]{fullShare} f) ∗ ⌜arg11.view.readAt (Elt F) (Rect.unit (s := S2x144x1024) ![0, 0, 0] S1x144x1024.size inb_S2x144x1024_S1x144x1024_0_0_0).toLoadRect f = runAcc q x1 x3 (2 * (k.val + 1)) ∧ arg11.view.readAt (Elt F) (Rect.unit (s := S2x144x1024) ![1, 0, 0] S1x144x1024.size inb_S2x144x1024_S1x144x1024_1_0_0).toLoadRect f = runAcc q x2 x3 (2 * (k.val + 1))⌝) ∗ (∃ f, (arg12.view.loc (c : Thread nD τ) ↦[arg12.view.set]{fullShare} f) ∗ ⌜arg12.view.readAt (Elt F) (Rect.unit (s := S2x512x1024) ![0, 0, 0] S1x512x1024.size inb_S2x512x1024_S1x512x1024_0_0_0).toLoadRect f = scores q x1 (2 * (k.val + 1)) ∧ arg12.view.readAt (Elt F) (Rect.unit (s := S2x512x1024) ![1, 0, 0] S1x512x1024.size inb_S2x512x1024_S1x512x1024_1_0_0).toLoadRect f = scores q x2 (2 * (k.val + 1))⌝) ∗ (∃ f, (arg13.view.loc (c : Thread nD τ) ↦[arg13.view.set]{fullShare} f)))) := by
  have hk : k.val < 7 := Nat.lt_of_lt_of_le k.isLt k0_t1_abs.2.1
  have e4 := keys_eq _ arg4 harg4 x1 (k0_off1_inb k 0) (2 * k.val + 1) (by omega) ((k0_off1_eq k 0).trans (by congr 2; omega))
  have e5 := keys_eq _ arg5 harg5 x2 (k0_off1_inb k 0) (2 * k.val + 1) (by omega) ((k0_off1_eq k 0).trans (by congr 2; omega))
  have e4' := keys_eq _ arg4 harg4 x1 (k0_off1_inb k 1) (2 * k.val + 2) (by omega) ((k0_off1_eq k 1).trans (by congr 2; omega))
  have e5' := keys_eq _ arg5 harg5 x2 (k0_off1_inb k 1) (2 * k.val + 2) (by omega) ((k0_off1_eq k 1).trans (by congr 2; omega))
  have e6 := vals_eq _ arg6 harg6 x3 (k0_off2_inb k) (2 * k.val) (by omega) (k0_off2_eq k)
  have e6' := vals_eq _ arg6 harg6 x3 (k0_off3_inb k) (2 * k.val + 1) (by omega) (k0_off3_eq k)
  unfold k0_t1_body
  iintro ⟨H4, H5, H6, H10, H11, H12, H13⟩
  sl_exec
  sl_step
  isplitl [H4]; · iexact H4
  isplitl [H5]; · iexact H5
  isplitl [H6]; · iexact H6
  isplitl [H10]
  · iexists _; isplitl [H10]; · iexact H10
    ipureintro
    sl_unfold_run_names
    simp only [readAt_cons, readCov_cons, readAt_skip _ _ _ _ _ _ disjointM01, readAt_skip _ _ _ _ _ _ disjointM10,
      readAt_skip _ _ _ _ _ _ disjointA01, readAt_skip _ _ _ _ _ _ disjointA10, readAt_skip _ _ _ _ _ _ disjointS01, readAt_skip _ _ _ _ _ _ disjointS10,
      readCov_skip _ _ _ _ _ disjointM01, readCov_skip _ _ _ _ _ disjointM10, readCov_skip _ _ _ _ _ disjointA01, readCov_skip _ _ _ _ _ disjointA10,
      readCov_skip _ _ _ _ _ disjointS01, readCov_skip _ _ _ _ _ disjointS10,
      pay2_eq, pay17_eq, pay18_eq, pay33_eq, pay34_eq, pay37_eq, pay38_eq, max10_eq, max16_eq, max24_eq, max36_eq, max46_eq, max51_eq, max57_eq, max62_eq,
      acc9_eq, acc15_eq, acc23_eq, acc35_eq, acc45_eq, acc50_eq, acc56_eq, acc61_eq, scores_fold]
    exact ⟨rfl, rfl⟩
  isplitl [H11]
  · iexists _; isplitl [H11]; · iexact H11
    ipureintro
    sl_unfold_run_names
    simp only [readAt_cons, readCov_cons, readAt_skip _ _ _ _ _ _ disjointM01, readAt_skip _ _ _ _ _ _ disjointM10,
      readAt_skip _ _ _ _ _ _ disjointA01, readAt_skip _ _ _ _ _ _ disjointA10, readAt_skip _ _ _ _ _ _ disjointS01, readAt_skip _ _ _ _ _ _ disjointS10,
      readCov_skip _ _ _ _ _ disjointM01, readCov_skip _ _ _ _ _ disjointM10, readCov_skip _ _ _ _ _ disjointA01, readCov_skip _ _ _ _ _ disjointA10,
      readCov_skip _ _ _ _ _ disjointS01, readCov_skip _ _ _ _ _ disjointS10,
      pay2_eq, pay17_eq, pay18_eq, pay33_eq, pay34_eq, pay37_eq, pay38_eq, max10_eq, max16_eq, max24_eq, max36_eq, max46_eq, max51_eq, max57_eq, max62_eq,
      acc9_eq, acc15_eq, acc23_eq, acc35_eq, acc45_eq, acc50_eq, acc56_eq, acc61_eq, scores_fold]
    exact ⟨rfl, rfl⟩
  isplitl [H12]
  · iexists _; isplitl [H12]; · iexact H12
    ipureintro
    sl_unfold_run_names
    simp only [readAt_cons, readCov_cons, readAt_skip _ _ _ _ _ _ disjointM01, readAt_skip _ _ _ _ _ _ disjointM10,
      readAt_skip _ _ _ _ _ _ disjointA01, readAt_skip _ _ _ _ _ _ disjointA10, readAt_skip _ _ _ _ _ _ disjointS01, readAt_skip _ _ _ _ _ _ disjointS10,
      readCov_skip _ _ _ _ _ disjointM01, readCov_skip _ _ _ _ _ disjointM10, readCov_skip _ _ _ _ _ disjointA01, readCov_skip _ _ _ _ _ disjointA10,
      readCov_skip _ _ _ _ _ disjointS01, readCov_skip _ _ _ _ _ disjointS10,
      pay2_eq, pay17_eq, pay18_eq, pay33_eq, pay34_eq, pay37_eq, pay38_eq, max10_eq, max16_eq, max24_eq, max36_eq, max46_eq, max51_eq, max57_eq, max62_eq,
      acc9_eq, acc15_eq, acc23_eq, acc35_eq, acc45_eq, acc50_eq, acc56_eq, acc61_eq, scores_fold]
    exact ⟨rfl, rfl⟩
  iexists _; iexact H13

/-- What holds before the trip that takes block `n` first. -/
def loopState (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole) (q : FVec F S1024x128 .bf16)
    (x1 x2 : Vec F S1x8192x128 .bf16) (x3 : Vec F S1x1x16x144x512 .bf16) (n : ℕ) : sProp 𝕄 :=
  iprop((arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (∃ f, (arg10.view.loc (c : Thread nD τ) ↦[arg10.view.set]{fullShare} f) ∗ ⌜arg10.view.readAt (Elt F) (Rect.unit (s := S2x1x1024) ![0, 0, 0] S1x1x1024.size inb_S2x1x1024_S1x1x1024_0_0_0).toLoadRect f = runMax q x1 n ∧ arg10.view.readAt (Elt F) (Rect.unit (s := S2x1x1024) ![1, 0, 0] S1x1x1024.size inb_S2x1x1024_S1x1x1024_1_0_0).toLoadRect f = runMax q x2 n⌝) ∗ (∃ f, (arg11.view.loc (c : Thread nD τ) ↦[arg11.view.set]{fullShare} f) ∗ ⌜arg11.view.readAt (Elt F) (Rect.unit (s := S2x144x1024) ![0, 0, 0] S1x144x1024.size inb_S2x144x1024_S1x144x1024_0_0_0).toLoadRect f = runAcc q x1 x3 n ∧ arg11.view.readAt (Elt F) (Rect.unit (s := S2x144x1024) ![1, 0, 0] S1x144x1024.size inb_S2x144x1024_S1x144x1024_1_0_0).toLoadRect f = runAcc q x2 x3 n⌝) ∗ (∃ f, (arg12.view.loc (c : Thread nD τ) ↦[arg12.view.set]{fullShare} f) ∗ ⌜arg12.view.readAt (Elt F) (Rect.unit (s := S2x512x1024) ![0, 0, 0] S1x512x1024.size inb_S2x512x1024_S1x512x1024_0_0_0).toLoadRect f = scores q x1 n ∧ arg12.view.readAt (Elt F) (Rect.unit (s := S2x512x1024) ![1, 0, 0] S1x512x1024.size inb_S2x512x1024_S1x512x1024_1_0_0).toLoadRect f = scores q x2 n⌝) ∗ (∃ f, (arg13.view.loc (c : Thread nD τ) ↦[arg13.view.set]{fullShare} f)))

theorem step (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole) (q : FVec F S1024x128 .bf16) (c0 c1 : BitVec 32)
    (x1 x2 : Vec F S1x8192x128 .bf16) (x3 : Vec F S1x1x16x144x512 .bf16) (k : Fin k0_t1_loop.trips) (E : Set ℕ) :
    (loopState c i arg3 harg3 arg4 harg4 arg5 harg5 arg6 harg6 arg7 harg7 arg8 harg8 arg9 harg9 arg10 harg10 arg11 harg11 arg12 harg12 arg13 harg13 q x1 x2 x3 (2 * k.val) : sProp 𝕄)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 q c0 c1 k PUnit.unit)
          (fun _ => loopState c i arg3 harg3 arg4 harg4 arg5 harg5 arg6 harg6 arg7 harg7 arg8 harg8 arg9 harg9 arg10 harg10 arg11 harg11 arg12 harg12 arg13 harg13 q x1 x2 x3 (2 * (k.val + 1))) := by
  unfold loopState
  iintro ⟨H4, H5, H6, ⟨%f10, H10, %h10⟩, ⟨%f11, H11, %h11⟩, ⟨%f12, H12, %h12⟩, ⟨%f13, H13⟩⟩
  iapply (trip c i arg3 harg3 arg4 harg4 arg5 harg5 arg6 harg6 arg7 harg7 arg8 harg8 arg9 harg9 arg10 harg10 arg11 harg11 arg12 harg12 arg13 harg13 q c0 c1 x1 x2 x3 k E f10 f11 f12 f13 h10.1 h10.2 h11.1 h11.2 h12.1 h12.2)
  isplitl [H4]; · iexact H4
  isplitl [H5]; · iexact H5
  isplitl [H6]; · iexact H6
  isplitl [H10]; · iexact H10
  isplitl [H11]; · iexact H11
  isplitl [H12]; · iexact H12
  iexact H13

theorem trips_eq : k0_t1_loop.trips = 7 := by decide

theorem loop (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole) (q : FVec F S1024x128 .bf16) (c0 c1 : BitVec 32)
    (x1 x2 : Vec F S1x8192x128 .bf16) (x3 : Vec F S1x1x16x144x512 .bf16) (E : Set ℕ)
    {β : Type} {kk : PUnit → Prog (TpuEff nD τ sig (Elt F) Λ₀ .tc) β} {Q : β → sProp 𝕄} :
    (iprop(loopState c i arg3 harg3 arg4 harg4 arg5 harg5 arg6 harg6 arg7 harg7 arg8 harg8 arg9 harg9 arg10 harg10 arg11 harg11 arg12 harg12 arg13 harg13 q x1 x2 x3 0 ∗ (loopState c i arg3 harg3 arg4 harg4 arg5 harg5 arg6 harg6 arg7 harg7 arg8 harg8 arg9 harg9 arg10 harg10 arg11 harg11 arg12 harg12 arg13 harg13 q x1 x2 x3 14 -∗ wp frame (wpE (defs₀ (F := F)) Variants.none (c : Thread nD τ) none) E (kk PUnit.unit) Q)) : sProp 𝕄)
      ⊢ wp frame (wpE (defs₀ (F := F)) Variants.none (c : Thread nD τ) none) E
          (k0_t1_loop.for k0_t1_ok PUnit.unit (k0_t1_body (F := F) i arg3 harg3 arg4 harg4 arg5 harg5 arg6 harg6 arg7 harg7 arg8 harg8 arg9 harg9 arg10 harg10 arg11 harg11 arg12 harg12 arg13 harg13 q c0 c1) >>= kk) Q := by
  iintro ⟨HI, HK⟩
  rw [wp_bind]
  iapply (Scf.wp_for frame (wpE (defs₀ (F := F)) Variants.none (c : Thread nD τ) none) E _ _ _ k0_t1_ok PUnit.unit (k0_t1_body (F := F) i arg3 harg3 arg4 harg4 arg5 harg5 arg6 harg6 arg7 harg7 arg8 harg8 arg9 harg9 arg10 harg10 arg11 harg11 arg12 harg12 arg13 harg13 q c0 c1)
    (fun k _ => loopState c i arg3 harg3 arg4 harg4 arg5 harg5 arg6 harg6 arg7 harg7 arg8 harg8 arg9 harg9 arg10 harg10 arg11 harg11 arg12 harg12 arg13 harg13 q x1 x2 x3 (2 * k)) (fun k _ => step c i arg3 harg3 arg4 harg4 arg5 harg5 arg6 harg6 arg7 harg7 arg8 harg8 arg9 harg9 arg10 harg10 arg11 harg11 arg12 harg12 arg13 harg13 q c0 c1 x1 x2 x3 k E))
  isplitl [HI]; · iexact HI
  iintro %acc H
  iapply HK
  have h : Scf.trips k0_t1_loop.lb k0_t1_loop.ub k0_t1_loop.st = 7 := trips_eq
  rw [h]
  iexact H

set_option maxHeartbeats 4000000 in
theorem run (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole)
    (x0 : Vec F S1x1024x128 .bf16) (x1 x2 : Vec F S1x8192x128 .bf16) (x3 : Vec F S1x1x16x144x512 .bf16) (x4 : Vec F S4x64 .f32) (x5 : Vec F S128x1 .f32)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (E : Set ℕ) (K : PUnit → sProp 𝕄) :
    (iprop((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (((arg3.view.loc (c : Thread nD τ) ↦[arg3.view.set]{fullShare} (harg3.unread x0)) ∗ (arg4.view.loc (c : Thread nD τ) ↦[arg4.view.set]{fullShare} (harg4.unread x1)) ∗ (arg5.view.loc (c : Thread nD τ) ↦[arg5.view.set]{fullShare} (harg5.unread x2)) ∗ (arg6.view.loc (c : Thread nD τ) ↦[arg6.view.set]{fullShare} (harg6.unread x3)) ∗ (arg7.view.loc (c : Thread nD τ) ↦[arg7.view.set]{fullShare} (harg7.unread x4)) ∗ (arg8.view.loc (c : Thread nD τ) ↦[arg8.view.set]{fullShare} (harg8.unread x5)) ∗ (∃ g, (arg9.view.loc (c : Thread nD τ) ↦[arg9.view.set]{fullShare} (arg9.view.writes (Elt F) f9 [⟨Rect.unit (s := S1x1024x128) ![0, 0, 0] S1x1024x128.size inb_S1x1024x128_S1x1024x128_0_0_0, g⟩])) ∗ ⌜g = result x0 x1 x2 x3 x4 x5⌝) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K PUnit.unit)) : sProp 𝕄)
      ⊢ wp frame (wpE (defs₀ (F := F)) Variants.none (c : Thread nD τ) none) E (cc0_diff_attention (F := F) i arg3 harg3 arg4 harg4 arg5 harg5 arg6 harg6 arg7 harg7 arg8 harg8 arg9 harg9 arg10 harg10 arg11 harg11 arg12 harg12 arg13 harg13) K := by
  have e3 := whole_eq arg3 harg3 x0 ![0, 0, 0] inb_S1x1024x128_S1x1024x128_0_0_0
  have e7 := whole_eq arg7 harg7 x4 ![0, 0] inb_S4x64_S4x64_0_0
  have e8 := whole_eq arg8 harg8 x5 ![0, 0] inb_S128x1_S128x1_0_0
  have e4 := keys_eq _ arg4 harg4 x1 inb_S1x8192x128_S1x512x128_0_0_0 0 (by omega) rfl
  have e5 := keys_eq _ arg5 harg5 x2 inb_S1x8192x128_S1x512x128_0_0_0 0 (by omega) rfl
  have e4' := keys_eq _ arg4 harg4 x1 inb_S1x8192x128_S1x512x128_0_7680_0 15 (by omega) rfl
  have e5' := keys_eq _ arg5 harg5 x2 inb_S1x8192x128_S1x512x128_0_7680_0 15 (by omega) rfl
  have e6 := vals_eq _ arg6 harg6 x3 inb_S1x1x16x144x512_S1x1x1x144x512_0_0_14_0_0 14 (by omega) rfl
  have e6' := vals_eq _ arg6 harg6 x3 inb_S1x1x16x144x512_S1x1x1x144x512_0_0_15_0_0 15 (by omega) rfl
  simp only [cc0_diff_attention_eq_skeleton]; unfold cc0_diff_attention_skel
  simp only [k0_part10_eq_skeleton, k0_part5_eq_skeleton, k0_part6_eq_skeleton, k0_part7_eq_skeleton, k0_part8_eq_skeleton, k0_part9_eq_skeleton]
  iintro ⟨H3, H4, H5, H6, H7, H8, H9, H10, H11, H12, H13, HK⟩
  sl_exec
  sl_unfold_run_names
  iapply (loop c i arg3 harg3 arg4 harg4 arg5 harg5 arg6 harg6 arg7 harg7 arg8 harg8 arg9 harg9 arg10 harg10 arg11 harg11 arg12 harg12 arg13 harg13 (k0_pay30 x0) 0#32 1#32 x1 x2 x3 E)
  isplitl [H4 H5 H6 H10 H11 H12 H13]
  · unfold loopState
    isplitl [H4]; · iexact H4
    isplitl [H5]; · iexact H5
    isplitl [H6]; · iexact H6
    isplitl [H10]
    · iexists _; isplitl [H10]; · iexact H10
      ipureintro
      exact ⟨readAt_full (F := F) _ _ _ _ _ _ _, readAt_full (F := F) _ _ _ _ _ _ _⟩
    isplitl [H11]
    · iexists _; isplitl [H11]; · iexact H11
      ipureintro
      exact ⟨readAt_full (F := F) _ _ _ _ _ _ _, readAt_full (F := F) _ _ _ _ _ _ _⟩
    isplitl [H12]
    · iexists _; isplitl [H12]; · iexact H12
      ipureintro
      simp only [readAt_cons, readCov_cons, readAt_skip _ _ _ _ _ _ disjointM01, readAt_skip _ _ _ _ _ _ disjointM10,
      readAt_skip _ _ _ _ _ _ disjointA01, readAt_skip _ _ _ _ _ _ disjointA10, readAt_skip _ _ _ _ _ _ disjointS01, readAt_skip _ _ _ _ _ _ disjointS10,
      readCov_skip _ _ _ _ _ disjointM01, readCov_skip _ _ _ _ _ disjointM10, readCov_skip _ _ _ _ _ disjointA01, readCov_skip _ _ _ _ _ disjointA10,
      readCov_skip _ _ _ _ _ disjointS01, readCov_skip _ _ _ _ _ disjointS10,
      pay2_eq, pay17_eq, pay18_eq, pay33_eq, pay34_eq, pay37_eq, pay38_eq, max10_eq, max16_eq, max24_eq, max36_eq, max46_eq, max51_eq, max57_eq, max62_eq,
      acc9_eq, acc15_eq, acc23_eq, acc35_eq, acc45_eq, acc50_eq, acc56_eq, acc61_eq, scores_fold]
      exact ⟨trivial, trivial⟩
    iexists _; iexact H13
  unfold loopState
  iintro ⟨H4, H5, H6, ⟨%g10, H10, %h10⟩, ⟨%g11, H11, %h11⟩, ⟨%g12, H12, %h12⟩, ⟨%g13, H13⟩⟩
  obtain ⟨h10, h10'⟩ := h10
  obtain ⟨h11, h11'⟩ := h11
  obtain ⟨h12, h12'⟩ := h12
  sl_exec
  sl_step
  iapply HK
  isplitl [H3]; · iexact H3
  isplitl [H4]; · iexact H4
  isplitl [H5]; · iexact H5
  isplitl [H6]; · iexact H6
  isplitl [H7]; · iexact H7
  isplitl [H8]; · iexact H8
  isplitl [H9]
  · iexists _; isplitl [H9]; · iexact H9
    ipureintro
    sl_unfold_run_names
    simp only [readAt_cons, readCov_cons, readAt_skip _ _ _ _ _ _ disjointM01, readAt_skip _ _ _ _ _ _ disjointM10,
      readAt_skip _ _ _ _ _ _ disjointA01, readAt_skip _ _ _ _ _ _ disjointA10, readAt_skip _ _ _ _ _ _ disjointS01, readAt_skip _ _ _ _ _ _ disjointS10,
      readCov_skip _ _ _ _ _ disjointM01, readCov_skip _ _ _ _ _ disjointM10, readCov_skip _ _ _ _ _ disjointA01, readCov_skip _ _ _ _ _ disjointA10,
      readCov_skip _ _ _ _ _ disjointS01, readCov_skip _ _ _ _ _ disjointS10,
      pay2_eq, pay17_eq, pay18_eq, pay33_eq, pay34_eq, pay37_eq, pay38_eq, max10_eq, max16_eq, max24_eq, max36_eq, max46_eq, max51_eq, max57_eq, max62_eq,
      acc9_eq, acc15_eq, acc23_eq, acc35_eq, acc45_eq, acc50_eq, acc56_eq, acc61_eq, scores_fold]
    rfl
  isplitl [H10]; · iexists _; iexact H10
  isplitl [H11]; · iexists _; iexact H11
  isplitl [H12]; · iexists _; iexact H12
  iexists _; iexact H13

end Cert.KernelDiffIdeal.Run

end
-- ==== Proof.DiffBlock.lean ====
/-
  Differential attention: what one grid point leaves in its block of the result, entry by entry, over the extended reals.
-/
module

public import proofs.«01_k».proof.Proof.Common
public import proofs.«01_k».proof.Proof.DiffMath
public import proofs.«01_k».proof.Proof.DiffRun
public import Idealize.ShloMosaic.Lib.IdealHost

@[expose] public section

set_option maxRecDepth 16384

noncomputable section

namespace Cert.KernelDiffIdeal.Run

open Cert.KernelDiffIdeal.Gen Idealize.ShloMosaic Idealize.ShloMosaic.ValueIdx
open scoped BigOperators

variable (q : Vec Ideal S1x1024x128 .bf16) (x : Vec Ideal S1x8192x128 .bf16) (v : Vec Ideal S1x1x16x144x512 .bf16)

/-- The score of query `r` against key `k`. -/
def score (r : Fin 1024) (k : ℕ) : EReal :=
  ∑ d : Fin 128, (x (ix3 (0 : Fin 1) (⟨k % 8192, Nat.mod_lt _ (by decide)⟩ : Fin 8192) d) : EReal) * q (ix3 (0 : Fin 1) r d)

/-- Row `d` of the transposed values at key `k`. -/
def value (d : Fin 144) (k : ℕ) : EReal :=
  v (ix5 (0 : Fin 1) (0 : Fin 1) (⟨k / 512 % 16, Nat.mod_lt _ (by decide)⟩ : Fin 16) d (⟨k % 512, Nat.mod_lt _ (by decide)⟩ : Fin 512))

/-- The scores of a block. -/
theorem scores_apply (n : ℕ) (k : Fin 512) (r : Fin 1024) :
    scores (k0_pay30 q) x n (ix3 0 k r) = score q x r (512 * n + k.val) := by
  unfold scores k0_pay1
  refine (shapeCast_apply _ shapeCasts_S512x1024_S1x512x1024 (ix3 (0 : Fin 1) k r) (ix2 k r)
    (by rewrite [Shape.rowMajor_val_two, Shape.rowMajor_val_three]; show k.val * 1024 + r.val = (0 * 512 + k.val) * 1024 + r.val; omega)).trans ?_
  refine (Ideal.matmul_transposedRhs_apply (M := 512) (K := 128) (N := 1024) none _ _ _ k r).trans ?_
  refine (congrArg (· + _) (show (constant S512x1024 .f32 0x00000000#32 : FVec Ideal S512x1024 .f32) (ix2 k r) = 0 from Ideal.ofBits_zero_f32)).trans ((zero_add _).trans ?_)
  refine Finset.sum_congr rfl fun d _ => congrArg₂ (· * ·) ?_ ?_
  · exact shapeCast_apply (keys x n) shapeCasts_S1x512x128_S512x128 (ix2 k d) (ix3 (0 : Fin 1) k d)
      (by rewrite [Shape.rowMajor_val_two, Shape.rowMajor_val_three]; show (0 * 512 + k.val) * 128 + d.val = k.val * 128 + d.val; omega)
  · exact shapeCast_apply q shapeCasts_S1x1024x128_S1024x128 (ix2 r d) (ix3 (0 : Fin 1) r d)
      (by rewrite [Shape.rowMajor_val_two, Shape.rowMajor_val_three]; show (0 * 1024 + r.val) * 128 + d.val = r.val * 128 + d.val; omega)

/-- The bits of negative infinity. -/
theorem bits_bot : Ideal.ofBits .f32 0xFF800000#32 = (⊥ : EReal) := by simp [Ideal.ofBits, Ideal.ieee]

section Step
variable (s : Vec Ideal S1x512x1024 .f32) (m : Vec Ideal S1x1x1024 .f32) (a : Vec Ideal S1x144x1024 .f32)
  (w : Vec Ideal S1x1x1x144x512 .bf16)

theorem pay4_apply (k : Fin 512) (r : Fin 1024) : k0_pay4 s (ix2 k r) = s (ix3 0 k r) :=
  shapeCast_apply s shapeCasts_S1x512x1024_S512x1024 (ix2 k r) (ix3 (0 : Fin 1) k r)
    (by rewrite [Shape.rowMajor_val_two, Shape.rowMajor_val_three]; show (0 * 512 + k.val) * 1024 + r.val = k.val * 1024 + r.val; omega)

theorem pay5_apply (r : Fin 1024) : k0_pay5 m (ix2 0 r) = m (ix3 0 0 r) :=
  shapeCast_apply m shapeCasts_S1x1x1024_S1x1024 (ix2 (0 : Fin 1) r) (ix3 (0 : Fin 1) (0 : Fin 1) r)
    (by rewrite [Shape.rowMajor_val_two, Shape.rowMajor_val_three]; show (0 * 1 + 0) * 1024 + r.val = 0 * 1024 + r.val; omega)

theorem pay6_apply (r : Fin 1024) :
    (k0_pay6 s m (ix2 0 r) : EReal) = max (m (ix3 0 0 r)) ((Finset.univ : Finset (Fin 512)).fold max ⊥ fun k => (s (ix3 0 k r) : EReal)) := by
  unfold k0_pay6
  dsimp only
  refine congrArg₂ max (pay5_apply m r) ?_
  refine (shapeCast_apply _ shapeCasts_S1024_S1x1024 (ix2 (0 : Fin 1) r) (ix1 r)
    (by rewrite [Shape.rowMajor_val_two, Shape.rowMajor_val_one]; show r.val = 0 * 1024 + r.val; omega)).trans ?_
  refine (Ideal.multiReduction_maximumf_single (k0_pay4 s) 0xFF800000#32 reduces_S512x1024_S1024 (.inl rfl) rfl (ix1 r)).trans ?_
  have e : (FloatOps.ofBits (F := Ideal) .f32 0xFF800000#32 : EReal) = ⊥ := bits_bot
  rw [e]
  refine congrArg (fun f => Finset.fold max ⊥ f Finset.univ) (funext fun k => ?_)
  refine Eq.trans ?_ (pay4_apply s k r)
  exact congrArg (k0_pay4 s) (funext fun a => Fin.ext (match a with | ⟨0, _⟩ => rfl | ⟨1, _⟩ => rfl))

theorem nextMax_apply (r : Fin 1024) :
    (nextMax s m (ix3 0 0 r) : EReal) = max (m (ix3 0 0 r)) ((Finset.univ : Finset (Fin 512)).fold max ⊥ fun k => (s (ix3 0 k r) : EReal)) := by
  unfold nextMax k0_pay10
  exact (shapeCast_apply _ shapeCasts_S1x1024_S1x1x1024 (ix3 (0 : Fin 1) (0 : Fin 1) r) (ix2 (0 : Fin 1) r)
    (by rewrite [Shape.rowMajor_val_two, Shape.rowMajor_val_three]; show 0 * 1024 + r.val = (0 * 1 + 0) * 1024 + r.val; omega)).trans (pay6_apply s m r)

theorem nextAcc_apply (d : Fin 144) (r : Fin 1024) :
    (nextAcc w s m a (ix3 0 d r) : EReal)
      = Ideal.exp2 ((m (ix3 0 0 r) : EReal) - nextMax s m (ix3 0 0 r)) * a (ix3 0 d r)
        + ∑ k : Fin 512, (w (ix5 0 0 0 d k) : EReal) * Ideal.exp2 ((s (ix3 0 k r) : EReal) - nextMax s m (ix3 0 0 r)) := by
  have hM : (nextMax s m (ix3 0 0 r) : EReal) = k0_pay6 s m (ix2 0 r) := (nextMax_apply s m r).trans (pay6_apply s m r).symm
  rw [hM]
  unfold nextAcc k0_pay9
  refine (shapeCast_apply _ shapeCasts_S144x1024_S1x144x1024 (ix3 (0 : Fin 1) d r) (ix2 d r)
    (by rewrite [Shape.rowMajor_val_two, Shape.rowMajor_val_three]; show d.val * 1024 + r.val = (0 * 144 + d.val) * 1024 + r.val; omega)).trans ?_
  refine congrArg₂ (· + ·) (congrArg₂ (· * ·) ?_ ?_) ?_
  · refine (Common.row_apply (M := 144) (N := 1024) (by decide) (k0_pay7 s m) broadcasts_S1x1024_S144x1024 d r).trans ?_
    unfold k0_pay7
    exact congrArg (fun t : EReal => Ideal.exp2 (t - k0_pay6 s m (ix2 0 r))) (pay5_apply m r)
  · exact shapeCast_apply a shapeCasts_S1x144x1024_S144x1024 (ix2 d r) (ix3 (0 : Fin 1) d r)
      (by rewrite [Shape.rowMajor_val_two, Shape.rowMajor_val_three]; show (0 * 144 + d.val) * 1024 + r.val = d.val * 1024 + r.val; omega)
  · refine (Common.product_apply dot_S144x512_S512x1024_S144x1024_1_0_0_1_n_n rfl none _ _ d r).trans ?_
    refine Finset.sum_congr rfl fun k _ => congrArg₂ (· * ·) ?_ ?_
    · exact shapeCast_apply w shapeCasts_S1x1x1x144x512_S144x512 (ix2 d k) (ix5 (0 : Fin 1) (0 : Fin 1) (0 : Fin 1) d k)
        (by rewrite [Shape.rowMajor_val_two, Shape.rowMajor_val_five]; show (((0 * 1 + 0) * 1 + 0) * 144 + d.val) * 512 + k.val = d.val * 512 + k.val; omega)
    · refine congrArg₂ (fun t u : EReal => Ideal.exp2 (t - u)) (pay4_apply s k r) ?_
      unfold k0_pay8
      exact Common.row_apply (M := 512) (N := 1024) (by decide) (k0_pay6 s m) broadcasts_S1x1024_S512x1024 k r

end Step

/-- The running maximum. -/
theorem runMax_apply (n : ℕ) (r : Fin 1024) : (runMax (k0_pay30 q) x n (ix3 0 0 r) : EReal) = Diff.top (score q x r) n := by
  induction n with
  | zero => exact bits_bot
  | succ n ih =>
    rw [Diff.top_succ, ← ih]
    refine (nextMax_apply _ _ r).trans (congrArg (max _) (congrArg (fun f => Finset.fold max ⊥ f Finset.univ) (funext fun k => ?_)))
    exact scores_apply q x n k r

/-- The running sums. -/
theorem runAcc_apply (n : ℕ) (d : Fin 144) (r : Fin 1024) :
    (runAcc (k0_pay30 q) x v n (ix3 0 d r) : EReal) = Diff.acc (score q x r) (value v d) n := by
  induction n with
  | zero =>
    have e : Diff.acc (score q x r) (value v d) 0 = 0 := by unfold Diff.acc; simp
    rw [e]
    exact Ideal.ofBits_zero_f32
  | succ n ih =>
    rw [Diff.acc_succ, ← ih]
    have hM : (nextMax (scores (k0_pay30 q) x n) (runMax (k0_pay30 q) x n) (ix3 0 0 r) : EReal) = Diff.top (score q x r) (n + 1) :=
      runMax_apply q x (n + 1) r
    refine (nextAcc_apply _ _ _ _ d r).trans ?_
    rw [hM, runMax_apply q x n r]
    refine congrArg (_ + ·) (Finset.sum_congr rfl fun k _ => ?_)
    rw [scores_apply q x n k r]
    refine congrArg (· * _) ?_
    unfold vals value
    refine congrArg v (funext fun a => Fin.ext ?_)
    have hk := k.isLt
    match a with
    | ⟨0, _⟩ => rfl
    | ⟨1, _⟩ => rfl
    | ⟨2, _⟩ => show n % 16 = (512 * n + k.val) / 512 % 16; omega
    | ⟨3, _⟩ => rfl
    | ⟨4, _⟩ => show k.val = (512 * n + k.val) % 512; omega

/-! ## The block's entries -/

/-- The factor of the second map. -/
def lam (x4 : Vec Ideal S4x64 .f32) : EReal :=
  Ideal.exp (∑ j : Fin 64, (x4 (ix2 (0 : Fin 4) j) : EReal) * x4 (ix2 (1 : Fin 4) j))
    - Ideal.exp (∑ j : Fin 64, (x4 (ix2 (2 : Fin 4) j) : EReal) * x4 (ix2 (3 : Fin 4) j)) + Ideal.ofBits .f32 0x3E4CCCCD#32

/-- A row of attention sums, normalised by its mean square and scaled. -/
def normed (o g : Fin 128 → EReal) (d : Fin 128) : EReal :=
  o d * Ideal.rsqrt (Ideal.div (∑ e : Fin 128, o e * o e) (Ideal.ofBits .f32 0x43000000#32) + Ideal.ofBits .f32 0x3727C5AC#32) * g d
    * Ideal.ofBits .f32 0x3F4CCCCD#32

/-- One of the two products of the factor. -/
theorem lamTerm_apply (x4 : Vec Ideal S4x64 .f32) (o o' : Fin 2 → ℕ) (h : S4x64.Slices o S1x64) (h' : S4x64.Slices o' S1x64)
    (p p' : Fin 4) (hp : o = ![p.val, 0]) (hp' : o' = ![p'.val, 0]) :
    (shapeCast S1x1 (multiReduction .add [1] S1 (mulf (extractStridedSlice S1x64 o x4 h) (extractStridedSlice S1x64 o' x4 h'))
      0x00000000#32 reduces_S1x64_S1 (.inl rfl) rfl : FVec Ideal S1 .f32) shapeCasts_S1_S1x1 (ix2 0 0) : EReal)
      = ∑ j : Fin 64, (x4 (ix2 p j) : EReal) * x4 (ix2 p' j) := by
  subst hp hp'
  refine (shapeCast_apply _ shapeCasts_S1_S1x1 (ix2 (0 : Fin 1) (0 : Fin 1)) (ix1 (0 : Fin 1))
    (by rewrite [Shape.rowMajor_val_two, Shape.rowMajor_val_one]; rfl)).trans ?_
  refine (Ideal.multiReduction_add_single _ 0x00000000#32 reduces_S1x64_S1 (.inl rfl) rfl (ix1 (0 : Fin 1))).trans ?_
  refine Finset.sum_congr rfl fun j _ => congrArg₂ (· * ·) ?_ ?_
  · exact extractStridedSlice_apply _ x4 h _ (ix2 p j) fun a => match a with
      | ⟨0, _⟩ => rfl
      | ⟨1, _⟩ => (Nat.zero_add _).symm
  · exact extractStridedSlice_apply _ x4 h' _ (ix2 p' j) fun a => match a with
      | ⟨0, _⟩ => rfl
      | ⟨1, _⟩ => (Nat.zero_add _).symm

theorem pay63_apply (x4 : Vec Ideal S4x64 .f32) :
    (k0_pay63 x4 (ix2 0 0) : EReal) + Ideal.ofBits .f32 0x3E4CCCCD#32 = lam x4 := by
  unfold k0_pay63 lam
  refine congrArg (· + _) (congrArg₂ (· - ·) (congrArg Ideal.exp ?_) (congrArg Ideal.exp ?_))
  · exact lamTerm_apply x4 _ _ _ _ 0 1 rfl rfl
  · exact lamTerm_apply x4 _ _ _ _ 2 3 rfl rfl

section Last
variable (l : FVec Ideal S1x1 .f32) (a b : Vec Ideal S1x144x1024 .f32) (g : Vec Ideal S128x1 .f32)

/-- The difference of the two quotients. -/
def mixed (d : Fin 128) (r : Fin 1024) : EReal :=
  Ideal.div (a (ix3 0 (⟨d.val, by omega⟩ : Fin 144) r)) (a (ix3 0 (128 : Fin 144) r))
    - ((l (ix2 0 0) : EReal) + Ideal.ofBits .f32 0x3E4CCCCD#32)
      * Ideal.div (b (ix3 0 (⟨d.val, by omega⟩ : Fin 144) r)) (b (ix3 0 (128 : Fin 144) r))

/-- One quotient. -/
theorem quotient_apply (d : Fin 128) (r : Fin 1024) :
    (divf (extractStridedSlice S128x1024 ![0, 0] (shapeCast S144x1024 a shapeCasts_S1x144x1024_S144x1024) slices_S144x1024_o0_0_S128x1024)
      (broadcastTo S128x1024 (extractStridedSlice S1x1024 ![128, 0] (shapeCast S144x1024 a shapeCasts_S1x144x1024_S144x1024) slices_S144x1024_o128_0_S1x1024)
        broadcasts_S1x1024_S128x1024) (ix2 d r) : Ideal .f32)
      = Ideal.div (a (ix3 0 (⟨d.val, by omega⟩ : Fin 144) r)) (a (ix3 0 (128 : Fin 144) r)) := by
  have cast (e : Fin 144) : (shapeCast S144x1024 a shapeCasts_S1x144x1024_S144x1024 (ix2 e r) : EReal) = a (ix3 0 e r) :=
    shapeCast_apply a shapeCasts_S1x144x1024_S144x1024 (ix2 e r) (ix3 (0 : Fin 1) e r)
      (by rewrite [Shape.rowMajor_val_two, Shape.rowMajor_val_three]; show (0 * 144 + e.val) * 1024 + r.val = e.val * 1024 + r.val; omega)
  refine congrArg₂ Ideal.div ?_ ?_
  · refine (extractStridedSlice_apply _ _ slices_S144x1024_o0_0_S128x1024 (ix2 d r) (ix2 (⟨d.val, by omega⟩ : Fin 144) r) fun a => match a with
      | ⟨0, _⟩ => (Nat.zero_add _).symm
      | ⟨1, _⟩ => (Nat.zero_add _).symm).trans (cast _)
  · refine (Common.row_apply (M := 128) (N := 1024) (by decide) _ broadcasts_S1x1024_S128x1024 d r).trans ?_
    refine (extractStridedSlice_apply _ _ slices_S144x1024_o128_0_S1x1024 (ix2 (0 : Fin 1) r) (ix2 (128 : Fin 144) r) fun a => match a with
      | ⟨0, _⟩ => rfl
      | ⟨1, _⟩ => (Nat.zero_add _).symm).trans (cast _)

/-- The block before normalising. -/
def difference : FVec Ideal S128x1024 .f32 :=
  subf (divf (extractStridedSlice S128x1024 ![0, 0] (shapeCast S144x1024 a shapeCasts_S1x144x1024_S144x1024) slices_S144x1024_o0_0_S128x1024)
      (broadcastTo S128x1024 (extractStridedSlice S1x1024 ![128, 0] (shapeCast S144x1024 a shapeCasts_S1x144x1024_S144x1024) slices_S144x1024_o128_0_S1x1024)
        broadcasts_S1x1024_S128x1024))
    (mulf (broadcastTo S128x1024 (addf l (broadcast S1x1 (Scalar.ofBits .f32 0x3E4CCCCD#32))) broadcasts_S1x1_S128x1024)
      (divf (extractStridedSlice S128x1024 ![0, 0] (shapeCast S144x1024 b shapeCasts_S1x144x1024_S144x1024) slices_S144x1024_o0_0_S128x1024)
        (broadcastTo S128x1024 (extractStridedSlice S1x1024 ![128, 0] (shapeCast S144x1024 b shapeCasts_S1x144x1024_S144x1024) slices_S144x1024_o128_0_S1x1024)
          broadcasts_S1x1024_S128x1024)))

theorem difference_apply (d : Fin 128) (r : Fin 1024) : (difference l a b (ix2 d r) : EReal) = mixed l a b d r := by
  unfold difference mixed
  refine congrArg₂ (fun s t : EReal => s - t) (quotient_apply a d r) (congrArg₂ (fun s t : EReal => s * t) ?_ (quotient_apply b d r))
  exact broadcastTo_apply _ broadcasts_S1x1_S128x1024 (ix2 d r) (ix2 (0 : Fin 1) (0 : Fin 1)) fun a => match a with
    | ⟨0, _⟩ => by show 0 = if (1 : Nat) = 1 then 0 else _; rw [if_pos rfl]
    | ⟨1, _⟩ => by show 0 = if (1 : Nat) = 1 then 0 else _; rw [if_pos rfl]

theorem pay64_apply (d : Fin 128) (r : Fin 1024) :
    (k0_pay64 l a b g (ix3 0 r d) : EReal) = normed (fun e => mixed l a b e r) (fun e => g (ix2 e 0)) d := by
  have hd := difference_apply l a b
  unfold k0_pay64 normed
  refine (shapeCast_apply _ shapeCasts_S1024x128_S1x1024x128 (ix3 (0 : Fin 1) r d) (ix2 r d)
    (by rewrite [Shape.rowMajor_val_two, Shape.rowMajor_val_three]; show r.val * 128 + d.val = (0 * 1024 + r.val) * 128 + d.val; omega)).trans ?_
  rw [ValueIdx.truncf_apply]
  refine (transpose_apply [1, 0] _ transposes_S128x1024_p1_0_S1024x128 (ix2 r d) (ix2 d r) fun b => match b with
    | ⟨0, _⟩ => rfl
    | ⟨1, _⟩ => rfl).trans ?_
  refine congrArg (fun t : EReal => t * _) (congrArg₂ (fun s t : EReal => s * t) (congrArg₂ (fun s t : EReal => s * t) (hd d r) ?_) ?_)
  · refine (Common.row_apply (M := 128) (N := 1024) (by decide) _ broadcasts_S1x1024_S128x1024 d r).trans ?_
    refine congrArg (fun t : EReal => Ideal.rsqrt (Ideal.div t _ + _)) ?_
    refine (shapeCast_apply _ shapeCasts_S1024_S1x1024 (ix2 (0 : Fin 1) r) (ix1 r)
      (by rewrite [Shape.rowMajor_val_two, Shape.rowMajor_val_one]; show r.val = 0 * 1024 + r.val; omega)).trans ?_
    refine (Ideal.multiReduction_add_single _ 0x00000000#32 reduces_S128x1024_S1024 (.inl rfl) rfl (ix1 r)).trans ?_
    refine Finset.sum_congr rfl fun e _ => ?_
    have hi : reduces_S128x1024_S1024.lift (ix1 r) e = ix2 (show Fin 128 from e) r :=
      funext fun a => Fin.ext (match a with | ⟨0, _⟩ => rfl | ⟨1, _⟩ => rfl)
    rw [hi]
    exact congrArg₂ (fun s t : EReal => s * t) (hd e r) (hd e r)
  · refine (broadcastTo_apply _ broadcasts_S128x1_S128x1024 (ix2 d r) (ix2 d (0 : Fin 1)) fun a => match a with
      | ⟨0, _⟩ => by show d.val = if (128 : Nat) = 1 then 0 else d.val; rw [if_neg (by decide)]
      | ⟨1, _⟩ => by show 0 = if (1 : Nat) = 1 then 0 else _; rw [if_pos rfl]).trans ?_
    exact shapeCast_apply g shapeCasts_S128x1_S128x1 (ix2 d (0 : Fin 1)) (ix2 d (0 : Fin 1)) rfl

end Last

/-- What one grid point leaves in its block of the result. -/
theorem result_apply (x2 : Vec Ideal S1x8192x128 .bf16) (x4 : Vec Ideal S4x64 .f32) (x5 : Vec Ideal S128x1 .f32) (r : Fin 1024) (d : Fin 128) :
    (result q x x2 v x4 x5 (ix3 0 r d) : EReal)
      = normed (fun e =>
          Ideal.div (Diff.acc (score q x r) (value v (⟨e.val, by omega⟩ : Fin 144)) 16) (Diff.acc (score q x r) (value v 128) 16)
            - lam x4 * Ideal.div (Diff.acc (score q x2 r) (value v (⟨e.val, by omega⟩ : Fin 144)) 16) (Diff.acc (score q x2 r) (value v 128) 16))
          (fun e => x5 (ix2 e 0)) d := by
  unfold result
  refine (pay64_apply _ _ _ _ d r).trans (congrArg (fun o => normed o _ d) (funext fun e => ?_))
  unfold mixed
  rw [runAcc_apply, runAcc_apply, runAcc_apply, runAcc_apply, pay63_apply]

end Cert.KernelDiffIdeal.Run

end
-- ==== Proof.DiffFrame.lean ====
/-
  Differential attention: the pipeline around the body of `KernelDiffIdeal`, and its frame.
-/
module

public import proofs.«01_k».proof.Proof.DiffRun
public import proofs.«01_k».proof.Proof.Gen.KernelDiffIdeal.Frame.Runs
public import Idealize.ShloMosaic.Lib.Claim

@[expose] public section

set_option maxRecDepth 16384

noncomputable section

namespace Cert.KernelDiffIdeal.Run

open Cert.KernelDiffIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the generated runs. -/
local notation "𝕄" => MT nD τ sig Unit (Elt F) ℕ (UR sig nD τ) ℕ

variable (m : (ℓ : Loc nD τ sig) → Buf (Elt F) ℓ) (ρ : Dev nD → PrngReg)

/-- The body on whole staging memrefs: the inputs' as they were, the result's at `result`, the scratch at anything. -/
theorem body_run (c : Dev nD) (i : grid0.Coords) (arg3 : Memref sig .tc .vmem S1x1024x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x144x512 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (arg12 : Memref sig .tc .vmem S2x512x1024 .f32) (harg12 : arg12.IsWhole) (arg13 : Memref sig .tc .vmem S2x512x1024 .f32) (harg13 : arg13.IsWhole)
    (x0 : Vec F S1x1024x128 .bf16) (x1 x2 : Vec F S1x8192x128 .bf16) (x3 : Vec F S1x1x16x144x512 .bf16) (x4 : Vec F S4x64 .f32) (x5 : Vec F S128x1 .f32)
    (E : Set ℕ) (K : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ ((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (result x0 x1 x2 x3 x4 x5) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K PUnit.unit)) : sProp 𝕄)
      ⊢ wp frame (wpE (defs₀ (F := F)) Variants.none (c : Thread nD τ) none) E (cc0_diff_attention (F := F) i arg3 harg3 arg4 harg4 arg5 harg5 arg6 harg6 arg7 harg7 arg8 harg8 arg9 harg9 arg10 harg10 arg11 harg11 arg12 harg12 arg13 harg13) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  iapply (run c i arg3 harg3 arg4 harg4 arg5 harg5 arg6 harg6 arg7 harg7 arg8 harg8 arg9 harg9 arg10 harg10 arg11 harg11 arg12 harg12 arg13 harg13 x0 x1 x2 x3 x4 x5 f6 fs0 fs1 fs2 fs3 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, ⟨%g, H6, %hg⟩, ⟨%gs0, HS0⟩, ⟨%gs1, HS1⟩, ⟨%gs2, HS2⟩, ⟨%gs3, HS3⟩⟩
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    subst hg
    exact funext fun y => View.read_writes_cons_hit_of_coords _ _ (Rect.unit (s := S1x1024x128) ![0, 0, 0] S1x1024x128.size inb_S1x1024x128_S1x1024x128_0_0_0) _ [] y y fun a => by
      match a with
      | ⟨0, _⟩ => exact ((Nat.zero_add _).trans (Nat.one_mul _)).symm
      | ⟨1, _⟩ => exact ((Nat.zero_add _).trans (Nat.one_mul _)).symm
      | ⟨2, _⟩ => exact ((Nat.zero_add _).trans (Nat.one_mul _)).symm
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

/-! ## What the outputs hold after each point -/

/-- What the outputs' staging buffers hold after the body at point `t`: the run's contents at
    the point's memrefs and input blocks. -/
def outsAt0 (c : Dev nD) (t : Fin cfg0.N) : Vec F S1x1024x128 .bf16 :=
  result (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every argument array ends unchanged, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelDiffIdeal.Run

end
-- ==== Proof.DiffArray.lean ====
/-
  Differential attention: the kernel's result array, entry by entry.
-/
module

public import proofs.«01_k».proof.Proof.DiffBlock
public import proofs.«01_k».proof.Proof.DiffFrame
public import Idealize.ShloMosaic.Lib.Pointwise.SelectCore

@[expose] public section

set_option maxRecDepth 16384

noncomputable section

namespace Cert.KernelDiffIdeal.Run

open Cert.KernelDiffIdeal.Gen Idealize.ShloMosaic.TcCoe Idealize.SL.Sem
open Idealize.ShloMosaic hiding ix1 ix2 ix3 ix4 ix5
open Idealize.ShloMosaic.ValueIdx
open Idealize.ShloMosaic.Pipeline (Dat)
open scoped BigOperators

/-! ## The result in closed form -/

/-- Channel `d` of head `h`. -/
def lane (h : Fin 12) (d : Fin 128) : Fin 1536 := ⟨h.val * 128 + d.val, by omega⟩
/-- Token `k` of batch `b`. -/
def token (b : Fin 2) (k : ℕ) : Fin 16384 := ⟨b.val * 8192 + k % 8192, by omega⟩

/-- The score of query `i` against key `k` in head `h` of batch `b`. -/
def headScore (q x : Vec Ideal S2x8192x1536 .bf16) (b : Fin 2) (h : Fin 12) (i : Fin 8192) (k : ℕ) : EReal :=
  ∑ d : Fin 128, (x (ix3 b (⟨k % 8192, Nat.mod_lt _ (by decide)⟩ : Fin 8192) (lane h d)) : EReal) * q (ix3 b i (lane h d))
/-- Channel `d` of the value at key `k`. -/
def headValue (v : Vec Ideal S16384x1536 .bf16) (b : Fin 2) (h : Fin 12) (d : Fin 128) (k : ℕ) : EReal :=
  v (ix2 (token b k) (lane h d))
/-- The difference of the two attentions, before the normalization. -/
def headMix (q x y : Vec Ideal S2x8192x1536 .bf16) (v : Vec Ideal S16384x1536 .bf16) (p : Vec Ideal S4x64 .f32)
    (b : Fin 2) (h : Fin 12) (i : Fin 8192) (d : Fin 128) : EReal :=
  Ideal.div (Diff.acc (headScore q x b h i) (headValue v b h d) 16) (Diff.acc (headScore q x b h i) (fun _ => 1) 16)
    - lam p * Ideal.div (Diff.acc (headScore q y b h i) (headValue v b h d) 16) (Diff.acc (headScore q y b h i) (fun _ => 1) 16)
/-- The head a channel belongs to, and its place there. -/
def headOf (e : Fin 1536) : Fin 12 := ⟨e.val / 128, by omega⟩
def placeOf (e : Fin 1536) : Fin 128 := ⟨e.val % 128, by omega⟩

/-- The result before its last reshape. -/
def G (q x y : Vec Ideal S2x8192x1536 .bf16) (v : Vec Ideal S16384x1536 .bf16) (p : Vec Ideal S4x64 .f32) (g : Vec Ideal S128 .f32) :
    Vec Ideal S2x8192x1536 .bf16 :=
  fun i => normed (headMix q x y v p (i 0) (headOf (i 2)) (i 1)) (fun e => g (ix1 e)) (placeOf (i 2))

/-- `G` at a batch, a query and a channel. -/
theorem G_apply (q x y : Vec Ideal S2x8192x1536 .bf16) (v : Vec Ideal S16384x1536 .bf16) (p : Vec Ideal S4x64 .f32) (g : Vec Ideal S128 .f32)
    (b : Fin 2) (i : Fin 8192) (e : Fin 1536) :
    G q x y v p g (ix3 b i e) = normed (headMix q x y v p b (headOf e) i) (fun u => g (ix1 u)) (placeOf e) := rfl

/-! ## The arrays the region finds -/

variable (m : (ℓ : Loc nD τ sig) → Buf (Elt Ideal) ℓ)

/-- The value blocks: the values transposed, over a row of ones, over rows of zeros. -/
def packed (v : Vec Ideal S16384x1536 .bf16) : Vec Ideal S2x12x16x144x512 .bf16 :=
  concatenate S2x12x16x144x512 3
    [⟨S2x12x16x128x512, transpose S2x12x16x128x512 [0, 3, 1, 4, 2] (shapeCast S2x16x512x12x128 v shapeCasts_S16384x1536_S2x16x512x12x128) transposes_S2x16x512x12x128_S2x12x16x128x512_0_3_1_4_2⟩,
     ⟨S2x12x16x1x512, broadcastInDim S2x12x16x1x512 ![] bcast_S_S2x12x16x1x512 (constant (F := Ideal) S_ .bf16 0x3F80#16)⟩,
     ⟨S2x12x16x15x512, broadcastInDim S2x12x16x15x512 ![] bcast_S_S2x12x16x15x512 (constant (F := Ideal) S_ .bf16 0x0000#16)⟩]
    concatenates_S2x12x16x128x512_S2x12x16x1x512_S2x12x16x15x512_S2x12x16x144x512_d3

theorem V_main_v4 (c : Dev nD) : V m c main_v4 = packed (m ((c : Thread nD τ).loc main_arg3)) := by
  show StableHlo.after (List.flatten [hostOps0]) (fun b => m (c, b)) (Proc.devRef .tc main_v4) = _
  simp only [hostOps0, List.flatten_cons, List.flatten_nil, List.append_nil]
  after_results
  rfl

theorem V_main_v5 (c : Dev nD) :
    V m c main_v5 = shapeCast S128x1 (m ((c : Thread nD τ).loc main_arg5)) shapeCasts_S128_S128x1 := by
  show StableHlo.after (List.flatten [hostOps0]) (fun b => m (c, b)) (Proc.devRef .tc main_v5) = _
  simp only [hostOps0, List.flatten_cons, List.flatten_nil, List.append_nil]
  after_results
  rfl

/-- Rows below 128 of a value block are the values. -/
theorem packed_value (v : Vec Ideal S16384x1536 .bf16) (b : Fin 2) (h : Fin 12) (n : Fin 16) (d : Fin 128) (k : Fin 512) :
    packed v (ix5 b h n (⟨d.val, by omega⟩ : Fin 144) k) = v (ix2 (token b (n.val * 512 + k.val)) (lane h d)) := by
  unfold packed
  refine (concatenate_cons_apply _ _ _ _ _ _ _).trans ((concatenateAt_cons _ _ _ _ _ _ _ _).trans
    ((dif_pos (show d.val < 128 from d.isLt)).trans ?_))
  refine (transpose_apply _ _ transposes_S2x16x512x12x128_S2x12x16x128x512_0_3_1_4_2 _ (ix5 b n k h d) fun a => match a with
    | ⟨0, _⟩ => rfl | ⟨1, _⟩ => rfl | ⟨2, _⟩ => rfl | ⟨3, _⟩ => rfl | ⟨4, _⟩ => rfl).trans ?_
  exact shapeCast_apply v shapeCasts_S16384x1536_S2x16x512x12x128 _ (ix2 (token b (n.val * 512 + k.val)) (lane h d))
    (by
      rewrite [Shape.rowMajor_val_two, Shape.rowMajor_val_five]
      show (b.val * 8192 + (n.val * 512 + k.val) % 8192) * 1536 + (h.val * 128 + d.val)
        = (((b.val * 16 + n.val) * 512 + k.val) * 12 + h.val) * 128 + d.val
      omega)

/-- Row 128 of a value block is all ones. -/
theorem packed_one (v : Vec Ideal S16384x1536 .bf16) (b : Fin 2) (h : Fin 12) (n : Fin 16) (k : Fin 512) :
    packed v (ix5 b h n (128 : Fin 144) k) = 1 := by
  unfold packed
  refine (concatenate_cons_apply _ _ _ _ _ _ _).trans ((concatenateAt_cons _ _ _ _ _ _ _ _).trans
    ((dif_neg (show ¬ (128 : ℕ) < 128 by omega)).trans ((concatenateAt_cons _ _ _ _ _ _ _ _).trans
    ((dif_pos (show (128 : ℕ) - 128 < 1 by omega)).trans ?_))))
  exact Ideal.ofBits_one_bf16

/-! ## The blocks at a grid point -/

theorem index0 : ∀ t : Fin grid0.N, win0_0.index t 0 = t.val / 96 ∧ win0_0.index t 1 = t.val % 8 ∧ win0_0.index t 2 = t.val / 8 % 12 := by decide +kernel
theorem index1 : ∀ t : Fin grid0.N, win0_1.index t 0 = t.val / 96 ∧ win0_1.index t 1 = 0 ∧ win0_1.index t 2 = t.val / 8 % 12 := by decide +kernel
theorem index2 : ∀ t : Fin grid0.N, win0_2.index t 0 = t.val / 96 ∧ win0_2.index t 1 = 0 ∧ win0_2.index t 2 = t.val / 8 % 12 := by decide +kernel
theorem index3 : ∀ t : Fin grid0.N, win0_3.index t 0 = t.val / 96 ∧ win0_3.index t 1 = t.val / 8 % 12 ∧ win0_3.index t 2 = 0
    ∧ win0_3.index t 3 = 0 ∧ win0_3.index t 4 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 96 ∧ win0_6.index t 1 = t.val % 8 ∧ win0_6.index t 2 = t.val / 8 % 12 := by decide +kernel

theorem N_val (t : Fin cfg0.N) : t.val < 192 := lt_of_lt_of_eq t.isLt (show cfg0.N = 192 by decide)

/-- The batch, the head and the query of a grid point. -/
def batch (t : Fin cfg0.N) : Fin 2 := ⟨t.val / 96, by have := N_val t; omega⟩
def head (t : Fin cfg0.N) : Fin 12 := ⟨t.val / 8 % 12, by omega⟩
def query (t : Fin cfg0.N) (r : Fin 1024) : Fin 8192 := ⟨t.val % 8 * 1024 + r.val, by omega⟩

theorem block0 (c : Dev nD) (t : Fin cfg0.N) (r : Fin 1024) (d : Fin 128) :
    iblk m c 0 t (ix3 (0 : Fin 1) r d) = m ((c : Thread nD τ).loc main_arg0) (ix3 (batch t) (query t r) (lane (head t) d)) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1 + 1 * 0 = t.val / 96; rw [(index0 t).1]; omega
  | ⟨1, _⟩ => show win0_0.index t 1 * 1024 + 1 * r.val = _; rw [(index0 t).2.1, one_mul]; rfl
  | ⟨2, _⟩ => show win0_0.index t 2 * 128 + 1 * d.val = _; rw [(index0 t).2.2, one_mul]; rfl

theorem block1 (c : Dev nD) (t : Fin cfg0.N) (k : Fin 8192) (d : Fin 128) :
    iblk m c 1 t (ix3 (0 : Fin 1) k d) = m ((c : Thread nD τ).loc main_arg1) (ix3 (batch t) k (lane (head t) d)) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 1 + 1 * 0 = t.val / 96; rw [(index1 t).1]; omega
  | ⟨1, _⟩ => show win0_1.index t 1 * 8192 + 1 * k.val = k.val; rw [(index1 t).2.1]; omega
  | ⟨2, _⟩ => show win0_1.index t 2 * 128 + 1 * d.val = _; rw [(index1 t).2.2, one_mul]; rfl

theorem block2 (c : Dev nD) (t : Fin cfg0.N) (k : Fin 8192) (d : Fin 128) :
    iblk m c 2 t (ix3 (0 : Fin 1) k d) = m ((c : Thread nD τ).loc main_arg2) (ix3 (batch t) k (lane (head t) d)) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = t.val / 96; rw [(index2 t).1]; omega
  | ⟨1, _⟩ => show win0_2.index t 1 * 8192 + 1 * k.val = k.val; rw [(index2 t).2.1]; omega
  | ⟨2, _⟩ => show win0_2.index t 2 * 128 + 1 * d.val = _; rw [(index2 t).2.2, one_mul]; rfl

theorem block3 (c : Dev nD) (t : Fin cfg0.N) (n : Fin 16) (d : Fin 144) (k : Fin 512) :
    iblk m c 3 t (ix5 (0 : Fin 1) (0 : Fin 1) n d k)
      = packed (m ((c : Thread nD τ).loc main_arg3)) (ix5 (batch t) (head t) n d k) := by
  unfold iblk
  rw [View.read_apply]
  show V m c main_v4 _ = _
  rw [V_main_v4]
  congr 1
  funext a; apply Fin.ext
  match a with
  | ⟨0, _⟩ => show win0_3.index t 0 * 1 + 1 * 0 = t.val / 96; rw [(index3 t).1]; omega
  | ⟨1, _⟩ => show win0_3.index t 1 * 1 + 1 * 0 = t.val / 8 % 12; rw [(index3 t).2.1]; omega
  | ⟨2, _⟩ => show win0_3.index t 2 * 16 + 1 * n.val = n.val; rw [(index3 t).2.2.1]; omega
  | ⟨3, _⟩ => show win0_3.index t 3 * 144 + 1 * d.val = d.val; rw [(index3 t).2.2.2.1]; omega
  | ⟨4, _⟩ => show win0_3.index t 4 * 512 + 1 * k.val = k.val; rw [(index3 t).2.2.2.2]; omega

theorem block4 (c : Dev nD) (t : Fin cfg0.N) (i : Fin 4) (j : Fin 64) :
    iblk m c 4 t (ix2 i j) = m ((c : Thread nD τ).loc main_arg4) (ix2 i j) := by
  unfold iblk
  rw [View.read_apply]
  show V m c main_arg4 _ = m ((c : Thread nD τ).loc main_arg4) _
  rw [V_main_arg4]
  congr 1
  funext a; apply Fin.ext
  match a with
  | ⟨0, _⟩ => show win0_4.index t 0 * 4 + 1 * i.val = i.val; rw [(index4 t).1]; omega
  | ⟨1, _⟩ => show win0_4.index t 1 * 64 + 1 * j.val = j.val; rw [(index4 t).2]; omega

theorem block5 (c : Dev nD) (t : Fin cfg0.N) (d : Fin 128) :
    iblk m c 5 t (ix2 d (0 : Fin 1)) = m ((c : Thread nD τ).loc main_arg5) (ix1 d) := by
  unfold iblk
  rw [View.read_apply]
  show V m c main_v5 _ = _
  rw [V_main_v5]
  refine shapeCast_apply _ shapeCasts_S128_S128x1 _ (ix1 d) ?_
  rewrite [Shape.rowMajor_val_one, Shape.rowMajor_val_two]
  show d.val = (win0_5.index t 0 * 128 + 1 * d.val) * 1 + (win0_5.index t 1 * 1 + 1 * 0)
  rw [(index5 t).1, (index5 t).2]; omega

/-! ## What a point leaves -/

theorem score_first (c : Dev nD) (t : Fin cfg0.N) (r : Fin 1024) :
    score (iblk m c 0 t) (iblk m c 1 t) r
      = headScore (m ((c : Thread nD τ).loc main_arg0)) (m ((c : Thread nD τ).loc main_arg1)) (batch t) (head t) (query t r) :=
  funext fun k => Finset.sum_congr rfl fun d _ => congrArg₂ (fun a b : EReal => a * b) (block1 m c t _ d) (block0 m c t r d)

theorem score_second (c : Dev nD) (t : Fin cfg0.N) (r : Fin 1024) :
    score (iblk m c 0 t) (iblk m c 2 t) r
      = headScore (m ((c : Thread nD τ).loc main_arg0)) (m ((c : Thread nD τ).loc main_arg2)) (batch t) (head t) (query t r) :=
  funext fun k => Finset.sum_congr rfl fun d _ => congrArg₂ (fun a b : EReal => a * b) (block2 m c t _ d) (block0 m c t r d)

theorem value_row (c : Dev nD) (t : Fin cfg0.N) (d : Fin 128) :
    value (iblk m c 3 t) ⟨d.val, by omega⟩ = headValue (m ((c : Thread nD τ).loc main_arg3)) (batch t) (head t) d := by
  funext k
  refine (block3 m c t _ _ _).trans ((packed_value _ _ _ _ d _).trans ?_)
  have e : token (batch t) (k / 512 % 16 * 512 + k % 512) = token (batch t) k := by
    apply Fin.ext
    show (batch t).val * 8192 + (k / 512 % 16 * 512 + k % 512) % 8192 = (batch t).val * 8192 + k % 8192
    omega
  exact congrArg (fun u => m ((c : Thread nD τ).loc main_arg3) (ix2 u (lane (head t) d))) e

theorem value_one (c : Dev nD) (t : Fin cfg0.N) : value (iblk m c 3 t) 128 = fun _ => 1 :=
  funext fun _ => (block3 m c t _ _ _).trans (packed_one _ _ _ _ _)

theorem lam_point (c : Dev nD) (t : Fin cfg0.N) : lam (iblk m c 4 t) = lam (m ((c : Thread nD τ).loc main_arg4)) := by
  unfold lam
  simp only [block4]

/-- The result's block at a point, entry by entry. -/
theorem stored_apply (c : Dev nD) (t : Fin cfg0.N) (r : Fin 1024) (d : Fin 128) :
    outsAt0 m c t (ix3 (0 : Fin 1) r d)
      = normed (headMix (m ((c : Thread nD τ).loc main_arg0)) (m ((c : Thread nD τ).loc main_arg1)) (m ((c : Thread nD τ).loc main_arg2))
          (m ((c : Thread nD τ).loc main_arg3)) (m ((c : Thread nD τ).loc main_arg4)) (batch t) (head t) (query t r))
          (fun e => m ((c : Thread nD τ).loc main_arg5) (ix1 e)) d := by
  refine (result_apply _ _ _ _ _ _ r d).trans ?_
  rw [score_first, score_second, value_one, lam_point]
  refine congrArg₂ (fun o g : Fin 128 → EReal => normed o g d) (funext fun e => ?_) (funext fun e => block5 m c t e)
  rw [value_row]
  rfl

/-- Every grid point writes back its own block of `G`. -/
theorem flushed_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  refine funext fun (j : S1x1024x128.Idx) => ?_
  have ht := N_val t
  have h0 : (j 0).val < 1 := (j 0).isLt
  have h1 : (j 1).val < 1024 := (j 1).isLt
  have h2 : (j 2).val < 128 := (j 2).isLt
  have e : ((cfg0.win 6).blk t).view.emb j = (ix3 (batch t) (query t (j 1)) (lane (head t) (j 2)) : S2x8192x1536.Idx) := by
    funext a; apply Fin.ext
    match a with
    | ⟨0, _⟩ => show win0_6.index t 0 * 1 + 1 * (j 0).val = t.val / 96; rw [(index6 t).1]; omega
    | ⟨1, _⟩ => show win0_6.index t 1 * 1024 + 1 * (j 1).val = _; rw [(index6 t).2.1, one_mul]; rfl
    | ⟨2, _⟩ => show win0_6.index t 2 * 128 + 1 * (j 2).val = _; rw [(index6 t).2.2, one_mul]; rfl
  rw [View.read_apply, e]
  have ej : j = ix3 (0 : Fin 1) (j 1) (j 2) := by
    funext a
    match a with
    | ⟨0, _⟩ => exact Fin.ext (by show (j 0).val = 0; omega)
    | ⟨1, _⟩ => rfl
    | ⟨2, _⟩ => rfl
  refine (congrArg (outsAt0 m c t) ej).trans ((stored_apply m c t (j 1) (j 2)).trans ?_)
  have eh : headOf (lane (head t) (j 2)) = head t :=
    Fin.ext (by show ((head t).val * 128 + (j 2).val) / 128 = (head t).val; omega)
  have ep : placeOf (lane (head t) (j 2)) = j 2 :=
    Fin.ext (by show ((head t).val * 128 + (j 2).val) % 128 = (j 2).val; omega)
  refine Eq.trans ?_ (G_apply _ _ _ _ _ _ _ _ _).symm
  rw [eh, ep]

/-- Every entry of the result lies in some point's block. -/
theorem cover (i : S2x8192x1536.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 1536 := (i 2).isLt
  have hN : cfg0.N = 192 := by decide
  obtain ⟨t, ht⟩ : ∃ t : Fin grid0.N, t.val = ((i 0).val * 12 + (i 2).val / 128) * 8 + (i 1).val / 1024 :=
    ⟨⟨((i 0).val * 12 + (i 2).val / 128) * 8 + (i 1).val / 1024, by show _ < cfg0.N; rw [hN]; omega⟩, rfl⟩
  refine ⟨t, flush0_6 t, ?_⟩
  show i ∈ ((View.whole main_v6).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [(index6 t).1]; omega
  | ⟨1, _⟩ =>
    show win0_6.index t 1 * 1024 ≤ (i 1).val ∧ (i 1).val < win0_6.index t 1 * 1024 + 1024
    rw [(index6 t).2.1]; omega
  | ⟨2, _⟩ =>
    show win0_6.index t 2 * 128 ≤ (i 2).val ∧ (i 2).val < win0_6.index t 2 * 128 + 128
    rw [(index6 t).2.2]; omega

/-- The array after the region is `G` of the arguments. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) cover

/-- The result after the run is `G` of the arguments, reshaped. -/
theorem last_line (c : Dev nD) : Pipeline.afterTail₀ cfgs (dats m) 0 (V0 m) [hostOps1] c main_v7
    = shapeCast S16384x1536 (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        shapeCasts_S2x8192x1536_S16384x1536 := by
  unfold Pipeline.afterTail₀
  simp only [hostOps1, List.flatten_cons, List.flatten_nil, List.append_nil]
  after_results
  have e := (Pipeline.withArrays_arr spec0 launch0.win.arr_inj c (V0 m c) (fun w => (dats m 0 c).arrAt w cfg0.N) 6).trans (final m c)
  exact congrArg (fun u : Vec Ideal S2x8192x1536 .bf16 => shapeCast S16384x1536 u shapeCasts_S2x8192x1536_S16384x1536) e

theorem result_at (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v7)
      = shapeCast S16384x1536 (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
        shapeCasts_S2x8192x1536_S16384x1536 :=
  ((h c).2 main_v7 (Pipeline.mem_restRefs_of main_v7 (by decide) (by decide))).trans (last_line m c)

end Cert.KernelDiffIdeal.Run

end
-- ==== Proof.DiffReference.lean ====
/-
  Differential attention: the reference's result, entry by entry, and that it is the kernel's.
-/
module

public import proofs.«01_k».proof.Proof.DiffArray
public import proofs.«01_k».proof.Proof.Gen.ReferenceDiffIdeal.Read
public import Idealize.ShloMosaic.Lib.ValueIdxRank1

@[expose] public section

set_option maxRecDepth 16384

noncomputable section

namespace Cert.DiffReference

open Cert.ReferenceDiffIdeal Cert.ReferenceDiffIdeal.Gen Cert.ReferenceDiffIdeal.Read
open Cert.KernelDiffIdeal.Run (lane token headOf placeOf headScore headValue headMix normed lam G G_apply bits_bot)
open Idealize.ShloMosaic hiding ix1 ix2 ix3 ix4 ix5
open Idealize.ShloMosaic.ValueIdx
open scoped BigOperators

variable (q x y : Vec Ideal S2x8192x1536 .bf16) (v : Vec Ideal S16384x1536 .bf16) (p : Vec Ideal S4x64 .f32) (g : Vec Ideal S128 .f32)
variable (b : Fin 2) (h : Fin 12) (i : Fin 8192)

/-! ## Where the reshapes read -/

theorem idx0 (d : Fin 128) : idx_main_v0 (ix4 b i h d) = ix3 b i (lane h d) := by
  funext a
  apply Fin.ext
  match a with
  | ⟨0, _⟩ => show (((b.val * 8192 + i.val) * 12 + h.val) * 128 + d.val) / 12582912 = b.val; omega
  | ⟨1, _⟩ => show (((b.val * 8192 + i.val) * 12 + h.val) * 128 + d.val) / 1536 % 8192 = i.val; omega
  | ⟨2, _⟩ => show (((b.val * 8192 + i.val) * 12 + h.val) * 128 + d.val) % 1536 = h.val * 128 + d.val; omega

theorem idx1 (d : Fin 128) : idx_main_v1 (ix4 b i h d) = ix3 b i (lane h d) := idx0 b h i d

theorem idx3 (d : Fin 128) : idx_main_v3 (ix4 b i h d) = ix2 (token b i.val) (lane h d) := by
  funext a
  apply Fin.ext
  match a with
  | ⟨0, _⟩ => show (((b.val * 8192 + i.val) * 12 + h.val) * 128 + d.val) / 1536 = b.val * 8192 + i.val % 8192; omega
  | ⟨1, _⟩ => show (((b.val * 8192 + i.val) * 12 + h.val) * 128 + d.val) % 1536 = h.val * 128 + d.val; omega

/-! ## One attention map -/

theorem score_eq (k : Fin 8192) : val_main_v20 (F := Ideal) q x (ix4 b h i k) = headScore q x b h i k.val := by
  rw [val_main_v20_apply]
  unfold headScore
  refine Finset.sum_congr rfl fun d _ => ?_
  have e0 : lidx_main_v20 (ix4 b h i k) d = ix4 b i h d :=
    funext fun a => match a with | ⟨0, _⟩ => rfl | ⟨1, _⟩ => rfl | ⟨2, _⟩ => rfl | ⟨3, _⟩ => rfl
  have e1 : ridx_main_v20 (ix4 b h i k) d = ix4 b k h d :=
    funext fun a => match a with | ⟨0, _⟩ => rfl | ⟨1, _⟩ => rfl | ⟨2, _⟩ => rfl | ⟨3, _⟩ => rfl
  have ek : (⟨k.val % 8192, Nat.mod_lt _ (by decide)⟩ : Fin 8192) = k := Fin.ext (Nat.mod_eq_of_lt k.isLt)
  rw [e0, e1, val_main_v0_apply, val_main_v1_apply, idx0, idx1, ek]
  exact mul_comm _ _

theorem fold_range (n : ℕ) (f : ℕ → EReal) :
    ((Finset.univ : Finset (Fin n)).fold max ⊥ fun k => f k.val) = (Finset.range n).sup f := by
  have e : ((Finset.univ : Finset (Fin n)).fold max ⊥ fun k => f k.val) = Finset.univ.sup fun k : Fin n => f k.val := rfl
  rw [e]
  exact le_antisymm (Finset.sup_le fun k _ => Finset.le_sup (f := f) (Finset.mem_range.2 k.isLt))
    (Finset.sup_le fun k hk => Finset.le_sup (f := fun k : Fin n => f k.val) (Finset.mem_univ ⟨k, Finset.mem_range.1 hk⟩))

theorem most_eq : val_main_v21 (F := Ideal) q x (ix3 b h i) = Diff.most 8192 (headScore q x b h i) := by
  unfold val_main_v21 Diff.most
  refine (Host.reduce_eq_fold_single (FloatOps.maximumf (F := Ideal) (φ := .f32)) _ _ reducesTo_S2x12x8192x8192_S2x12x8192_d3 (by decide) h_S_ _).trans ?_
  refine Eq.trans ?_ (fold_range 8192 (headScore q x b h i))
  have e0 : val_main_cst_2 (F := Ideal) (Shape.Idx.first h_S_) = (⊥ : EReal) := bits_bot
  rw [e0]
  refine congrArg (fun f => Finset.fold max ⊥ f Finset.univ) (funext fun k => ?_)
  refine Eq.trans (congrArg (val_main_v20 (F := Ideal) q x) (funext fun a => Fin.ext ?_)) (score_eq q x b h i k)
  match a with | ⟨0, _⟩ => rfl | ⟨1, _⟩ => rfl | ⟨2, _⟩ => rfl | ⟨3, _⟩ => rfl

theorem bits_two : Ideal.ofBits .f32 0x40000000#32 = ((2 : ℝ) : EReal) := by
  simp [Ideal.ofBits, Ideal.ieee, -EReal.coe_mul]; norm_num

theorem weight_eq (k : Fin 8192) : val_main_v26 (F := Ideal) q x (ix4 b h i k) = Diff.weight 8192 (headScore q x b h i) k.val := by
  have e : idx_main_v22 (idx_main_v23 (ix4 b h i k)) = ix3 b h i :=
    funext fun a => match a with | ⟨0, _⟩ => rfl | ⟨1, _⟩ => rfl | ⟨2, _⟩ => rfl
  have two : (FloatOps.ofBits (F := Ideal) .f32 0x40000000#32 : EReal) = ((2 : ℝ) : EReal) := bits_two
  rw [val_main_v26_apply, val_main_v24_apply, score_eq, val_main_v23_apply, val_main_v22_apply, val_main_v25_apply, val_main_cst_3_apply,
    e, most_eq, two]
  exact Diff.pow_two _

theorem total_eq : val_main_v27 (F := Ideal) q x (ix3 b h i) = ∑ k ∈ Finset.range 8192, Diff.weight 8192 (headScore q x b h i) k := by
  rw [val_main_v27_apply, Finset.sum_range]
  refine (congrArg (· + _) (show val_main_cst_4 (F := Ideal) (Shape.Idx.first h_S_) = (0 : EReal) from Ideal.ofBits_zero_f32)).trans
    ((zero_add _).trans (Finset.sum_congr rfl fun k _ => ?_))
  have e : idx_main_v27 (ix3 b h i) k = ix4 b h i k :=
    funext fun a => match a with | ⟨0, _⟩ => rfl | ⟨1, _⟩ => rfl | ⟨2, _⟩ => rfl | ⟨3, _⟩ => rfl
  rw [e]
  exact weight_eq q x b h i k

theorem share_eq (k : Fin 8192) : val_main_v30 (F := Ideal) q x (ix4 b h i k)
    = Ideal.div (Diff.weight 8192 (headScore q x b h i) k.val) (∑ k ∈ Finset.range 8192, Diff.weight 8192 (headScore q x b h i) k) := by
  have e : idx_main_v28 (idx_main_v29 (ix4 b h i k)) = ix3 b h i :=
    funext fun a => match a with | ⟨0, _⟩ => rfl | ⟨1, _⟩ => rfl | ⟨2, _⟩ => rfl
  rw [val_main_v30_apply, weight_eq, val_main_v29_apply, val_main_v28_apply, e, total_eq]
  rfl

/-- The second map is the first one's text over the second keys. -/
theorem share_b : val_main_v41 (F := Ideal) q y = val_main_v30 (F := Ideal) q y := rfl

/-! ## The factor -/

theorem sum_row (f : S64.Idx → EReal) : ∑ j : S64.Idx, f j = ∑ j : Fin 64, f (ix1 j) :=
  (Equiv.sum_comp (idxEquiv1 (n := 64)).symm f).symm

theorem lam_eq (j : S_.Idx) : val_main_v19 (F := Ideal) p j = lam p := by
  have z : (val_main_cst (F := Ideal)) (Shape.Idx.first h_S_) = (0 : EReal) := Ideal.ofBits_zero_f32
  have z0 : (val_main_cst_0 (F := Ideal)) (Shape.Idx.first h_S_) = (0 : EReal) := Ideal.ofBits_zero_f32
  have r0 : ∀ k : Fin 64, val_main_v8 (F := Ideal) p (ix1 k) = (p (ix2 (0 : Fin 4) k) : EReal) * p (ix2 (1 : Fin 4) k) := fun k => by
    have e0 : idx_main_v4 (idx_main_v5 (ix1 k)) = ix2 (0 : Fin 4) k := funext fun a => Fin.ext (by
      match a with
      | ⟨0, _⟩ => rfl
      | ⟨1, _⟩ => exact Nat.mod_eq_of_lt k.isLt)
    have e1 : idx_main_v6 (idx_main_v7 (ix1 k)) = ix2 (1 : Fin 4) k := funext fun a => Fin.ext (by
      match a with
      | ⟨0, _⟩ => rfl
      | ⟨1, _⟩ => exact Nat.mod_eq_of_lt k.isLt)
    rw [val_main_v8_apply, val_main_v5_apply, val_main_v4_apply, val_main_v7_apply, val_main_v6_apply, e0, e1]
    rfl
  have r1 : ∀ k : Fin 64, val_main_v15 (F := Ideal) p (ix1 k) = (p (ix2 (2 : Fin 4) k) : EReal) * p (ix2 (3 : Fin 4) k) := fun k => by
    have e0 : idx_main_v11 (idx_main_v12 (ix1 k)) = ix2 (2 : Fin 4) k := funext fun a => Fin.ext (by
      match a with
      | ⟨0, _⟩ => rfl
      | ⟨1, _⟩ => exact Nat.mod_eq_of_lt k.isLt)
    have e1 : idx_main_v13 (idx_main_v14 (ix1 k)) = ix2 (3 : Fin 4) k := funext fun a => Fin.ext (by
      match a with
      | ⟨0, _⟩ => rfl
      | ⟨1, _⟩ => exact Nat.mod_eq_of_lt k.isLt)
    rw [val_main_v15_apply, val_main_v12_apply, val_main_v11_apply, val_main_v14_apply, val_main_v13_apply, e0, e1]
    rfl
  rw [val_main_v19_apply, val_main_v18_apply, val_main_v10_apply, val_main_v17_apply, val_main_v9_apply, val_main_v16_apply, z, z0,
    sum_row, sum_row, zero_add, zero_add, Finset.sum_congr rfl fun k _ => r0 k, Finset.sum_congr rfl fun k _ => r1 k]
  rfl

/-! ## The product with the values, and the normalization -/

theorem out_eq (d : Fin 128) : val_main_v47 (F := Ideal) q x y v p (ix4 b i h d)
    = ∑ k ∈ Finset.range 8192, headValue v b h d k
        * (Ideal.div (Diff.weight 8192 (headScore q x b h i) k) (∑ k ∈ Finset.range 8192, Diff.weight 8192 (headScore q x b h i) k)
          - lam p * Ideal.div (Diff.weight 8192 (headScore q y b h i) k) (∑ k ∈ Finset.range 8192, Diff.weight 8192 (headScore q y b h i) k)) := by
  have e : idx_main_v47 (ix4 b i h d) = ix4 b h d i :=
    funext fun a => match a with | ⟨0, _⟩ => rfl | ⟨1, _⟩ => rfl | ⟨2, _⟩ => rfl | ⟨3, _⟩ => rfl
  rw [val_main_v47_apply, e, val_main_v46_apply, Finset.sum_range]
  refine Finset.sum_congr rfl fun k _ => ?_
  have el : lidx_main_v46 (ix4 b h d i) k = ix4 b k h d :=
    funext fun a => match a with | ⟨0, _⟩ => rfl | ⟨1, _⟩ => rfl | ⟨2, _⟩ => rfl | ⟨3, _⟩ => rfl
  have er : ridx_main_v46 (ix4 b h d i) k = ix4 b h i k :=
    funext fun a => match a with | ⟨0, _⟩ => rfl | ⟨1, _⟩ => rfl | ⟨2, _⟩ => rfl | ⟨3, _⟩ => rfl
  rw [el, er, val_main_v3_apply, idx3, val_main_v45_apply, val_main_v44_apply, val_main_v43_apply, val_main_v42_apply, lam_eq, share_b,
    share_eq, share_eq]
  rfl

theorem normed_eq (d : Fin 128) : val_main_v62 (F := Ideal) q x y v p g (ix4 b i h d)
    = normed (fun e => val_main_v47 (F := Ideal) q x y v p (ix4 b i h e)) (fun e => g (ix1 e)) d := by
  have e0 : idx_main_v50 (idx_main_v56 (ix4 b i h d)) = ix3 b i h :=
    funext fun a => match a with | ⟨0, _⟩ => rfl | ⟨1, _⟩ => rfl | ⟨2, _⟩ => rfl
  have e1 : ∀ k, idx_main_v49 (ix3 b i h) k = ix4 b i h k :=
    fun k => funext fun a => match a with | ⟨0, _⟩ => rfl | ⟨1, _⟩ => rfl | ⟨2, _⟩ => rfl | ⟨3, _⟩ => rfl
  have e2 : idx_main_v58 (idx_main_v59 (ix4 b i h d)) = ix1 d := funext fun a => match a with | ⟨0, _⟩ => rfl
  have z : (val_main_cst_8 (F := Ideal)) (Shape.Idx.first h_S_) = (0 : EReal) := Ideal.ofBits_zero_f32
  have s : val_main_v49 (F := Ideal) q x y v p (ix3 b i h)
      = ∑ e : Fin 128, (val_main_v47 (F := Ideal) q x y v p (ix4 b i h e) : EReal) * val_main_v47 (F := Ideal) q x y v p (ix4 b i h e) := by
    rw [val_main_v49_apply, z, zero_add]
    refine Finset.sum_congr rfl fun k _ => ?_
    rw [e1, val_main_v48_apply]
    rfl
  rw [val_main_v62_apply, val_main_v60_apply, val_main_v57_apply, val_main_v56_apply, val_main_v55_apply, val_main_v54_apply,
    val_main_v52_apply, val_main_v50_apply, e0, s, val_main_v51_apply, val_main_v53_apply, val_main_v59_apply, val_main_v58_apply, e2,
    val_main_v61_apply]
  rfl

/-! ## With real arguments -/

section Real

variable (hq : ∀ j, ∃ r : ℝ, q j = (r : EReal)) (hx : ∀ j, ∃ r : ℝ, x j = (r : EReal)) (hy : ∀ j, ∃ r : ℝ, y j = (r : EReal))
  (hv : ∀ j, ∃ r : ℝ, v j = (r : EReal)) (hp : ∀ j, ∃ r : ℝ, p j = (r : EReal))

include hq hx in
theorem score_real (k : ℕ) : ∃ r : ℝ, headScore q x b h i k = (r : EReal) := by
  choose rq hq using hq
  choose rx hx using hx
  unfold headScore
  simp only [hq, hx, ← EReal.coe_mul, ← Diff.coe_sum]
  exact ⟨_, rfl⟩

theorem small_real : ∃ r : ℝ, Ideal.ofBits .f32 0x3E4CCCCD#32 = (r : EReal) := by
  simp only [Ideal.ofBits, Ideal.ieee]
  rw [if_neg (by decide), if_neg (by decide)]
  exact ⟨_, rfl⟩

include hp in
theorem lam_real : ∃ r : ℝ, lam p = (r : EReal) := by
  choose rp hp using hp
  obtain ⟨c, hc⟩ := small_real
  unfold lam
  simp only [hp, hc, ← EReal.coe_mul, ← Diff.coe_sum, Ideal.exp_coe, ← EReal.coe_sub, ← EReal.coe_add]
  exact ⟨_, rfl⟩

include hq hx hy hv hp in
/-- The reference weighs the values by the difference of the two maps; the kernel subtracts the two weighted sums. -/
theorem mix_eq (d : Fin 128) : val_main_v47 (F := Ideal) q x y v p (ix4 b i h d) = headMix q x y v p b h i d :=
  (out_eq q x y v p b h i d).trans
    (Diff.combine 8192 (headScore q x b h i) (headScore q y b h i) (headValue v b h d) (by decide) (lam p)
      (score_real q x b h i hq hx) (score_real q y b h i hq hy) (fun _ => hv _) (lam_real p hp)).symm

include hq hx hy hv hp in
theorem reference_eq (hs : S2x8192x1536.ShapeCasts S16384x1536) :
    val_main_v64 (F := Ideal) q x y v p g = shapeCast S16384x1536 (G q x y v p g) hs := by
  funext j
  have h0 : (j 0).val < 16384 := (j 0).isLt
  have h1 : (j 1).val < 1536 := (j 1).isLt
  obtain ⟨t, ht⟩ : ∃ t : Fin 2, t.val = (j 0).val / 8192 := ⟨⟨(j 0).val / 8192, by omega⟩, rfl⟩
  obtain ⟨u, hu⟩ : ∃ u : Fin 8192, u.val = (j 0).val % 8192 := ⟨⟨(j 0).val % 8192, by omega⟩, rfl⟩
  have e : idx_main_v63 j = ix4 t u (headOf (j 1)) (placeOf (j 1)) := by
    funext a
    apply Fin.ext
    match a with
    | ⟨0, _⟩ => show ((j 0).val * 1536 + (j 1).val) / 12582912 = t.val; omega
    | ⟨1, _⟩ => show ((j 0).val * 1536 + (j 1).val) / 1536 % 8192 = u.val; omega
    | ⟨2, _⟩ => show ((j 0).val * 1536 + (j 1).val) / 128 % 12 = (j 1).val / 128; omega
    | ⟨3, _⟩ => show ((j 0).val * 1536 + (j 1).val) % 128 = (j 1).val % 128; omega
  rw [val_main_v64_apply, val_main_v63_apply, e, normed_eq]
  refine Eq.trans ?_ (shapeCast_apply (G q x y v p g) hs j (ix3 t u (j 1)) ?_).symm
  · refine Eq.trans ?_ (G_apply q x y v p g t u (j 1)).symm
    exact congrArg (fun o => normed o (fun e => g (ix1 e)) (placeOf (j 1))) (funext fun d => mix_eq q x y v p t (headOf (j 1)) u hq hx hy hv hp d)
  · rewrite [Shape.rowMajor_val_two, Shape.rowMajor_val_three]
    show (t.val * 8192 + u.val) * 1536 + (j 1).val = (j 0).val * 1536 + (j 1).val
    omega

end Real

end Cert.DiffReference

end
-- ==== Proof.DiffValue.lean ====
/-
  Differential attention: kernel and reference end with the same result, entry by entry, when the arguments the attention reads are real.
-/
module

public import proofs.«01_k».proof.Proof.DiffFinite
public import proofs.«01_k».proof.Proof.DiffReference

@[expose] public section

set_option maxRecDepth 16384

noncomputable section

namespace Cert.DiffValue

open Idealize.ShloMosaic Idealize.ShloMosaic.TcCoe Idealize.SL.Sem
open Cert.KernelDiffIdeal Cert.KernelDiffIdeal.Gen Cert.KernelDiffIdeal.Run

/-- Kernel and reference end with the same result, entry by entry, from equal arguments. -/
theorem algebraic : Cert.algebraic_KernelDiffIdeal_ReferenceDiffIdeal_pre_diff_finite := by
  intro m g m' g' hpre hargs
  refine ⟨fun c => shapeCast S16384x1536 (G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) shapeCasts_S2x8192x1536_S16384x1536, ?_, ?_⟩
  · exact (θ_run Cert.KernelDiffIdeal.defs _ _).mono (fun r h c => ⟨result_at m r h.1 c, h.2 c⟩) (θ_run_and (run_main m g) (unchanged m g))
  · refine (θ_run Cert.ReferenceDiffIdeal.defs _ _).mono (fun r h c => ⟨(h c).1.trans ?_, (h c).2⟩) (Cert.ReferenceDiffIdeal.Value.run m' g')
    have ha := hargs c
    have hf := Cert.DiffFinite.finite _ _ _ _ _ _ (hpre c)
    refine (Cert.ReferenceDiffIdeal.Read.val_main_v64_eq (F := Ideal) _ _).trans ?_
    rw [ha.1, ha.2.1, ha.2.2.1, ha.2.2.2.1, ha.2.2.2.2.1, ha.2.2.2.2.2]
    exact Cert.DiffReference.reference_eq _ _ _ _ _ _ hf.1 hf.2.1 hf.2.2.1 hf.2.2.2.1 hf.2.2.2.2 _

/-- The reference runs, leaves its arguments unchanged and every semaphore counter at zero. -/
theorem reference_quiescent : Cert.quiescent_ReferenceDiffIdeal := fun m g _ =>
  (θ_run Cert.ReferenceDiffIdeal.defs _ _).mono (fun _ h => ⟨fun c => (h c).2, sem_eq_zero_of_no_sems rfl _⟩)
    (Cert.ReferenceDiffIdeal.Value.run m g)

end Cert.DiffValue

end
-- ==== Proof.GatesValue.lean ====
/-
  The projection of the gate columns, `x @ w + b`: the value of the kernel's result.
-/
module

public import proofs.«01_k».proof.Defs
public import proofs.«01_k».proof.Proof.Common
public import proofs.«01_k».proof.Proof.Gen.KernelGatesIdeal.Value
public import proofs.«01_k».proof.Proof.Gen.ReferenceGatesIdeal.Read

@[expose] public section

noncomputable section

namespace Cert.GatesValue

open Cert.KernelGatesIdeal Cert.KernelGatesIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- The result, entry by entry: `∑ₖ x[r,k] · w[k,q] + b[q]`. -/
def G (x : Vec Ideal S32768x4096 .bf16) (w : Vec Ideal S4096x128 .bf16) (b : Vec Ideal S1x128 .f32) :
    Vec Ideal S32768x128 .f32 :=
  fun i => (∑ k : Fin 4096, x (ix2 (i 0) k) * w (ix2 k (i 1))) + b (ix2 0 (i 1))

/-- What one grid point leaves in its output block, entry by entry. -/
theorem block_apply (x : Vec Ideal S1024x4096 .bf16) (w : Vec Ideal S4096x128 .bf16) (b : Vec Ideal S1x128 .f32)
    (r : Fin 1024) (q : Fin 128) :
    out0_3 x w b (ix2 r q) = (∑ k : Fin 4096, x (ix2 r k) * w (ix2 k q)) + b (ix2 0 q) := by
  unfold out0_3
  rw [View.canon_unit_zero Common.zero2]
  unfold k0_pay1
  simp only [View.ld_unit_zero (S := S1024x4096) Common.zero2, View.ld_unit_zero (S := S4096x128) Common.zero2,
    View.ld_unit_zero (S := S1x128) Common.zero2]
  refine congrArg₂ (· + ·) (Common.product_apply _ rfl none x w r q) (Common.row_apply (by decide) b _ r q)

/-- The block of each window at a grid point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

/-- The left block at a point, read off `x`. -/
theorem left_apply (c : Dev nD) (t : Fin cfg0.N) (r : Fin 1024) (k : Fin 4096) (h : t.val * 1024 + r.val < 32768) :
    iblk m c 0 t (ix2 r k) = m ((c : Thread nD τ).loc main_arg0) (ix2 ⟨t.val * 1024 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 1024 + 1 * r.val = _; rw [(index0 t).1, one_mul]
  | ⟨1, _⟩ => show win0_0.index t 1 * 4096 + 1 * k.val = k.val; rw [(index0 t).2]; omega

/-- The right block at a point, read off `w`. -/
theorem right_apply (c : Dev nD) (t : Fin cfg0.N) (k : Fin 4096) (q : Fin 128) :
    iblk m c 1 t (ix2 k q) = m ((c : Thread nD τ).loc main_arg1) (ix2 k q) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 4096 + 1 * k.val = k.val; rw [(index1 t).1]; omega
  | ⟨1, _⟩ => show win0_1.index t 1 * 128 + 1 * q.val = q.val; rw [(index1 t).2]; omega

/-- The bias block at a point, read off `b`. -/
theorem bias_apply (c : Dev nD) (t : Fin cfg0.N) (q : Fin 128) :
    iblk m c 2 t (ix2 0 q) = m ((c : Thread nD τ).loc main_arg2) (ix2 0 q) := by
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = 0; rw [(index2 t).1]
  | ⟨1, _⟩ => show win0_2.index t 1 * 128 + 1 * q.val = q.val; rw [(index2 t).2]; omega

/-- Every grid point writes back its own block of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 32 := t.isLt
  have h0 : (j 0).val < 1024 := (j 0).isLt
  have e : ((cfg0.win 3).blk t).view.emb j = (ix2 ⟨t.val * 1024 + (j 0).val, by omega⟩ (j 1) : S32768x128.Idx) := by
    funext a; apply Fin.ext
    match a with
    | ⟨0, _⟩ => show win0_3.index t 0 * 1024 + 1 * (j 0).val = _; rw [(index3 t).1, one_mul]
    | ⟨1, _⟩ => show win0_3.index t 1 * 128 + 1 * (j 1).val = (j 1).val; rw [(index3 t).2]; omega
  rw [View.read_apply, e]
  refine (congrArg (out0_3 (iblk m c 0 t) (iblk m c 1 t) (iblk m c 2 t)) (eq_ix2 (n0 := 1024) (n1 := 128) j)).trans
    ((block_apply _ _ _ (j 0) (j 1)).trans ?_)
  refine congrArg₂ (· + ·) (Finset.sum_congr rfl fun k _ => ?_) (bias_apply m c t (j 1))
  exact congrArg₂ (· * ·) (left_apply m c t (j 0) k (by omega)) (right_apply m c t k (j 1))

/-- Every entry of the result lies in some point's block. -/
theorem cover (i : S32768x128.Idx) : ∃ t : Fin cfg0.N, (cfg0.win 3).flush t = true ∧ i ∈ ((cfg0.win 3).blk t).view.set := by
  have h0 : (i 0).val < 32768 := (i 0).isLt
  have h1 : (i 1).val < 128 := (i 1).isLt
  have hN : cfg0.N = 32 := by decide
  obtain ⟨t, ht⟩ : ∃ t : Fin grid0.N, t.val = (i 0).val / 1024 :=
    ⟨⟨(i 0).val / 1024, by show _ < cfg0.N; rw [hN]; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(index3 t).1]; omega
  | ⟨1, _⟩ =>
    show win0_3.index t 1 * 128 ≤ (i 1).val ∧ (i 1).val < win0_3.index t 1 * 128 + 128
    rw [(index3 t).2]; omega

/-- The result after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The reference's result is `G` of the arguments. -/
theorem reference_eq (x : Vec Ideal S32768x4096 .bf16) (w : Vec Ideal S4096x128 .bf16) (b : Vec Ideal S1x128 .f32) :
    Cert.ReferenceGatesIdeal.Read.val_main_v4 (F := Ideal) x w b = G x w b := by
  funext i
  rw [Cert.ReferenceGatesIdeal.Read.val_main_v4_apply,
    Cert.ReferenceGatesIdeal.Read.val_main_v2_apply, Cert.ReferenceGatesIdeal.Read.val_main_v3_apply]
  have e0 : ∀ k, Cert.ReferenceGatesIdeal.Read.lidx_main_v2 i k = ix2 (i 0) k :=
    fun k => funext fun a => match a with | ⟨0, _⟩ => rfl | ⟨1, _⟩ => rfl
  have e1 : ∀ k, Cert.ReferenceGatesIdeal.Read.ridx_main_v2 i k = ix2 k (i 1) :=
    fun k => funext fun a => match a with | ⟨0, _⟩ => rfl | ⟨1, _⟩ => rfl
  have e2 : Cert.ReferenceGatesIdeal.Read.idx_main_v3 i = ix2 0 (i 1) :=
    funext fun a => match a with | ⟨0, _⟩ => rfl | ⟨1, _⟩ => rfl
  rw [e2]
  refine congrArg (· + b (ix2 0 (i 1))) (Finset.sum_congr rfl fun k _ => ?_)
  rw [e0, e1]
  rfl

/-- Kernel and reference end with the same result, entry by entry, from equal arguments. -/
theorem algebraic : Cert.algebraic_KernelGatesIdeal_ReferenceGatesIdeal := by
  intro m g m' g' _ hargs
  refine ⟨fun c => G (m ((c : Thread nD τ).loc main_arg0)) (m ((c : Thread nD τ).loc main_arg1)) (m ((c : Thread nD τ).loc main_arg2)), ?_, ?_⟩
  · exact (θ_run Cert.KernelGatesIdeal.defs _ _).mono (fun r h c => ⟨(h c).1.trans (final m c), (h c).2⟩) (Value.run_blocks m g)
  · refine (θ_run Cert.ReferenceGatesIdeal.defs _ _).mono (fun r h c => ⟨(h c).1.trans ?_, (h c).2⟩) (Cert.ReferenceGatesIdeal.Value.run m' g')
    have ha := hargs c
    rw [ha.1, ha.2.1, ha.2.2]
    exact (Cert.ReferenceGatesIdeal.Read.val_main_v4_eq (F := Ideal) _ _ _).trans (reference_eq _ _ _)

/-- The reference runs, leaves its arguments unchanged and every semaphore counter at zero. -/
theorem reference_quiescent : Cert.quiescent_ReferenceGatesIdeal := fun m g _ =>
  (θ_run Cert.ReferenceGatesIdeal.defs _ _).mono (fun _ h => ⟨fun c => (h c).2, sem_eq_zero_of_no_sems rfl _⟩)
    (Cert.ReferenceGatesIdeal.Value.run m g)

end Cert.GatesValue

end
-- ==== Proof.LnValue.lean ====
/-
  The layer norm: the value of the kernel's two results.
-/
module

public import proofs.«01_k».proof.Defs
public import proofs.«01_k».proof.Proof.Common
public import proofs.«01_k».proof.Proof.Gen.KernelLnIdeal.Value
public import proofs.«01_k».proof.Proof.Gen.ReferenceLnIdeal.Read

@[expose] public section

noncomputable section

namespace Cert.LnValue

open Cert.KernelLnIdeal Cert.KernelLnIdeal.Gen Idealize.ShloMosaic Idealize.ShloMosaic.TcCoe Idealize.SL.Sem
open Idealize.ShloMosaic.ValueIdx
open Idealize.ShloMosaic.Pipeline (Dat)
open scoped BigOperators

/-! ## One row -/

/-- The mean of a row. -/
def mean (z : Fin 4096 → EReal) : EReal := Ideal.div (∑ k, z k) (Ideal.ofBits .f32 0x45800000#32)

/-- A row, normalised, scaled and shifted. -/
def row (z g b : Fin 4096 → EReal) (k : Fin 4096) : EReal :=
  (z k - mean z) * Ideal.rsqrt (mean (fun e => (z e - mean z) * (z e - mean z)) + Ideal.ofBits .f32 0x3727C5AC#32) * g k + b k

/-- The result, entry by entry. -/
def G (z : Vec Ideal S32768x4096 .f32) (g b : Vec Ideal S4096 .f32) : Vec Ideal S32768x4096 .f32 :=
  fun i => row (fun k => z (ix2 (i 0) k)) (fun k => g (ix1 k)) (fun k => b (ix1 k)) (i 1)

/-- The result rounded to bfloat16: the same numbers. -/
def G16 (z : Vec Ideal S32768x4096 .f32) (g b : Vec Ideal S4096 .f32) : Vec Ideal S32768x4096 .bf16 :=
  fun i => row (fun k => z (ix2 (i 0) k)) (fun k => g (ix1 k)) (fun k => b (ix1 k)) (i 1)

/-! ## One block of rows -/

/-- A column spread over the columns of a block. -/
theorem column_apply (x : FVec Ideal S256x1 .f32) (r : Fin 256) (k : Fin 4096) :
    broadcastTo S256x4096 x broadcasts_S256x1_S256x4096 (ix2 r k) = x (ix2 r 0) :=
  broadcastTo_apply x broadcasts_S256x1_S256x4096 (ix2 r k) (ix2 r (0 : Fin 1)) fun a => match a with
    | ⟨0, _⟩ => by show r.val = if (256 : Nat) = 1 then 0 else r.val; rw [if_neg (by decide)]
    | ⟨1, _⟩ => by show 0 = if (1 : Nat) = 1 then 0 else _; rw [if_pos rfl]

/-- The means of the rows of a block. -/
def means (z : FVec Ideal S256x4096 .f32) : FVec Ideal S256x1 .f32 :=
  divf (shapeCast S256x1 (multiReduction .add [1] S256 z 0x00000000#32 reduces_S256x4096_S256 (.inl rfl) rfl) shapeCasts_S256_S256x1)
    (broadcast S256x1 (Scalar.ofBits .f32 0x45800000#32))

theorem means_apply (z : FVec Ideal S256x4096 .f32) (r : Fin 256) : (means z (ix2 r 0) : EReal) = mean (fun k => z (ix2 r k)) := by
  unfold means mean
  refine congrArg (fun t : EReal => Ideal.div t _) ?_
  refine (shapeCast_apply _ shapeCasts_S256_S256x1 (ix2 r (0 : Fin 1)) (ix1 r)
    (by rewrite [Shape.rowMajor_val_two, Shape.rowMajor_val_one]; show r.val = r.val * 1 + 0; omega)).trans ?_
  refine (Ideal.multiReduction_add_single _ 0x00000000#32 reduces_S256x4096_S256 (.inl rfl) rfl (ix1 r)).trans ?_
  refine Finset.sum_congr rfl fun e _ => ?_
  have hi : reduces_S256x4096_S256.lift (ix1 r) e = ix2 r (show Fin 4096 from e) :=
    funext fun a => Fin.ext (match a with | ⟨0, _⟩ => rfl | ⟨1, _⟩ => rfl)
  rw [hi]

/-- A block minus its rows' means. -/
def centred (z : FVec Ideal S256x4096 .f32) : FVec Ideal S256x4096 .f32 :=
  subf z (broadcastTo S256x4096 (means z) broadcasts_S256x1_S256x4096)

theorem centred_apply (z : FVec Ideal S256x4096 .f32) (r : Fin 256) (k : Fin 4096) :
    (centred z (ix2 r k) : EReal) = z (ix2 r k) - mean (fun e => z (ix2 r e)) :=
  congrArg (fun t : EReal => (z (ix2 r k) : EReal) - t) ((column_apply (means z) r k).trans (means_apply z r))

/-- A row vector spread over a block's rows, its cast to its own shape left out. -/
theorem vector_apply (g : FVec Ideal S1x4096 .f32) (r : Fin 256) (k : Fin 4096) :
    (broadcastTo S256x4096 (shapeCast S1x4096 g shapeCasts_S1x4096_S1x4096) broadcasts_S1x4096_S256x4096 (ix2 r k) : EReal) = g (ix2 0 k) :=
  (Common.row_apply (M := 256) (N := 4096) (by decide) _ broadcasts_S1x4096_S256x4096 r k).trans
    (shapeCast_apply g shapeCasts_S1x4096_S1x4096 (ix2 (0 : Fin 1) k) (ix2 (0 : Fin 1) k) rfl)

/-- The body's block, entry by entry. -/
theorem pay1_apply (z : FVec Ideal S256x4096 .f32) (g b : FVec Ideal S1x4096 .f32) (r : Fin 256) (k : Fin 4096) :
    (k0_pay1 (F := Ideal) z g b (ix2 r k) : EReal) = row (fun e => z (ix2 r e)) (fun e => g (ix2 0 e)) (fun e => b (ix2 0 e)) k := by
  show ((centred z (ix2 r k) : EReal)
      * broadcastTo S256x4096 (rsqrt (addf (means (mulf (centred z) (centred z))) (broadcast S256x1 (Scalar.ofBits .f32 0x3727C5AC#32))))
          broadcasts_S256x1_S256x4096 (ix2 r k))
      * broadcastTo S256x4096 (shapeCast S1x4096 g shapeCasts_S1x4096_S1x4096) broadcasts_S1x4096_S256x4096 (ix2 r k)
      + broadcastTo S256x4096 (shapeCast S1x4096 b shapeCasts_S1x4096_S1x4096) broadcasts_S1x4096_S256x4096 (ix2 r k) = _
  rw [vector_apply, vector_apply, column_apply, centred_apply]
  unfold row
  refine congrArg (fun t : EReal => (z (ix2 r k) - mean (fun e => z (ix2 r e))) * Ideal.rsqrt (t + _) * g (ix2 0 k) + b (ix2 0 k)) ?_
  rw [means_apply]
  refine congrArg mean (funext fun e => ?_)
  exact congrArg₂ (fun s t : EReal => s * t) (centred_apply z r e) (centred_apply z r e)

theorem block_apply (z : Vec Ideal S256x4096 .f32) (g b : Vec Ideal S1x4096 .f32) (r : Fin 256) (k : Fin 4096) :
    (out0_3 z g b (ix2 r k) : EReal) = row (fun e => z (ix2 r e)) (fun e => g (ix2 0 e)) (fun e => b (ix2 0 e)) k := by
  unfold out0_3
  rw [View.canon_unit_zero Common.zero2]
  simp only [View.ld_unit_zero (S := S256x4096) Common.zero2, View.ld_unit_zero (S := S1x4096) Common.zero2]
  exact pay1_apply z g b r k

theorem block16_apply (z : Vec Ideal S256x4096 .f32) (g b : Vec Ideal S1x4096 .f32) (r : Fin 256) (k : Fin 4096) :
    (out0_4 z g b (ix2 r k) : EReal) = row (fun e => z (ix2 r e)) (fun e => g (ix2 0 e)) (fun e => b (ix2 0 e)) k := by
  unfold out0_4
  rw [View.canon_unit_zero Common.zero2]
  simp only [View.ld_unit_zero (S := S256x4096) Common.zero2, View.ld_unit_zero (S := S1x4096) Common.zero2]
  exact pay1_apply z g b r k

/-! ## The blocks of a grid point -/

variable (m : (ℓ : Loc nD τ sig) → Buf (Elt Ideal) ℓ)

theorem V_main_v0 (c : Dev nD) : V m c main_v0 = shapeCast S1x4096 (m ((c : Thread nD τ).loc main_arg1)) shapeCasts_S4096_S1x4096 := by
  show StableHlo.after (List.flatten [hostOps0]) (fun b => m (c, b)) (Proc.devRef .tc main_v0) = _
  simp only [hostOps0, List.flatten_cons, List.flatten_nil, List.append_nil]
  after_results
  rfl

theorem V_main_v1 (c : Dev nD) : V m c main_v1 = shapeCast S1x4096 (m ((c : Thread nD τ).loc main_arg2)) shapeCasts_S4096_S1x4096 := by
  show StableHlo.after (List.flatten [hostOps0]) (fun b => m (c, b)) (Proc.devRef .tc main_v1) = _
  simp only [hostOps0, List.flatten_cons, List.flatten_nil, List.append_nil]
  after_results
  rfl

/-- The block of each window at a grid point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

/-- The rows at a point. -/
theorem rows_apply (c : Dev nD) (t : Fin cfg0.N) (r : Fin 256) (k : Fin 4096) (h : t.val * 256 + r.val < 32768) :
    iblk m c 0 t (ix2 r k) = m ((c : Thread nD τ).loc main_arg0) (ix2 ⟨t.val * 256 + r.val, h⟩ k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 256 + 1 * r.val = _; rw [(index0 t).1, one_mul]
  | ⟨1, _⟩ => show win0_0.index t 1 * 4096 + 1 * k.val = k.val; rw [(index0 t).2]; omega

/-- A vector as a row. -/
theorem cast_apply (g : Vec Ideal S4096 .f32) (k : Fin 4096) :
    shapeCast S1x4096 g shapeCasts_S4096_S1x4096 (ix2 (0 : Fin 1) k) = g (ix1 k) :=
  shapeCast_apply g shapeCasts_S4096_S1x4096 (ix2 (0 : Fin 1) k) (ix1 k)
    (by rewrite [Shape.rowMajor_val_two, Shape.rowMajor_val_one]; show k.val = 0 * 4096 + k.val; omega)

/-- The scales at a point. -/
theorem scale_apply (c : Dev nD) (t : Fin cfg0.N) (k : Fin 4096) :
    iblk m c 1 t (ix2 0 k) = m ((c : Thread nD τ).loc main_arg1) (ix1 k) := by
  unfold iblk
  rw [View.read_apply]
  show V m c main_v0 _ = _
  rw [V_main_v0]
  refine Eq.trans (congrArg _ ?_) (cast_apply _ k)
  funext a; apply Fin.ext
  match a with
  | ⟨0, _⟩ => show win0_1.index t 0 * 1 + 1 * 0 = 0; rw [(index1 t).1]
  | ⟨1, _⟩ => show win0_1.index t 1 * 4096 + 1 * k.val = k.val; rw [(index1 t).2]; omega

/-- The shifts at a point. -/
theorem shift_apply (c : Dev nD) (t : Fin cfg0.N) (k : Fin 4096) :
    iblk m c 2 t (ix2 0 k) = m ((c : Thread nD τ).loc main_arg2) (ix1 k) := by
  unfold iblk
  rw [View.read_apply]
  show V m c main_v1 _ = _
  rw [V_main_v1]
  refine Eq.trans (congrArg _ ?_) (cast_apply _ k)
  funext a; apply Fin.ext
  match a with
  | ⟨0, _⟩ => show win0_2.index t 0 * 1 + 1 * 0 = 0; rw [(index2 t).1]
  | ⟨1, _⟩ => show win0_2.index t 1 * 4096 + 1 * k.val = k.val; rw [(index2 t).2]; omega

/-- The normalised rows at a point. -/
theorem point_eq (c : Dev nD) (t : Fin cfg0.N) (r : Fin 256) (k : Fin 4096) (h : t.val * 256 + r.val < 32768) :
    row (fun e => iblk m c 0 t (ix2 r e)) (fun e => iblk m c 1 t (ix2 0 e)) (fun e => iblk m c 2 t (ix2 0 e)) k
      = G (m ((c : Thread nD τ).loc main_arg0)) (m ((c : Thread nD τ).loc main_arg1)) (m ((c : Thread nD τ).loc main_arg2))
          (ix2 ⟨t.val * 256 + r.val, h⟩ k) := by
  have e0 : (fun e => (iblk m c 0 t (ix2 r e) : EReal)) = fun e => m ((c : Thread nD τ).loc main_arg0) (ix2 ⟨t.val * 256 + r.val, h⟩ e) :=
    funext fun e => rows_apply m c t r e h
  have e1 : (fun e => (iblk m c 1 t (ix2 0 e) : EReal)) = fun e => m ((c : Thread nD τ).loc main_arg1) (ix1 e) :=
    funext fun e => scale_apply m c t e
  have e2 : (fun e => (iblk m c 2 t (ix2 0 e) : EReal)) = fun e => m ((c : Thread nD τ).loc main_arg2) (ix1 e) :=
    funext fun e => shift_apply m c t e
  rw [e0, e1, e2]
  rfl

/-- Every grid point writes back its own block of `G`. -/
theorem flushed3_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  funext j
  have ht : t.val < 128 := t.isLt
  have h0 : (j 0).val < 256 := (j 0).isLt
  have e : ((cfg0.win 3).blk t).view.emb j = (ix2 ⟨t.val * 256 + (j 0).val, by omega⟩ (j 1) : S32768x4096.Idx) := by
    funext a; apply Fin.ext
    match a with
    | ⟨0, _⟩ => show win0_3.index t 0 * 256 + 1 * (j 0).val = _; rw [(index3 t).1, one_mul]
    | ⟨1, _⟩ => show win0_3.index t 1 * 4096 + 1 * (j 1).val = (j 1).val; rw [(index3 t).2]; omega
  rw [View.read_apply, e]
  refine (congrArg (out0_3 (iblk m c 0 t) (iblk m c 1 t) (iblk m c 2 t)) (eq_ix2 (n0 := 256) (n1 := 4096) j)).trans
    ((block_apply _ _ _ (j 0) (j 1)).trans ?_)
  exact point_eq m c t (j 0) (j 1) (by omega)

theorem flushed4_eq (c : Dev nD) (t : Fin cfg0.N) :
    (dats m 0 c).flushed 4 t = ((cfg0.win 4).blk t).view.read (Elt Ideal)
      (G16 (m ((c : Thread nD τ).loc main_arg0)) (m ((c : Thread nD τ).loc main_arg1)) (m ((c : Thread nD τ).loc main_arg2))) := by
  rw [Value.flushed4]
  funext j
  have ht : t.val < 128 := t.isLt
  have h0 : (j 0).val < 256 := (j 0).isLt
  have e : ((cfg0.win 4).blk t).view.emb j = (ix2 ⟨t.val * 256 + (j 0).val, by omega⟩ (j 1) : S32768x4096.Idx) := by
    funext a; apply Fin.ext
    match a with
    | ⟨0, _⟩ => show win0_4.index t 0 * 256 + 1 * (j 0).val = _; rw [(index4 t).1, one_mul]
    | ⟨1, _⟩ => show win0_4.index t 1 * 4096 + 1 * (j 1).val = (j 1).val; rw [(index4 t).2]; omega
  rw [View.read_apply, e]
  refine (congrArg (out0_4 (iblk m c 0 t) (iblk m c 1 t) (iblk m c 2 t)) (eq_ix2 (n0 := 256) (n1 := 4096) j)).trans
    ((block16_apply _ _ _ (j 0) (j 1)).trans ?_)
  exact point_eq m c t (j 0) (j 1) (by omega)

/-- Every entry of the first result lies in some point's block. -/
theorem cover3 (i : S32768x4096.Idx) : ∃ t : Fin cfg0.N, (cfg0.win 3).flush t = true ∧ i ∈ ((cfg0.win 3).blk t).view.set := by
  have h0 : (i 0).val < 32768 := (i 0).isLt
  have h1 : (i 1).val < 4096 := (i 1).isLt
  have hN : cfg0.N = 128 := by decide
  obtain ⟨t, ht⟩ : ∃ t : Fin grid0.N, t.val = (i 0).val / 256 := ⟨⟨(i 0).val / 256, by show _ < cfg0.N; rw [hN]; omega⟩, rfl⟩
  refine ⟨t, flush0_3 t, ?_⟩
  show i ∈ ((View.whole main_v2_0).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    rw [(index3 t).1]; omega
  | ⟨1, _⟩ =>
    show win0_3.index t 1 * 4096 ≤ (i 1).val ∧ (i 1).val < win0_3.index t 1 * 4096 + 4096
    rw [(index3 t).2]; omega

/-- And of the second. -/
theorem cover4 (i : S32768x4096.Idx) : ∃ t : Fin cfg0.N, (cfg0.win 4).flush t = true ∧ i ∈ ((cfg0.win 4).blk t).view.set := by
  have h0 : (i 0).val < 32768 := (i 0).isLt
  have h1 : (i 1).val < 4096 := (i 1).isLt
  have hN : cfg0.N = 128 := by decide
  obtain ⟨t, ht⟩ : ∃ t : Fin grid0.N, t.val = (i 0).val / 256 := ⟨⟨(i 0).val / 256, by show _ < cfg0.N; rw [hN]; omega⟩, rfl⟩
  refine ⟨t, flush0_4 t, ?_⟩
  show i ∈ ((View.whole main_v2_1).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [(index4 t).1]; omega
  | ⟨1, _⟩ =>
    show win0_4.index t 1 * 4096 ≤ (i 1).val ∧ (i 1).val < win0_4.index t 1 * 4096 + 4096
    rw [(index4 t).2]; omega

/-- The results after the run. -/
theorem final3 (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed3_eq m c t) cover3

theorem final4 (c : Dev nD) : (dats m 0 c).arrAt 4 cfg0.N
    = G16 (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## The reference -/

section Reference
open Cert.ReferenceLnIdeal.Read

/-- The reference's mean of row `i`. -/
theorem reference_mean (x : Vec Ideal S32768x4096 .f32) (i : Fin 32768) :
    (val_main_v3 (F := Ideal) x (ix2 i (0 : Fin 1)) : EReal) = mean (fun k => x (ix2 i k)) := by
  rw [val_main_v3_apply, val_main_v1_apply, val_main_v0_apply, val_main_v2_apply]
  refine congrArg (fun t : EReal => Ideal.div t _) ?_
  refine (congrArg (fun s : EReal => s + _) (Ideal.ofBits_zero_f32)).trans ((zero_add _).trans ?_)
  exact Finset.sum_congr rfl fun k _ => congrArg x (funext fun a => match a with | ⟨0, _⟩ => rfl | ⟨1, _⟩ => rfl)

theorem reference_centred (x : Vec Ideal S32768x4096 .f32) (i : Fin 32768) (k : Fin 4096) :
    (val_main_v5 (F := Ideal) x (ix2 i k) : EReal) = x (ix2 i k) - mean (fun e => x (ix2 i e)) := by
  rw [val_main_v5_apply, val_main_v4_apply]
  refine congrArg (fun t : EReal => (x (ix2 i k) : EReal) - t) (Eq.trans (congrArg _ ?_) (reference_mean x i))
  exact funext fun a => match a with | ⟨0, _⟩ => rfl | ⟨1, _⟩ => rfl

theorem reference_var (x : Vec Ideal S32768x4096 .f32) (i : Fin 32768) :
    (val_main_v10 (F := Ideal) x (ix2 i (0 : Fin 1)) : EReal)
      = mean (fun k => (x (ix2 i k) - mean (fun e => x (ix2 i e))) * (x (ix2 i k) - mean (fun e => x (ix2 i e)))) := by
  rw [val_main_v10_apply, val_main_v8_apply, val_main_v7_apply, val_main_v9_apply]
  refine congrArg (fun t : EReal => Ideal.div t _) ?_
  refine (congrArg (fun s : EReal => s + _) (Ideal.ofBits_zero_f32)).trans ((zero_add _).trans ?_)
  refine Finset.sum_congr rfl fun k _ => ?_
  have e : idx_main_v7 (idx_main_v8 (ix2 i (0 : Fin 1))) k = ix2 i k := funext fun a => match a with | ⟨0, _⟩ => rfl | ⟨1, _⟩ => rfl
  rw [e, val_main_v6_apply]
  exact congrArg₂ (fun s t : EReal => s * t) (reference_centred x i k) (reference_centred x i k)

/-- The reference's first result is `G` of the arguments. -/
theorem reference_eq (x : Vec Ideal S32768x4096 .f32) (g b : Vec Ideal S4096 .f32) : val_main_v23 (F := Ideal) x g b = G x g b := by
  funext j
  obtain ⟨i, k, rfl⟩ : ∃ (i : Fin 32768) (k : Fin 4096), j = ix2 i k := ⟨j 0, j 1, eq_ix2 (n0 := 32768) (n1 := 4096) j⟩
  rw [val_main_v23_apply, val_main_v20_apply, val_main_v17_apply, val_main_v22_apply, val_main_v21_apply, val_main_v19_apply,
    val_main_v18_apply, val_main_v16_apply, val_main_v15_apply, val_main_v14_apply, val_main_v13_apply]
  have e1 : idx_main_v18 (idx_main_v19 (ix2 i k)) = ix1 k := funext fun a => match a with | ⟨0, _⟩ => rfl
  have e2 : idx_main_v21 (idx_main_v22 (ix2 i k)) = ix1 k := funext fun a => match a with | ⟨0, _⟩ => rfl
  have e3 : idx_main_v16 (ix2 i k) = ix2 i (0 : Fin 1) := funext fun a => match a with | ⟨0, _⟩ => rfl | ⟨1, _⟩ => rfl
  rw [e1, e2, e3, reference_var]
  exact congrArg (fun t : EReal => t * Ideal.rsqrt (mean (fun k => (x (ix2 i k) - mean (fun e => x (ix2 i e)))
    * (x (ix2 i k) - mean (fun e => x (ix2 i e)))) + Ideal.ofBits .f32 0x3727C5AC#32) * g (ix1 k) + b (ix1 k)) (reference_centred x i k)

/-- Its second result is the same, rounded. -/
theorem reference16_eq (x : Vec Ideal S32768x4096 .f32) (g b : Vec Ideal S4096 .f32) : val_main_v24 (F := Ideal) x g b = G16 x g b :=
  funext fun j => (val_main_v24_apply (F := Ideal) x g b j).trans (congrFun (reference_eq x g b) j)

end Reference

/-- Kernel and reference end with the same results, entry by entry, from equal arguments. -/
theorem algebraic : Cert.algebraic_KernelLnIdeal_ReferenceLnIdeal := by
  intro m g m' g' _ hargs
  refine ⟨fun c => G (m ((c : Thread nD τ).loc main_arg0)) (m ((c : Thread nD τ).loc main_arg1)) (m ((c : Thread nD τ).loc main_arg2)),
    fun c => G16 (m ((c : Thread nD τ).loc main_arg0)) (m ((c : Thread nD τ).loc main_arg1)) (m ((c : Thread nD τ).loc main_arg2)), ?_, ?_⟩
  · exact (θ_run Cert.KernelLnIdeal.defs _ _).mono
      (fun r h c => ⟨(h c).1.trans (final3 m c), (h c).2.1.trans (final4 m c), (h c).2.2⟩) (Value.run_blocks m g)
  · refine (θ_run Cert.ReferenceLnIdeal.defs _ _).mono
      (fun r h c => ⟨(h c).1.trans ?_, (h c).2.1.trans ?_, (h c).2.2⟩) (Cert.ReferenceLnIdeal.Value.run m' g')
    · have ha := hargs c
      rw [ha.1, ha.2.1, ha.2.2]
      exact (Cert.ReferenceLnIdeal.Read.val_main_v23_eq (F := Ideal) _ _ _).trans (reference_eq _ _ _)
    · have ha := hargs c
      rw [ha.1, ha.2.1, ha.2.2]
      exact (Cert.ReferenceLnIdeal.Read.val_main_v24_eq (F := Ideal) _ _ _).trans (reference16_eq _ _ _)

/-- The reference runs, leaves its arguments unchanged and every semaphore counter at zero. -/
theorem reference_quiescent : Cert.quiescent_ReferenceLnIdeal := fun m g _ =>
  (θ_run Cert.ReferenceLnIdeal.defs _ _).mono (fun _ h => ⟨fun c => (h c).2.2, sem_eq_zero_of_no_sems rfl _⟩)
    (Cert.ReferenceLnIdeal.Value.run m g)

end Cert.LnValue

end
-- ==== Proof.CombValue.lean ====
/-
  The experts' two rows combined, added to the residual and normalised: the value of the kernel's two results.
-/
module

public import proofs.«01_k».proof.Defs
public import proofs.«01_k».proof.Proof.LnValue
public import proofs.«01_k».proof.Proof.Gen.KernelCombIdeal.Value
public import proofs.«01_k».proof.Proof.Gen.ReferenceCombIdeal.Read

@[expose] public section

noncomputable section

namespace Cert.CombValue

open Cert.KernelCombIdeal Cert.KernelCombIdeal.Gen Idealize.ShloMosaic Idealize.ShloMosaic.TcCoe Idealize.SL.Sem
open Idealize.ShloMosaic.ValueIdx
open Idealize.ShloMosaic.Pipeline (Dat)
open scoped BigOperators

open Cert.LnValue (row)

/-- A row before the norm: the scaled residual plus the two experts' rows, each times its gate. -/
def mixed (x y0 y1 : EReal) (g0 g1 : EReal) : EReal := Ideal.ofBits .f32 0x3FD744FD#32 * x + (y0 * g0 + y1 * g1)

/-- Row `i` of the second half of the experts' rows. -/
def second (i : Fin 32768) : Fin 65536 := ⟨32768 + i.val, by omega⟩

/-- The rows before the norm. -/
def M (x : Vec Ideal S32768x4096 .f32) (y : Vec Ideal S65536x4096 .bf16) (p : Vec Ideal S32768x2 .f32) : Vec Ideal S32768x4096 .f32 :=
  fun i => mixed (x (ix2 (i 0) (i 1))) (y (ix2 (⟨(i 0).val, Nat.lt_trans (i 0).isLt (by decide)⟩ : Fin 65536) (i 1))) (y (ix2 (second (i 0)) (i 1)))
    (p (ix2 (i 0) 0)) (p (ix2 (i 0) 1))

/-! ## One block of rows -/

section Block
variable (x : Vec Ideal S256x4096 .f32) (y0 y1 : Vec Ideal S256x4096 .bf16) (p : Vec Ideal S256x2 .f32) (g b : Vec Ideal S1x4096 .f32)

/-- A block before the norm. -/
def mixedBlock : FVec Ideal S256x4096 .f32 :=
  addf (mulf (broadcast S256x4096 (Scalar.ofBits .f32 0x3FD744FD#32)) x)
    (addf
      (mulf (extf .f32 y0 bitsLt_bf16_f32) (broadcastTo S256x4096 (extractStridedSlice S256x1 ![0, 0] p slices_S256x2_o0_0_S256x1) broadcasts_S256x1_S256x4096))
      (mulf (extf .f32 y1 bitsLt_bf16_f32) (broadcastTo S256x4096 (extractStridedSlice S256x1 ![0, 1] p slices_S256x2_o0_1_S256x1) broadcasts_S256x1_S256x4096)))

theorem mixedBlock_apply (r : Fin 256) (k : Fin 4096) :
    (mixedBlock x y0 y1 p (ix2 r k) : EReal) = mixed (x (ix2 r k)) (y0 (ix2 r k)) (y1 (ix2 r k)) (p (ix2 r 0)) (p (ix2 r 1)) := by
  refine congrArg₂ (fun s t : EReal => Ideal.ofBits .f32 0x3FD744FD#32 * x (ix2 r k) + (y0 (ix2 r k) * s + y1 (ix2 r k) * t)) ?_ ?_
  · refine (Cert.LnValue.column_apply _ r k).trans (extractStridedSlice_apply _ p slices_S256x2_o0_0_S256x1 (ix2 r (0 : Fin 1)) (ix2 r (0 : Fin 2)) fun a => ?_)
    match a with
    | ⟨0, _⟩ => exact (Nat.zero_add _).symm
    | ⟨1, _⟩ => rfl
  · refine (Cert.LnValue.column_apply _ r k).trans (extractStridedSlice_apply _ p slices_S256x2_o0_1_S256x1 (ix2 r (0 : Fin 1)) (ix2 r (1 : Fin 2)) fun a => ?_)
    match a with
    | ⟨0, _⟩ => exact (Nat.zero_add _).symm
    | ⟨1, _⟩ => rfl

/-- The body's block is the norm's of the block before the norm. -/
theorem pay2_eq : k0_pay2 (F := Ideal) p y0 y1 x g b = Cert.KernelLnIdeal.Gen.k0_pay1 (F := Ideal) (mixedBlock x y0 y1 p) g b := rfl

/-- The body's block, entry by entry. -/
theorem pay2_apply (r : Fin 256) (k : Fin 4096) :
    (k0_pay2 (F := Ideal) p y0 y1 x g b (ix2 r k) : EReal)
      = row (fun e => mixed (x (ix2 r e)) (y0 (ix2 r e)) (y1 (ix2 r e)) (p (ix2 r 0)) (p (ix2 r 1))) (fun e => g (ix2 0 e)) (fun e => b (ix2 0 e)) k := by
  rw [pay2_eq]
  refine (Cert.LnValue.pay1_apply _ g b r k).trans ?_
  exact congrArg (fun z => row z _ _ k) (funext fun e => mixedBlock_apply x y0 y1 p r e)

theorem block_apply (r : Fin 256) (k : Fin 4096) :
    (out0_6 x y0 y1 p g b (ix2 r k) : EReal)
      = row (fun e => mixed (x (ix2 r e)) (y0 (ix2 r e)) (y1 (ix2 r e)) (p (ix2 r 0)) (p (ix2 r 1))) (fun e => g (ix2 0 e)) (fun e => b (ix2 0 e)) k := by
  unfold out0_6
  rw [View.canon_unit_zero Common.zero2]
  unfold k0_pay3
  simp only [View.ld_unit_zero (S := S256x4096) Common.zero2, View.ld_unit_zero (S := S1x4096) Common.zero2, View.ld_unit_zero (S := S256x2) Common.zero2]
  exact pay2_apply x y0 y1 p g b r k

theorem block16_apply (r : Fin 256) (k : Fin 4096) :
    (out0_7 x y0 y1 p g b (ix2 r k) : EReal)
      = row (fun e => mixed (x (ix2 r e)) (y0 (ix2 r e)) (y1 (ix2 r e)) (p (ix2 r 0)) (p (ix2 r 1))) (fun e => g (ix2 0 e)) (fun e => b (ix2 0 e)) k := by
  unfold out0_7
  rw [View.canon_unit_zero Common.zero2]
  unfold k0_pay3
  simp only [View.ld_unit_zero (S := S256x4096) Common.zero2, View.ld_unit_zero (S := S1x4096) Common.zero2, View.ld_unit_zero (S := S256x2) Common.zero2]
  exact pay2_apply x y0 y1 p g b r k

end Block

/-! ## The blocks of a grid point -/

variable (m : (ℓ : Loc nD τ sig) → Buf (Elt Ideal) ℓ)

theorem V_main_v0 (c : Dev nD) : V m c main_v0 = shapeCast S1x4096 (m ((c : Thread nD τ).loc main_arg3)) shapeCasts_S4096_S1x4096 := by
  show StableHlo.after (List.flatten [hostOps0]) (fun b => m (c, b)) (Proc.devRef .tc main_v0) = _
  simp only [hostOps0, List.flatten_cons, List.flatten_nil, List.append_nil]
  after_results
  rfl

theorem V_main_v1 (c : Dev nD) : V m c main_v1 = shapeCast S1x4096 (m ((c : Thread nD τ).loc main_arg4)) shapeCasts_S4096_S1x4096 := by
  show StableHlo.after (List.flatten [hostOps0]) (fun b => m (c, b)) (Proc.devRef .tc main_v1) = _
  simp only [hostOps0, List.flatten_cons, List.flatten_nil, List.append_nil]
  after_results
  rfl

/-- The block of each window at a grid point. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val + 128 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- The residual's rows at a point. -/
theorem residual_apply (c : Dev nD) (t : Fin cfg0.N) (r : Fin 256) (k : Fin 4096) (i : Fin 32768) (h : i.val = t.val * 256 + r.val) :
    iblk m c 0 t (ix2 r k) = m ((c : Thread nD τ).loc main_arg0) (ix2 i k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 256 + 1 * r.val = i.val; rw [(index0 t).1, one_mul, h]
  | ⟨1, _⟩ => show win0_0.index t 1 * 4096 + 1 * k.val = k.val; rw [(index0 t).2]; omega

/-- The first experts' rows. -/
theorem first_apply (c : Dev nD) (t : Fin cfg0.N) (r : Fin 256) (k : Fin 4096) (i : Fin 65536) (h : i.val = t.val * 256 + r.val) :
    iblk m c 1 t (ix2 r k) = m ((c : Thread nD τ).loc main_arg1) (ix2 i k) := by
  unfold iblk
  rw [View.read_apply]
  show V m c main_arg1 _ = m ((c : Thread nD τ).loc main_arg1) _
  rw [V_main_arg1]
  congr 1
  funext a; apply Fin.ext
  match a with
  | ⟨0, _⟩ => show win0_1.index t 0 * 256 + 1 * r.val = i.val; rw [(index1 t).1, one_mul, h]
  | ⟨1, _⟩ => show win0_1.index t 1 * 4096 + 1 * k.val = k.val; rw [(index1 t).2]; omega

/-- The second experts' rows. -/
theorem second_apply (c : Dev nD) (t : Fin cfg0.N) (r : Fin 256) (k : Fin 4096) (i : Fin 65536) (h : i.val = (t.val + 128) * 256 + r.val) :
    iblk m c 2 t (ix2 r k) = m ((c : Thread nD τ).loc main_arg1) (ix2 i k) := by
  unfold iblk
  rw [View.read_apply]
  show V m c main_arg1 _ = m ((c : Thread nD τ).loc main_arg1) _
  rw [V_main_arg1]
  congr 1
  funext a; apply Fin.ext
  match a with
  | ⟨0, _⟩ => show win0_2.index t 0 * 256 + 1 * r.val = i.val; rw [(index2 t).1, one_mul, h]
  | ⟨1, _⟩ => show win0_2.index t 1 * 4096 + 1 * k.val = k.val; rw [(index2 t).2]; omega

/-- The gates. -/
theorem gate_apply (c : Dev nD) (t : Fin cfg0.N) (r : Fin 256) (k : Fin 2) (i : Fin 32768) (h : i.val = t.val * 256 + r.val) :
    iblk m c 3 t (ix2 r k) = m ((c : Thread nD τ).loc main_arg2) (ix2 i k) := by
  unfold iblk
  rw [View.read_apply]
  show V m c main_arg2 _ = m ((c : Thread nD τ).loc main_arg2) _
  rw [V_main_arg2]
  congr 1
  funext a; apply Fin.ext
  match a with
  | ⟨0, _⟩ => show win0_3.index t 0 * 256 + 1 * r.val = i.val; rw [(index3 t).1, one_mul, h]
  | ⟨1, _⟩ => show win0_3.index t 1 * 2 + 1 * k.val = k.val; rw [(index3 t).2]; omega

/-- The scales. -/
theorem scale_apply (c : Dev nD) (t : Fin cfg0.N) (k : Fin 4096) :
    iblk m c 4 t (ix2 0 k) = m ((c : Thread nD τ).loc main_arg3) (ix1 k) := by
  unfold iblk
  rw [View.read_apply]
  show V m c main_v0 _ = _
  rw [V_main_v0]
  refine Eq.trans (congrArg _ ?_) (Cert.LnValue.cast_apply _ k)
  funext a; apply Fin.ext
  match a with
  | ⟨0, _⟩ => show win0_4.index t 0 * 1 + 1 * 0 = 0; rw [(index4 t).1]
  | ⟨1, _⟩ => show win0_4.index t 1 * 4096 + 1 * k.val = k.val; rw [(index4 t).2]; omega

/-- The shifts. -/
theorem shift_apply (c : Dev nD) (t : Fin cfg0.N) (k : Fin 4096) :
    iblk m c 5 t (ix2 0 k) = m ((c : Thread nD τ).loc main_arg4) (ix1 k) := by
  unfold iblk
  rw [View.read_apply]
  show V m c main_v1 _ = _
  rw [V_main_v1]
  refine Eq.trans (congrArg _ ?_) (Cert.LnValue.cast_apply _ k)
  funext a; apply Fin.ext
  match a with
  | ⟨0, _⟩ => show win0_5.index t 0 * 1 + 1 * 0 = 0; rw [(index5 t).1]
  | ⟨1, _⟩ => show win0_5.index t 1 * 4096 + 1 * k.val = k.val; rw [(index5 t).2]; omega

/-- The normalised rows at a point. -/
theorem point_eq (c : Dev nD) (t : Fin cfg0.N) (r : Fin 256) (k : Fin 4096) (h : t.val * 256 + r.val < 32768) :
    row (fun e => mixed (iblk m c 0 t (ix2 r e)) (iblk m c 1 t (ix2 r e)) (iblk m c 2 t (ix2 r e)) (iblk m c 3 t (ix2 r 0)) (iblk m c 3 t (ix2 r 1)))
        (fun e => iblk m c 4 t (ix2 0 e)) (fun e => iblk m c 5 t (ix2 0 e)) k
      = Cert.LnValue.G (M (m ((c : Thread nD τ).loc main_arg0)) (m ((c : Thread nD τ).loc main_arg1)) (m ((c : Thread nD τ).loc main_arg2))) (m ((c : Thread nD τ).loc main_arg3)) (m ((c : Thread nD τ).loc main_arg4)) (ix2 ⟨t.val * 256 + r.val, h⟩ k) := by
  have e0 : (fun e => mixed (iblk m c 0 t (ix2 r e)) (iblk m c 1 t (ix2 r e)) (iblk m c 2 t (ix2 r e)) (iblk m c 3 t (ix2 r 0)) (iblk m c 3 t (ix2 r 1)))
      = fun e => M (m ((c : Thread nD τ).loc main_arg0)) (m ((c : Thread nD τ).loc main_arg1)) (m ((c : Thread nD τ).loc main_arg2)) (ix2 ⟨t.val * 256 + r.val, h⟩ e) := by
    funext e
    rw [residual_apply m c t r e ⟨t.val * 256 + r.val, h⟩ rfl, first_apply m c t r e ⟨t.val * 256 + r.val, by omega⟩ rfl,
      second_apply m c t r e (second ⟨t.val * 256 + r.val, h⟩) (by show 32768 + (t.val * 256 + r.val) = _; omega),
      gate_apply m c t r 0 ⟨t.val * 256 + r.val, h⟩ rfl, gate_apply m c t r 1 ⟨t.val * 256 + r.val, h⟩ rfl]
    rfl
  have e1 : (fun e => (iblk m c 4 t (ix2 0 e) : EReal)) = fun e => m ((c : Thread nD τ).loc main_arg3) (ix1 e) :=
    funext fun e => scale_apply m c t e
  have e2 : (fun e => (iblk m c 5 t (ix2 0 e) : EReal)) = fun e => m ((c : Thread nD τ).loc main_arg4) (ix1 e) :=
    funext fun e => shift_apply m c t e
  rw [e0, e1, e2]
  rfl

/-- Every grid point writes back its own block of `G`. -/
theorem flushed6_eq (c : Dev nD) (t : Fin cfg0.N) :
    (dats m 0 c).flushed 6 t = ((cfg0.win 6).blk t).view.read (Elt Ideal)
      (Cert.LnValue.G (M (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed6]
  funext j
  have ht : t.val < 128 := t.isLt
  have h0 : (j 0).val < 256 := (j 0).isLt
  have e : ((cfg0.win 6).blk t).view.emb j = (ix2 ⟨t.val * 256 + (j 0).val, by omega⟩ (j 1) : S32768x4096.Idx) := by
    funext a; apply Fin.ext
    match a with
    | ⟨0, _⟩ => show win0_6.index t 0 * 256 + 1 * (j 0).val = _; rw [(index6 t).1, one_mul]
    | ⟨1, _⟩ => show win0_6.index t 1 * 4096 + 1 * (j 1).val = (j 1).val; rw [(index6 t).2]; omega
  rw [View.read_apply, e]
  refine (congrArg (out0_6 (iblk m c 0 t) (iblk m c 1 t) (iblk m c 2 t) (iblk m c 3 t) (iblk m c 4 t) (iblk m c 5 t)) (eq_ix2 (n0 := 256) (n1 := 4096) j)).trans
    ((block_apply _ _ _ _ _ _ (j 0) (j 1)).trans ?_)
  exact point_eq m c t (j 0) (j 1) (by omega)

theorem flushed7_eq (c : Dev nD) (t : Fin cfg0.N) :
    (dats m 0 c).flushed 7 t = ((cfg0.win 7).blk t).view.read (Elt Ideal)
      (Cert.LnValue.G16 (M (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed7]
  funext j
  have ht : t.val < 128 := t.isLt
  have h0 : (j 0).val < 256 := (j 0).isLt
  have e : ((cfg0.win 7).blk t).view.emb j = (ix2 ⟨t.val * 256 + (j 0).val, by omega⟩ (j 1) : S32768x4096.Idx) := by
    funext a; apply Fin.ext
    match a with
    | ⟨0, _⟩ => show win0_7.index t 0 * 256 + 1 * (j 0).val = _; rw [(index7 t).1, one_mul]
    | ⟨1, _⟩ => show win0_7.index t 1 * 4096 + 1 * (j 1).val = (j 1).val; rw [(index7 t).2]; omega
  rw [View.read_apply, e]
  refine (congrArg (out0_7 (iblk m c 0 t) (iblk m c 1 t) (iblk m c 2 t) (iblk m c 3 t) (iblk m c 4 t) (iblk m c 5 t)) (eq_ix2 (n0 := 256) (n1 := 4096) j)).trans
    ((block16_apply _ _ _ _ _ _ (j 0) (j 1)).trans ?_)
  exact point_eq m c t (j 0) (j 1) (by omega)

/-- Every entry of the first result lies in some point's block. -/
theorem cover6 (i : S32768x4096.Idx) : ∃ t : Fin cfg0.N, (cfg0.win 6).flush t = true ∧ i ∈ ((cfg0.win 6).blk t).view.set := by
  have h0 : (i 0).val < 32768 := (i 0).isLt
  have h1 : (i 1).val < 4096 := (i 1).isLt
  have hN : cfg0.N = 128 := by decide
  obtain ⟨t, ht⟩ : ∃ t : Fin grid0.N, t.val = (i 0).val / 256 := ⟨⟨(i 0).val / 256, by show _ < cfg0.N; rw [hN]; omega⟩, rfl⟩
  refine ⟨t, flush0_6 t, ?_⟩
  show i ∈ ((View.whole main_v2_0).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [(index6 t).1]; omega
  | ⟨1, _⟩ =>
    show win0_6.index t 1 * 4096 ≤ (i 1).val ∧ (i 1).val < win0_6.index t 1 * 4096 + 4096
    rw [(index6 t).2]; omega

/-- And of the second. -/
theorem cover7 (i : S32768x4096.Idx) : ∃ t : Fin cfg0.N, (cfg0.win 7).flush t = true ∧ i ∈ ((cfg0.win 7).blk t).view.set := by
  have h0 : (i 0).val < 32768 := (i 0).isLt
  have h1 : (i 1).val < 4096 := (i 1).isLt
  have hN : cfg0.N = 128 := by decide
  obtain ⟨t, ht⟩ : ∃ t : Fin grid0.N, t.val = (i 0).val / 256 := ⟨⟨(i 0).val / 256, by show _ < cfg0.N; rw [hN]; omega⟩, rfl⟩
  refine ⟨t, flush0_7 t, ?_⟩
  show i ∈ ((View.whole main_v2_1).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(index7 t).1]; omega
  | ⟨1, _⟩ =>
    show win0_7.index t 1 * 4096 ≤ (i 1).val ∧ (i 1).val < win0_7.index t 1 * 4096 + 4096
    rw [(index7 t).2]; omega

/-- The results after the run. -/
theorem final6 (c : Dev nD) : (dats m 0 c).arrAt 6 cfg0.N
    = Cert.LnValue.G (M (m ((c : Thread nD τ).loc main_arg0)) (m ((c : Thread nD τ).loc main_arg1)) (m ((c : Thread nD τ).loc main_arg2))) (m ((c : Thread nD τ).loc main_arg3)) (m ((c : Thread nD τ).loc main_arg4)) :=
  (dats m 0 c).arrAt_eq_of_cover 6 _ (fun t _ => flushed6_eq m c t) cover6

theorem final7 (c : Dev nD) : (dats m 0 c).arrAt 7 cfg0.N
    = Cert.LnValue.G16 (M (m ((c : Thread nD τ).loc main_arg0)) (m ((c : Thread nD τ).loc main_arg1)) (m ((c : Thread nD τ).loc main_arg2))) (m ((c : Thread nD τ).loc main_arg3)) (m ((c : Thread nD τ).loc main_arg4)) :=
  (dats m 0 c).arrAt_eq_of_cover 7 _ (fun t _ => flushed7_eq m c t) cover7

/-! ## The reference -/

section Reference
open Cert.ReferenceCombIdeal.Read
variable (x : Vec Ideal S32768x4096 .f32) (y : Vec Ideal S65536x4096 .bf16) (p : Vec Ideal S32768x2 .f32) (g b : Vec Ideal S4096 .f32)

/-- The reference's rows before the norm. -/
theorem reference_mixed : val_main_v15 (F := Ideal) x y p = M x y p := by
  funext j
  obtain ⟨i, k, rfl⟩ : ∃ (i : Fin 32768) (k : Fin 4096), j = ix2 i k := ⟨j 0, j 1, eq_ix2 (n0 := 32768) (n1 := 4096) j⟩
  rw [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply,
    val_main_v1_apply, val_main_v1_apply, val_main_v0_apply, val_main_v0_apply]
  have hi := i.isLt
  have hk := k.isLt
  have a0 : ((ix2 i k : Cert.ReferenceCombIdeal.S32768x4096.Idx) 0).val = i.val := rfl
  have a1 : ((ix2 i k : Cert.ReferenceCombIdeal.S32768x4096.Idx) 1).val = k.val := rfl
  have e0 : idx_main_v1 (idx_main_v2 (idx_main_v3 (ix2 i k))) = ix2 (⟨i.val, by omega⟩ : Fin 65536) k := by
    funext a; apply Fin.ext
    match a with
    | ⟨0, _⟩ => simp [a0, a1] <;> omega
    | ⟨1, _⟩ => simp <;> omega
  have e1 : idx_main_v1 (idx_main_v4 (idx_main_v5 (ix2 i k))) = ix2 (second i) k := by
    funext a; apply Fin.ext
    match a with
    | ⟨0, _⟩ => simp [second, a0, a1] <;> omega
    | ⟨1, _⟩ => simp [second] <;> omega
  have e2 : idx_main_v8 (idx_main_v9 (ix2 i k)) = ix2 i (0 : Fin 2) := funext fun a => Fin.ext (match a with | ⟨0, _⟩ => rfl | ⟨1, _⟩ => rfl)
  have e3 : idx_main_v11 (idx_main_v12 (ix2 i k)) = ix2 i (1 : Fin 2) := funext fun a => Fin.ext (match a with | ⟨0, _⟩ => rfl | ⟨1, _⟩ => rfl)
  rw [e0, e1, e2, e3]
  rfl

/-- The reference's first result is the norm of those rows. -/
theorem reference_eq : val_main_v39 (F := Ideal) x y p g b = Cert.LnValue.G (M x y p) g b := by
  have h : val_main_v39 (F := Ideal) x y p g b = Cert.ReferenceLnIdeal.Read.val_main_v23 (F := Ideal) (val_main_v15 (F := Ideal) x y p) g b := rfl
  rw [h, reference_mixed]
  exact Cert.LnValue.reference_eq _ g b

/-- Its second result is the same, rounded. -/
theorem reference16_eq : val_main_v40 (F := Ideal) x y p g b = Cert.LnValue.G16 (M x y p) g b :=
  funext fun j => (val_main_v40_apply (F := Ideal) x y p g b j).trans (congrFun (reference_eq x y p g b) j)

end Reference

/-- Kernel and reference end with the same results, entry by entry, from equal arguments. -/
theorem algebraic : Cert.algebraic_KernelCombIdeal_ReferenceCombIdeal := by
  intro m g m' g' _ hargs
  refine ⟨fun c => Cert.LnValue.G (M (m ((c : Thread nD τ).loc main_arg0)) (m ((c : Thread nD τ).loc main_arg1)) (m ((c : Thread nD τ).loc main_arg2))) (m ((c : Thread nD τ).loc main_arg3)) (m ((c : Thread nD τ).loc main_arg4)),
    fun c => Cert.LnValue.G16 (M (m ((c : Thread nD τ).loc main_arg0)) (m ((c : Thread nD τ).loc main_arg1)) (m ((c : Thread nD τ).loc main_arg2))) (m ((c : Thread nD τ).loc main_arg3)) (m ((c : Thread nD τ).loc main_arg4)), ?_, ?_⟩
  · exact (θ_run Cert.KernelCombIdeal.defs _ _).mono
      (fun r h c => ⟨(h c).1.trans (final6 m c), (h c).2.1.trans (final7 m c), (h c).2.2⟩) (Value.run_blocks m g)
  · refine (θ_run Cert.ReferenceCombIdeal.defs _ _).mono
      (fun r h c => ⟨(h c).1.trans ?_, (h c).2.1.trans ?_, (h c).2.2⟩) (Cert.ReferenceCombIdeal.Value.run m' g')
    · have ha := hargs c
      refine (Cert.ReferenceCombIdeal.Read.val_main_v39_eq (F := Ideal) m' c).trans ?_
      rw [ha.1, ha.2.1, ha.2.2.1, ha.2.2.2.1, ha.2.2.2.2]
      exact reference_eq _ _ _ _ _
    · have ha := hargs c
      refine (Cert.ReferenceCombIdeal.Read.val_main_v40_eq (F := Ideal) m' c).trans ?_
      rw [ha.1, ha.2.1, ha.2.2.1, ha.2.2.2.1, ha.2.2.2.2]
      exact reference16_eq _ _ _ _ _

/-- The reference runs, leaves its arguments unchanged and every semaphore counter at zero. -/
theorem reference_quiescent : Cert.quiescent_ReferenceCombIdeal := fun m g _ =>
  (θ_run Cert.ReferenceCombIdeal.defs _ _).mono (fun _ h => ⟨fun c => (h c).2.2, sem_eq_zero_of_no_sems rfl _⟩)
    (Cert.ReferenceCombIdeal.Value.run m g)

end Cert.CombValue

end
-- ==== Proof.Rope.lean ====
/-
  Rotary embedding: what the two calls share. One half head of 64 entries is turned pairwise by the position's angles;
  the kernel writes this as three products with tables of 128 lanes, two of them with the head rolled by eight lanes.
-/
module

public import proofs.«01_k».proof.Defs
public import proofs.«01_k».proof.Proof.Common
public import Idealize.ShloMosaic.Lib.KernelVsHost
public import proofs.«01_k».proof.Proof.Gen.KernelRopeQIdeal.Value
public import proofs.«01_k».proof.Proof.Gen.ReferenceRopeQIdeal.Read

@[expose] public section

noncomputable section

namespace Cert.Rope

open Cert.KernelRopeQIdeal Cert.KernelRopeQIdeal.Gen Idealize.ShloMosaic Idealize.ShloMosaic.TcCoe Idealize.SL.Sem
open Idealize.ShloMosaic.ValueIdx

/-! ## One half head -/

/-- A half head turned: entries 0 to 7 pair with entries 8 to 15, the rest stay. -/
def turn (f : Fin 64 → EReal) (C S : Fin 8 → EReal) (e : Fin 64) : EReal :=
  if h : e.val < 8 then f e * C ⟨e.val, h⟩ - f ⟨e.val + 8, by omega⟩ * S ⟨e.val, h⟩
  else if h' : e.val < 16 then f e * C ⟨e.val - 8, by omega⟩ + f ⟨e.val - 8, by omega⟩ * S ⟨e.val - 8, by omega⟩
  else f e

/-- The three tables at entry `e` of a half head. -/
def cosAt (C : Fin 8 → EReal) (e : Fin 64) : EReal :=
  if h : e.val < 8 then C ⟨e.val, h⟩ else if h' : e.val < 16 then C ⟨e.val - 8, by omega⟩ else 1
def upAt (S : Fin 8 → EReal) (e : Fin 64) : EReal := if h : e.val < 8 then -S ⟨e.val, h⟩ else 0
def downAt (S : Fin 8 → EReal) (e : Fin 64) : EReal :=
  if e.val < 8 then 0 else if h' : e.val < 16 then S ⟨e.val - 8, by omega⟩ else 0

/-- The three products add up to the turned entry. -/
theorem turn_eq (f : Fin 64 → EReal) (C S : Fin 8 → EReal) (e : Fin 64) (x u d : EReal) (hx : x = f e)
    (hu : ∀ h : e.val < 8, u = f ⟨e.val + 8, by omega⟩) (hd : ∀ h : ¬ e.val < 8, ∀ _ : e.val < 16, d = f ⟨e.val - 8, by omega⟩) :
    x * cosAt C e + u * upAt S e + d * downAt S e = turn f C S e := by
  subst hx
  unfold turn cosAt upAt downAt
  by_cases h : e.val < 8
  · rw [dif_pos h, dif_pos h, if_pos h, dif_pos h, hu h, mul_zero, add_zero, mul_neg, ← sub_eq_add_neg]
  · by_cases h' : e.val < 16
    · rw [dif_neg h, dif_neg h, if_neg h, dif_neg h, dif_pos h', dif_pos h', dif_pos h', hd h h', mul_zero, add_zero]
    · rw [dif_neg h, dif_neg h, if_neg h, dif_neg h, dif_neg h', dif_neg h', dif_neg h', mul_zero, mul_zero, add_zero, add_zero, mul_one]

/-! ## One head of a block -/

/-- The kernel's head, entry by entry. -/
theorem head_apply (c u d : FVec Ideal S512x128 .f32) (v : Vec Ideal S1x512x128 .f32) (r : Fin 512) (l : Fin 128) :
    (k0_pay2 (F := Ideal) c u d v (ix3 (0 : Fin 1) r l) : EReal)
      = v (ix3 (0 : Fin 1) r l) * c (ix2 r l) + v (ix3 (0 : Fin 1) r (⟨(l.val + 8) % 128, Nat.mod_lt _ (by decide)⟩ : Fin 128)) * u (ix2 r l)
        + v (ix3 (0 : Fin 1) r (⟨(l.val + 120) % 128, Nat.mod_lt _ (by decide)⟩ : Fin 128)) * d (ix2 r l) := by
  have cast (q : Fin 128) : shapeCast S512x128 v shapeCasts_S1x512x128_S512x128 (ix2 r q) = v (ix3 (0 : Fin 1) r q) :=
    shapeCast_apply v _ (ix2 r q) (ix3 (0 : Fin 1) r q) (by
      rw [Shape.rowMajor_val_three, Shape.rowMajor_val_two]
      show (0 * 512 + r.val) * 128 + q.val = r.val * 128 + q.val
      omega)
  have roll (sb : BitVec 32) (q : Fin 128) (hq : q.val = (l.val + 128 - sb.toNat % 128) % 128) :
      dynamicRotate 1 sb none (shapeCast S512x128 v shapeCasts_S1x512x128_S512x128) rotates_S512x128_d1 (ix2 r l) = v (ix3 (0 : Fin 1) r q) := by
    refine (dynamicRotate_apply 1 sb _ rotates_S512x128_d1 (ix2 r l) (ix2 r q) fun b => ?_).trans (cast q)
    match b with
    | ⟨0, _⟩ => rfl
    | ⟨1, _⟩ => exact hq
  unfold k0_pay2
  refine (shapeCast_apply _ shapeCasts_S512x128_S1x512x128 (ix3 (0 : Fin 1) r l) (ix2 r l) (by
      rw [Shape.rowMajor_val_three, Shape.rowMajor_val_two]
      show r.val * 128 + l.val = (0 * 512 + r.val) * 128 + l.val
      omega)).trans ?_
  refine congrArg₂ (fun s t : EReal => s + t) (congrArg₂ (fun s t : EReal => s + t) ?_ ?_) ?_
  · exact congrArg (fun s : EReal => s * c (ix2 r l)) (cast l)
  · exact congrArg (fun s : EReal => s * u (ix2 r l)) (roll 120#32 _ (by show (l.val + 8) % 128 = (l.val + 128 - 120) % 128; omega))
  · exact congrArg (fun s : EReal => s * d (ix2 r l)) (roll 8#32 _ (by show (l.val + 120) % 128 = (l.val + 128 - 8) % 128; omega))

/-- A whole block, entry by entry: the block's columns, the tables at the column's lane. -/
def blockAt (x : Vec Ideal S1x512x1536 .f32) (c u d : FVec Ideal S512x128 .f32) (r : Fin 512) (k : Fin 1536) : EReal :=
  x (ix3 (0 : Fin 1) r k) * c (ix2 r (⟨k.val % 128, Nat.mod_lt _ (by decide)⟩ : Fin 128))
    + x (ix3 (0 : Fin 1) r (⟨k.val / 128 * 128 + (k.val + 8) % 128, by omega⟩ : Fin 1536)) * u (ix2 r (⟨k.val % 128, Nat.mod_lt _ (by decide)⟩ : Fin 128))
    + x (ix3 (0 : Fin 1) r (⟨k.val / 128 * 128 + (k.val + 120) % 128, by omega⟩ : Fin 1536)) * d (ix2 r (⟨k.val % 128, Nat.mod_lt _ (by decide)⟩ : Fin 128))

/-- A head's piece is the block's at the head's columns. -/
theorem piece_eq (x : Vec Ideal S1x512x1536 .f32) (c u d : FVec Ideal S512x128 .f32) (o : ℕ) (ho : o % 128 = 0)
    (inb : ∀ a, (![0, 0, o] : Fin 3 → ℕ) a + S1x512x128.size a ≤ S1x512x1536.size a) (j : S1x512x128.Idx) :
    (k0_pay2 (F := Ideal) c u d (View.ld x (Rect.unit (s := S1x512x1536) ![0, 0, o] S1x512x128.size inb)) j : EReal)
      = blockAt x c u d ((Rect.unit (s := S1x512x1536) ![0, 0, o] S1x512x128.size inb).emb j 1)
          ((Rect.unit (s := S1x512x1536) ![0, 0, o] S1x512x128.size inb).emb j 2) := by
  obtain ⟨z, r, l, rfl⟩ : ∃ (z : Fin 1) (r : Fin 512) (l : Fin 128), j = ix3 z r l := ⟨j 0, j 1, j 2, eq_ix3 (n0 := 1) (n1 := 512) (n2 := 128) j⟩
  obtain rfl : z = 0 := Subsingleton.elim _ _
  have hi : o + 128 ≤ 1536 := inb 2
  have hl := l.isLt
  have at_ (q : Fin 128) (k : Fin 1536) (hk : k.val = o + q.val) :
      View.ld x (Rect.unit (s := S1x512x1536) ![0, 0, o] S1x512x128.size inb) (ix3 (0 : Fin 1) r q) = x (ix3 (0 : Fin 1) r k) := by
    refine congrArg x (funext fun a => Fin.ext ?_)
    match a with
    | ⟨0, _⟩ => rfl
    | ⟨1, _⟩ => show 0 + 1 * r.val = r.val; omega
    | ⟨2, _⟩ => show o + 1 * q.val = k.val; omega
  have e1 : (Rect.unit (s := S1x512x1536) ![0, 0, o] S1x512x128.size inb).emb (ix3 (0 : Fin 1) r l) 1 = r :=
    Fin.ext (show 0 + 1 * r.val = r.val by omega)
  have e2 : (Rect.unit (s := S1x512x1536) ![0, 0, o] S1x512x128.size inb).emb (ix3 (0 : Fin 1) r l) 2 = (⟨o + l.val, by omega⟩ : Fin 1536) :=
    Fin.ext (show o + 1 * l.val = o + l.val by omega)
  rw [e1, e2, head_apply]
  have el : (⟨(o + l.val) % 128, Nat.mod_lt _ (by decide)⟩ : Fin 128) = l := Fin.ext (by show (o + l.val) % 128 = l.val; omega)
  unfold blockAt
  simp only [el]
  rw [at_ l ⟨o + l.val, by omega⟩ rfl,
    at_ _ (⟨(o + l.val) / 128 * 128 + (o + l.val + 8) % 128, by omega⟩ : Fin 1536) (by show (o + l.val) / 128 * 128 + (o + l.val + 8) % 128 = o + (l.val + 8) % 128; omega),
    at_ _ (⟨(o + l.val) / 128 * 128 + (o + l.val + 120) % 128, by omega⟩ : Fin 1536) (by show (o + l.val) / 128 * 128 + (o + l.val + 120) % 128 = o + (l.val + 120) % 128; omega)]

/-! ## The tables -/

/-- The positions' angles, their cosines and sines. -/
def angles : Vec Ideal S8192x8 .f32 := Cert.ReferenceRopeQIdeal.Read.val_main_v17 (F := Ideal)
def cosines (s : Fin 8192) (e : Fin 8) : EReal := Host.cos (F := Ideal) (φ := .f32) angles (ix2 s e)
def sines (s : Fin 8192) (e : Fin 8) : EReal := Host.sin (F := Ideal) (φ := .f32) angles (ix2 s e)

/-- Constant arrays. -/
def filled (S : Shape) (h : Shape.BroadcastsInDim S_ S ![]) (b : BitVec 32) : Vec Ideal S .f32 := broadcastInDim S ![] h (constant (F := Ideal) S_ .f32 b)

theorem filled_apply (S : Shape) (h : Shape.BroadcastsInDim S_ S ![]) (b : BitVec 32) (i : S.Idx) : filled S h b i = Ideal.ofBits .f32 b :=
  broadcastInDim_apply _ h _ i (fun a => a.elim0) (fun a => a.elim0)

/-- Three column blocks of 8, 8 and 48, twice side by side. -/
def twice (x y : Vec Ideal S8192x8 .f32) (z : Vec Ideal S8192x48 .f32) : Vec Ideal S8192x128 .f32 :=
  concatenate S8192x128 1
    [⟨S8192x64, concatenate S8192x64 1 [⟨S8192x8, x⟩, ⟨S8192x8, y⟩, ⟨S8192x48, z⟩] concatenates_S8192x8_S8192x8_S8192x48_S8192x64_d1⟩,
     ⟨S8192x64, concatenate S8192x64 1 [⟨S8192x8, x⟩, ⟨S8192x8, y⟩, ⟨S8192x48, z⟩] concatenates_S8192x8_S8192x8_S8192x48_S8192x64_d1⟩]
    concatenates_S8192x64_S8192x64_S8192x128_d1

theorem once_apply (x y : Vec Ideal S8192x8 .f32) (z : Vec Ideal S8192x48 .f32) (s : Fin 8192) (e : Fin 64) :
    (concatenate S8192x64 1 [⟨S8192x8, x⟩, ⟨S8192x8, y⟩, ⟨S8192x48, z⟩] concatenates_S8192x8_S8192x8_S8192x48_S8192x64_d1 (ix2 s e) : EReal)
      = if h : e.val < 8 then x (ix2 s ⟨e.val, h⟩) else if h' : e.val < 16 then y (ix2 s ⟨e.val - 8, by omega⟩) else z (ix2 s ⟨e.val - 16, by omega⟩) := by
  have he := e.isLt
  by_cases h : e.val < 8
  · rw [dif_pos h]
    refine concatenate_apply_piece (t := S8192x64) 1 [⟨S8192x8, x⟩, ⟨S8192x8, y⟩, ⟨S8192x48, z⟩] concatenates_S8192x8_S8192x8_S8192x48_S8192x64_d1 (ix2 s e) 0 (by show 0 < 3; omega) S8192x8 x rfl rfl 0 rfl (ix2 s ⟨e.val, h⟩) (fun b hb => ?_) (by show 0 + e.val = e.val; omega)
    match b with
    | ⟨0, _⟩ => rfl
    | ⟨1, _⟩ => exact absurd rfl hb
  · by_cases h' : e.val < 16
    · rw [dif_neg h, dif_pos h']
      refine concatenate_apply_piece (t := S8192x64) 1 [⟨S8192x8, x⟩, ⟨S8192x8, y⟩, ⟨S8192x48, z⟩] concatenates_S8192x8_S8192x8_S8192x48_S8192x64_d1 (ix2 s e) 1 (by show 1 < 3; omega) S8192x8 y rfl rfl 8 rfl (ix2 s ⟨e.val - 8, by omega⟩) (fun b hb => ?_) (by show 8 + (e.val - 8) = e.val; omega)
      match b with
      | ⟨0, _⟩ => rfl
      | ⟨1, _⟩ => exact absurd rfl hb
    · rw [dif_neg h, dif_neg h']
      refine concatenate_apply_piece (t := S8192x64) 1 [⟨S8192x8, x⟩, ⟨S8192x8, y⟩, ⟨S8192x48, z⟩] concatenates_S8192x8_S8192x8_S8192x48_S8192x64_d1 (ix2 s e) 2 (by show 2 < 3; omega) S8192x48 z rfl rfl 16 rfl (ix2 s ⟨e.val - 16, by omega⟩) (fun b hb => ?_) (by show 16 + (e.val - 16) = e.val; omega)
      match b with
      | ⟨0, _⟩ => rfl
      | ⟨1, _⟩ => exact absurd rfl hb

theorem twice_apply (x y : Vec Ideal S8192x8 .f32) (z : Vec Ideal S8192x48 .f32) (s : Fin 8192) (l : Fin 128) (e : Fin 64) (he : e.val = l.val % 64) :
    (twice x y z (ix2 s l) : EReal)
      = if h : e.val < 8 then x (ix2 s ⟨e.val, h⟩) else if h' : e.val < 16 then y (ix2 s ⟨e.val - 8, by omega⟩) else z (ix2 s ⟨e.val - 16, by omega⟩) := by
  have hl := l.isLt
  refine Eq.trans ?_ (once_apply x y z s e)
  unfold twice
  by_cases h : l.val < 64
  · refine concatenate_pair_apply_left 1 _ _ concatenates_S8192x64_S8192x64_S8192x128_d1 (ix2 s l) rfl (ix2 s e) fun b => ?_
    match b with
    | ⟨0, _⟩ => rfl
    | ⟨1, _⟩ => show e.val = l.val; omega
  · refine concatenate_pair_apply_right 1 _ _ concatenates_S8192x64_S8192x64_S8192x128_d1 (ix2 s l) rfl rfl (ix2 s e) (fun b hb => ?_) (by show e.val + 64 = l.val; omega)
    match b with
    | ⟨0, _⟩ => rfl
    | ⟨1, _⟩ => exact absurd rfl hb

/-- The kernel's three tables, unscaled. -/
def cosTable : Vec Ideal S8192x128 .f32 :=
  twice (Host.cos (F := Ideal) (φ := .f32) angles) (Host.cos (F := Ideal) (φ := .f32) angles) (filled S8192x48 bcast_S_S8192x48 0x3F800000#32)
def upTable : Vec Ideal S8192x128 .f32 :=
  twice (Host.negf (F := Ideal) (φ := .f32) (Host.sin (F := Ideal) (φ := .f32) angles)) (filled S8192x8 bcast_S_S8192x8 0x00000000#32) (filled S8192x48 bcast_S_S8192x48 0x00000000#32)
def downTable : Vec Ideal S8192x128 .f32 :=
  twice (filled S8192x8 bcast_S_S8192x8 0x00000000#32) (Host.sin (F := Ideal) (φ := .f32) angles) (filled S8192x48 bcast_S_S8192x48 0x00000000#32)

theorem bits_one : Ideal.ofBits .f32 0x3F800000#32 = (1 : EReal) := by
  simp [Ideal.ofBits, Ideal.ieee, -EReal.coe_mul]; norm_num

theorem cosTable_apply (s : Fin 8192) (l : Fin 128) (e : Fin 64) (he : e.val = l.val % 64) : cosTable (ix2 s l) = cosAt (cosines s) e := by
  refine (twice_apply _ _ _ s l e he).trans ?_
  unfold cosAt
  by_cases h : e.val < 8
  · rw [dif_pos h, dif_pos h]; rfl
  · by_cases h' : e.val < 16
    · rw [dif_neg h, dif_neg h, dif_pos h', dif_pos h']; rfl
    · rw [dif_neg h, dif_neg h, dif_neg h', dif_neg h']
      exact (filled_apply _ _ _ _).trans bits_one

theorem upTable_apply (s : Fin 8192) (l : Fin 128) (e : Fin 64) (he : e.val = l.val % 64) : upTable (ix2 s l) = upAt (sines s) e := by
  refine (twice_apply _ _ _ s l e he).trans ?_
  unfold upAt
  by_cases h : e.val < 8
  · rw [dif_pos h, dif_pos h]; rfl
  · by_cases h' : e.val < 16
    · rw [dif_neg h, dif_neg h, dif_pos h']
      exact (filled_apply _ _ _ _).trans Ideal.ofBits_zero_f32
    · rw [dif_neg h, dif_neg h, dif_neg h']
      exact (filled_apply _ _ _ _).trans Ideal.ofBits_zero_f32

theorem downTable_apply (s : Fin 8192) (l : Fin 128) (e : Fin 64) (he : e.val = l.val % 64) : downTable (ix2 s l) = downAt (sines s) e := by
  refine (twice_apply _ _ _ s l e he).trans ?_
  unfold downAt
  by_cases h : e.val < 8
  · rw [dif_pos h, if_pos h]
    exact (filled_apply _ _ _ _).trans Ideal.ofBits_zero_f32
  · by_cases h' : e.val < 16
    · rw [dif_neg h, if_neg h, dif_pos h', dif_pos h']; rfl
    · rw [dif_neg h, if_neg h, dif_neg h', dif_neg h']
      exact (filled_apply _ _ _ _).trans Ideal.ofBits_zero_f32

/-! ## The turned columns -/

/-- The half head of column `k` in the row of position `s` of sequence `b`: the second two sequences' rows, the columns from `o` on. -/
def half (o : ℕ) (ho : o + 1536 ≤ 3072) (x : Vec Ideal S32768x3072 .f32) (b : Fin 2) (s : Fin 8192) (k : Fin 1536) (e : Fin 64) : EReal :=
  x (ix2 (⟨16384 + (b.val * 8192 + s.val), by omega⟩ : Fin 32768) (⟨o + (k.val / 64 * 64 + e.val), by omega⟩ : Fin 3072))

/-- Column `k` turned. -/
def turned (o : ℕ) (ho : o + 1536 ≤ 3072) (x : Vec Ideal S32768x3072 .f32) (b : Fin 2) (s : Fin 8192) (k : Fin 1536) : EReal :=
  turn (half o ho x b s k) (cosines s) (sines s) ⟨k.val % 64, Nat.mod_lt _ (by decide)⟩

/-- A block's entry is the turned column, its rows being the array's and its tables the three tables. -/
theorem blockAt_eq (o : ℕ) (ho : o + 1536 ≤ 3072) (x : Vec Ideal S32768x3072 .f32) (b : Fin 2) (s : Fin 8192)
    (v : Vec Ideal S1x512x1536 .f32) (c u d : FVec Ideal S512x128 .f32) (r : Fin 512) (k : Fin 1536)
    (hv : ∀ q : Fin 1536, v (ix3 (0 : Fin 1) r q) = x (ix2 (⟨16384 + (b.val * 8192 + s.val), by omega⟩ : Fin 32768) (⟨o + q.val, by omega⟩ : Fin 3072)))
    (hc : ∀ l : Fin 128, c (ix2 r l) = cosTable (ix2 s l)) (hu : ∀ l : Fin 128, u (ix2 r l) = upTable (ix2 s l))
    (hd : ∀ l : Fin 128, d (ix2 r l) = downTable (ix2 s l)) : blockAt v c u d r k = turned o ho x b s k := by
  have hk := k.isLt
  have e : k.val % 64 = k.val % 128 % 64 := by omega
  unfold blockAt turned
  rw [hc, hu, hd, cosTable_apply s _ (⟨k.val % 64, Nat.mod_lt _ (by decide)⟩ : Fin 64) e, upTable_apply s _ (⟨k.val % 64, Nat.mod_lt _ (by decide)⟩ : Fin 64) e,
    downTable_apply s _ (⟨k.val % 64, Nat.mod_lt _ (by decide)⟩ : Fin 64) e]
  refine turn_eq _ _ _ _ _ _ _ ?_ (fun h => ?_) (fun h h' => ?_)
  · rw [hv]
    exact congrArg (fun q => x (ix2 _ q)) (Fin.ext (by show o + k.val = o + (k.val / 64 * 64 + k.val % 64); omega))
  · rw [hv]
    replace h : k.val % 64 < 8 := h
    exact congrArg (fun q => x (ix2 _ q)) (Fin.ext (by
      show o + (k.val / 128 * 128 + (k.val + 8) % 128) = o + (k.val / 64 * 64 + (k.val % 64 + 8)); omega))
  · rw [hv]
    replace h : ¬ k.val % 64 < 8 := h
    replace h' : k.val % 64 < 16 := h'
    exact congrArg (fun q => x (ix2 _ q)) (Fin.ext (by
      show o + (k.val / 128 * 128 + (k.val + 120) % 128) = o + (k.val / 64 * 64 + (k.val % 64 - 8)); omega))

/-- Scaling all three tables by a real factor that is not negative scales the entry. -/
theorem blockAt_scaled (z : EReal) (h0 : 0 ≤ z) (h1 : z ≠ ⊤) (v : Vec Ideal S1x512x1536 .f32) (c u d c' u' d' : FVec Ideal S512x128 .f32) (r : Fin 512) (k : Fin 1536)
    (hc : ∀ l : Fin 128, (c' (ix2 r l) : EReal) = c (ix2 r l) * z) (hu : ∀ l : Fin 128, (u' (ix2 r l) : EReal) = u (ix2 r l) * z)
    (hd : ∀ l : Fin 128, (d' (ix2 r l) : EReal) = d (ix2 r l) * z) : blockAt v c' u' d' r k = blockAt v c u d r k * z := by
  unfold blockAt
  rw [hc, hu, hd, EReal.right_distrib_of_nonneg_of_ne_top h0 h1, EReal.right_distrib_of_nonneg_of_ne_top h0 h1]
  simp only [mul_assoc]

/-! ## The reference's turning -/

section Reference
open Cert.ReferenceRopeQIdeal Cert.ReferenceRopeQIdeal.Read Cert.ReferenceRopeQIdeal.Gen

/-- The reference's turned half heads. -/
def turnedHeads (y : Vec Ideal Cert.ReferenceRopeQIdeal.S2x8192x12x2x64 .f32) : Vec Ideal Cert.ReferenceRopeQIdeal.S2x8192x12x2x64 .f32 :=
  concatenate Cert.ReferenceRopeQIdeal.S2x8192x12x2x64 4
    [⟨S2x8192x12x2x8, subf (F := Ideal) (φ := .f32) (mulf (extractStridedSlice S2x8192x12x2x8 ![0, 0, 0, 0, 0] y slices_S2x8192x12x2x64_S2x8192x12x2x8_0_0_0_0_0) (val_main_v24 (F := Ideal)))
        (mulf (extractStridedSlice S2x8192x12x2x8 ![0, 0, 0, 0, 8] y slices_S2x8192x12x2x64_S2x8192x12x2x8_0_0_0_0_8) (val_main_v27 (F := Ideal)))⟩,
     ⟨S2x8192x12x2x8, addf (F := Ideal) (φ := .f32) (mulf (extractStridedSlice S2x8192x12x2x8 ![0, 0, 0, 0, 8] y slices_S2x8192x12x2x64_S2x8192x12x2x8_0_0_0_0_8) (val_main_v31 (F := Ideal)))
        (mulf (extractStridedSlice S2x8192x12x2x8 ![0, 0, 0, 0, 0] y slices_S2x8192x12x2x64_S2x8192x12x2x8_0_0_0_0_0) (val_main_v34 (F := Ideal)))⟩,
     ⟨S2x8192x12x2x48, extractStridedSlice S2x8192x12x2x48 ![0, 0, 0, 0, 16] y slices_S2x8192x12x2x64_S2x8192x12x2x48_0_0_0_0_16⟩]
    concatenates_S2x8192x12x2x8_S2x8192x12x2x8_S2x8192x12x2x48_S2x8192x12x2x64_d4

theorem cos_apply (b : Fin 2) (s : Fin 8192) (h : Fin 12) (p : Fin 2) (e : Fin 8) :
    (val_main_v24 (F := Ideal) (ix5 b s h p e) : EReal) = cosines s e := by
  rw [val_main_v24_apply, val_main_v23_apply, val_main_v19_apply, val_main_v18_apply]
  exact congrArg (fun i => FloatOps.hostUnary (F := Ideal) (φ := .f32) .cos (angles i)) (funext fun a => match a with | ⟨0, _⟩ => rfl | ⟨1, _⟩ => rfl)

theorem sin_apply (b : Fin 2) (s : Fin 8192) (h : Fin 12) (p : Fin 2) (e : Fin 8) :
    (val_main_v27 (F := Ideal) (ix5 b s h p e) : EReal) = sines s e := by
  rw [val_main_v27_apply, val_main_v26_apply, val_main_v20_apply, val_main_v18_apply]
  exact congrArg (fun i => FloatOps.hostUnary (F := Ideal) (φ := .f32) .sin (angles i)) (funext fun a => match a with | ⟨0, _⟩ => rfl | ⟨1, _⟩ => rfl)

theorem first_apply (y : Vec Ideal Cert.ReferenceRopeQIdeal.S2x8192x12x2x64 .f32) (b : Fin 2) (s : Fin 8192) (h : Fin 12) (p : Fin 2) (e : Fin 8) (e' : Fin 64) (he : e'.val = e.val) :
    extractStridedSlice S2x8192x12x2x8 ![0, 0, 0, 0, 0] y slices_S2x8192x12x2x64_S2x8192x12x2x8_0_0_0_0_0 (ix5 b s h p e) = y (ix5 b s h p e') :=
  extractStridedSlice_apply ![0, 0, 0, 0, 0] y slices_S2x8192x12x2x64_S2x8192x12x2x8_0_0_0_0_0 (ix5 b s h p e) (ix5 b s h p e') fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => he.trans (Nat.zero_add _).symm

theorem second_apply (y : Vec Ideal Cert.ReferenceRopeQIdeal.S2x8192x12x2x64 .f32) (b : Fin 2) (s : Fin 8192) (h : Fin 12) (p : Fin 2) (e : Fin 8) (e' : Fin 64) (he : e'.val = 8 + e.val) :
    extractStridedSlice S2x8192x12x2x8 ![0, 0, 0, 0, 8] y slices_S2x8192x12x2x64_S2x8192x12x2x8_0_0_0_0_8 (ix5 b s h p e) = y (ix5 b s h p e') :=
  extractStridedSlice_apply ![0, 0, 0, 0, 8] y slices_S2x8192x12x2x64_S2x8192x12x2x8_0_0_0_0_8 (ix5 b s h p e) (ix5 b s h p e') fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => he

theorem rest_apply (y : Vec Ideal Cert.ReferenceRopeQIdeal.S2x8192x12x2x64 .f32) (b : Fin 2) (s : Fin 8192) (h : Fin 12) (p : Fin 2) (e : Fin 48) (e' : Fin 64) (he : e'.val = 16 + e.val) :
    extractStridedSlice S2x8192x12x2x48 ![0, 0, 0, 0, 16] y slices_S2x8192x12x2x64_S2x8192x12x2x48_0_0_0_0_16 (ix5 b s h p e) = y (ix5 b s h p e') :=
  extractStridedSlice_apply ![0, 0, 0, 0, 16] y slices_S2x8192x12x2x64_S2x8192x12x2x48_0_0_0_0_16 (ix5 b s h p e) (ix5 b s h p e') fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => he

theorem turnedHeads_apply (y : Vec Ideal Cert.ReferenceRopeQIdeal.S2x8192x12x2x64 .f32) (b : Fin 2) (s : Fin 8192) (h : Fin 12) (p : Fin 2) (e : Fin 64) :
    (turnedHeads y (ix5 b s h p e) : EReal) = turn (fun q => y (ix5 b s h p q)) (cosines s) (sines s) e := by
  have he := e.isLt
  unfold turnedHeads turn
  by_cases h0 : e.val < 8
  · rw [dif_pos h0]
    refine (concatenate_apply_piece (t := Cert.ReferenceRopeQIdeal.S2x8192x12x2x64) 4 [⟨S2x8192x12x2x8, _⟩, ⟨S2x8192x12x2x8, _⟩, ⟨S2x8192x12x2x48, _⟩]
      concatenates_S2x8192x12x2x8_S2x8192x12x2x8_S2x8192x12x2x48_S2x8192x12x2x64_d4 (ix5 b s h p e) 0 (by show 0 < 3; omega) S2x8192x12x2x8 _ rfl rfl 0 rfl
      (ix5 b s h p ⟨e.val, h0⟩) (fun a ha => ?_) (by show 0 + e.val = e.val; omega)).trans ?_
    · match a with
      | ⟨0, _⟩ => rfl
      | ⟨1, _⟩ => rfl
      | ⟨2, _⟩ => rfl
      | ⟨3, _⟩ => rfl
      | ⟨4, _⟩ => exact absurd rfl ha
    · exact congrArg₂ (fun s t : EReal => s - t)
        (congrArg₂ (fun s t : EReal => s * t) (first_apply y b s h p ⟨e.val, h0⟩ e rfl) (cos_apply b s h p ⟨e.val, h0⟩))
        (congrArg₂ (fun s t : EReal => s * t) (second_apply y b s h p ⟨e.val, h0⟩ ⟨e.val + 8, by omega⟩ (Nat.add_comm _ _)) (sin_apply b s h p ⟨e.val, h0⟩))
  · by_cases h1 : e.val < 16
    · rw [dif_neg h0, dif_pos h1]
      refine (concatenate_apply_piece (t := Cert.ReferenceRopeQIdeal.S2x8192x12x2x64) 4 [⟨S2x8192x12x2x8, _⟩, ⟨S2x8192x12x2x8, _⟩, ⟨S2x8192x12x2x48, _⟩]
        concatenates_S2x8192x12x2x8_S2x8192x12x2x8_S2x8192x12x2x48_S2x8192x12x2x64_d4 (ix5 b s h p e) 1 (by show 1 < 3; omega) S2x8192x12x2x8 _ rfl rfl 8 rfl
        (ix5 b s h p ⟨e.val - 8, by omega⟩) (fun a ha => ?_) (by show 8 + (e.val - 8) = e.val; omega)).trans ?_
      · match a with
        | ⟨0, _⟩ => rfl
        | ⟨1, _⟩ => rfl
        | ⟨2, _⟩ => rfl
        | ⟨3, _⟩ => rfl
        | ⟨4, _⟩ => exact absurd rfl ha
      · exact congrArg₂ (fun s t : EReal => s + t)
          (congrArg₂ (fun s t : EReal => s * t) (second_apply y b s h p ⟨e.val - 8, by omega⟩ e (by show e.val = 8 + (e.val - 8); omega)) (cos_apply b s h p ⟨e.val - 8, by omega⟩))
          (congrArg₂ (fun s t : EReal => s * t) (first_apply y b s h p ⟨e.val - 8, by omega⟩ ⟨e.val - 8, by omega⟩ rfl) (sin_apply b s h p ⟨e.val - 8, by omega⟩))
    · rw [dif_neg h0, dif_neg h1]
      refine (concatenate_apply_piece (t := Cert.ReferenceRopeQIdeal.S2x8192x12x2x64) 4 [⟨S2x8192x12x2x8, _⟩, ⟨S2x8192x12x2x8, _⟩, ⟨S2x8192x12x2x48, _⟩]
        concatenates_S2x8192x12x2x8_S2x8192x12x2x8_S2x8192x12x2x48_S2x8192x12x2x64_d4 (ix5 b s h p e) 2 (by show 2 < 3; omega) S2x8192x12x2x48 _ rfl rfl 16 rfl
        (ix5 b s h p ⟨e.val - 16, by omega⟩) (fun a ha => ?_) (by show 16 + (e.val - 16) = e.val; omega)).trans ?_
      · match a with
        | ⟨0, _⟩ => rfl
        | ⟨1, _⟩ => rfl
        | ⟨2, _⟩ => rfl
        | ⟨3, _⟩ => rfl
        | ⟨4, _⟩ => exact absurd rfl ha
      · exact rest_apply y b s h p ⟨e.val - 16, by omega⟩ e (by show e.val = 16 + (e.val - 16); omega)

end Reference

end Cert.Rope

end
-- ==== Proof.RopeQValue.lean ====
/-
  The query's rotary embedding: the value of the kernel's result.
-/
module

public import proofs.«01_k».proof.Defs
public import proofs.«01_k».proof.Proof.Rope

@[expose] public section

noncomputable section

namespace Cert.RopeQValue

open Cert.KernelRopeQIdeal Cert.KernelRopeQIdeal.Gen Idealize.ShloMosaic Idealize.ShloMosaic.TcCoe Idealize.SL.Sem
open Idealize.ShloMosaic.ValueIdx
open Idealize.ShloMosaic.Pipeline (Dat)
open Cert.Rope

/-- The query's scale. -/
def scale : EReal := Ideal.ofBits .f32 0x3E38AA3B#32

theorem scale_real : ∃ r : ℝ, 0 ≤ r ∧ scale = (r : EReal) := by
  refine ⟨12102203 * (2 ^ 26)⁻¹, by positivity, ?_⟩
  unfold scale
  simp [Ideal.ofBits, Ideal.ieee, -EReal.coe_mul]

theorem scale_nonneg : 0 ≤ scale := by
  obtain ⟨r, hr, e⟩ := scale_real
  rw [e]; exact EReal.coe_nonneg.2 hr

theorem scale_ne_top : scale ≠ ⊤ := by
  obtain ⟨r, _, e⟩ := scale_real
  rw [e]; exact EReal.coe_ne_top r

/-- The result: the first half of the columns turned, times the scale. -/
def G (x : Vec Ideal S32768x3072 .f32) : Vec Ideal S2x8192x1536 .bf16 :=
  fun i => turned 0 (by omega) x (i 0) (i 1) (i 2) * scale

/-! ## One block -/

theorem block_apply (x : Vec Ideal S1x512x1536 .f32) (c u d : Vec Ideal S512x128 .f32) (r : Fin 512) (k : Fin 1536) :
    (out0_4 (F := Ideal) x c u d (ix3 (0 : Fin 1) r k) : EReal) = blockAt x c u d r k := by
  have e3 (y : Vec Ideal S512x128 .f32) : shapeCast S512x128 (View.ld y r0_0) shapeCasts_S512x128_S512x128 = y := by
    rw [View.ld_unit_zero (S := S512x128) Common.zero2]
    exact funext fun j => shapeCast_apply y _ j j rfl
  have p22 : k0_pay22 (F := Ideal) x c u d = c := e3 c
  have p23 : k0_pay23 (F := Ideal) x c u d = u := e3 u
  have p24 : k0_pay24 (F := Ideal) x c u d = d := e3 d
  unfold out0_4
  refine View.canon_apply_of_pieces (Val := Elt Ideal) (e := .bf16) (fun j : S1x512x1536.Idx => blockAt x c u d (j 1) (j 2)) _ ?_ (ix3 (0 : Fin 1) r k) (cover0_4 _ _ _ _ _ _ _ _ _ _ _ _ _)
  intro p hp
  have f6 : k0_pay6 (F := Ideal) (View.ld c r0_0) (View.ld u r0_0) (View.ld d r0_0) (View.ld x r0_1) = k0_pay2 (F := Ideal) (k0_pay22 x c u d) (k0_pay23 x c u d) (k0_pay24 x c u d) (View.ld x r0_1) := rfl
  have f7 : k0_pay7 (F := Ideal) (View.ld c r0_0) (View.ld u r0_0) (View.ld d r0_0) (View.ld x r0_2) = k0_pay2 (F := Ideal) (k0_pay22 x c u d) (k0_pay23 x c u d) (k0_pay24 x c u d) (View.ld x r0_2) := rfl
  rw [f6, f7, p22, p23, p24] at hp
  simp only [List.mem_cons, List.not_mem_nil, or_false] at hp
  rcases hp with rfl | rfl | rfl | rfl | rfl | rfl | rfl | rfl | rfl | rfl | rfl | rfl
  · exact piece_eq x c u d 1408 rfl _
  · exact piece_eq x c u d 1280 rfl _
  · exact piece_eq x c u d 1152 rfl _
  · exact piece_eq x c u d 1024 rfl _
  · exact piece_eq x c u d 896 rfl _
  · exact piece_eq x c u d 768 rfl _
  · exact piece_eq x c u d 640 rfl _
  · exact piece_eq x c u d 512 rfl _
  · exact piece_eq x c u d 384 rfl _
  · exact piece_eq x c u d 256 rfl _
  · exact piece_eq x c u d 128 rfl _
  · exact piece_eq x c u d 0 rfl _

/-! ## The blocks of a grid point -/

variable (m : (ℓ : Loc nD τ sig) → Buf (Elt Ideal) ℓ)

theorem V_main_v34 (c : Dev nD) : V m c main_v34 = shapeCast S4x8192x3072 (m ((c : Thread nD τ).loc main_arg0)) shapeCasts_S32768x3072_S4x8192x3072 := by
  show StableHlo.after (List.flatten [hostOps0]) (fun b => m (c, b)) (Proc.devRef .tc main_v34) = _
  simp only [hostOps0, List.flatten_cons, List.flatten_nil, List.append_nil]
  after_results
  rfl

theorem V_main_v29 (c : Dev nD) : V m c main_v29 = (mulf cosTable (filled S8192x128 bcast_S_S8192x128 0x3E38AA3B#32) : FVec Ideal S8192x128 .f32) := by
  show StableHlo.after (List.flatten [hostOps0]) (fun b => m (c, b)) (Proc.devRef .tc main_v29) = _
  simp only [hostOps0, List.flatten_cons, List.flatten_nil, List.append_nil]
  after_results
  rfl

theorem V_main_v31 (c : Dev nD) : V m c main_v31 = (mulf upTable (filled S8192x128 bcast_S_S8192x128 0x3E38AA3B#32) : FVec Ideal S8192x128 .f32) := by
  show StableHlo.after (List.flatten [hostOps0]) (fun b => m (c, b)) (Proc.devRef .tc main_v31) = _
  simp only [hostOps0, List.flatten_cons, List.flatten_nil, List.append_nil]
  after_results
  rfl

theorem V_main_v33 (c : Dev nD) : V m c main_v33 = (mulf downTable (filled S8192x128 bcast_S_S8192x128 0x3E38AA3B#32) : FVec Ideal S8192x128 .f32) := by
  show StableHlo.after (List.flatten [hostOps0]) (fun b => m (c, b)) (Proc.devRef .tc main_v33) = _
  simp only [hostOps0, List.flatten_cons, List.flatten_nil, List.append_nil]
  after_results
  rfl

/-- The block of each window at a grid point. -/
theorem index0 : ∀ t : Fin grid0.N, win0_0.index t 0 = t.val / 16 + 2 ∧ win0_0.index t 1 = t.val % 16 ∧ win0_0.index t 2 = 0 := by decide +kernel
theorem index1 : ∀ t : Fin grid0.N, win0_1.index t 0 = t.val % 16 ∧ win0_1.index t 1 = 0 := by decide +kernel
theorem index2 : ∀ t : Fin grid0.N, win0_2.index t 0 = t.val % 16 ∧ win0_2.index t 1 = 0 := by decide +kernel
theorem index3 : ∀ t : Fin grid0.N, win0_3.index t 0 = t.val % 16 ∧ win0_3.index t 1 = 0 := by decide +kernel
theorem index4 : ∀ t : Fin grid0.N, win0_4.index t 0 = t.val / 16 ∧ win0_4.index t 1 = t.val % 16 ∧ win0_4.index t 2 = 0 := by decide +kernel

/-- The columns at a point. -/
theorem column_apply (c : Dev nD) (t : Fin cfg0.N) (r : Fin 512) (k : Fin 1536) (i : Fin 32768) (q : Fin 3072)
    (h : i.val = 16384 + (t.val / 16 * 8192 + (t.val % 16 * 512 + r.val))) (hq : q.val = 0 + k.val) :
    iblk m c 0 t (ix3 (0 : Fin 1) r k) = m ((c : Thread nD τ).loc main_arg0) (ix2 i q) := by
  unfold iblk
  rw [View.read_apply]
  show V m c main_v34 _ = m ((c : Thread nD τ).loc main_arg0) _
  rw [V_main_v34]
  refine shapeCast_apply _ shapeCasts_S32768x3072_S4x8192x3072 _ (ix2 i q) ?_
  rw [Shape.rowMajor_val_three, Shape.rowMajor_val_two]
  show i.val * 3072 + q.val = ((win0_0.index t 0 * 1 + 1 * 0) * 8192 + (win0_0.index t 1 * 512 + 1 * r.val)) * 3072 + (win0_0.index t 2 * 1536 + 1 * k.val)
  rw [(index0 t).1, (index0 t).2.1, (index0 t).2.2]
  omega

/-- The tables' rows at a point. -/
theorem cos_rows (c : Dev nD) (t : Fin cfg0.N) (r : Fin 512) (l : Fin 128) (s : Fin 8192) (h : s.val = t.val % 16 * 512 + r.val) :
    (iblk m c 1 t (ix2 r l) : EReal) = cosTable (ix2 s l) * scale := by
  unfold iblk
  rw [View.read_apply]
  show V m c main_v29 _ = _
  rw [V_main_v29]
  refine congrArg₂ (fun a b : EReal => a * b) (congrArg cosTable (funext fun a => Fin.ext ?_)) (filled_apply _ _ _ _)
  match a with
  | ⟨0, _⟩ => show win0_1.index t 0 * 512 + 1 * r.val = s.val; rw [(index1 t).1]; omega
  | ⟨1, _⟩ => show win0_1.index t 1 * 128 + 1 * l.val = l.val; rw [(index1 t).2]; omega

theorem up_rows (c : Dev nD) (t : Fin cfg0.N) (r : Fin 512) (l : Fin 128) (s : Fin 8192) (h : s.val = t.val % 16 * 512 + r.val) :
    (iblk m c 2 t (ix2 r l) : EReal) = upTable (ix2 s l) * scale := by
  unfold iblk
  rw [View.read_apply]
  show V m c main_v31 _ = _
  rw [V_main_v31]
  refine congrArg₂ (fun a b : EReal => a * b) (congrArg upTable (funext fun a => Fin.ext ?_)) (filled_apply _ _ _ _)
  match a with
  | ⟨0, _⟩ => show win0_2.index t 0 * 512 + 1 * r.val = s.val; rw [(index2 t).1]; omega
  | ⟨1, _⟩ => show win0_2.index t 1 * 128 + 1 * l.val = l.val; rw [(index2 t).2]; omega

theorem down_rows (c : Dev nD) (t : Fin cfg0.N) (r : Fin 512) (l : Fin 128) (s : Fin 8192) (h : s.val = t.val % 16 * 512 + r.val) :
    (iblk m c 3 t (ix2 r l) : EReal) = downTable (ix2 s l) * scale := by
  unfold iblk
  rw [View.read_apply]
  show V m c main_v33 _ = _
  rw [V_main_v33]
  refine congrArg₂ (fun a b : EReal => a * b) (congrArg downTable (funext fun a => Fin.ext ?_)) (filled_apply _ _ _ _)
  match a with
  | ⟨0, _⟩ => show win0_3.index t 0 * 512 + 1 * r.val = s.val; rw [(index3 t).1]; omega
  | ⟨1, _⟩ => show win0_3.index t 1 * 128 + 1 * l.val = l.val; rw [(index3 t).2]; omega

/-- Every grid point writes back its own block of `G`. -/
theorem flushed_eq (c : Dev nD) (t : Fin cfg0.N) :
    (dats m 0 c).flushed 4 t = ((cfg0.win 4).blk t).view.read (Elt Ideal) (G (m ((c : Thread nD τ).loc main_arg0))) := by
  rw [Value.flushed4]
  funext j
  have ht : t.val < 32 := t.isLt
  obtain ⟨z, r, k, rfl⟩ : ∃ (z : Fin 1) (r : Fin 512) (k : Fin 1536), j = ix3 z r k := ⟨j 0, j 1, j 2, eq_ix3 (n0 := 1) (n1 := 512) (n2 := 1536) j⟩
  obtain rfl : z = 0 := Subsingleton.elim _ _
  have hr := r.isLt
  have e : ((cfg0.win 4).blk t).view.emb (ix3 (0 : Fin 1) r k)
      = (ix3 (⟨t.val / 16, by omega⟩ : Fin 2) (⟨t.val % 16 * 512 + r.val, by omega⟩ : Fin 8192) k : S2x8192x1536.Idx) := by
    funext a; apply Fin.ext
    match a with
    | ⟨0, _⟩ => show win0_4.index t 0 * 1 + 1 * 0 = t.val / 16; rw [(index4 t).1]; omega
    | ⟨1, _⟩ => show win0_4.index t 1 * 512 + 1 * r.val = t.val % 16 * 512 + r.val; rw [(index4 t).2.1]; omega
    | ⟨2, _⟩ => show win0_4.index t 2 * 1536 + 1 * k.val = k.val; rw [(index4 t).2.2]; omega
  rw [View.read_apply, e]
  refine (block_apply (iblk m c 0 t) (iblk m c 1 t) (iblk m c 2 t) (iblk m c 3 t) r k).trans ?_
  let s : Fin 8192 := ⟨t.val % 16 * 512 + r.val, by omega⟩
  refine (blockAt_scaled scale scale_nonneg scale_ne_top (iblk m c 0 t) (fun i => cosTable (ix2 s (i 1))) (fun i => upTable (ix2 s (i 1))) (fun i => downTable (ix2 s (i 1)))
    (iblk m c 1 t) (iblk m c 2 t) (iblk m c 3 t) r k (fun l => cos_rows m c t r l s rfl) (fun l => up_rows m c t r l s rfl) (fun l => down_rows m c t r l s rfl)).trans ?_
  refine congrArg (fun a : EReal => a * scale) ?_
  exact blockAt_eq 0 (by omega) (m ((c : Thread nD τ).loc main_arg0)) ⟨t.val / 16, by omega⟩ s (iblk m c 0 t) _ _ _ r k
    (fun q => column_apply m c t r q _ _ rfl rfl) (fun _ => rfl) (fun _ => rfl) (fun _ => rfl)

/-- Every entry of the result lies in some point's block. -/
theorem cover (i : S2x8192x1536.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 1536 := (i 2).isLt
  have hN : cfg0.N = 32 := by decide
  obtain ⟨t, ht⟩ : ∃ t : Fin grid0.N, t.val = (i 0).val * 16 + (i 1).val / 512 := ⟨⟨(i 0).val * 16 + (i 1).val / 512, by show _ < cfg0.N; rw [hN]; omega⟩, rfl⟩
  refine ⟨t, flush0_4 t, ?_⟩
  show i ∈ ((View.whole main_v35).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(index4 t).1]; omega
  | ⟨1, _⟩ =>
    show win0_4.index t 1 * 512 ≤ (i 1).val ∧ (i 1).val < win0_4.index t 1 * 512 + 512
    rw [(index4 t).2.1]; omega
  | ⟨2, _⟩ =>
    show win0_4.index t 2 * 1536 ≤ (i 2).val ∧ (i 2).val < win0_4.index t 2 * 1536 + 1536
    rw [(index4 t).2.2]; omega

/-- The result after the run. -/
theorem final (c : Dev nD) : (dats m 0 c).arrAt 4 cfg0.N = G (m ((c : Thread nD τ).loc main_arg0)) :=
  (dats m 0 c).arrAt_eq_of_cover 4 _ (fun t _ => flushed_eq m c t) cover

/-! ## The reference -/

section Reference
open Cert.ReferenceRopeQIdeal.Read
variable (x : Vec Ideal S32768x3072 .f32)

theorem heads_apply (b : Fin 2) (s : Fin 8192) (h : Fin 12) (p : Fin 2) (e : Fin 64) (k : Fin 1536) (hk : k.val / 64 = h.val * 2 + p.val) :
    val_main_v1 (F := Ideal) x (ix5 b s h p e) = half 0 (by omega) x b s k e := by
  rw [val_main_v1_apply, val_main_v0_apply]
  have hb := b.isLt
  have hs := s.isLt
  have hh := h.isLt
  have hp := p.isLt
  have he := e.isLt
  refine congrArg x (funext fun a => Fin.ext ?_)
  match a with
  | ⟨0, _⟩ =>
    show 16384 + ((((b.val * 8192 + s.val) * 12 + h.val) * 2 + p.val) * 64 + e.val) / 1536 = 16384 + (b.val * 8192 + s.val)
    omega
  | ⟨1, _⟩ =>
    show ((((b.val * 8192 + s.val) * 12 + h.val) * 2 + p.val) * 64 + e.val) % 1536 = 0 + (k.val / 64 * 64 + e.val)
    omega

/-- The reference's result is `G`. -/
theorem reference_eq : val_main_v42 (F := Ideal) x = G x := by
  funext j
  obtain ⟨b, s, k, rfl⟩ : ∃ (b : Fin 2) (s : Fin 8192) (k : Fin 1536), j = ix3 b s k := ⟨j 0, j 1, j 2, eq_ix3 (n0 := 2) (n1 := 8192) (n2 := 1536) j⟩
  have hb := b.isLt
  have hs := s.isLt
  have hk := k.isLt
  have e : idx_main_v41 (ix3 b s k)
      = ix5 b s (⟨k.val / 128, by omega⟩ : Fin 12) (⟨k.val / 64 % 2, Nat.mod_lt _ (by decide)⟩ : Fin 2) (⟨k.val % 64, Nat.mod_lt _ (by decide)⟩ : Fin 64) := by
    funext a; apply Fin.ext
    match a with
    | ⟨0, _⟩ => show ((b.val * 8192 + s.val) * 1536 + k.val) / 12582912 = b.val; omega
    | ⟨1, _⟩ => show ((b.val * 8192 + s.val) * 1536 + k.val) / 1536 % 8192 = s.val; omega
    | ⟨2, _⟩ => show ((b.val * 8192 + s.val) * 1536 + k.val) / 128 % 12 = k.val / 128; omega
    | ⟨3, _⟩ => show ((b.val * 8192 + s.val) * 1536 + k.val) / 64 % 2 = k.val / 64 % 2; omega
    | ⟨4, _⟩ => show ((b.val * 8192 + s.val) * 1536 + k.val) % 64 = k.val % 64; omega
  have e38 : val_main_v38 (F := Ideal) x = turnedHeads (val_main_v1 (F := Ideal) x) := rfl
  rw [val_main_v42_apply, val_main_v41_apply, e, val_main_v40_apply, val_main_v39_apply, e38]
  refine congrArg (fun a : EReal => a * scale) ((turnedHeads_apply _ _ _ _ _ _).trans ?_)
  unfold turned
  exact congrArg (fun f => turn f _ _ _) (funext fun q => heads_apply x b s _ _ q k (by show k.val / 64 = k.val / 128 * 2 + k.val / 64 % 2; omega))

end Reference

/-- Kernel and reference end with the same result, entry by entry, from equal arguments. -/
theorem algebraic : Cert.algebraic_KernelRopeQIdeal_ReferenceRopeQIdeal := by
  intro m g m' g' _ hargs
  refine ⟨fun c => G (m ((c : Thread nD τ).loc main_arg0)), ?_, ?_⟩
  · exact (θ_run Cert.KernelRopeQIdeal.defs _ _).mono (fun r h c => ⟨(h c).1.trans (final m c), (h c).2⟩) (Value.run_blocks m g)
  · refine (θ_run Cert.ReferenceRopeQIdeal.defs _ _).mono (fun r h c => ⟨(h c).1.trans ?_, (h c).2⟩) (Cert.ReferenceRopeQIdeal.Value.run m' g')
    refine (Cert.ReferenceRopeQIdeal.Read.val_main_v42_eq (F := Ideal) m' c).trans ?_
    rw [hargs c]
    exact reference_eq _

/-- The reference runs, leaves its argument unchanged and every semaphore counter at zero. -/
theorem reference_quiescent : Cert.quiescent_ReferenceRopeQIdeal := fun m g _ =>
  (θ_run Cert.ReferenceRopeQIdeal.defs _ _).mono (fun _ h => ⟨fun c => (h c).2, sem_eq_zero_of_no_sems rfl _⟩)
    (Cert.ReferenceRopeQIdeal.Value.run m g)

end Cert.RopeQValue

end
-- ==== Proof.RopeKValue.lean ====
/-
  The keys' rotary embedding: the value of the kernel's two results, one with the second half of every head's
  columns cleared, the other with the first.
-/
module

public import proofs.«01_k».proof.Defs
public import proofs.«01_k».proof.Proof.Rope
public import proofs.«01_k».proof.Proof.Gen.KernelRopeKIdeal.Value
public import proofs.«01_k».proof.Proof.Gen.ReferenceRopeKIdeal.Read

@[expose] public section

noncomputable section

namespace Cert.RopeKValue

open Cert.KernelRopeKIdeal Cert.KernelRopeKIdeal.Gen Idealize.ShloMosaic Idealize.ShloMosaic.TcCoe Idealize.SL.Sem
open Idealize.ShloMosaic.ValueIdx
open Idealize.ShloMosaic.Pipeline (Dat)
open Cert.Rope

/-- Column `k`'s value kept when it is of half `p` of its head, and zero otherwise. -/
def kept (p : ℕ) (k : Fin 1536) (a : EReal) : EReal := if k.val / 64 % 2 = p then a else 0

/-- A result: the second half of the argument's columns turned, and kept on half `p` of every head. -/
def G (p : ℕ) (x : Vec Ideal S32768x3072 .f32) : Vec Ideal S2x8192x1536 .bf16 :=
  fun i => kept p (i 2) (turned 1536 (by omega) x (i 0) (i 1) (i 2))

/-! ## One block -/

/-- The lanes' numbers. -/
def lanes : IVec S512x128 32 := iota .tc S512x128 32 [1] iota_S512x128_d1_w32

theorem lanes_apply (r : Fin 512) (l : Fin 128) : lanes (ix2 r l) = BitVec.ofNat 32 l.val := by
  show BitVec.ofNat 32 (0 * 128 + l.val) = _
  rw [Nat.zero_mul, Nat.zero_add]

theorem lane_pos (r : Fin 512) (l : Fin 128) : (S512x128.rowMajor (ix2 r l)).val = (S1x512x128.rowMajor (ix3 (0 : Fin 1) r l)).val := by
  rw [Shape.rowMajor_val_three, Shape.rowMajor_val_two]
  show r.val * 128 + l.val = (0 * 512 + r.val) * 128 + l.val
  omega

/-- One head's columns of the first result, from the tables and the columns as read. -/
def piece4 (c u d : Vec Ideal S512x128 .f32) (v : Vec Ideal S1x512x128 .f32) : FVec Ideal S1x512x128 .bf16 :=
  k0_pay2 (F := Ideal) (k0_pay4 c) (k0_pay5 u) (k0_pay6 d) lanes v

/-- One head's columns of the second. -/
def piece5 (c u d : Vec Ideal S512x128 .f32) (v : Vec Ideal S1x512x128 .f32) : FVec Ideal S1x512x128 .bf16 :=
  k0_pay3 (F := Ideal) (k0_pay4 c) (k0_pay5 u) (k0_pay6 d) lanes v

/-- A payload of the first result: the turned lanes, where the lane is of the first half. -/
theorem pay4_apply (c u d : FVec Ideal S512x128 .f32) (v : Vec Ideal S1x512x128 .f32) (r : Fin 512) (l : Fin 128) :
    (k0_pay2 (F := Ideal) c u d lanes v (ix3 (0 : Fin 1) r l) : EReal)
      = if l.val / 64 % 2 = 0 then Cert.KernelRopeQIdeal.Gen.k0_pay2 (F := Ideal) c u d v (ix3 (0 : Fin 1) r l) else 0 := by
  have e1 : (k0_pay2 (F := Ideal) c u d lanes v (ix3 (0 : Fin 1) r l) : EReal)
      = Scalar.select (IntOp.cmpi .slt (lanes (ix2 r l)) 64#32) (k0_pay1 (F := Ideal) c u d v (ix2 r l) : EReal) (Ideal.ofBits .f32 0#32) := by
    unfold k0_pay2
    exact shapeCast_apply _ shapeCasts_S512x128_S1x512x128 (ix3 (0 : Fin 1) r l) (ix2 r l) (lane_pos r l)
  have e2 : (Cert.KernelRopeQIdeal.Gen.k0_pay2 (F := Ideal) c u d v (ix3 (0 : Fin 1) r l) : EReal) = k0_pay1 (F := Ideal) c u d v (ix2 r l) := by
    unfold Cert.KernelRopeQIdeal.Gen.k0_pay2
    exact shapeCast_apply _ shapeCasts_S512x128_S1x512x128 (ix3 (0 : Fin 1) r l) (ix2 r l) (lane_pos r l)
  have h : ∀ l : Fin 128, IntOp.cmpi .slt (BitVec.ofNat 32 l.val) 64#32 = if l.val / 64 % 2 = 0 then 1#1 else 0#1 := by decide +kernel
  rw [e1, e2, lanes_apply, h l]
  by_cases hl : l.val / 64 % 2 = 0
  · rw [if_pos hl, if_pos hl]; rfl
  · rw [if_neg hl, if_neg hl]; exact Ideal.ofBits_zero_f32

/-- The pieces stored of the first result. -/
theorem piece4_eq (x : Vec Ideal S1x512x1536 .f32) (c u d : FVec Ideal S512x128 .f32) (o : ℕ) (ho : o % 128 = 0)
    (inb : ∀ a, (![0, 0, o] : Fin 3 → ℕ) a + S1x512x128.size a ≤ S1x512x1536.size a) (j : S1x512x128.Idx) :
    (k0_pay2 (F := Ideal) c u d lanes (View.ld x (Rect.unit (s := S1x512x1536) ![0, 0, o] S1x512x128.size inb)) j : EReal)
      = kept 0 ((Rect.unit (s := S1x512x1536) ![0, 0, o] S1x512x128.size inb).emb j 2)
        (blockAt x c u d ((Rect.unit (s := S1x512x1536) ![0, 0, o] S1x512x128.size inb).emb j 1)
          ((Rect.unit (s := S1x512x1536) ![0, 0, o] S1x512x128.size inb).emb j 2)) := by
  have e := piece_eq x c u d o ho inb j
  obtain ⟨z, r, l, rfl⟩ : ∃ (z : Fin 1) (r : Fin 512) (l : Fin 128), j = ix3 z r l := ⟨j 0, j 1, j 2, eq_ix3 (n0 := 1) (n1 := 512) (n2 := 128) j⟩
  obtain rfl : z = 0 := Subsingleton.elim _ _
  refine (pay4_apply c u d _ r l).trans ?_
  rw [← e]
  unfold kept
  have hk : ((Rect.unit (s := S1x512x1536) ![0, 0, o] S1x512x128.size inb).emb (ix3 (0 : Fin 1) r l) 2).val = o + 1 * l.val := rfl
  have hl := l.isLt
  rw [hk]
  by_cases h : l.val / 64 % 2 = 0
  · rw [if_pos h, if_pos (by omega)]
  · rw [if_neg h, if_neg (by omega)]

theorem block4_apply (x : Vec Ideal S1x512x1536 .f32) (c u d : Vec Ideal S512x128 .f32) (r : Fin 512) (k : Fin 1536) :
    (out0_4 (F := Ideal) x c u d (ix3 (0 : Fin 1) r k) : EReal) = kept 0 k (blockAt x c u d r k) := by
  have e3 (y : Vec Ideal S512x128 .f32) : shapeCast S512x128 (View.ld y r0_0) shapeCasts_S512x128_S512x128 = y := by
    rw [View.ld_unit_zero (S := S512x128) Common.zero2]
    exact funext fun j => shapeCast_apply y _ j j rfl
  have p1 : k0_pay4 (F := Ideal) (View.ld c r0_0) = c := e3 c
  have p2 : k0_pay5 (F := Ideal) (View.ld u r0_0) = u := e3 u
  have p3 : k0_pay6 (F := Ideal) (View.ld d r0_0) = d := e3 d
  have lay : out0_4 (F := Ideal) x c u d
      = View.canon [⟨r0_12, piece4 (View.ld c r0_0) (View.ld u r0_0) (View.ld d r0_0) (View.ld x r0_12)⟩,
        ⟨r0_11, piece4 (View.ld c r0_0) (View.ld u r0_0) (View.ld d r0_0) (View.ld x r0_11)⟩,
        ⟨r0_10, piece4 (View.ld c r0_0) (View.ld u r0_0) (View.ld d r0_0) (View.ld x r0_10)⟩,
        ⟨r0_9, piece4 (View.ld c r0_0) (View.ld u r0_0) (View.ld d r0_0) (View.ld x r0_9)⟩,
        ⟨r0_8, piece4 (View.ld c r0_0) (View.ld u r0_0) (View.ld d r0_0) (View.ld x r0_8)⟩,
        ⟨r0_7, piece4 (View.ld c r0_0) (View.ld u r0_0) (View.ld d r0_0) (View.ld x r0_7)⟩,
        ⟨r0_6, piece4 (View.ld c r0_0) (View.ld u r0_0) (View.ld d r0_0) (View.ld x r0_6)⟩,
        ⟨r0_5, piece4 (View.ld c r0_0) (View.ld u r0_0) (View.ld d r0_0) (View.ld x r0_5)⟩,
        ⟨r0_4, piece4 (View.ld c r0_0) (View.ld u r0_0) (View.ld d r0_0) (View.ld x r0_4)⟩,
        ⟨r0_3, piece4 (View.ld c r0_0) (View.ld u r0_0) (View.ld d r0_0) (View.ld x r0_3)⟩,
        ⟨r0_2, piece4 (View.ld c r0_0) (View.ld u r0_0) (View.ld d r0_0) (View.ld x r0_2)⟩,
        ⟨r0_1, piece4 (View.ld c r0_0) (View.ld u r0_0) (View.ld d r0_0) (View.ld x r0_1)⟩] := rfl
  rw [lay]
  unfold piece4
  rw [p1, p2, p3]
  refine View.canon_apply_of_pieces (Val := Elt Ideal) (e := .bf16) (fun j : S1x512x1536.Idx => kept 0 (j 2) (blockAt x c u d (j 1) (j 2))) _ ?_ (ix3 (0 : Fin 1) r k) (cover0_4 _ _ _ _ _ _ _ _ _ _ _ _ _)
  intro p hp
  simp only [List.mem_cons, List.not_mem_nil, or_false] at hp
  rcases hp with rfl | rfl | rfl | rfl | rfl | rfl | rfl | rfl | rfl | rfl | rfl | rfl
  · exact piece4_eq x c u d 1408 rfl _
  · exact piece4_eq x c u d 1280 rfl _
  · exact piece4_eq x c u d 1152 rfl _
  · exact piece4_eq x c u d 1024 rfl _
  · exact piece4_eq x c u d 896 rfl _
  · exact piece4_eq x c u d 768 rfl _
  · exact piece4_eq x c u d 640 rfl _
  · exact piece4_eq x c u d 512 rfl _
  · exact piece4_eq x c u d 384 rfl _
  · exact piece4_eq x c u d 256 rfl _
  · exact piece4_eq x c u d 128 rfl _
  · exact piece4_eq x c u d 0 rfl _

/-- A payload of the second result: the turned lanes, where the lane is of the second half. -/
theorem pay5_apply (c u d : FVec Ideal S512x128 .f32) (v : Vec Ideal S1x512x128 .f32) (r : Fin 512) (l : Fin 128) :
    (k0_pay3 (F := Ideal) c u d lanes v (ix3 (0 : Fin 1) r l) : EReal)
      = if l.val / 64 % 2 = 1 then Cert.KernelRopeQIdeal.Gen.k0_pay2 (F := Ideal) c u d v (ix3 (0 : Fin 1) r l) else 0 := by
  have e1 : (k0_pay3 (F := Ideal) c u d lanes v (ix3 (0 : Fin 1) r l) : EReal)
      = Scalar.select (IntOp.cmpi .sge (lanes (ix2 r l)) 64#32) (k0_pay1 (F := Ideal) c u d v (ix2 r l) : EReal) (Ideal.ofBits .f32 0#32) := by
    unfold k0_pay3
    exact shapeCast_apply _ shapeCasts_S512x128_S1x512x128 (ix3 (0 : Fin 1) r l) (ix2 r l) (lane_pos r l)
  have e2 : (Cert.KernelRopeQIdeal.Gen.k0_pay2 (F := Ideal) c u d v (ix3 (0 : Fin 1) r l) : EReal) = k0_pay1 (F := Ideal) c u d v (ix2 r l) := by
    unfold Cert.KernelRopeQIdeal.Gen.k0_pay2
    exact shapeCast_apply _ shapeCasts_S512x128_S1x512x128 (ix3 (0 : Fin 1) r l) (ix2 r l) (lane_pos r l)
  have h : ∀ l : Fin 128, IntOp.cmpi .sge (BitVec.ofNat 32 l.val) 64#32 = if l.val / 64 % 2 = 1 then 1#1 else 0#1 := by decide +kernel
  rw [e1, e2, lanes_apply, h l]
  by_cases hl : l.val / 64 % 2 = 1
  · rw [if_pos hl, if_pos hl]; rfl
  · rw [if_neg hl, if_neg hl]; exact Ideal.ofBits_zero_f32

/-- The pieces stored of the second result. -/
theorem piece5_eq (x : Vec Ideal S1x512x1536 .f32) (c u d : FVec Ideal S512x128 .f32) (o : ℕ) (ho : o % 128 = 0)
    (inb : ∀ a, (![0, 0, o] : Fin 3 → ℕ) a + S1x512x128.size a ≤ S1x512x1536.size a) (j : S1x512x128.Idx) :
    (k0_pay3 (F := Ideal) c u d lanes (View.ld x (Rect.unit (s := S1x512x1536) ![0, 0, o] S1x512x128.size inb)) j : EReal)
      = kept 1 ((Rect.unit (s := S1x512x1536) ![0, 0, o] S1x512x128.size inb).emb j 2)
        (blockAt x c u d ((Rect.unit (s := S1x512x1536) ![0, 0, o] S1x512x128.size inb).emb j 1)
          ((Rect.unit (s := S1x512x1536) ![0, 0, o] S1x512x128.size inb).emb j 2)) := by
  have e := piece_eq x c u d o ho inb j
  obtain ⟨z, r, l, rfl⟩ : ∃ (z : Fin 1) (r : Fin 512) (l : Fin 128), j = ix3 z r l := ⟨j 0, j 1, j 2, eq_ix3 (n0 := 1) (n1 := 512) (n2 := 128) j⟩
  obtain rfl : z = 0 := Subsingleton.elim _ _
  refine (pay5_apply c u d _ r l).trans ?_
  rw [← e]
  unfold kept
  have hk : ((Rect.unit (s := S1x512x1536) ![0, 0, o] S1x512x128.size inb).emb (ix3 (0 : Fin 1) r l) 2).val = o + 1 * l.val := rfl
  have hl := l.isLt
  rw [hk]
  by_cases h : l.val / 64 % 2 = 1
  · rw [if_pos h, if_pos (by omega)]
  · rw [if_neg h, if_neg (by omega)]

theorem block5_apply (x : Vec Ideal S1x512x1536 .f32) (c u d : Vec Ideal S512x128 .f32) (r : Fin 512) (k : Fin 1536) :
    (out0_5 (F := Ideal) x c u d (ix3 (0 : Fin 1) r k) : EReal) = kept 1 k (blockAt x c u d r k) := by
  have e3 (y : Vec Ideal S512x128 .f32) : shapeCast S512x128 (View.ld y r0_0) shapeCasts_S512x128_S512x128 = y := by
    rw [View.ld_unit_zero (S := S512x128) Common.zero2]
    exact funext fun j => shapeCast_apply y _ j j rfl
  have p1 : k0_pay4 (F := Ideal) (View.ld c r0_0) = c := e3 c
  have p2 : k0_pay5 (F := Ideal) (View.ld u r0_0) = u := e3 u
  have p3 : k0_pay6 (F := Ideal) (View.ld d r0_0) = d := e3 d
  have lay : out0_5 (F := Ideal) x c u d
      = View.canon [⟨r0_12, piece5 (View.ld c r0_0) (View.ld u r0_0) (View.ld d r0_0) (View.ld x r0_12)⟩,
        ⟨r0_11, piece5 (View.ld c r0_0) (View.ld u r0_0) (View.ld d r0_0) (View.ld x r0_11)⟩,
        ⟨r0_10, piece5 (View.ld c r0_0) (View.ld u r0_0) (View.ld d r0_0) (View.ld x r0_10)⟩,
        ⟨r0_9, piece5 (View.ld c r0_0) (View.ld u r0_0) (View.ld d r0_0) (View.ld x r0_9)⟩,
        ⟨r0_8, piece5 (View.ld c r0_0) (View.ld u r0_0) (View.ld d r0_0) (View.ld x r0_8)⟩,
        ⟨r0_7, piece5 (View.ld c r0_0) (View.ld u r0_0) (View.ld d r0_0) (View.ld x r0_7)⟩,
        ⟨r0_6, piece5 (View.ld c r0_0) (View.ld u r0_0) (View.ld d r0_0) (View.ld x r0_6)⟩,
        ⟨r0_5, piece5 (View.ld c r0_0) (View.ld u r0_0) (View.ld d r0_0) (View.ld x r0_5)⟩,
        ⟨r0_4, piece5 (View.ld c r0_0) (View.ld u r0_0) (View.ld d r0_0) (View.ld x r0_4)⟩,
        ⟨r0_3, piece5 (View.ld c r0_0) (View.ld u r0_0) (View.ld d r0_0) (View.ld x r0_3)⟩,
        ⟨r0_2, piece5 (View.ld c r0_0) (View.ld u r0_0) (View.ld d r0_0) (View.ld x r0_2)⟩,
        ⟨r0_1, piece5 (View.ld c r0_0) (View.ld u r0_0) (View.ld d r0_0) (View.ld x r0_1)⟩] := rfl
  rw [lay]
  unfold piece5
  rw [p1, p2, p3]
  refine View.canon_apply_of_pieces (Val := Elt Ideal) (e := .bf16) (fun j : S1x512x1536.Idx => kept 1 (j 2) (blockAt x c u d (j 1) (j 2))) _ ?_ (ix3 (0 : Fin 1) r k) (cover0_5 _ _ _ _ _ _ _ _ _ _ _ _ _)
  intro p hp
  simp only [List.mem_cons, List.not_mem_nil, or_false] at hp
  rcases hp with rfl | rfl | rfl | rfl | rfl | rfl | rfl | rfl | rfl | rfl | rfl | rfl
  · exact piece5_eq x c u d 1408 rfl _
  · exact piece5_eq x c u d 1280 rfl _
  · exact piece5_eq x c u d 1152 rfl _
  · exact piece5_eq x c u d 1024 rfl _
  · exact piece5_eq x c u d 896 rfl _
  · exact piece5_eq x c u d 768 rfl _
  · exact piece5_eq x c u d 640 rfl _
  · exact piece5_eq x c u d 512 rfl _
  · exact piece5_eq x c u d 384 rfl _
  · exact piece5_eq x c u d 256 rfl _
  · exact piece5_eq x c u d 128 rfl _
  · exact piece5_eq x c u d 0 rfl _

/-! ## The blocks of a grid point -/

variable (m : (ℓ : Loc nD τ sig) → Buf (Elt Ideal) ℓ)

theorem V_main_v28 (c : Dev nD) : V m c main_v28 = shapeCast S4x8192x3072 (m ((c : Thread nD τ).loc main_arg0)) shapeCasts_S32768x3072_S4x8192x3072 := by
  show StableHlo.after (List.flatten [hostOps0]) (fun b => m (c, b)) (Proc.devRef .tc main_v28) = _
  simp only [hostOps0, List.flatten_cons, List.flatten_nil, List.append_nil]
  after_results
  rfl

theorem V_main_v25 (c : Dev nD) : V m c main_v25 = (cosTable : FVec Ideal S8192x128 .f32) := by
  show StableHlo.after (List.flatten [hostOps0]) (fun b => m (c, b)) (Proc.devRef .tc main_v25) = _
  simp only [hostOps0, List.flatten_cons, List.flatten_nil, List.append_nil]
  after_results
  rfl

theorem V_main_v26 (c : Dev nD) : V m c main_v26 = (upTable : FVec Ideal S8192x128 .f32) := by
  show StableHlo.after (List.flatten [hostOps0]) (fun b => m (c, b)) (Proc.devRef .tc main_v26) = _
  simp only [hostOps0, List.flatten_cons, List.flatten_nil, List.append_nil]
  after_results
  rfl

theorem V_main_v27 (c : Dev nD) : V m c main_v27 = (downTable : FVec Ideal S8192x128 .f32) := by
  show StableHlo.after (List.flatten [hostOps0]) (fun b => m (c, b)) (Proc.devRef .tc main_v27) = _
  simp only [hostOps0, List.flatten_cons, List.flatten_nil, List.append_nil]
  after_results
  rfl

/-- The block of each window at a grid point. -/
theorem index0 : ∀ t : Fin grid0.N, win0_0.index t 0 = t.val / 16 + 2 ∧ win0_0.index t 1 = t.val % 16 ∧ win0_0.index t 2 = 1 := by decide +kernel
theorem index1 : ∀ t : Fin grid0.N, win0_1.index t 0 = t.val % 16 ∧ win0_1.index t 1 = 0 := by decide +kernel
theorem index2 : ∀ t : Fin grid0.N, win0_2.index t 0 = t.val % 16 ∧ win0_2.index t 1 = 0 := by decide +kernel
theorem index3 : ∀ t : Fin grid0.N, win0_3.index t 0 = t.val % 16 ∧ win0_3.index t 1 = 0 := by decide +kernel
theorem index4 : ∀ t : Fin grid0.N, win0_4.index t 0 = t.val / 16 ∧ win0_4.index t 1 = t.val % 16 ∧ win0_4.index t 2 = 0 := by decide +kernel
theorem index5 : ∀ t : Fin grid0.N, win0_5.index t 0 = t.val / 16 ∧ win0_5.index t 1 = t.val % 16 ∧ win0_5.index t 2 = 0 := by decide +kernel

/-- The columns at a point. -/
theorem column_apply (c : Dev nD) (t : Fin cfg0.N) (r : Fin 512) (k : Fin 1536) (i : Fin 32768) (q : Fin 3072)
    (h : i.val = 16384 + (t.val / 16 * 8192 + (t.val % 16 * 512 + r.val))) (hq : q.val = 1536 + k.val) :
    iblk m c 0 t (ix3 (0 : Fin 1) r k) = m ((c : Thread nD τ).loc main_arg0) (ix2 i q) := by
  unfold iblk
  rw [View.read_apply]
  show V m c main_v28 _ = m ((c : Thread nD τ).loc main_arg0) _
  rw [V_main_v28]
  refine shapeCast_apply _ shapeCasts_S32768x3072_S4x8192x3072 _ (ix2 i q) ?_
  rw [Shape.rowMajor_val_three, Shape.rowMajor_val_two]
  show i.val * 3072 + q.val = ((win0_0.index t 0 * 1 + 1 * 0) * 8192 + (win0_0.index t 1 * 512 + 1 * r.val)) * 3072 + (win0_0.index t 2 * 1536 + 1 * k.val)
  rw [(index0 t).1, (index0 t).2.1, (index0 t).2.2]
  omega

/-- The tables' rows at a point. -/
theorem cos_rows (c : Dev nD) (t : Fin cfg0.N) (r : Fin 512) (l : Fin 128) (s : Fin 8192) (h : s.val = t.val % 16 * 512 + r.val) :
    (iblk m c 1 t (ix2 r l) : EReal) = cosTable (ix2 s l) := by
  unfold iblk
  rw [View.read_apply]
  show V m c main_v25 _ = _
  rw [V_main_v25]
  refine congrArg cosTable (funext fun a => Fin.ext ?_)
  match a with
  | ⟨0, _⟩ => show win0_1.index t 0 * 512 + 1 * r.val = s.val; rw [(index1 t).1]; omega
  | ⟨1, _⟩ => show win0_1.index t 1 * 128 + 1 * l.val = l.val; rw [(index1 t).2]; omega

theorem up_rows (c : Dev nD) (t : Fin cfg0.N) (r : Fin 512) (l : Fin 128) (s : Fin 8192) (h : s.val = t.val % 16 * 512 + r.val) :
    (iblk m c 2 t (ix2 r l) : EReal) = upTable (ix2 s l) := by
  unfold iblk
  rw [View.read_apply]
  show V m c main_v26 _ = _
  rw [V_main_v26]
  refine congrArg upTable (funext fun a => Fin.ext ?_)
  match a with
  | ⟨0, _⟩ => show win0_2.index t 0 * 512 + 1 * r.val = s.val; rw [(index2 t).1]; omega
  | ⟨1, _⟩ => show win0_2.index t 1 * 128 + 1 * l.val = l.val; rw [(index2 t).2]; omega

theorem down_rows (c : Dev nD) (t : Fin cfg0.N) (r : Fin 512) (l : Fin 128) (s : Fin 8192) (h : s.val = t.val % 16 * 512 + r.val) :
    (iblk m c 3 t (ix2 r l) : EReal) = downTable (ix2 s l) := by
  unfold iblk
  rw [View.read_apply]
  show V m c main_v27 _ = _
  rw [V_main_v27]
  refine congrArg downTable (funext fun a => Fin.ext ?_)
  match a with
  | ⟨0, _⟩ => show win0_3.index t 0 * 512 + 1 * r.val = s.val; rw [(index3 t).1]; omega
  | ⟨1, _⟩ => show win0_3.index t 1 * 128 + 1 * l.val = l.val; rw [(index3 t).2]; omega

/-- The turned columns of a point's block are the turned columns of the argument. -/
theorem block_eq (c : Dev nD) (t : Fin cfg0.N) (r : Fin 512) (k : Fin 1536) (b : Fin 2) (s : Fin 8192) (hb : b.val = t.val / 16)
    (hs : s.val = t.val % 16 * 512 + r.val) :
    blockAt (iblk m c 0 t) (iblk m c 1 t) (iblk m c 2 t) (iblk m c 3 t) r k = turned 1536 (by omega) (m ((c : Thread nD τ).loc main_arg0)) b s k :=
  blockAt_eq 1536 (by omega) (m ((c : Thread nD τ).loc main_arg0)) b s (iblk m c 0 t) (iblk m c 1 t) (iblk m c 2 t) (iblk m c 3 t) r k
    (fun q => column_apply m c t r q _ _ (by rw [← hb, ← hs]) rfl)
    (fun l => cos_rows m c t r l s hs) (fun l => up_rows m c t r l s hs) (fun l => down_rows m c t r l s hs)

/-- Every grid point writes back its own block of the first result. -/
theorem flushed4_eq (c : Dev nD) (t : Fin cfg0.N) :
    (dats m 0 c).flushed 4 t = ((cfg0.win 4).blk t).view.read (Elt Ideal) (G 0 (m ((c : Thread nD τ).loc main_arg0))) := by
  rw [Value.flushed4]
  funext j
  have ht : t.val < 32 := t.isLt
  obtain ⟨z, r, k, rfl⟩ : ∃ (z : Fin 1) (r : Fin 512) (k : Fin 1536), j = ix3 z r k := ⟨j 0, j 1, j 2, eq_ix3 (n0 := 1) (n1 := 512) (n2 := 1536) j⟩
  obtain rfl : z = 0 := Subsingleton.elim _ _
  have hr := r.isLt
  have e : ((cfg0.win 4).blk t).view.emb (ix3 (0 : Fin 1) r k)
      = (ix3 (⟨t.val / 16, by omega⟩ : Fin 2) (⟨t.val % 16 * 512 + r.val, by omega⟩ : Fin 8192) k : S2x8192x1536.Idx) := by
    funext a; apply Fin.ext
    match a with
    | ⟨0, _⟩ => show win0_4.index t 0 * 1 + 1 * 0 = t.val / 16; rw [(index4 t).1]; omega
    | ⟨1, _⟩ => show win0_4.index t 1 * 512 + 1 * r.val = t.val % 16 * 512 + r.val; rw [(index4 t).2.1]; omega
    | ⟨2, _⟩ => show win0_4.index t 2 * 1536 + 1 * k.val = k.val; rw [(index4 t).2.2]; omega
  rw [View.read_apply, e]
  exact (block4_apply (iblk m c 0 t) (iblk m c 1 t) (iblk m c 2 t) (iblk m c 3 t) r k).trans
    (congrArg (kept 0 k) (block_eq m c t r k _ _ rfl rfl))

/-- Every entry of it lies in some point's block. -/
theorem cover4 (i : S2x8192x1536.Idx) : ∃ t : Fin cfg0.N, (cfg0.win 4).flush t = true ∧ i ∈ ((cfg0.win 4).blk t).view.set := by
  have h0 : (i 0).val < 2 := (i 0).isLt
  have h1 : (i 1).val < 8192 := (i 1).isLt
  have h2 : (i 2).val < 1536 := (i 2).isLt
  have hN : cfg0.N = 32 := by decide
  obtain ⟨t, ht⟩ : ∃ t : Fin grid0.N, t.val = (i 0).val * 16 + (i 1).val / 512 := ⟨⟨(i 0).val * 16 + (i 1).val / 512, by show _ < cfg0.N; rw [hN]; omega⟩, rfl⟩
  refine ⟨t, flush0_4 t, ?_⟩
  show i ∈ ((View.whole main_v29_0).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(index4 t).1]; omega
  | ⟨1, _⟩ =>
    show win0_4.index t 1 * 512 ≤ (i 1).val ∧ (i 1).val < win0_4.index t 1 * 512 + 512
    rw [(index4 t).2.1]; omega
  | ⟨2, _⟩ =>
    show win0_4.index t 2 * 1536 ≤ (i 2).val ∧ (i 2).val < win0_4.index t 2 * 1536 + 1536
    rw [(index4 t).2.2]; omega

/-- It after the run. -/
theorem final4 (c : Dev nD) : (dats m 0 c).arrAt 4 cfg0.N = G 0 (m ((c : Thread nD τ).loc main_arg0)) :=
  (dats m 0 c).arrAt_eq_of_cover 4 _ (fun t _ => flushed4_eq m c t) cover4

/-- Every grid point writes back its own block of the second result. -/
theorem flushed5_eq (c : Dev nD) (t : Fin cfg0.N) :
    (dats m 0 c).flushed 5 t = ((cfg0.win 5).blk t).view.read (Elt Ideal) (G 1 (m ((c : Thread nD τ).loc main_arg0))) := by
  rw [Value.flushed5]
  funext j
  have ht : t.val < 32 := t.isLt
  obtain ⟨z, r, k, rfl⟩ : ∃ (z : Fin 1) (r : Fin 512) (k : Fin 1536), j = ix3 z r k := ⟨j 0, j 1, j 2, eq_ix3 (n0 := 1) (n1 := 512) (n2 := 1536) j⟩
  obtain rfl : z = 0 := Subsingleton.elim _ _
  have hr := r.isLt
  have e : ((cfg0.win 5).blk t).view.emb (ix3 (0 : Fin 1) r k)
      = (ix3 (⟨t.val / 16, by omega⟩ : Fin 2) (⟨t.val % 16 * 512 + r.val, by omega⟩ : Fin 8192) k : S2x8192x1536.Idx) := by
    funext a; apply Fin.ext
    match a with
    | ⟨0, _⟩ => show win0_5.index t 0 * 1 + 1 * 0 = t.val / 16; rw [(index5 t).1]; omega
    | ⟨1, _⟩ => show win0_5.index t 1 * 512 + 1 * r.val = t.val % 16 * 512 + r.val; rw [(index5 t).2.1]; omega
    | ⟨2, _⟩ => show win0_5.index t 2 * 1536 + 1 * k.val = k.val; rw [(index5 t).2.2]; omega
  rw [View.read_apply, e]
  exact (block5_apply (iblk m c 0 t) (iblk m c 1 t) (iblk m c 2 t) (iblk m c 3 t) r k).trans
    (congrArg (kept 1 k) (block_eq m c t r k _ _ rfl rfl))

/-- Every entry of it lies in some point's block. -/
theorem cover5 (i : S2x8192x1536.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 1536 := (i 2).isLt
  have hN : cfg0.N = 32 := by decide
  obtain ⟨t, ht⟩ : ∃ t : Fin grid0.N, t.val = (i 0).val * 16 + (i 1).val / 512 := ⟨⟨(i 0).val * 16 + (i 1).val / 512, by show _ < cfg0.N; rw [hN]; omega⟩, rfl⟩
  refine ⟨t, flush0_5 t, ?_⟩
  show i ∈ ((View.whole main_v29_1).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(index5 t).1]; omega
  | ⟨1, _⟩ =>
    show win0_5.index t 1 * 512 ≤ (i 1).val ∧ (i 1).val < win0_5.index t 1 * 512 + 512
    rw [(index5 t).2.1]; omega
  | ⟨2, _⟩ =>
    show win0_5.index t 2 * 1536 ≤ (i 2).val ∧ (i 2).val < win0_5.index t 2 * 1536 + 1536
    rw [(index5 t).2.2]; omega

/-- It after the run. -/
theorem final5 (c : Dev nD) : (dats m 0 c).arrAt 5 cfg0.N = G 1 (m ((c : Thread nD τ).loc main_arg0)) :=
  (dats m 0 c).arrAt_eq_of_cover 5 _ (fun t _ => flushed5_eq m c t) cover5

/-! ## The reference -/

section Reference
open Cert.ReferenceRopeKIdeal.Read
variable (x : Vec Ideal S32768x3072 .f32)

theorem heads_apply (b : Fin 2) (s : Fin 8192) (h : Fin 12) (p : Fin 2) (e : Fin 64) (k : Fin 1536) (hk : k.val / 64 = h.val * 2 + p.val) :
    val_main_v1 (F := Ideal) x (ix5 b s h p e) = half 1536 (by omega) x b s k e := by
  rw [val_main_v1_apply, val_main_v0_apply]
  have hb := b.isLt
  have hs := s.isLt
  have hh := h.isLt
  have hp := p.isLt
  have he := e.isLt
  refine congrArg x (funext fun a => Fin.ext ?_)
  match a with
  | ⟨0, _⟩ =>
    show 16384 + ((((b.val * 8192 + s.val) * 12 + h.val) * 2 + p.val) * 64 + e.val) / 1536 = 16384 + (b.val * 8192 + s.val)
    omega
  | ⟨1, _⟩ =>
    show 1536 + ((((b.val * 8192 + s.val) * 12 + h.val) * 2 + p.val) * 64 + e.val) % 1536 = 1536 + (k.val / 64 * 64 + e.val)
    omega

/-- The reference's first result is `G 0`. -/
theorem reference4_eq : val_main_v48 (F := Ideal) x = G 0 x := by
  funext j
  obtain ⟨b, s, k, rfl⟩ : ∃ (b : Fin 2) (s : Fin 8192) (k : Fin 1536), j = ix3 b s k := ⟨j 0, j 1, j 2, eq_ix3 (n0 := 2) (n1 := 8192) (n2 := 1536) j⟩
  have hb := b.isLt
  have hs := s.isLt
  have hk := k.isLt
  let h : Fin 12 := ⟨k.val / 128, by omega⟩
  let p : Fin 2 := ⟨k.val / 64 % 2, Nat.mod_lt _ (by decide)⟩
  let e : Fin 64 := ⟨k.val % 64, Nat.mod_lt _ (by decide)⟩
  have ei : idx_main_v47 (ix3 b s k) = ix5 b s h p e := by
    funext a; apply Fin.ext
    match a with
    | ⟨0, _⟩ => show ((b.val * 8192 + s.val) * 1536 + k.val) / 12582912 = b.val; omega
    | ⟨1, _⟩ => show ((b.val * 8192 + s.val) * 1536 + k.val) / 1536 % 8192 = s.val; omega
    | ⟨2, _⟩ => show ((b.val * 8192 + s.val) * 1536 + k.val) / 128 % 12 = k.val / 128; omega
    | ⟨3, _⟩ => show ((b.val * 8192 + s.val) * 1536 + k.val) / 64 % 2 = k.val / 64 % 2; omega
    | ⟨4, _⟩ => show ((b.val * 8192 + s.val) * 1536 + k.val) % 64 = k.val % 64; omega
  have e38 : val_main_v38 (F := Ideal) x = turnedHeads (val_main_v1 (F := Ideal) x) := rfl
  have mask : val_main_call0_v1 (F := Ideal) (ix5 b s h p e) = if p.val = 0 then 1#1 else 0#1 := by
    rw [val_main_call0_v1_apply, val_main_v42_apply, val_main_v40_apply, val_main_v39_apply, val_main_v41_apply]
    show IntOp.cmpi .eq (BitVec.ofNat 32 p.val) 0#32 = _
    generalize p = p
    revert p; decide
  have body : (val_main_v38 (F := Ideal) x (ix5 b s h p e) : EReal) = turned 1536 (by omega) x b s k := by
    rw [e38]
    refine (turnedHeads_apply _ _ _ _ _ _).trans ?_
    unfold turned
    exact congrArg (fun f => turn f _ _ _) (funext fun q => heads_apply x b s _ _ q k (by show k.val / 64 = k.val / 128 * 2 + k.val / 64 % 2; omega))
  have zero : (val_main_call0_v2 (F := Ideal) (ix5 b s h p e) : EReal) = 0 := by
    rw [val_main_call0_v2_apply, val_main_call0_v0_apply, val_main_cst_3_apply]
    exact Ideal.ofBits_zero_f32
  rw [val_main_v48_apply, val_main_v47_apply, ei, val_main_v43_apply, mask, body, zero]
  show Scalar.select (if k.val / 64 % 2 = 0 then 1#1 else 0#1) (turned 1536 _ x b s k) (0 : EReal) = kept 0 k (turned 1536 _ x b s k)
  unfold kept
  by_cases hp : k.val / 64 % 2 = 0
  · rw [if_pos hp, if_pos hp]; rfl
  · rw [if_neg hp, if_neg hp]; rfl

/-- The reference's second result is `G 1`. -/
theorem reference5_eq : val_main_v50 (F := Ideal) x = G 1 x := by
  funext j
  obtain ⟨b, s, k, rfl⟩ : ∃ (b : Fin 2) (s : Fin 8192) (k : Fin 1536), j = ix3 b s k := ⟨j 0, j 1, j 2, eq_ix3 (n0 := 2) (n1 := 8192) (n2 := 1536) j⟩
  have hb := b.isLt
  have hs := s.isLt
  have hk := k.isLt
  let h : Fin 12 := ⟨k.val / 128, by omega⟩
  let p : Fin 2 := ⟨k.val / 64 % 2, Nat.mod_lt _ (by decide)⟩
  let e : Fin 64 := ⟨k.val % 64, Nat.mod_lt _ (by decide)⟩
  have ei : idx_main_v49 (ix3 b s k) = ix5 b s h p e := by
    funext a; apply Fin.ext
    match a with
    | ⟨0, _⟩ => show ((b.val * 8192 + s.val) * 1536 + k.val) / 12582912 = b.val; omega
    | ⟨1, _⟩ => show ((b.val * 8192 + s.val) * 1536 + k.val) / 1536 % 8192 = s.val; omega
    | ⟨2, _⟩ => show ((b.val * 8192 + s.val) * 1536 + k.val) / 128 % 12 = k.val / 128; omega
    | ⟨3, _⟩ => show ((b.val * 8192 + s.val) * 1536 + k.val) / 64 % 2 = k.val / 64 % 2; omega
    | ⟨4, _⟩ => show ((b.val * 8192 + s.val) * 1536 + k.val) % 64 = k.val % 64; omega
  have e38 : val_main_v38 (F := Ideal) x = turnedHeads (val_main_v1 (F := Ideal) x) := rfl
  have mask : val_main_call1_v1 (F := Ideal) (ix5 b s h p e) = if p.val = 1 then 1#1 else 0#1 := by
    rw [val_main_call1_v1_apply, val_main_v45_apply, val_main_v40_apply, val_main_v39_apply, val_main_v44_apply]
    show IntOp.cmpi .eq (BitVec.ofNat 32 p.val) 1#32 = _
    generalize p = p
    revert p; decide
  have body : (val_main_v38 (F := Ideal) x (ix5 b s h p e) : EReal) = turned 1536 (by omega) x b s k := by
    rw [e38]
    refine (turnedHeads_apply _ _ _ _ _ _).trans ?_
    unfold turned
    exact congrArg (fun f => turn f _ _ _) (funext fun q => heads_apply x b s _ _ q k (by show k.val / 64 = k.val / 128 * 2 + k.val / 64 % 2; omega))
  have zero : (val_main_call1_v2 (F := Ideal) (ix5 b s h p e) : EReal) = 0 := by
    rw [val_main_call1_v2_apply, val_main_call1_v0_apply, val_main_cst_5_apply]
    exact Ideal.ofBits_zero_f32
  rw [val_main_v50_apply, val_main_v49_apply, ei, val_main_v46_apply, mask, body, zero]
  show Scalar.select (if k.val / 64 % 2 = 1 then 1#1 else 0#1) (turned 1536 _ x b s k) (0 : EReal) = kept 1 k (turned 1536 _ x b s k)
  unfold kept
  by_cases hp : k.val / 64 % 2 = 1
  · rw [if_pos hp, if_pos hp]; rfl
  · rw [if_neg hp, if_neg hp]; rfl

end Reference

/-- Kernel and reference end with the same results, entry by entry, from equal arguments. -/
theorem algebraic : Cert.algebraic_KernelRopeKIdeal_ReferenceRopeKIdeal := by
  intro m g m' g' _ hargs
  refine ⟨fun c => G 0 (m ((c : Thread nD τ).loc main_arg0)), fun c => G 1 (m ((c : Thread nD τ).loc main_arg0)), ?_, ?_⟩
  · exact (θ_run Cert.KernelRopeKIdeal.defs _ _).mono
      (fun r h c => ⟨(h c).1.trans (final4 m c), (h c).2.1.trans (final5 m c), (h c).2.2⟩) (Value.run_blocks m g)
  · refine (θ_run Cert.ReferenceRopeKIdeal.defs _ _).mono
      (fun r h c => ⟨(h c).1.trans ?_, (h c).2.1.trans ?_, (h c).2.2⟩) (Cert.ReferenceRopeKIdeal.Value.run m' g')
    · refine (Cert.ReferenceRopeKIdeal.Read.val_main_v48_eq (F := Ideal) m' c).trans ?_
      rw [hargs c]
      exact reference4_eq _
    · refine (Cert.ReferenceRopeKIdeal.Read.val_main_v50_eq (F := Ideal) m' c).trans ?_
      rw [hargs c]
      exact reference5_eq _

/-- The reference runs, leaves its argument unchanged and every semaphore counter at zero. -/
theorem reference_quiescent : Cert.quiescent_ReferenceRopeKIdeal := fun m g _ =>
  (θ_run Cert.ReferenceRopeKIdeal.defs _ _).mono (fun _ h => ⟨fun c => (h c).2.2, sem_eq_zero_of_no_sems rfl _⟩)
    (Cert.ReferenceRopeKIdeal.Value.run m g)

end Cert.RopeKValue

end
-- ==== Proof.Router.lean ====
/-
  Routing by groups: the two greatest of four, the group of the greatest score, and the places they hold, over the extended reals.
-/
module

public import Idealize.ShloMosaic.Lib.SortFacts
public import Idealize.ShloMosaic.Lib.ValueIdx
public import Idealize.ShloMosaic.Lib.IdealHost
public import Idealize.ShloMosaic.Lib.Pipeline.Value

@[expose] public section

noncomputable section

namespace Cert.Router

open Idealize.ShloMosaic
open scoped BigOperators

/-- `i` comes before `j` in descending order, equal values in order of place. -/
def Before {n : ℕ} (x : Fin n → EReal) (i j : Fin n) : Prop := x j < x i ∨ (x j = x i ∧ i < j)

/-- The place of the `k`-th value in descending order. -/
def place {n : ℕ} (x : Fin n → EReal) : Fin n → Fin n :=
  sortedFrom fun k k' => Ideal.cmp .ogt (x k) (x k') == 1#1

theorem stable_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem place_eq {n : ℕ} (x : Fin n → EReal) (k : Fin n) :
    place x k = sortedFrom (fun i j => @decide (Before x i j) (Classical.dec _)) k := by
  have e : sortPositions n (fun k k' => Ideal.cmp .ogt (x k) (x k') == 1#1)
      = sortPositions n fun i j => @decide (Before x i j) (Classical.dec _) := by
    refine stable_congr _ _ _ ?_
    refine (List.pairwise_lt_finRange n).imp fun {a b} hab => ?_
    have bit (p : Bool) : (BitVec.ofBool p == 1#1) = p := by cases p <;> decide
    unfold Ideal.cmp Before
    rw [bit]
    refine Bool.eq_iff_iff.2 ?_
    simp only [decide_eq_true_eq]
    exact ⟨Or.inl, fun h => h.elim id fun h => absurd h.2 (lt_asymm hab)⟩
  unfold place sortedFrom
  rw [List.get_of_eq e]
  rfl

/-- Of two places in descending order the earlier comes before the later. -/
theorem place_before {n : ℕ} (x : Fin n → EReal) {k k' : Fin n} (h : k < k') : Before x (place x k) (place x k') := by
  have hne : place x k ≠ place x k' := fun e => absurd (sortedFrom_injective _ e) (ne_of_lt h)
  have hn : ¬ Before x (place x k') (place x k) := by
    rw [place_eq x k, place_eq x k']
    have := sortedFrom_noInversion (fun i j => @decide (Before x i j) (Classical.dec _)) (fun i j => @decide (Before x i j) (Classical.dec _))
      (fun a b hab => ?_) (fun a b hab => hab) (fun a b c hab hbc => ?_) k k' h
    · exact @of_decide_eq_false _ (Classical.dec _) this
    · refine @decide_eq_false _ (Classical.dec _) ?_
      rcases (@of_decide_eq_true _ (Classical.dec _) hab : Before x a b) with hab | hab
      · exact fun hh => hh.elim (lt_asymm hab) fun hh => absurd hh.1 (ne_of_gt hab)
      · exact fun hh => hh.elim (fun h' => absurd hab.1 (ne_of_gt h')) fun hh => lt_asymm hab.2 hh.2
    · refine @decide_eq_false _ (Classical.dec _) ?_
      have hab : ¬ Before x a b := @of_decide_eq_false _ (Classical.dec _) hab
      have hbc : ¬ Before x b c := @of_decide_eq_false _ (Classical.dec _) hbc
      simp only [Before, not_or, not_and, not_lt] at *
      refine ⟨le_trans hab.1 hbc.1, fun he => ?_⟩
      have h1 : x b = x a := le_antisymm (he ▸ hbc.1) hab.1
      have h2 : x c = x b := he.trans h1.symm
      exact le_trans (hbc.2 h2) (hab.2 h1)
  simp only [Before, not_or, not_and, not_lt] at hn
  rcases lt_or_eq_of_le hn.1 with hl | he
  · exact Or.inl hl
  · exact Or.inr ⟨he, lt_of_le_of_ne (hn.2 he.symm) hne⟩

/-- The first place comes before every other. -/
theorem first_before {n : ℕ} (x : Fin n → EReal) (z : Fin n) (hz : z.val = 0) (j : Fin n) (hj : j ≠ place x z) : Before x (place x z) j := by
  obtain ⟨k, rfl⟩ := sortedFrom_surjective (fun k k' => Ideal.cmp .ogt (x k) (x k') == 1#1) j
  refine place_before x (lt_of_le_of_ne (Fin.le_def.2 (by omega)) fun e => hj ?_)
  rw [e]; rfl

/-- The second place comes before every other but the first. -/
theorem second_before {n : ℕ} (x : Fin n → EReal) (z o : Fin n) (hz : z.val = 0) (ho : o.val = 1) (j : Fin n)
    (hj : j ≠ place x z) (hj' : j ≠ place x o) : Before x (place x o) j := by
  obtain ⟨k, rfl⟩ := sortedFrom_surjective (fun k k' => Ideal.cmp .ogt (x k) (x k') == 1#1) j
  have h0 : k ≠ z := fun e => hj (by rw [e]; rfl)
  have h1 : k ≠ o := fun e => hj' (by rw [e]; rfl)
  refine place_before x (Fin.lt_def.2 ?_)
  have h0' : k.val ≠ z.val := fun e => h0 (Fin.ext e)
  have h1' : k.val ≠ o.val := fun e => h1 (Fin.ext e)
  omega

theorem Before.le {n : ℕ} {x : Fin n → EReal} {i j : Fin n} (h : Before x i j) : x j ≤ x i :=
  h.elim le_of_lt fun h => le_of_eq h.1

/-- The greatest of four. -/
theorem max_four (x : Fin 4 → EReal) (i : Fin 4) (h : ∀ j, x j ≤ x i) :
    max (max (max (x 0) (x 1)) (x 2)) (x 3) = x i := by
  refine le_antisymm (max_le (max_le (max_le (h 0) (h 1)) (h 2)) (h 3)) ?_
  fin_cases i <;> simp

/-- The place of the greatest of four, by comparing one after the other. -/
theorem find_four (x : Fin 4 → EReal) (i : Fin 4) (h : ∀ j, j ≠ i → Before x i j) (v : Fin 5 → EReal) :
    (if x 0 = x i then v 0 else if x 1 = x i then v 1 else if x 2 = x i then v 2 else if x 3 = x i then v 3 else v 4)
      = v (i.castLE (by decide)) := by
  have ne (j : Fin 4) (hj : j < i) : x j ≠ x i := fun e =>
    (h j (ne_of_lt hj)).elim (fun hh => absurd e (ne_of_lt hh)) fun hh => lt_asymm hj hh.2
  fin_cases i
  · simp
  · have h0 := ne 0 (by decide)
    simp at h0 ⊢
    exact fun e => absurd e h0
  · have h0 := ne 0 (by decide)
    have h1 := ne 1 (by decide)
    simp at h0 h1 ⊢
    rw [if_neg h0, if_neg h1]
  · have h0 := ne 0 (by decide)
    have h1 := ne 1 (by decide)
    have h2 := ne 2 (by decide)
    simp at h0 h1 h2 ⊢
    rw [if_neg h0, if_neg h1, if_neg h2]

/-- The two greatest of four, by pairwise greatest and least. -/
theorem two_four (x : Fin 4 → EReal) :
    max (max (x 0) (x 1)) (max (x 2) (x 3))
      + max (min (max (x 0) (x 1)) (max (x 2) (x 3))) (max (min (x 0) (x 1)) (min (x 2) (x 3)))
      = x (place x 0) + x (place x 1) := by
  have hf (j : Fin 4) : x j ≤ x (place x 0) := by
    by_cases e : j = place x 0
    · rw [e]
    · exact (first_before x 0 rfl j e).le
  have hs (j : Fin 4) (h : j ≠ place x 0) : x j ≤ x (place x 1) := by
    by_cases e : j = place x 1
    · rw [e]
    · exact (second_before x 0 1 rfl rfl j h e).le
  have hne : place x 0 ≠ place x 1 := fun e => absurd (sortedFrom_injective _ e) (by decide)
  generalize place x 0 = a at *
  generalize place x 1 = b at *
  have key : max (max (x 0) (x 1)) (max (x 2) (x 3)) = x a := by
    rw [← max_four x a hf, max_assoc (max (x 0) (x 1))]
  rw [key]
  congr 1
  have f0 := hs 0; have f1 := hs 1; have f2 := hs 2; have f3 := hs 3
  have g := hf b
  apply le_antisymm
  · fin_cases a <;> simp at f0 f1 f2 f3 hf ⊢ <;> simp [*]
  · fin_cases a <;> fin_cases b <;> simp at hne hf g ⊢ <;> simp [*]

/-- The group of the greatest score, as the least number of a group that has it. -/
theorem best_eight (s : Fin 8 → EReal) (v : Fin 8 → EReal) (t : EReal) (hv : Monotone v) (ht : ∀ g, v g ≤ t) :
    ((Finset.univ : Finset (Fin 8)).fold min ⊤ fun g => if s g = (Finset.univ : Finset (Fin 8)).fold max ⊥ s then v g else t)
      = v (place s 0) := by
  have hm : (Finset.univ : Finset (Fin 8)).fold max ⊥ s = s (place s 0) := by
    refine le_antisymm (Finset.fold_max_le _ |>.2 ⟨bot_le, fun j _ => ?_⟩) ((Finset.le_fold_max _).2 (Or.inr ⟨_, Finset.mem_univ _, le_refl _⟩))
    by_cases e : j = place s 0
    · rw [e]
    · exact (first_before s 0 rfl j e).le
  rw [hm]
  refine le_antisymm ((Finset.fold_min_le _).2 (Or.inr ⟨place s 0, Finset.mem_univ _, ?_⟩)) ((Finset.le_fold_min _).2 ⟨le_top, fun j _ => ?_⟩)
  · rw [if_pos rfl]
  · split
    · rename_i e
      by_cases ej : j = place s 0
      · rw [ej]
      · exact hv ((first_before s 0 rfl j ej).elim (fun h => absurd e (ne_of_lt h)) fun h => le_of_lt h.2)
    · exact ht _

/-- Picking one of eight by summing it with zeros. -/
theorem pick_eight (p : Fin 8 → EReal) (v : Fin 8 → EReal) (hv : Function.Injective v) (b : Fin 8) :
    (∑ g : Fin 8, if v g = v b then p g else 0) = p b := by
  rw [Finset.sum_eq_single b (fun g _ h => if_neg fun e => h (hv e)) (fun h => absurd (Finset.mem_univ b) h), if_pos rfl]

/-- The second greatest of four is the greatest once the first is put below all. -/
theorem second_four (x : Fin 4 → EReal) (c : EReal) (hc : ∀ j, c < x j) (j : Fin 4)
    (hj : j ≠ place x 1) :
    Before (fun j => if place x 0 = j then c else x j) (place x 1) j := by
  have hne : place x 0 ≠ place x 1 := fun e => absurd (sortedFrom_injective _ e) (by decide)
  by_cases e : place x 0 = j
  · left
    show (if place x 0 = j then c else x j) < if place x 0 = place x 1 then c else x (place x 1)
    rw [if_pos e, if_neg hne]
    exact hc _
  · have := second_before x 0 1 rfl rfl j (fun h => e h.symm) hj
    unfold Before
    show (if place x 0 = j then c else x j) < (if place x 0 = place x 1 then c else x (place x 1))
      ∨ (if place x 0 = j then c else x j) = (if place x 0 = place x 1 then c else x (place x 1)) ∧ _
    rw [if_neg e, if_neg hne]
    exact this

/-- A natural number below `2 ^ 31`, as a real and back to a word. -/
theorem word_nat (n : ℕ) (h : n < 2147483648) : Ideal.fptosi 32 (((n : ℝ) : EReal)) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this]
  simp

end Cert.Router

end
-- ==== Proof.RouterSpec.lean ====
/-
  The router's function of one token's logits: the softmax over the thirty-two experts, the group of four whose two greatest
  sum highest, its two greatest experts and their shares.
-/
module

public import proofs.«01_k».proof.Proof.Router

@[expose] public section

noncomputable section

namespace Cert.Router

open Idealize.ShloMosaic
open scoped BigOperators

/-- The softmax of thirty-two logits. -/
def soft (l : Fin 32 → EReal) (e : Fin 32) : EReal :=
  Ideal.div (Ideal.exp (l e - (Finset.univ : Finset (Fin 32)).fold max ⊥ l))
    (∑ k : Fin 32, Ideal.exp (l k - (Finset.univ : Finset (Fin 32)).fold max ⊥ l))

/-- The probabilities by group and place in the group. -/
def grouped (q : Fin 32 → EReal) (g : Fin 8) (j : Fin 4) : EReal := q ⟨g.val * 4 + j.val, by omega⟩

/-- A group's score: its two greatest, added. -/
def score (p : Fin 8 → Fin 4 → EReal) (g : Fin 8) : EReal := p g (place (p g) 0) + p g (place (p g) 1)

/-- The group of the greatest score. -/
def best (p : Fin 8 → Fin 4 → EReal) : Fin 8 := place (score p) 0

/-- The `k`-th chosen expert's number. -/
def expert (p : Fin 8 → Fin 4 → EReal) (k : Fin 4) : BitVec 32 := BitVec.ofNat 32 ((best p).val * 4 + (place (p (best p)) k).val)

/-- Its share. -/
def gate (p : Fin 8 → Fin 4 → EReal) (k : Fin 4) : EReal :=
  Ideal.div (p (best p) (place (p (best p)) k)) (p (best p) (place (p (best p)) 0) + p (best p) (place (p (best p)) 1))

/-- The order in which the rows of experts are laid out: place in the group first, group second. -/
def perm (r : Fin 32) : Fin 32 := ⟨r.val % 8 * 4 + r.val / 8, by omega⟩

theorem perm_bijective : Function.Bijective perm := by
  refine (Fintype.bijective_iff_injective_and_card perm).2 ⟨fun a b h => Fin.ext ?_, rfl⟩
  have := Fin.ext_iff.1 h
  simp only [perm] at this
  omega

/-- The softmax of logits laid out in another order is the softmax laid out in that order. -/
theorem soft_perm (l : Fin 32 → EReal) (r : Fin 32) : soft (fun k => l (perm k)) r = soft l (perm r) := by
  have hm : ((Finset.univ : Finset (Fin 32)).fold max ⊥ fun k => l (perm k)) = (Finset.univ : Finset (Fin 32)).fold max ⊥ l := by
    refine le_antisymm (Finset.fold_max_le _ |>.2 ⟨bot_le, fun j _ => (Finset.le_fold_max _).2 (Or.inr ⟨perm j, Finset.mem_univ _, le_refl _⟩)⟩)
      (Finset.fold_max_le _ |>.2 ⟨bot_le, fun j _ => ?_⟩)
    obtain ⟨i, rfl⟩ := perm_bijective.2 j
    exact (Finset.le_fold_max _).2 (Or.inr ⟨i, Finset.mem_univ _, le_refl _⟩)
  unfold soft
  rw [hm]
  refine congrArg (Ideal.div _) ?_
  exact perm_bijective.sum_comp fun k => Ideal.exp (l k - (Finset.univ : Finset (Fin 32)).fold max ⊥ l)

/-- Of real logits every probability is above minus one. -/
theorem soft_above (l : Fin 32 → EReal) (h : ∀ e, ∃ r : ℝ, l e = (r : EReal)) (e : Fin 32) : ((-1 : ℝ) : EReal) < soft l e := by
  have hlt : (Finset.univ : Finset (Fin 32)).fold max ⊥ l < ⊤ :=
    (Finset.fold_max_lt _).2 ⟨bot_lt_top, fun k _ => by obtain ⟨r, hr⟩ := h k; rw [hr]; exact EReal.coe_lt_top r⟩
  have hgt : ⊥ < (Finset.univ : Finset (Fin 32)).fold max ⊥ l := by
    refine lt_of_lt_of_le ?_ ((Finset.le_fold_max _).2 (Or.inr ⟨e, Finset.mem_univ _, le_refl _⟩))
    obtain ⟨r, hr⟩ := h e; rw [hr]; exact EReal.bot_lt_coe r
  obtain ⟨t, ht⟩ : ∃ t : ℝ, (Finset.univ : Finset (Fin 32)).fold max ⊥ l = (t : EReal) :=
    ⟨_, (EReal.coe_toReal (ne_of_lt hlt) (ne_of_gt hgt)).symm⟩
  have pos (k : Fin 32) : 0 < Ideal.exp (l k - (t : EReal)) := by
    obtain ⟨r, hr⟩ := h k
    rw [hr, ← EReal.coe_sub]
    exact EReal.coe_pos.2 (Real.exp_pos _)
  have h0 : 0 ≤ soft l e := by
    unfold soft
    rw [ht]
    have hs : 0 ≤ ∑ k : Fin 32, Ideal.exp (l k - (t : EReal)) := Finset.sum_nonneg fun k _ => le_of_lt (pos k)
    unfold Ideal.div
    split_ifs with hz hp
    · exact le_top
    · exact absurd (pos e) hp
    · exact mul_nonneg (le_of_lt (pos e)) (EReal.inv_nonneg_of_nonneg hs)
  refine lt_of_lt_of_le ?_ h0
  exact EReal.coe_lt_coe_iff.2 (by norm_num)

end Cert.Router

end
-- ==== Proof.RouterBlock.lean ====
/-
  One grid point of the router: each column of the two results from its column of probabilities.
-/
module

public import proofs.«01_k».proof.Proof.Gen.KernelRouterIdeal.Value
public import proofs.«01_k».proof.Proof.RouterSpec
public import proofs.«01_k».proof.Proof.Common
public import Idealize.ShloMosaic.PureOps.Ideal.Laws

@[expose] public section

set_option maxRecDepth 16384

noncomputable section

namespace Cert.RouterBlock

open Cert.KernelRouterIdeal Cert.KernelRouterIdeal.Gen Idealize.ShloMosaic Idealize.ShloMosaic.ValueIdx
open scoped BigOperators

/-- A choice on equality of two values. -/
theorem choose_eq {α : Type} (a b : EReal) (x y : α) :
    Scalar.select (FloatOps.cmpf (F := Ideal) (φ := .f32) .oeq a b) x y = if a = b then x else y := by
  show Scalar.select (BitVec.ofBool (decide (a = b))) x y = _
  by_cases h : a = b
  · rw [decide_eq_true h, if_pos h]; rfl
  · rw [decide_eq_false h, if_neg h]; rfl

theorem bits_bot : Ideal.ofBits .f32 0xFF800000#32 = (⊥ : EReal) := by simp [Ideal.ofBits, Ideal.ieee]
theorem bits_top : Ideal.ofBits .f32 0x7F800000#32 = (⊤ : EReal) := by simp [Ideal.ofBits, Ideal.ieee]
theorem bits_one : Ideal.ofBits .f32 0x3F800000#32 = ((1 : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_three : Ideal.ofBits .f32 0x40400000#32 = ((3 : ℝ) : EReal) := by simp [Ideal.ofBits, Ideal.ieee, -EReal.coe_mul]; norm_num
theorem bits_four : Ideal.ofBits .f32 0x40800000#32 = ((4 : ℝ) : EReal) := by simp [Ideal.ofBits, Ideal.ieee, -EReal.coe_mul]; norm_num
theorem bits_eight : Ideal.ofBits .f32 0x41000000#32 = ((8 : ℝ) : EReal) := by simp [Ideal.ofBits, Ideal.ieee, -EReal.coe_mul]; norm_num
theorem bits_minus : Ideal.ofBits .f32 0xBF800000#32 = ((-1 : ℝ) : EReal) := by simp [Ideal.ofBits, Ideal.ieee, -EReal.coe_mul]; norm_num

/-- A number as a value. -/
def num (n : ℕ) : EReal := ((n : ℝ) : EReal)

theorem num_inj {a b : ℕ} (h : num a = num b) : a = b := Nat.cast_injective (EReal.coe_injective h)
theorem num_le {a b : ℕ} (h : a ≤ b) : num a ≤ num b := EReal.coe_le_coe_iff.2 (Nat.cast_le.2 h)

theorem row_cast (v : FVec Ideal S512 .f32) (c : Fin 512) : shapeCast S1x512 v shapeCasts_S512_S1x512 (ix2 (0 : Fin 1) c) = v (ix1 c) :=
  shapeCast_apply v shapeCasts_S512_S1x512 (ix2 (0 : Fin 1) c) (ix1 c)
    (by rewrite [Shape.rowMajor_val_two, Shape.rowMajor_val_one]; show c.val = 0 * 512 + c.val; omega)

theorem lift32 (c : Fin 512) (e : Fin 32) : reduces_S32x512_S512.lift (ix1 c) e = ix2 e c :=
  funext fun a => Fin.ext (match a with | ⟨0, _⟩ => rfl | ⟨1, _⟩ => rfl)

theorem lift8 (c : Fin 512) (e : Fin 8) : reduces_S8x512_S512.lift (ix1 c) e = ix2 e c :=
  funext fun a => Fin.ext (match a with | ⟨0, _⟩ => rfl | ⟨1, _⟩ => rfl)

section Column

variable (w : Vec Ideal S32x4096 .bf16) (x : Vec Ideal S512x4096 .bf16) (b : Vec Ideal S32x1 .f32) (c : Fin 512)

/-- The logits of a column. -/
def logit (r : Fin 32) : EReal := (∑ k : Fin 4096, (w (ix2 r k) : EReal) * x (ix2 c k)) + b (ix2 r (0 : Fin 1))

/-- The logits of the block. -/
def logits : FVec Ideal S32x512 .f32 :=
  addf (matmul (φ₁ := .bf16) (φ₂ := .bf16) dot_S32x4096_S512x4096_S32x512_1_1_0_0_n_n none (shapeCast S32x4096 w shapeCasts_S32x4096_S32x4096 : FVec Ideal S32x4096 .bf16) x (constant S32x512 .f32 0x00000000#32))
    (broadcastTo S32x512 (shapeCast S32x1 b shapeCasts_S32x1_S32x1 : FVec Ideal S32x1 .f32) broadcasts_S32x1_S32x512)

/-- The exponentials of the logits less the greatest. -/
def exps (y : FVec Ideal S32x512 .f32) : FVec Ideal S32x512 .f32 :=
  exp (subf y (broadcastTo S32x512 (shapeCast S1x512 (multiReduction .maximumf [0] S512 y 0xFF800000#32 reduces_S32x512_S512 (.inl rfl) rfl) shapeCasts_S512_S1x512) broadcasts_S1x512_S32x512))

/-- Divided by their sum. -/
def shares (y : FVec Ideal S32x512 .f32) : FVec Ideal S32x512 .f32 :=
  divf y (broadcastTo S32x512 (shapeCast S1x512 (multiReduction .add [0] S512 y 0x00000000#32 reduces_S32x512_S512 (.inl rfl) rfl) shapeCasts_S512_S1x512) broadcasts_S1x512_S32x512)

theorem pay10_eq : k0_pay10 (F := Ideal) w x b = shares (exps (logits w x b)) := rfl

theorem logits_apply (r : Fin 32) : (logits w x b (ix2 r c) : EReal) = logit w x b c r := by
  refine congrArg₂ (fun s t : EReal => s + t) ?_ ?_
  · refine (Ideal.matmul_transposedRhs_apply (M := 32) (K := 4096) (N := 512) none _ _ _ r c).trans ?_
    refine (congrArg (· + _) (show (constant S32x512 .f32 0x00000000#32 : FVec Ideal S32x512 .f32) (ix2 r c) = 0 from Ideal.ofBits_zero_f32)).trans ((zero_add _).trans ?_)
    refine Finset.sum_congr rfl fun k _ => congrArg (fun t : EReal => t * x (ix2 c k)) ?_
    exact shapeCast_apply w shapeCasts_S32x4096_S32x4096 (ix2 r k) (ix2 r k) rfl
  · refine (broadcastTo_apply _ broadcasts_S32x1_S32x512 (ix2 r c) (ix2 r (0 : Fin 1)) fun a => match a with
      | ⟨0, _⟩ => by show r.val = if (32 : Nat) = 1 then 0 else r.val; rw [if_neg (by decide)]
      | ⟨1, _⟩ => by show 0 = if (1 : Nat) = 1 then 0 else _; rw [if_pos rfl]).trans ?_
    exact shapeCast_apply b shapeCasts_S32x1_S32x1 (ix2 r (0 : Fin 1)) (ix2 r (0 : Fin 1)) rfl

theorem exps_apply (y : FVec Ideal S32x512 .f32) (l : Fin 32 → EReal) (hl : ∀ r : Fin 32, (y (ix2 r c) : EReal) = l r) (r : Fin 32) :
    (exps y (ix2 r c) : EReal) = Ideal.exp (l r - (Finset.univ : Finset (Fin 32)).fold max ⊥ l) := by
  refine congrArg Ideal.exp (congrArg₂ (fun s t : EReal => s - t) (hl r) ?_)
  refine (Common.row_apply (M := 32) (N := 512) (by decide) _ broadcasts_S1x512_S32x512 r c).trans ((row_cast _ c).trans ?_)
  refine (Ideal.multiReduction_maximumf_single y 0xFF800000#32 reduces_S32x512_S512 (.inl rfl) rfl (ix1 c)).trans ?_
  have e : (FloatOps.ofBits (F := Ideal) .f32 0xFF800000#32 : EReal) = ⊥ := bits_bot
  rw [e]
  refine congrArg (fun f => Finset.fold max ⊥ f Finset.univ) (funext fun k => ?_)
  exact (congrArg y (lift32 c k)).trans (hl k)

theorem shares_apply (y : FVec Ideal S32x512 .f32) (l : Fin 32 → EReal) (hl : ∀ r : Fin 32, (y (ix2 r c) : EReal) = l r) (r : Fin 32) :
    (shares y (ix2 r c) : EReal) = Ideal.div (l r) (∑ k : Fin 32, l k) := by
  refine congrArg₂ Ideal.div (hl r) ?_
  refine (Common.row_apply (M := 32) (N := 512) (by decide) _ broadcasts_S1x512_S32x512 r c).trans ((row_cast _ c).trans ?_)
  refine (Ideal.multiReduction_add_single _ 0x00000000#32 reduces_S32x512_S512 (.inl rfl) rfl (ix1 c)).trans ?_
  exact Finset.sum_congr rfl fun k _ => (congrArg y (lift32 c k)).trans (hl k)

theorem pay10_apply (r : Fin 32) : (k0_pay10 (F := Ideal) w x b (ix2 r c) : EReal) = Router.soft (logit w x b c) r := by
  rw [pay10_eq]
  exact shares_apply c _ _ (exps_apply c _ _ (logits_apply w x b c)) r

/-- The probabilities by group and place. -/
def P (g : Fin 8) (j : Fin 4) : EReal := k0_pay10 (F := Ideal) w x b (ix2 (⟨j.val * 8 + g.val, by omega⟩ : Fin 32) c)

theorem pay11_apply (g : Fin 8) : (k0_pay11 (F := Ideal) w x b (ix2 g c) : EReal) = P w x b c g 0 := by
  unfold k0_pay11 P
  exact extractStridedSlice_apply _ _ _ (ix2 g c) _ fun a => by
    match a with
    | ⟨0, _⟩ => show 0 * 8 + g.val = 0 + g.val; omega
    | ⟨1, _⟩ => show c.val = 0 + c.val; omega

theorem pay12_apply (g : Fin 8) : (k0_pay12 (F := Ideal) w x b (ix2 g c) : EReal) = P w x b c g 1 := by
  unfold k0_pay12 P
  exact extractStridedSlice_apply _ _ _ (ix2 g c) _ fun a => by
    match a with
    | ⟨0, _⟩ => show 1 * 8 + g.val = 8 + g.val; omega
    | ⟨1, _⟩ => show c.val = 0 + c.val; omega

theorem pay13_apply (g : Fin 8) : (k0_pay13 (F := Ideal) w x b (ix2 g c) : EReal) = P w x b c g 2 := by
  unfold k0_pay13 P
  exact extractStridedSlice_apply _ _ _ (ix2 g c) _ fun a => by
    match a with
    | ⟨0, _⟩ => show 2 * 8 + g.val = 16 + g.val; omega
    | ⟨1, _⟩ => show c.val = 0 + c.val; omega

theorem pay14_apply (g : Fin 8) : (k0_pay14 (F := Ideal) w x b (ix2 g c) : EReal) = P w x b c g 3 := by
  unfold k0_pay14 P
  exact extractStridedSlice_apply _ _ _ (ix2 g c) _ fun a => by
    match a with
    | ⟨0, _⟩ => show 3 * 8 + g.val = 24 + g.val; omega
    | ⟨1, _⟩ => show c.val = 0 + c.val; omega

theorem pay15_apply (g : Fin 8) : (k0_pay15 (F := Ideal) (ix2 g c) : EReal) = num g.val := by
  have h : ∀ g : Fin 8, (BitVec.ofNat 32 (0 * 8 + g.val)).toInt = (g.val : ℤ) := by decide
  show (((BitVec.ofNat 32 (0 * 8 + g.val)).toInt : ℝ) : EReal) = _
  rw [h g]
  show (((g.val : ℤ) : ℝ) : EReal) = ((g.val : ℝ) : EReal)
  rw [Int.cast_natCast]

/-- The groups' scores. -/
def scores (a0 a1 a2 a3 : FVec Ideal S8x512 .f32) : FVec Ideal S8x512 .f32 :=
  addf (maximumf (maximumf a0 a1) (maximumf a2 a3)) (maximumf (minimumf (maximumf a0 a1) (maximumf a2 a3)) (maximumf (minimumf a0 a1) (minimumf a2 a3)))

theorem scores_apply (a0 a1 a2 a3 : FVec Ideal S8x512 .f32) (g : Fin 8) (p : Fin 4 → EReal) (h0 : (a0 (ix2 g c) : EReal) = p 0)
    (h1 : (a1 (ix2 g c) : EReal) = p 1) (h2 : (a2 (ix2 g c) : EReal) = p 2) (h3 : (a3 (ix2 g c) : EReal) = p 3) :
    (scores a0 a1 a2 a3 (ix2 g c) : EReal) = p (Router.place p 0) + p (Router.place p 1) := by
  refine Eq.trans ?_ (Router.two_four p)
  rw [← h0, ← h1, ← h2, ← h3]
  rfl

/-- The greatest of each column, on every row. -/
def top (y : FVec Ideal S8x512 .f32) : FVec Ideal S8x512 .f32 :=
  broadcastTo S8x512 (shapeCast S1x512 (multiReduction .maximumf [0] S512 y 0xFF800000#32 reduces_S8x512_S512 (.inl rfl) rfl) shapeCasts_S512_S1x512) broadcasts_S1x512_S8x512

/-- The row's number where it is of the greatest, eight elsewhere. -/
def marked (y : FVec Ideal S8x512 .f32) : FVec Ideal S8x512 .f32 :=
  select (cmpf .oeq y (top y)) (k0_pay15 (F := Ideal)) (broadcast S8x512 (Scalar.ofBits (F := Ideal) .f32 0x41000000#32))

/-- The number of the group of the greatest score. -/
def bestRow (y : FVec Ideal S8x512 .f32) : FVec Ideal S1x512 .f32 :=
  shapeCast S1x512 (multiReduction .minimumf [0] S512 (marked y) 0x7F800000#32 reduces_S8x512_S512 (.inl rfl) rfl) shapeCasts_S512_S1x512

theorem pay16_eq : k0_pay16 (F := Ideal) w x b = bestRow (scores (k0_pay11 w x b) (k0_pay12 w x b) (k0_pay13 w x b) (k0_pay14 w x b)) := rfl

theorem top_apply (y : FVec Ideal S8x512 .f32) (s : Fin 8 → EReal) (hs : ∀ g : Fin 8, (y (ix2 g c) : EReal) = s g) (g : Fin 8) :
    (top y (ix2 g c) : EReal) = (Finset.univ : Finset (Fin 8)).fold max ⊥ s := by
  refine (Common.row_apply (M := 8) (N := 512) (by decide) _ broadcasts_S1x512_S8x512 g c).trans ((row_cast _ c).trans ?_)
  refine (Ideal.multiReduction_maximumf_single y 0xFF800000#32 reduces_S8x512_S512 (.inl rfl) rfl (ix1 c)).trans ?_
  have e : (FloatOps.ofBits (F := Ideal) .f32 0xFF800000#32 : EReal) = ⊥ := bits_bot
  rw [e]
  refine congrArg (fun f => Finset.fold max ⊥ f Finset.univ) (funext fun k => ?_)
  exact (congrArg y (lift8 c k)).trans (hs k)

theorem marked_apply (y : FVec Ideal S8x512 .f32) (s : Fin 8 → EReal) (hs : ∀ g : Fin 8, (y (ix2 g c) : EReal) = s g) (g : Fin 8) :
    (marked y (ix2 g c) : EReal) = if s g = (Finset.univ : Finset (Fin 8)).fold max ⊥ s then num g.val else num 8 := by
  refine (choose_eq (y (ix2 g c)) (top y (ix2 g c)) (k0_pay15 (F := Ideal) (ix2 g c)) (Ideal.ofBits .f32 0x41000000#32)).trans ?_
  rw [hs g, top_apply c y s hs g, pay15_apply c g]
  refine congrArg (fun t : EReal => if s g = (Finset.univ : Finset (Fin 8)).fold max ⊥ s then num g.val else t) ?_
  exact bits_eight.trans (by show _ = (((8 : ℕ) : ℝ) : EReal); norm_num)

theorem bestRow_apply (y : FVec Ideal S8x512 .f32) (s : Fin 8 → EReal) (hs : ∀ g : Fin 8, (y (ix2 g c) : EReal) = s g) :
    (bestRow y (ix2 (0 : Fin 1) c) : EReal) = num (Router.place s 0).val := by
  unfold bestRow
  refine (row_cast _ c).trans ?_
  have hm := marked_apply c y s hs
  generalize marked y = v at hm ⊢
  refine (multiReduction_minimumf_eq_fold v 0x7F800000#32 reduces_S8x512_S512 (.inl rfl) rfl (ix1 c)).trans ?_
  refine (reduces_S8x512_S512.fold_filter_drop_single _ _ v (ix1 c)).trans ?_
  have e : (FloatOps.ofBits (F := Ideal) .f32 0x7F800000#32 : EReal) = ⊤ := bits_top
  rw [e]
  refine Eq.trans ?_ (Router.best_eight s (fun g => num g.val) (num 8) (fun a b h => num_le h) (fun g => num_le (by omega)))
  refine congrArg (fun f => Finset.fold min ⊤ f Finset.univ) (funext fun (g : Fin 8) => ?_)
  exact (congrArg v (lift8 c g)).trans (hm g)

theorem pay16_apply : (k0_pay16 (F := Ideal) w x b (ix2 (0 : Fin 1) c) : EReal) = num (Router.best (P w x b c)).val := by
  rw [pay16_eq]
  exact bestRow_apply c _ _ fun g => scores_apply c _ _ _ _ g _ (pay11_apply w x b c g) (pay12_apply w x b c g) (pay13_apply w x b c g) (pay14_apply w x b c g)

/-- The chosen group's row of a block of eight. -/
theorem pick_apply (q : FVec Ideal S8x512 .f32) (m : FVec Ideal S1x512 .f32) (k : Fin 8) (hm : m (ix2 (0 : Fin 1) c) = num k.val) :
    (k0_pay19 (F := Ideal) q (k0_pay15 (F := Ideal)) m (ix2 (0 : Fin 1) c) : EReal) = q (ix2 k c) := by
  unfold k0_pay19
  dsimp only
  refine (row_cast _ c).trans ?_
  refine (Ideal.multiReduction_add_single _ 0x00000000#32 reduces_S8x512_S512 (.inl rfl) rfl (ix1 c)).trans ?_
  refine Eq.trans ?_ (Router.pick_eight (fun g => q (ix2 g c)) (fun g => num g.val) (fun a b h => Fin.ext (num_inj h)) k)
  refine Finset.sum_congr rfl fun (g : Fin 8) _ => (congrArg _ (lift8 c g)).trans ?_
  refine (choose_eq _ _ _ _).trans ?_
  rw [pay15_apply c g, Common.row_apply (M := 8) (N := 512) (by decide) _ broadcasts_S1x512_S8x512 g c, hm]
  exact congrArg (fun t : EReal => if num g.val = num k.val then (q (ix2 g c) : EReal) else t) Ideal.ofBits_zero_f32

end Column

end Cert.RouterBlock

end
-- ==== Proof.RouterPoint.lean ====
/-
  One grid point of the router: the two results' columns.
-/
module

public import proofs.«01_k».proof.Proof.RouterBlock

@[expose] public section

set_option maxRecDepth 16384

noncomputable section

namespace Cert.RouterPoint

open Cert.KernelRouterIdeal Cert.KernelRouterIdeal.Gen Idealize.ShloMosaic Idealize.ShloMosaic.ValueIdx Cert.RouterBlock
open scoped BigOperators

/-- The greatest of four rows. -/
def topRow (A B C D : FVec Ideal S1x512 .f32) : FVec Ideal S1x512 .f32 := maximumf (maximumf (maximumf A B) C) D

/-- A row of one value. -/
def filled (v : BitVec 32) : FVec Ideal S1x512 .f32 := broadcast S1x512 (Scalar.ofBits (F := Ideal) .f32 v)

/-- The number of the first of four rows that holds the value. -/
def foundRow (A B C D T : FVec Ideal S1x512 .f32) : FVec Ideal S1x512 .f32 :=
  select (cmpf .oeq A T) (filled 0x00000000#32) (select (cmpf .oeq B T) (filled 0x3F800000#32)
    (select (cmpf .oeq C T) (filled 0x40000000#32) (select (cmpf .oeq D T) (filled 0x40400000#32) (filled 0x40800000#32))))

/-- A row, minus one where the number is its own. -/
def without (v : BitVec 32) (I A : FVec Ideal S1x512 .f32) : FVec Ideal S1x512 .f32 := select (cmpf .oeq I (filled v)) (filled 0xBF800000#32) A

theorem bits_num : Ideal.ofBits .f32 0x00000000#32 = num 0 ∧ Ideal.ofBits .f32 0x3F800000#32 = num 1 ∧ Ideal.ofBits .f32 0x40000000#32 = num 2
    ∧ Ideal.ofBits .f32 0x40400000#32 = num 3 ∧ Ideal.ofBits .f32 0x40800000#32 = num 4 := by
  refine ⟨Ideal.ofBits_zero_f32.trans ?_, bits_one.trans ?_, bits_two.trans ?_, bits_three.trans ?_, bits_four.trans ?_⟩ <;> unfold num <;> norm_num

section Column

variable (A B C D T I : FVec Ideal S1x512 .f32) (c : Fin 512) (z : Fin 4 → EReal)
  (hA : (A (ix2 (0 : Fin 1) c) : EReal) = z 0) (hB : (B (ix2 (0 : Fin 1) c) : EReal) = z 1)
  (hC : (C (ix2 (0 : Fin 1) c) : EReal) = z 2) (hD : (D (ix2 (0 : Fin 1) c) : EReal) = z 3)

include hA hB hC hD

theorem topRow_apply (i : Fin 4) (h : ∀ j, z j ≤ z i) : (topRow A B C D (ix2 (0 : Fin 1) c) : EReal) = z i := by
  refine Eq.trans ?_ (Router.max_four z i h)
  rw [← hA, ← hB, ← hC, ← hD]
  rfl

theorem foundRow_apply (i : Fin 4) (h : ∀ j, j ≠ i → Router.Before z i j) (hT : (T (ix2 (0 : Fin 1) c) : EReal) = z i) :
    (foundRow A B C D T (ix2 (0 : Fin 1) c) : EReal) = num i.val := by
  refine Eq.trans ?_ (Router.find_four z i h fun k => num k.val)
  refine (choose_eq (A (ix2 (0 : Fin 1) c)) (T (ix2 (0 : Fin 1) c)) (Ideal.ofBits .f32 0x00000000#32) _).trans ?_
  rw [hA, hT, bits_num.1]
  refine congrArg (fun t : EReal => if z 0 = z i then num 0 else t) ?_
  refine (choose_eq (B (ix2 (0 : Fin 1) c)) (T (ix2 (0 : Fin 1) c)) (Ideal.ofBits .f32 0x3F800000#32) _).trans ?_
  rw [hB, hT, bits_num.2.1]
  refine congrArg (fun t : EReal => if z 1 = z i then num 1 else t) ?_
  refine (choose_eq (C (ix2 (0 : Fin 1) c)) (T (ix2 (0 : Fin 1) c)) (Ideal.ofBits .f32 0x40000000#32) _).trans ?_
  rw [hC, hT, bits_num.2.2.1]
  refine congrArg (fun t : EReal => if z 2 = z i then num 2 else t) ?_
  refine (choose_eq (D (ix2 (0 : Fin 1) c)) (T (ix2 (0 : Fin 1) c)) (Ideal.ofBits .f32 0x40400000#32) (Ideal.ofBits .f32 0x40800000#32)).trans ?_
  rw [hD, hT, bits_num.2.2.2.1, bits_num.2.2.2.2]
  rfl

end Column

theorem without_apply (v : BitVec 32) (I A : FVec Ideal S1x512 .f32) (c : Fin 512) (i j : Fin 4) (hv : Ideal.ofBits .f32 v = num j.val)
    (hI : (I (ix2 (0 : Fin 1) c) : EReal) = num i.val) :
    (without v I A (ix2 (0 : Fin 1) c) : EReal) = if i = j then ((-1 : ℝ) : EReal) else A (ix2 (0 : Fin 1) c) := by
  refine (choose_eq (I (ix2 (0 : Fin 1) c)) (Ideal.ofBits .f32 v) (Ideal.ofBits .f32 0xBF800000#32) (A (ix2 (0 : Fin 1) c))).trans ?_
  rw [hI, hv, bits_minus]
  by_cases e : i = j
  · rw [if_pos e, if_pos (by rw [e])]
  · rw [if_neg e, if_neg fun h => e (Fin.ext (num_inj h))]

/-- The second row of numbers, as the pieces name it. -/
theorem pay6_eq (m R S N U W : FVec Ideal S1x512 .f32) : k0_pay6 (F := Ideal) m R S N U W (k0_pay26 (F := Ideal))
    = fptosi 32 (addf (mulf m (filled 0x40800000#32)) (foundRow U W (without 0x40000000#32 N R) (without 0x40400000#32 N S)
        (topRow U W (without 0x40000000#32 N R) (without 0x40400000#32 N S)))) := rfl

theorem pay3_eq (R S N U W : FVec Ideal S1x512 .f32) : k0_pay3 (F := Ideal) R S N U W (k0_pay26 (F := Ideal))
    = topRow U W (without 0x40000000#32 N R) (without 0x40400000#32 N S) := rfl

section Point

variable (x0 : Vec Ideal S512x4096 .bf16) (x1 : Vec Ideal S32x4096 .bf16) (x2 : Vec Ideal S32x1 .f32) (c : Fin 512)

theorem ld0 : View.ld x1 r0_0 = x1 := View.ld_unit_zero Common.zero2 _ x1
theorem ld1 : View.ld x0 r0_1 = x0 := View.ld_unit_zero Common.zero2 _ x0
theorem ld2 : View.ld x2 r0_2 = x2 := View.ld_unit_zero Common.zero2 _ x2

/-- The probabilities of a column. -/
def p : Fin 8 → Fin 4 → EReal := RouterBlock.P x1 x0 x2 c

/-- Those of the chosen group. -/
def y : Fin 4 → EReal := p x0 x1 x2 c (Router.best (p x0 x1 x2 c))

/-- The first row of the chosen group. -/
def row0 : FVec Ideal S1x512 .f32 := k0_pay18 (k0_pay32 x0 x1 x2)
/-- The second. -/
def row1 : FVec Ideal S1x512 .f32 := k0_pay19 (k0_pay27 x0 x1 x2) (k0_pay30 x0 x1 x2) (k0_pay31 x0 x1 x2)

theorem m_apply : (k0_pay31 x0 x1 x2 (ix2 (0 : Fin 1) c) : EReal) = num (Router.best (p x0 x1 x2 c)).val := by
  unfold k0_pay31
  rw [ld0, ld1, ld2]
  exact pay16_apply x1 x0 x2 c

theorem row0_apply : (row0 x0 x1 x2 (ix2 (0 : Fin 1) c) : EReal) = y x0 x1 x2 c 0 := by
  have e : row0 x0 x1 x2 = k0_pay19 (k0_pay11 x1 x0 x2) (k0_pay15 (F := Ideal)) (k0_pay16 x1 x0 x2) := by
    unfold row0 k0_pay32
    rw [ld0, ld1, ld2]
    rfl
  rw [e]
  exact (pick_apply c _ _ _ (pay16_apply x1 x0 x2 c)).trans (pay11_apply x1 x0 x2 c _)

theorem row1_apply : (row1 x0 x1 x2 (ix2 (0 : Fin 1) c) : EReal) = y x0 x1 x2 c 1 := by
  refine (pick_apply c _ _ _ (m_apply x0 x1 x2 c)).trans ?_
  unfold k0_pay27
  rw [ld0, ld1, ld2]
  exact pay12_apply x1 x0 x2 c _

theorem row2_apply : (k0_pay33 x0 x1 x2 (ix2 (0 : Fin 1) c) : EReal) = y x0 x1 x2 c 2 := by
  refine (pick_apply c (k0_pay28 x0 x1 x2) _ _ (m_apply x0 x1 x2 c)).trans ?_
  unfold k0_pay28
  rw [ld0, ld1, ld2]
  exact pay13_apply x1 x0 x2 c _

theorem row3_apply : (k0_pay34 x0 x1 x2 (ix2 (0 : Fin 1) c) : EReal) = y x0 x1 x2 c 3 := by
  refine (pick_apply c (k0_pay29 x0 x1 x2) _ _ (m_apply x0 x1 x2 c)).trans ?_
  unfold k0_pay29
  rw [ld0, ld1, ld2]
  exact pay14_apply x1 x0 x2 c _

theorem pay35_eq : k0_pay35 x0 x1 x2 = topRow (row0 x0 x1 x2) (row1 x0 x1 x2) (k0_pay33 x0 x1 x2) (k0_pay34 x0 x1 x2) := rfl
theorem pay36_eq : k0_pay36 x0 x1 x2 = foundRow (row0 x0 x1 x2) (row1 x0 x1 x2) (k0_pay33 x0 x1 x2) (k0_pay34 x0 x1 x2) (k0_pay35 x0 x1 x2) := rfl
theorem pay37_eq : k0_pay37 x0 x1 x2 = without 0x00000000#32 (k0_pay36 x0 x1 x2) (row0 x0 x1 x2) := rfl
theorem pay38_eq : k0_pay38 x0 x1 x2 = without 0x3F800000#32 (k0_pay36 x0 x1 x2) (row1 x0 x1 x2) := rfl

/-- The place of the greatest of the chosen group. -/
def i1 : Fin 4 := Router.place (y x0 x1 x2 c) 0
/-- The place of the second. -/
def i2 : Fin 4 := Router.place (y x0 x1 x2 c) 1

theorem v1_apply : (k0_pay35 x0 x1 x2 (ix2 (0 : Fin 1) c) : EReal) = y x0 x1 x2 c (i1 x0 x1 x2 c) := by
  rw [pay35_eq]
  refine topRow_apply _ _ _ _ c _ (row0_apply x0 x1 x2 c) (row1_apply x0 x1 x2 c) (row2_apply x0 x1 x2 c) (row3_apply x0 x1 x2 c) _ fun j => ?_
  by_cases e : j = i1 x0 x1 x2 c
  · rw [e]
  · exact (Router.first_before _ 0 rfl j e).le

theorem n1_apply : (k0_pay36 x0 x1 x2 (ix2 (0 : Fin 1) c) : EReal) = num (i1 x0 x1 x2 c).val := by
  rw [pay36_eq]
  exact foundRow_apply _ _ _ _ _ c _ (row0_apply x0 x1 x2 c) (row1_apply x0 x1 x2 c) (row2_apply x0 x1 x2 c) (row3_apply x0 x1 x2 c) _
    (fun j e => Router.first_before _ 0 rfl j e) (v1_apply x0 x1 x2 c)

/-- The chosen group without its greatest. -/
def z (j : Fin 4) : EReal := if i1 x0 x1 x2 c = j then ((-1 : ℝ) : EReal) else y x0 x1 x2 c j

theorem z0_apply : (k0_pay37 x0 x1 x2 (ix2 (0 : Fin 1) c) : EReal) = z x0 x1 x2 c 0 := by
  rw [pay37_eq]
  refine (without_apply _ _ _ c _ 0 bits_num.1 (n1_apply x0 x1 x2 c)).trans ?_
  rw [row0_apply]; rfl

theorem z1_apply : (k0_pay38 x0 x1 x2 (ix2 (0 : Fin 1) c) : EReal) = z x0 x1 x2 c 1 := by
  rw [pay38_eq]
  refine (without_apply _ _ _ c _ 1 bits_num.2.1 (n1_apply x0 x1 x2 c)).trans ?_
  rw [row1_apply]; rfl

theorem z2_apply : (without 0x40000000#32 (k0_pay36 x0 x1 x2) (k0_pay33 x0 x1 x2) (ix2 (0 : Fin 1) c) : EReal) = z x0 x1 x2 c 2 := by
  refine (without_apply _ _ _ c _ 2 bits_num.2.2.1 (n1_apply x0 x1 x2 c)).trans ?_
  rw [row2_apply]; rfl

theorem z3_apply : (without 0x40400000#32 (k0_pay36 x0 x1 x2) (k0_pay34 x0 x1 x2) (ix2 (0 : Fin 1) c) : EReal) = z x0 x1 x2 c 3 := by
  refine (without_apply _ _ _ c _ 3 bits_num.2.2.2.1 (n1_apply x0 x1 x2 c)).trans ?_
  rw [row3_apply]; rfl

variable (hp : ∀ g j, ((-1 : ℝ) : EReal) < p x0 x1 x2 c g j)

include hp

theorem z_before (j : Fin 4) (hj : j ≠ i2 x0 x1 x2 c) : Router.Before (z x0 x1 x2 c) (i2 x0 x1 x2 c) j :=
  Router.second_four (y x0 x1 x2 c) _ (fun j => hp _ j) j hj

theorem z_second : z x0 x1 x2 c (i2 x0 x1 x2 c) = y x0 x1 x2 c (i2 x0 x1 x2 c) :=
  if_neg fun e => absurd (sortedFrom_injective _ e) (by decide)

theorem v2_apply : (k0_pay3 (F := Ideal) (k0_pay33 x0 x1 x2) (k0_pay34 x0 x1 x2) (k0_pay36 x0 x1 x2) (k0_pay37 x0 x1 x2) (k0_pay38 x0 x1 x2) (k0_pay39 x0 x1 x2) (ix2 (0 : Fin 1) c) : EReal)
    = z x0 x1 x2 c (i2 x0 x1 x2 c) := by
  unfold k0_pay39
  rw [pay3_eq]
  refine topRow_apply _ _ _ _ c _ (z0_apply x0 x1 x2 c) (z1_apply x0 x1 x2 c) (z2_apply x0 x1 x2 c) (z3_apply x0 x1 x2 c) _ fun j => ?_
  by_cases e : j = i2 x0 x1 x2 c
  · rw [e]
  · exact (z_before x0 x1 x2 c hp j e).le

omit hp in
theorem word (g : Fin 8) (i : Fin 4) (a n : EReal) (ha : a = num g.val) (hn : n = num i.val) :
    Ideal.fptosi 32 (a * Ideal.ofBits .f32 0x40800000#32 + n) = BitVec.ofNat 32 (g.val * 4 + i.val) := by
  rw [ha, hn, bits_num.2.2.2.2, ← Router.word_nat _ (by omega)]
  refine congrArg (Ideal.fptosi 32) ?_
  unfold num
  rw [← EReal.coe_mul, ← EReal.coe_add]
  push_cast
  rfl

omit hp in
theorem first_number : k0_pay5 (F := Ideal) (k0_pay31 x0 x1 x2) (k0_pay36 x0 x1 x2) (ix2 (0 : Fin 1) c) = Router.expert (p x0 x1 x2 c) 0 :=
  word _ _ _ _ (m_apply x0 x1 x2 c) (n1_apply x0 x1 x2 c)

theorem second_number : k0_pay6 (F := Ideal) (k0_pay31 x0 x1 x2) (k0_pay33 x0 x1 x2) (k0_pay34 x0 x1 x2) (k0_pay36 x0 x1 x2) (k0_pay37 x0 x1 x2) (k0_pay38 x0 x1 x2) (k0_pay39 x0 x1 x2) (ix2 (0 : Fin 1) c)
    = Router.expert (p x0 x1 x2 c) 1 := by
  have hv := v2_apply x0 x1 x2 c hp
  unfold k0_pay39 at hv ⊢
  rw [pay3_eq] at hv
  rw [pay6_eq]
  exact word _ _ _ _ (m_apply x0 x1 x2 c) (foundRow_apply _ _ _ _ _ c _ (z0_apply x0 x1 x2 c) (z1_apply x0 x1 x2 c) (z2_apply x0 x1 x2 c) (z3_apply x0 x1 x2 c) _
    (z_before x0 x1 x2 c hp) hv)

theorem total_apply : (k0_pay7 (F := Ideal) (k0_pay33 x0 x1 x2) (k0_pay34 x0 x1 x2) (k0_pay35 x0 x1 x2) (k0_pay36 x0 x1 x2) (k0_pay37 x0 x1 x2) (k0_pay38 x0 x1 x2) (k0_pay39 x0 x1 x2) (ix2 (0 : Fin 1) c) : EReal)
    = y x0 x1 x2 c (i1 x0 x1 x2 c) + y x0 x1 x2 c (i2 x0 x1 x2 c) :=
  congrArg₂ (fun s t : EReal => s + t) (v1_apply x0 x1 x2 c) ((v2_apply x0 x1 x2 c hp).trans (z_second x0 x1 x2 c hp))

theorem first_gate : (k0_pay8 (F := Ideal) (k0_pay33 x0 x1 x2) (k0_pay34 x0 x1 x2) (k0_pay35 x0 x1 x2) (k0_pay36 x0 x1 x2) (k0_pay37 x0 x1 x2) (k0_pay38 x0 x1 x2) (k0_pay39 x0 x1 x2) (ix2 (0 : Fin 1) c) : EReal)
    = Router.gate (p x0 x1 x2 c) 0 :=
  congrArg₂ Ideal.div (v1_apply x0 x1 x2 c) (total_apply x0 x1 x2 c hp)

theorem second_gate : (k0_pay9 (F := Ideal) (k0_pay33 x0 x1 x2) (k0_pay34 x0 x1 x2) (k0_pay35 x0 x1 x2) (k0_pay36 x0 x1 x2) (k0_pay37 x0 x1 x2) (k0_pay38 x0 x1 x2) (k0_pay39 x0 x1 x2) (ix2 (0 : Fin 1) c) : EReal)
    = Router.gate (p x0 x1 x2 c) 1 :=
  congrArg₂ Ideal.div ((v2_apply x0 x1 x2 c hp).trans (z_second x0 x1 x2 c hp)) (total_apply x0 x1 x2 c hp)

/-- The row of a result, as one of four places. -/
def rank (k : Fin 2) : Fin 4 := k.castLE (by decide)

omit hp in
/-- The block of experts' numbers. -/
theorem out3_apply (hp : ∀ c g j, ((-1 : ℝ) : EReal) < p x0 x1 x2 c g j) (k : Fin 2) :
    out0_3 x0 x1 x2 (ix2 k c) = Router.expert (p x0 x1 x2 c) (rank k) := by
  unfold out0_3
  refine View.canon_apply_of_pieces (Val := Elt Ideal) (e := .i32) (fun j : S2x512.Idx => Router.expert (p x0 x1 x2 (j 1)) (rank (j 0))) _ ?_ (ix2 k c) (cover0_3 _ _ _)
  intro q hq
  simp only [List.mem_cons, List.not_mem_nil, or_false] at hq
  rcases hq with rfl | rfl
  · intro j
    have e : (r0_4.emb j) = ix2 (1 : Fin 2) (j 1) := funext fun a => Fin.ext (by
      match a with
      | ⟨0, _⟩ => show 1 + 1 * (j 0).val = 1; have : (j 0).val < 1 := (j 0).isLt; omega
      | ⟨1, _⟩ => show 0 + 1 * (j 1).val = (j 1).val; omega)
    have e' : j = ix2 (0 : Fin 1) (j 1) := funext fun a => Fin.ext (by
      match a with
      | ⟨0, _⟩ => show (j 0).val = 0; have : (j 0).val < 1 := (j 0).isLt; omega
      | ⟨1, _⟩ => rfl)
    show k0_pay6 (F := Ideal) _ _ _ _ _ _ _ j = Router.expert (p x0 x1 x2 (r0_4.emb j 1)) (rank (r0_4.emb j 0))
    rw [e, e']
    exact second_number x0 x1 x2 (j 1) (hp _)
  · intro j
    have e : (r0_3.emb j) = ix2 (0 : Fin 2) (j 1) := funext fun a => Fin.ext (by
      match a with
      | ⟨0, _⟩ => show 0 + 1 * (j 0).val = 0; have : (j 0).val < 1 := (j 0).isLt; omega
      | ⟨1, _⟩ => show 0 + 1 * (j 1).val = (j 1).val; omega)
    have e' : j = ix2 (0 : Fin 1) (j 1) := funext fun a => Fin.ext (by
      match a with
      | ⟨0, _⟩ => show (j 0).val = 0; have : (j 0).val < 1 := (j 0).isLt; omega
      | ⟨1, _⟩ => rfl)
    show k0_pay5 (F := Ideal) _ _ j = Router.expert (p x0 x1 x2 (r0_3.emb j 1)) (rank (r0_3.emb j 0))
    rw [e, e']
    exact first_number x0 x1 x2 (j 1)

omit hp in
/-- The block of shares. -/
theorem out4_apply (hp : ∀ c g j, ((-1 : ℝ) : EReal) < p x0 x1 x2 c g j) (k : Fin 2) :
    (out0_4 x0 x1 x2 (ix2 k c) : EReal) = Router.gate (p x0 x1 x2 c) (rank k) := by
  unfold out0_4
  refine View.canon_apply_of_pieces (Val := Elt Ideal) (e := .f32) (fun j : S2x512.Idx => Router.gate (p x0 x1 x2 (j 1)) (rank (j 0))) _ ?_ (ix2 k c) (cover0_4 _ _ _)
  intro q hq
  simp only [List.mem_cons, List.not_mem_nil, or_false] at hq
  rcases hq with rfl | rfl
  · intro j
    have e : (r0_4.emb j) = ix2 (1 : Fin 2) (j 1) := funext fun a => Fin.ext (by
      match a with
      | ⟨0, _⟩ => show 1 + 1 * (j 0).val = 1; have : (j 0).val < 1 := (j 0).isLt; omega
      | ⟨1, _⟩ => show 0 + 1 * (j 1).val = (j 1).val; omega)
    have e' : j = ix2 (0 : Fin 1) (j 1) := funext fun a => Fin.ext (by
      match a with
      | ⟨0, _⟩ => show (j 0).val = 0; have : (j 0).val < 1 := (j 0).isLt; omega
      | ⟨1, _⟩ => rfl)
    show k0_pay9 (F := Ideal) _ _ _ _ _ _ _ j = Router.gate (p x0 x1 x2 (r0_4.emb j 1)) (rank (r0_4.emb j 0))
    rw [e, e']
    exact second_gate x0 x1 x2 (j 1) (hp _)
  · intro j
    have e : (r0_3.emb j) = ix2 (0 : Fin 2) (j 1) := funext fun a => Fin.ext (by
      match a with
      | ⟨0, _⟩ => show 0 + 1 * (j 0).val = 0; have : (j 0).val < 1 := (j 0).isLt; omega
      | ⟨1, _⟩ => show 0 + 1 * (j 1).val = (j 1).val; omega)
    have e' : j = ix2 (0 : Fin 1) (j 1) := funext fun a => Fin.ext (by
      match a with
      | ⟨0, _⟩ => show (j 0).val = 0; have : (j 0).val < 1 := (j 0).isLt; omega
      | ⟨1, _⟩ => rfl)
    show k0_pay8 (F := Ideal) _ _ _ _ _ _ _ j = Router.gate (p x0 x1 x2 (r0_3.emb j 1)) (rank (r0_3.emb j 0))
    rw [e, e']
    exact first_gate x0 x1 x2 (j 1) (hp _)

end Point

end Cert.RouterPoint

end
-- ==== Proof.RouterHost.lean ====
/-
  The router's weights and biases as the kernel gets them: the experts in the order of the kernel's rows.
-/
module

public import proofs.«01_k».proof.Proof.Gen.KernelRouterIdeal.Value
public import proofs.«01_k».proof.Proof.RouterSpec
public import proofs.«01_k».proof.Proof.Common

@[expose] public section

set_option maxRecDepth 16384

noncomputable section

namespace Cert.RouterHost

open Cert.KernelRouterIdeal Cert.KernelRouterIdeal.Gen Idealize.ShloMosaic Idealize.ShloMosaic.TcCoe Idealize.ShloMosaic.ValueIdx
open scoped BigOperators

/-- A row of one number. -/
def splat (v : IVec S_ 32) : IVec S32 32 := broadcastInDim S32 ![] bcast_S_S32 v

/-- A number. -/
def one (v : BitVec 32) : IVec S_ 32 := constantI S_ 32 v

/-- The divisor of the remainder, one where it is zero. -/
def eight : IVec S_ 32 := select (cmpi .eq (one 8#32) (one 0#32)) (one 1#32) (one 8#32)

/-- The remainders by eight, of the divisor's sign. -/
def rems : IVec S32 32 :=
  select (andi (cmpi .ne (cmpi .slt (Host.remsi (iotaInDim S32 32 0) (splat eight)) (splat (one 0#32))) (broadcastInDim S32 ![] bcast_S_S32 (cmpi .slt eight (one 0#32))))
      (cmpi .ne (Host.remsi (iotaInDim S32 32 0) (splat eight)) (splat (one 0#32))))
    (addi (Host.remsi (iotaInDim S32 32 0) (splat eight)) (splat eight)) (Host.remsi (iotaInDim S32 32 0) (splat eight))

/-- The quotients by eight, rounded down. -/
def quots : IVec S32 32 :=
  select (andi (cmpi .ne (signi (iotaInDim S32 32 0)) (splat (signi (one 8#32)))) (cmpi .ne (Host.remsi (iotaInDim S32 32 0) (splat (one 8#32))) (splat (one 0#32))))
    (subi (Host.divsi (iotaInDim S32 32 0) (splat (one 8#32))) (splat (one 1#32))) (Host.divsi (iotaInDim S32 32 0) (splat (one 8#32)))

/-- Which expert each row is of. -/
def order : IVec S32 32 := addi (muli rems (splat (one 4#32))) quots

/-- As the gathers take it. -/
def starts : IVec S32x1 32 :=
  broadcastInDim S32x1 ![0] bcast_S32_S32x1_0 (select (cmpi .slt order (splat (one 0#32))) (addi order (splat (one 32#32))) order)

theorem starts_apply : ∀ r : Fin 32, starts (ix2 r (0 : Fin 1)) = BitVec.ofNat 32 (Router.perm r).val := by decide +kernel

theorem word_perm : ∀ r : Fin 32, min (BitVec.ofNat 32 (Router.perm r).val).toInt.toNat 31 = (Router.perm r).val := by decide +kernel

theorem rows_apply (x : S32x4096.Idx → EReal) (idx : IVec S32x1 32) (r : Fin 32) (k : Fin 4096) :
    Host.gather gather_S32x4096_S32x1_S32x4096_1_0_n_n_0_1_14096 x idx (ix2 r k)
      = x (ix2 (⟨min (idx (ix2 r (0 : Fin 1))).toInt.toNat 31, by omega⟩ : Fin 32) k) := by
  unfold Host.gather
  congr 1
  funext a
  refine Fin.ext ?_
  show gather_S32x4096_S32x1_S32x4096_1_0_n_n_0_1_14096.start (ix2 r k) idx a
    + gather_S32x4096_S32x1_S32x4096_1_0_n_n_0_1_14096.batchCoord (ix2 r k) a
    + gather_S32x4096_S32x1_S32x4096_1_0_n_n_0_1_14096.offCoord (ix2 r k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x4096_S32x1_S32x4096_1_0_n_n_0_1_14096.startIndexMap from List.mem_singleton.mpr rfl)]
    have hsi : gather_S32x4096_S32x1_S32x4096_1_0_n_n_0_1_14096.siIdx (ix2 r k) ⟨List.idxOf (0 : Fin 2) gather_S32x4096_S32x1_S32x4096_1_0_n_n_0_1_14096.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start
    rw [dif_neg (show ¬ (1 : Fin 2) ∈ gather_S32x4096_S32x1_S32x4096_1_0_n_n_0_1_14096.startIndexMap from (by decide : ¬ (1 : Fin 2) ∈ [(0 : Fin 2)]))]
    simp only [Nat.zero_add]
    unfold GatherDims.offCoord
    rw [dif_pos (show (1 : Fin 2) ∈ gather_S32x4096_S32x1_S32x4096_1_0_n_n_0_1_14096.sKept from (GatherDims.mem_sKept _ _).mpr ⟨(by decide : ¬ (1 : Fin 2) ∈ [(0 : Fin 2)]), List.not_mem_nil⟩)]
    rfl

theorem entries_apply (x : S32.Idx → EReal) (idx : IVec S32x1 32) (r : Fin 32) :
    Host.gather gather_S32_S32x1_S32_n_0_n_n_0_1_1 x idx (ix1 r)
      = x (ix1 (⟨min (idx (ix2 r (0 : Fin 1))).toInt.toNat 31, by omega⟩ : Fin 32)) := by
  unfold Host.gather
  congr 1
  funext a
  obtain rfl : a = 0 := Subsingleton.elim _ _
  refine Fin.ext ?_
  show gather_S32_S32x1_S32_n_0_n_n_0_1_1.start (ix1 r) idx 0
    + gather_S32_S32x1_S32_n_0_n_n_0_1_1.batchCoord (ix1 r) 0
    + gather_S32_S32x1_S32_n_0_n_n_0_1_1.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S32x1_S32_n_0_n_n_0_1_1.startIndexMap from List.mem_singleton.mpr rfl)]
  have hsi : gather_S32_S32x1_S32_n_0_n_n_0_1_1.siIdx (ix1 r) ⟨List.idxOf (0 : Fin 1) gather_S32_S32x1_S32_n_0_n_n_0_1_1.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

variable (m : (ℓ : Loc nD τ sig) → Buf (Elt Ideal) ℓ)

theorem V_main_v15 (c : Dev nD) : V m c main_v15
    = (truncf .bf16 (Host.gather gather_S32x4096_S32x1_S32x4096_1_0_n_n_0_1_14096
        (transpose S32x4096 [1, 0] (m ((c : Thread nD τ).loc main_arg1)) transposes_S4096x32_S32x4096_1_0 : FVec Ideal S32x4096 .f32) starts : FVec Ideal S32x4096 .f32) bitsLt_bf16_f32 : FVec Ideal S32x4096 .bf16) := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results
  rfl

theorem V_main_v23 (c : Dev nD) : V m c main_v23
    = (shapeCast S32x1 (Host.gather gather_S32_S32x1_S32_n_0_n_n_0_1_1 (m ((c : Thread nD τ).loc main_arg2) : FVec Ideal S32 .f32) starts : FVec Ideal S32 .f32) shapeCasts_S32_S32x1 : FVec Ideal S32x1 .f32) := by
  show StableHlo.after (List.flatten [hostOps0, hostOps0_1, hostOps0_2, hostOps0_3, hostOps0_4]) (fun b => m (c, b)) (Proc.devRef .tc main_v23) = _
  simp only [hostOps0, hostOps0_1, hostOps0_2, hostOps0_3, hostOps0_4, List.flatten_cons, List.flatten_nil, List.append_nil, List.cons_append, List.nil_append]
  after_results
  rfl

theorem weights_apply (c : Dev nD) (r : Fin 32) (k : Fin 4096) :
    (V m c main_v15 (ix2 r k) : EReal) = m ((c : Thread nD τ).loc main_arg1) (ix2 k (Router.perm r)) := by
  rw [V_main_v15]
  refine (rows_apply (transpose S32x4096 [1, 0] (m ((c : Thread nD τ).loc main_arg1)) transposes_S4096x32_S32x4096_1_0 : FVec Ideal S32x4096 .f32) starts r k).trans ?_
  refine (transpose_apply [1, 0] _ transposes_S4096x32_S32x4096_1_0 _ (ix2 k (Router.perm r)) fun b => ?_)
  match b with
  | ⟨0, _⟩ => show (Router.perm r).val = min (starts (ix2 r (0 : Fin 1))).toInt.toNat 31; rw [starts_apply, word_perm]
  | ⟨1, _⟩ => rfl

theorem biases_apply (c : Dev nD) (r : Fin 32) :
    (V m c main_v23 (ix2 r (0 : Fin 1)) : EReal) = m ((c : Thread nD τ).loc main_arg2) (ix1 (Router.perm r)) := by
  rw [V_main_v23]
  refine (shapeCast_apply _ shapeCasts_S32_S32x1 (ix2 r (0 : Fin 1)) (ix1 r)
    (by rewrite [Shape.rowMajor_val_two, Shape.rowMajor_val_one]; show r.val = r.val * 1 + 0; omega)).trans ?_
  refine (entries_apply _ starts r).trans (congrArg (m ((c : Thread nD τ).loc main_arg2)) ?_)
  refine congrArg (ix1 (n := 32)) (Fin.ext ?_)
  show min _ 31 = _
  rw [starts_apply, word_perm]

end Cert.RouterHost

end
-- ==== Proof.RouterReference.lean ====
/-
  The router's reference, read one token at a time.
-/
module

public import proofs.«01_k».proof.Proof.Gen.ReferenceRouterIdeal.Read
public import proofs.«01_k».proof.Proof.RouterSpec
public import Idealize.ShloMosaic.Lib.KernelVsHost

@[expose] public section

set_option maxRecDepth 16384

noncomputable section

namespace Cert.RouterReference

open Cert.ReferenceRouterIdeal Cert.ReferenceRouterIdeal.Gen Cert.ReferenceRouterIdeal.Read Idealize.ShloMosaic Idealize.ShloMosaic.ValueIdx
open scoped BigOperators

/-- The greatest `K` of the last axis of a two-axis array: the values. -/
theorem top2_value {N M K : ℕ} (hK : K ≤ M) (x : (⟨2, ![N, M]⟩ : Shape).Idx → EReal)
    (h : (⟨2, ![N, M]⟩ : Shape).Slices (fun _ => 0) ⟨2, ![N, K]⟩) (i : Fin N) (k : Fin K) :
    (Host.topK ⟨2, ![N, K]⟩ 1 (FloatOps.cmpfTotal (F := Ideal) (φ := .f32) .gt) x h).1 (ix2 i k)
      = x (ix2 i (Router.place (fun j => x (ix2 i j)) (k.castLE hK))) := by
  have al (k k' : Fin M) : Shape.Idx.along (s := ⟨2, ![N, M]⟩) (ix2 i k) 1 k' = ix2 i k' :=
    funext fun a => match a with | ⟨0, _⟩ => rfl | ⟨1, _⟩ => rfl
  refine (extractStridedSlice_apply (fun _ => 0) (Host.sort2 ⟨2, ![N, M]⟩ 1 (fun l r => FloatOps.cmpfTotal (F := Ideal) (φ := .f32) .gt l.1 r.1) x (fun i => if hd : 1 < (⟨2, ![N, M]⟩ : Shape).rank then iotaInDim ⟨2, ![N, M]⟩ 32 ⟨1, hd⟩ i else 0#32)).1 h (ix2 i k) (ix2 i (k.castLE hK)) fun a => by
    match a with
    | ⟨0, _⟩ => show i.val = 0 + i.val; omega
    | ⟨1, _⟩ => show k.val = 0 + k.val; omega).trans ?_
  unfold Host.sort2
  rw [dif_pos (show 1 < (⟨2, ![N, M]⟩ : Shape).rank from Nat.lt_succ_self 1)]
  refine congrArg x ((al _ _).trans (congrArg (ix2 i) ?_))
  refine congrFun (congrArg sortedFrom (funext fun k => funext fun k' => ?_)) _
  show (FloatOps.cmpfTotal (F := Ideal) (φ := .f32) .gt (x (Shape.Idx.along _ _ k)) (x (Shape.Idx.along _ _ k')) == 1#1) = _
  exact congrArg₂ (fun s t => FloatOps.cmpfTotal (F := Ideal) (φ := .f32) .gt (x s) (x t) == 1#1) (al _ k) (al _ k')

/-- Their places. -/
theorem top2_index {N M K : ℕ} (hK : K ≤ M) (x : (⟨2, ![N, M]⟩ : Shape).Idx → EReal)
    (h : (⟨2, ![N, M]⟩ : Shape).Slices (fun _ => 0) ⟨2, ![N, K]⟩) (i : Fin N) (k : Fin K) :
    (Host.topK ⟨2, ![N, K]⟩ 1 (FloatOps.cmpfTotal (F := Ideal) (φ := .f32) .gt) x h).2 (ix2 i k)
      = BitVec.ofNat 32 (Router.place (fun j => x (ix2 i j)) (k.castLE hK)).val := by
  have al (k k' : Fin M) : Shape.Idx.along (s := ⟨2, ![N, M]⟩) (ix2 i k) 1 k' = ix2 i k' :=
    funext fun a => match a with | ⟨0, _⟩ => rfl | ⟨1, _⟩ => rfl
  refine (extractStridedSlice_apply (fun _ => 0) (Host.sort2 ⟨2, ![N, M]⟩ 1 (fun l r => FloatOps.cmpfTotal (F := Ideal) (φ := .f32) .gt l.1 r.1) x (fun i => if hd : 1 < (⟨2, ![N, M]⟩ : Shape).rank then iotaInDim ⟨2, ![N, M]⟩ 32 ⟨1, hd⟩ i else 0#32)).2 h (ix2 i k) (ix2 i (k.castLE hK)) fun a => by
    match a with
    | ⟨0, _⟩ => show i.val = 0 + i.val; omega
    | ⟨1, _⟩ => show k.val = 0 + k.val; omega).trans ?_
  unfold Host.sort2
  rw [dif_pos (show 1 < (⟨2, ![N, M]⟩ : Shape).rank from Nat.lt_succ_self 1)]
  refine (congrArg (iotaInDim ⟨2, ![N, M]⟩ 32 1) ((al _ _).trans (congrArg (ix2 i) (?_ : _ = Router.place (fun j => x (ix2 i j)) (k.castLE hK))))).trans rfl
  refine congrFun (congrArg sortedFrom (funext fun k => funext fun k' => ?_)) _
  show (FloatOps.cmpfTotal (F := Ideal) (φ := .f32) .gt (x (Shape.Idx.along _ _ k)) (x (Shape.Idx.along _ _ k')) == 1#1) = _
  exact congrArg₂ (fun s t => FloatOps.cmpfTotal (F := Ideal) (φ := .f32) .gt (x s) (x t) == 1#1) (al _ k) (al _ k')

/-- The greatest `K` of the last axis of a three-axis array: the values. -/
theorem top3_value {N G M K : ℕ} (hK : K ≤ M) (x : (⟨3, ![N, G, M]⟩ : Shape).Idx → EReal)
    (h : (⟨3, ![N, G, M]⟩ : Shape).Slices (fun _ => 0) ⟨3, ![N, G, K]⟩) (i : Fin N) (g : Fin G) (k : Fin K) :
    (Host.topK ⟨3, ![N, G, K]⟩ 2 (FloatOps.cmpfTotal (F := Ideal) (φ := .f32) .gt) x h).1 (ix3 i g k)
      = x (ix3 i g (Router.place (fun j => x (ix3 i g j)) (k.castLE hK))) := by
  have al (k k' : Fin M) : Shape.Idx.along (s := ⟨3, ![N, G, M]⟩) (ix3 i g k) 2 k' = ix3 i g k' :=
    funext fun a => match a with | ⟨0, _⟩ => rfl | ⟨1, _⟩ => rfl | ⟨2, _⟩ => rfl
  refine (extractStridedSlice_apply (fun _ => 0) (Host.sort2 ⟨3, ![N, G, M]⟩ 2 (fun l r => FloatOps.cmpfTotal (F := Ideal) (φ := .f32) .gt l.1 r.1) x (fun i => if hd : 2 < (⟨3, ![N, G, M]⟩ : Shape).rank then iotaInDim ⟨3, ![N, G, M]⟩ 32 ⟨2, hd⟩ i else 0#32)).1 h (ix3 i g k) (ix3 i g (k.castLE hK)) fun a => by
    match a with
    | ⟨0, _⟩ => show i.val = 0 + i.val; omega
    | ⟨1, _⟩ => show g.val = 0 + g.val; omega
    | ⟨2, _⟩ => show k.val = 0 + k.val; omega).trans ?_
  unfold Host.sort2
  rw [dif_pos (show 2 < (⟨3, ![N, G, M]⟩ : Shape).rank from Nat.lt_succ_self 2)]
  refine congrArg x ((al _ _).trans (congrArg (ix3 i g) ?_))
  refine congrFun (congrArg sortedFrom (funext fun k => funext fun k' => ?_)) _
  show (FloatOps.cmpfTotal (F := Ideal) (φ := .f32) .gt (x (Shape.Idx.along _ _ k)) (x (Shape.Idx.along _ _ k')) == 1#1) = _
  exact congrArg₂ (fun s t => FloatOps.cmpfTotal (F := Ideal) (φ := .f32) .gt (x s) (x t) == 1#1) (al _ k) (al _ k')

/-- The gather of one group of four per token. -/
theorem group_apply (x : S32768x8x4.Idx → EReal) (idx : IVec S32768x1x1 32) (i : Fin 32768) (j : Fin 4) :
    Host.gather gather_S32768x8x4_S32768x1x1_S32768x1x4_2_1_0_0_1_2_114 x idx (ix3 i (0 : Fin 1) j)
      = x (ix3 i (⟨min (idx (ix3 i (0 : Fin 1) (0 : Fin 1))).toInt.toNat 7, by omega⟩ : Fin 8) j) := by
  unfold Host.gather
  congr 1
  funext a
  refine Fin.ext ?_
  show gather_S32768x8x4_S32768x1x1_S32768x1x4_2_1_0_0_1_2_114.start (ix3 i (0 : Fin 1) j) idx a
    + gather_S32768x8x4_S32768x1x1_S32768x1x4_2_1_0_0_1_2_114.batchCoord (ix3 i (0 : Fin 1) j) a
    + gather_S32768x8x4_S32768x1x1_S32768x1x4_2_1_0_0_1_2_114.offCoord (ix3 i (0 : Fin 1) j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S32768x8x4_S32768x1x1_S32768x1x4_2_1_0_0_1_2_114.operandBatchingDims from List.mem_singleton.mpr rfl)]
    rfl
  · rw [GatherDims.batchCoord_eq_zero _ _ _ (show ¬ (1 : Fin 3) ∈ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S32768x8x4_S32768x1x1_S32768x1x4_2_1_0_0_1_2_114.startIndexMap from List.mem_singleton.mpr rfl)]
    have hsi : gather_S32768x8x4_S32768x1x1_S32768x1x4_2_1_0_0_1_2_114.siIdx (ix3 i (0 : Fin 1) j) ⟨List.idxOf (1 : Fin 3) gather_S32768x8x4_S32768x1x1_S32768x1x4_2_1_0_0_1_2_114.startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl
  · rw [GatherDims.batchCoord_eq_zero _ _ _ (show ¬ (2 : Fin 3) ∈ [(0 : Fin 3)] by decide)]
    unfold GatherDims.start
    rw [dif_neg (show ¬ (2 : Fin 3) ∈ gather_S32768x8x4_S32768x1x1_S32768x1x4_2_1_0_0_1_2_114.startIndexMap from (by decide : ¬ (2 : Fin 3) ∈ [(1 : Fin 3)]))]
    simp only [Nat.zero_add]
    unfold GatherDims.offCoord
    rw [dif_pos (show (2 : Fin 3) ∈ gather_S32768x8x4_S32768x1x1_S32768x1x4_2_1_0_0_1_2_114.sKept from (GatherDims.mem_sKept _ _).mpr ⟨show ¬ (2 : Fin 3) ∈ [(1 : Fin 3)] by decide, show ¬ (2 : Fin 3) ∈ [(0 : Fin 3)] by decide⟩)]
    rfl

variable (x0 : FVec Ideal S32768x4096 .bf16) (x1 : FVec Ideal S4096x32 .f32) (x2 : FVec Ideal S32 .f32) (i : Fin 32768)

/-- A token's logits. -/
def logits (e : Fin 32) : EReal := (∑ k : Fin 4096, x0 (ix2 i k) * x1 (ix2 k e)) + x2 (ix1 e)

/-- A token's probabilities, by group. -/
def probs : Fin 8 → Fin 4 → EReal := Router.grouped (Router.soft (logits x0 x1 x2 i))

theorem bits_bot : Ideal.ofBits .f32 0xFF800000#32 = (⊥ : EReal) := by simp [Ideal.ofBits, Ideal.ieee]

theorem logit_eq (e : Fin 32) : (val_main_v4 (F := Ideal) x0 x1 x2 (ix2 i e) : EReal) = logits x0 x1 x2 i e := by
  rw [val_main_v4_apply, val_main_v1_apply, val_main_v3_apply, val_main_v2_apply]
  have e0 : ∀ k, lidx_main_v1 (ix2 i e) k = ix2 i k := fun k => funext fun a => match a with | ⟨0, _⟩ => rfl | ⟨1, _⟩ => rfl
  have e1 : ∀ k, ridx_main_v1 (ix2 i e) k = ix2 k e := fun k => funext fun a => match a with | ⟨0, _⟩ => rfl | ⟨1, _⟩ => rfl
  have e2 : idx_main_v2 (idx_main_v3 (ix2 i e)) = ix1 e := funext fun a => match a with | ⟨0, _⟩ => rfl
  rw [e2]
  refine congrArg (· + x2 (ix1 e)) (Finset.sum_congr rfl fun k _ => ?_)
  rw [e0, e1]
  rfl

theorem most_eq : (val_main_v5 (F := Ideal) x0 x1 x2 (ix1 i) : EReal) = (Finset.univ : Finset (Fin 32)).fold max ⊥ (logits x0 x1 x2 i) := by
  unfold val_main_v5
  refine (Host.reduce_eq_fold_single (FloatOps.maximumf (F := Ideal) (φ := .f32)) _ _ reducesTo_S32768x32_S32768_d1 (by decide) h_S_ _).trans ?_
  have e0 : val_main_cst (F := Ideal) (Shape.Idx.first h_S_) = (⊥ : EReal) := bits_bot
  rw [e0]
  refine congrArg (fun f => Finset.fold max ⊥ f Finset.univ) (funext fun k => ?_)
  refine Eq.trans (congrArg (val_main_v4 (F := Ideal) x0 x1 x2) (funext fun a => Fin.ext ?_)) (logit_eq x0 x1 x2 i k)
  match a with | ⟨0, _⟩ => rfl | ⟨1, _⟩ => rfl

theorem exp_eq (e : Fin 32) : (val_main_v9 (F := Ideal) x0 x1 x2 (ix2 i e) : EReal)
    = Ideal.exp (logits x0 x1 x2 i e - (Finset.univ : Finset (Fin 32)).fold max ⊥ (logits x0 x1 x2 i)) := by
  rw [val_main_v9_apply, val_main_v8_apply, val_main_v7_apply, val_main_v6_apply]
  have e0 : idx_main_v6 (idx_main_v7 (ix2 i e)) = ix1 i := funext fun a => match a with | ⟨0, _⟩ => rfl
  rw [e0]
  exact congrArg₂ (fun s t : EReal => Ideal.exp (s - t)) (logit_eq x0 x1 x2 i e) (most_eq x0 x1 x2 i)

theorem sum_eq : (val_main_v10 (F := Ideal) x0 x1 x2 (ix1 i) : EReal)
    = ∑ k : Fin 32, Ideal.exp (logits x0 x1 x2 i k - (Finset.univ : Finset (Fin 32)).fold max ⊥ (logits x0 x1 x2 i)) := by
  rw [val_main_v10_apply]
  refine (congrArg (· + _) (show val_main_cst_0 (F := Ideal) (Shape.Idx.first h_S_) = (0 : EReal) from Ideal.ofBits_zero_f32)).trans
    ((zero_add _).trans (Finset.sum_congr rfl fun k _ => ?_))
  have e : idx_main_v10 (ix1 i) k = ix2 i k := funext fun a => match a with | ⟨0, _⟩ => rfl | ⟨1, _⟩ => rfl
  rw [e]
  exact exp_eq x0 x1 x2 i k

theorem soft_eq (e : Fin 32) : (val_main_v13 (F := Ideal) x0 x1 x2 (ix2 i e) : EReal) = Router.soft (logits x0 x1 x2 i) e := by
  rw [val_main_v13_apply, val_main_v12_apply, val_main_v11_apply]
  have e0 : idx_main_v11 (idx_main_v12 (ix2 i e)) = ix1 i := funext fun a => match a with | ⟨0, _⟩ => rfl
  rw [e0]
  exact congrArg₂ Ideal.div (exp_eq x0 x1 x2 i e) (sum_eq x0 x1 x2 i)

theorem probs_eq (g : Fin 8) (j : Fin 4) : (val_main_v14 (F := Ideal) x0 x1 x2 (ix3 i g j) : EReal) = probs x0 x1 x2 i g j := by
  rw [val_main_v14_apply]
  have e0 : idx_main_v14 (ix3 i g j) = ix2 i (⟨g.val * 4 + j.val, by omega⟩ : Fin 32) := by
    funext a
    apply Fin.ext
    match a with
    | ⟨0, _⟩ => show ((i.val * 8 + g.val) * 4 + j.val) / 32 = i.val; omega
    | ⟨1, _⟩ => show ((i.val * 8 + g.val) * 4 + j.val) % 32 = g.val * 4 + j.val; omega
  rw [e0]
  exact soft_eq x0 x1 x2 i _

theorem score_eq (g : Fin 8) : (val_main_v15 (F := Ideal) x0 x1 x2 (ix2 i g) : EReal) = Router.score (probs x0 x1 x2 i) g := by
  rw [val_main_v15_apply]
  refine (congrArg (· + _) (show val_main_cst_1 (F := Ideal) (Shape.Idx.first h_S_) = (0 : EReal) from Ideal.ofBits_zero_f32)).trans
    ((zero_add _).trans ?_)
  have row : (fun j : Fin 4 => val_main_v14 (F := Ideal) x0 x1 x2 (ix3 i g j)) = probs x0 x1 x2 i g := funext fun j => probs_eq x0 x1 x2 i g j
  have value (k : Fin 2) : (val_main_values (F := Ideal) x0 x1 x2 (idx_main_v15 (ix2 i g) k) : EReal)
      = probs x0 x1 x2 i g (Router.place (probs x0 x1 x2 i g) (k.castLE (by decide))) := by
    have e : idx_main_v15 (ix2 i g) k = ix3 i g k := funext fun a => match a with | ⟨0, _⟩ => rfl | ⟨1, _⟩ => rfl | ⟨2, _⟩ => rfl
    rw [e]
    refine (top3_value (by decide) (val_main_v14 (F := Ideal) x0 x1 x2) sliceFits_S32768x8x4_S32768x8x2 i g k).trans ?_
    rw [row]
    exact probs_eq x0 x1 x2 i g _
  rw [Fin.sum_univ_two, value, value]
  rfl

theorem best_eq : val_main_v16 (F := Ideal) x0 x1 x2 (ix1 i) = BitVec.ofNat 32 (Router.best (probs x0 x1 x2 i)).val := by
  rw [val_main_v16_apply]
  have e0 : idx_main_v16 (ix1 i) = ix2 i (0 : Fin 1) := by
    funext a
    apply Fin.ext
    match a with
    | ⟨0, _⟩ => show i.val / 1 = i.val; omega
    | ⟨1, _⟩ => rfl
  rw [e0]
  have row : (fun g : Fin 8 => val_main_v15 (F := Ideal) x0 x1 x2 (ix2 i g)) = Router.score (probs x0 x1 x2 i) := funext fun g => score_eq x0 x1 x2 i g
  refine (top2_index (by decide) (val_main_v15 (F := Ideal) x0 x1 x2) sliceFits_S32768x8_S32768x1 i (0 : Fin 1)).trans ?_
  rw [row]
  rfl

theorem wrap : ∀ g : Fin 8, Scalar.select (IntOp.cmpi .slt (BitVec.ofNat 32 g.val) 0#32) (IntOp.addi (BitVec.ofNat 32 g.val) 8#32) (BitVec.ofNat 32 g.val)
    = BitVec.ofNat 32 g.val := by decide +kernel

theorem inside : ∀ g : Fin 8, IntOp.andi (IntOp.cmpi .sge (BitVec.ofNat 32 g.val) 0#32) (IntOp.cmpi .sle (BitVec.ofNat 32 g.val) 7#32) = 1#1 := by decide +kernel

theorem clamp : ∀ g : Fin 8, min (BitVec.ofNat 32 g.val).toInt.toNat 7 = g.val := by decide +kernel

theorem number : ∀ (g : Fin 8) (j : Fin 4), IntOp.addi (IntOp.muli (BitVec.ofNat 32 g.val) 4#32) (BitVec.ofNat 32 j.val) = BitVec.ofNat 32 (g.val * 4 + j.val) := by
  decide +kernel

theorem start_eq : val_main_call0_v4 (F := Ideal) x0 x1 x2 (ix3 i (0 : Fin 1) (0 : Fin 1)) = BitVec.ofNat 32 (Router.best (probs x0 x1 x2 i)).val := by
  rw [val_main_call0_v4_apply, val_main_call0_v1_apply, val_main_call0_v3_apply, val_main_v17_apply, val_main_call0_v0_apply, val_main_call0_v2_apply,
    val_main_call0_c_apply, val_main_call0_c_0_apply]
  have e0 : idx_main_v17 (ix3 i (0 : Fin 1) (0 : Fin 1)) = ix1 i := funext fun a => match a with | ⟨0, _⟩ => rfl
  rw [e0, best_eq]
  exact wrap _

theorem mask_eq : val_main_call0_v11 (F := Ideal) x0 x1 x2 (ix2 i (0 : Fin 1)) = 1#1 := by
  unfold val_main_call0_v11
  refine (Host.reduce_eq_fold_single IntOp.andi _ _ reducesTo_S32768x1x1_S32768x1_d2 (by decide) h_S_ _).trans ?_
  have e1 : ∀ k : Fin 1, val_main_call0_v10 (F := Ideal) x0 x1 x2 (ix3 i (0 : Fin 1) k) = 1#1 := fun k => by
    obtain rfl : k = 0 := Subsingleton.elim _ _
    rw [val_main_call0_v10_apply, val_main_call0_v6_apply, val_main_call0_v9_apply, start_eq, val_main_call0_v5_apply, val_main_call0_c_2_apply,
      val_main_call0_v8_apply, val_main_call0_v7_apply, val_main_call0_c_1_apply]
    exact inside _
  refine Eq.trans (congrArg (fun f : Fin 1 → BitVec 1 => Finset.fold IntOp.andi 1#1 f Finset.univ) (funext fun k : Fin 1 => ?_))
    (show Finset.fold IntOp.andi 1#1 (fun _ : Fin 1 => 1#1) Finset.univ = 1#1 by decide)
  refine Eq.trans (congrArg (val_main_call0_v10 (F := Ideal) x0 x1 x2) (funext fun a => Fin.ext ?_)) (e1 k)
  match a with | ⟨0, _⟩ => rfl | ⟨1, _⟩ => rfl | ⟨2, _⟩ => rfl

theorem chosen_eq (j : Fin 4) : (val_main_v19 (F := Ideal) x0 x1 x2 (ix2 i j) : EReal) = probs x0 x1 x2 i (Router.best (probs x0 x1 x2 i)) j := by
  rw [val_main_v19_apply]
  have e0 : idx_main_v19 (ix2 i j) = ix3 i (0 : Fin 1) j := by
    funext a
    apply Fin.ext
    match a with
    | ⟨0, _⟩ => show (i.val * 4 + j.val) / 4 = i.val; omega
    | ⟨1, _⟩ => rfl
    | ⟨2, _⟩ => show (i.val * 4 + j.val) % 4 = j.val; omega
  rw [e0, val_main_v18_apply, val_main_call0_v13_apply]
  have e1 : idx_main_call0_v13 (ix3 i (0 : Fin 1) j) = ix2 i (0 : Fin 1) := funext fun a => match a with | ⟨0, _⟩ => rfl | ⟨1, _⟩ => rfl
  rw [e1, mask_eq]
  refine Eq.trans (show _ = val_main_call0_v12 (F := Ideal) x0 x1 x2 (ix3 i (0 : Fin 1) j) from rfl) ?_
  refine (group_apply (val_main_v14 (F := Ideal) x0 x1 x2) (val_main_call0_v4 (F := Ideal) x0 x1 x2) i j).trans ?_
  refine Eq.trans (congrArg (fun g : Fin 8 => val_main_v14 (F := Ideal) x0 x1 x2 (ix3 i g j)) (Fin.ext ?_)) (probs_eq x0 x1 x2 i (Router.best (probs x0 x1 x2 i)) j)
  show min (val_main_call0_v4 (F := Ideal) x0 x1 x2 (ix3 i (0 : Fin 1) (0 : Fin 1))).toInt.toNat 7 = _
  rw [start_eq, clamp]

theorem chosen_row : (fun j : Fin 4 => val_main_v19 (F := Ideal) x0 x1 x2 (ix2 i j)) = probs x0 x1 x2 i (Router.best (probs x0 x1 x2 i)) :=
  funext fun j => chosen_eq x0 x1 x2 i j

theorem value_eq (k : Fin 2) : (val_main_values_4 (F := Ideal) x0 x1 x2 (ix2 i k) : EReal)
    = probs x0 x1 x2 i (Router.best (probs x0 x1 x2 i)) (Router.place (probs x0 x1 x2 i (Router.best (probs x0 x1 x2 i))) (k.castLE (by decide))) := by
  refine (top2_value (by decide) (val_main_v19 (F := Ideal) x0 x1 x2) sliceFits_S32768x4_S32768x2 i k).trans ?_
  rw [chosen_row]
  exact chosen_eq x0 x1 x2 i _

theorem index_eq (k : Fin 2) : val_main_indices_5 (F := Ideal) x0 x1 x2 (ix2 i k)
    = BitVec.ofNat 32 (Router.place (probs x0 x1 x2 i (Router.best (probs x0 x1 x2 i))) (k.castLE (by decide))).val := by
  refine (top2_index (by decide) (val_main_v19 (F := Ideal) x0 x1 x2) sliceFits_S32768x4_S32768x2 i k).trans ?_
  rw [chosen_row]

/-- The reference's first result: the chosen experts. -/
theorem expert_eq (k : Fin 2) : val_main_v29 (F := Ideal) x0 x1 x2 (ix2 k i) = Router.expert (probs x0 x1 x2 i) (k.castLE (by decide)) := by
  rw [val_main_v29_apply]
  have e0 : idx_main_v29 (ix2 k i) = ix2 i k := funext fun a => match a with | ⟨0, _⟩ => rfl | ⟨1, _⟩ => rfl
  have e1 : idx_main_v20 (idx_main_v23 (ix2 i k)) = ix1 i := funext fun a => match a with | ⟨0, _⟩ => rfl
  rw [e0, val_main_v24_apply, val_main_v23_apply, val_main_v22_apply, val_main_v20_apply, val_main_v21_apply, val_main_c_apply, e1, best_eq, index_eq]
  exact number _ _

/-- Its second result: their gates. -/
theorem gate_eq (k : Fin 2) : (val_main_v30 (F := Ideal) x0 x1 x2 (ix2 k i) : EReal) = Router.gate (probs x0 x1 x2 i) (k.castLE (by decide)) := by
  rw [val_main_v30_apply]
  have e0 : idx_main_v30 (ix2 k i) = ix2 i k := funext fun a => match a with | ⟨0, _⟩ => rfl | ⟨1, _⟩ => rfl
  have e1 : idx_main_v26 (idx_main_v27 (ix2 i k)) = ix1 i := funext fun a => match a with | ⟨0, _⟩ => rfl
  rw [e0, val_main_v28_apply, val_main_v27_apply, val_main_v26_apply, e1]
  refine congrArg₂ Ideal.div (value_eq x0 x1 x2 i k) ?_
  rw [val_main_v25_apply]
  refine (congrArg (· + _) (show val_main_cst_6 (F := Ideal) (Shape.Idx.first h_S_) = (0 : EReal) from Ideal.ofBits_zero_f32)).trans
    ((zero_add _).trans ?_)
  have e : ∀ q : Fin 2, idx_main_v25 (ix1 i) q = ix2 i q := fun q => funext fun a => match a with | ⟨0, _⟩ => rfl | ⟨1, _⟩ => rfl
  rw [Fin.sum_univ_two, e, e, value_eq, value_eq]
  rfl

end Cert.RouterReference

end
-- ==== Proof.RouterFinite.lean ====
/-
  The router's precondition: every token's entry, every weight and every bias is a real number, so every logit is.
-/
module

public import proofs.«01_k».proof.Defs
public import proofs.«01_k».proof.Proof.Gen.Pre_router_finite
public import proofs.«01_k».proof.Proof.DiffFinite

@[expose] public section

set_option maxRecDepth 16384

noncomputable section

namespace Cert.RouterFinite

open Cert.Pre_router_finite Idealize.ShloMosaic Idealize.ShloMosaic.ValueIdx
open scoped BigOperators

/-- The maximum over everything being below infinity, so is every entry. -/
theorem below {s : Shape} {axes : List (Fin s.rank)} (f : s.Idx → EReal) (w : FVec Ideal S_ .f32) (h : s.ReducesTo axes S_) (hu : 0 < S_.numel) (i : S_.Idx)
    (hlt : Host.reduce (FloatOps.maximumf (F := Ideal) (φ := .f32)) f w h hu i < (⊤ : EReal)) (j : s.Idx) : f j < ⊤ := by
  rw [Host.reduce_eq_fold] at hlt
  exact ((Finset.fold_max_lt (⊤ : EReal)).1 hlt).2 j (Finset.mem_filter.2 ⟨Finset.mem_univ _, funext fun a => a.elim0⟩)

/-- A number repeated, its magnitude below infinity everywhere, is real. -/
theorem scalar (a : FVec Ideal S_ .f32) (hb : S_.BroadcastsInDim S32768x4096 (![] : Fin 0 → Fin S32768x4096.rank)) (i : S32768x4096.Idx)
    (h : broadcastInDim S32768x4096 ![] hb (cmpf .olt (Host.absf a) (constant S_ .f32 0x7F800000#32)) i = 1#1) : ∃ (z : S_.Idx) (r : ℝ), a z = (r : EReal) :=
  ⟨fun q => q.elim0, Cert.DiffFinite.real_of_lt _ (show cmpf .olt (Host.absf a) (constant S_ .f32 0x7F800000#32) (fun q => q.elim0) = 1#1 from
    (broadcastInDim_apply (![] : Fin 0 → Fin S32768x4096.rank) hb (cmpf .olt (Host.absf a) (constant S_ .f32 0x7F800000#32)) i (fun q => q.elim0) (fun q => q.elim0)).symm.trans h)⟩

/-- What the precondition says. -/
theorem finite (x : FVec Ideal S32768x4096 .bf16) (w : FVec Ideal S4096x32 .f32) (b : FVec Ideal S32 .f32) (h : fn (F := Ideal) x w b = fun _ => 1#1) :
    (∀ i, ∃ r : ℝ, x i = (r : EReal)) ∧ (∀ i, ∃ r : ℝ, w i = (r : EReal)) ∧ ∀ i, ∃ r : ℝ, b i = (r : EReal) := by
  have both (a b : BitVec 1) : IntOp.andi a b = 1#1 ↔ a = 1#1 ∧ b = 1#1 := by revert a b; decide
  have pre (i : S32768x4096.Idx) := congrFun h i
  simp only [fn, andi, both] at pre
  have i0 : S32768x4096.Idx := ix2 (0 : Fin 32768) (0 : Fin 4096)
  have top (a : EReal) (ha : a < ⊤) : Ideal.cmp .olt a (Ideal.ofBits .f32 0x7F800000#32) = 1#1 := by
    rw [Cert.DiffFinite.bits_top]
    unfold Ideal.cmp
    exact congrArg BitVec.ofBool (decide_eq_true ha)
  refine ⟨fun i => Cert.DiffFinite.real_of_lt _ (pre i).1.1, fun j => ?_, fun j => ?_⟩
  · obtain ⟨z, r, hr⟩ := scalar _ _ _ (pre i0).1.2
    exact Cert.DiffFinite.real_of_lt _ (top _ (below _ _ _ _ z (lt_of_eq_of_lt hr (EReal.coe_lt_top r)) j))
  · obtain ⟨z, r, hr⟩ := scalar _ _ _ (pre i0).2
    exact Cert.DiffFinite.real_of_lt _ (top _ (below _ _ _ _ z (lt_of_eq_of_lt hr (EReal.coe_lt_top r)) j))

/-- A sum of products of reals and a real is real. -/
theorem logit_real (u v : Fin 4096 → EReal) (c : EReal) (hu : ∀ k, ∃ r : ℝ, u k = (r : EReal)) (hv : ∀ k, ∃ r : ℝ, v k = (r : EReal))
    (hc : ∃ r : ℝ, c = (r : EReal)) : ∃ r : ℝ, (∑ k : Fin 4096, u k * v k) + c = (r : EReal) := by
  have total (s : Finset (Fin 4096)) : ∃ r : ℝ, (∑ k ∈ s, u k * v k) = (r : EReal) := by
    induction s using Finset.induction_on with
    | empty => exact ⟨0, by rw [Finset.sum_empty, EReal.coe_zero]⟩
    | insert a s ha ih =>
      obtain ⟨r, hr⟩ := ih
      obtain ⟨p, hp⟩ := hu a
      obtain ⟨q, hq⟩ := hv a
      exact ⟨p * q + r, by rw [Finset.sum_insert ha, hr, hp, hq, EReal.coe_add, EReal.coe_mul]⟩
  obtain ⟨r, hr⟩ := total Finset.univ
  obtain ⟨q, hq⟩ := hc
  exact ⟨r + q, by rw [hr, hq, EReal.coe_add]⟩

end Cert.RouterFinite

end
-- ==== Proof.RouterValue.lean ====
/-
  The router: the values of the kernel's two results, and that they are the reference's.
-/
module

public import proofs.«01_k».proof.Defs
public import proofs.«01_k».proof.Proof.RouterPoint
public import proofs.«01_k».proof.Proof.RouterHost
public import proofs.«01_k».proof.Proof.RouterReference
public import proofs.«01_k».proof.Proof.RouterFinite
public import proofs.«01_k».proof.Proof.Gen.KernelRouterIdeal.Value
public import proofs.«01_k».proof.Proof.Gen.ReferenceRouterIdeal.Read

@[expose] public section

set_option maxRecDepth 16384

noncomputable section

namespace Cert.RouterValue

open Cert.KernelRouterIdeal Cert.KernelRouterIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

/-- A chosen expert's place. -/
def rank (k : Fin 2) : Fin 4 := k.castLE (by decide)

/-- The first result, entry by entry: the two experts of each token. -/
def G3 (x : Vec Ideal S32768x4096 .bf16) (w : Vec Ideal S4096x32 .f32) (b : Vec Ideal S32 .f32) : IVec S2x32768 32 :=
  fun j => Router.expert (RouterReference.probs x w b (j 1)) (rank (j 0))

/-- The second: their gates. -/
def G4 (x : Vec Ideal S32768x4096 .bf16) (w : Vec Ideal S4096x32 .f32) (b : Vec Ideal S32 .f32) : Vec Ideal S2x32768 .f32 :=
  fun j => Router.gate (RouterReference.probs x w b (j 1)) (rank (j 0))

/-- The block of each window at a grid point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel

/-- The tokens at a point. -/
theorem token_apply (c : Dev nD) (t : Fin cfg0.N) (r : Fin 512) (k : Fin 4096) (i : Fin 32768) (h : i.val = t.val * 512 + r.val) :
    iblk m c 0 t (ix2 r k) = m ((c : Thread nD τ).loc main_arg0) (ix2 i k) := by
  unfold iblk
  rw [View.read_apply]
  show V m c main_arg0 _ = m ((c : Thread nD τ).loc main_arg0) _
  rw [V_main_arg0]
  congr 1
  funext a; apply Fin.ext
  match a with
  | ⟨0, _⟩ => show win0_0.index t 0 * 512 + 1 * r.val = i.val; rw [(index0 t).1, one_mul, h]
  | ⟨1, _⟩ => show win0_0.index t 1 * 4096 + 1 * k.val = k.val; rw [(index0 t).2]; omega

/-- The weights at a point. -/
theorem weight_apply (c : Dev nD) (t : Fin cfg0.N) (r : Fin 32) (k : Fin 4096) :
    iblk m c 1 t (ix2 r k) = m ((c : Thread nD τ).loc main_arg1) (ix2 k (Router.perm r)) := by
  unfold iblk
  rw [View.read_apply]
  show V m c main_v15 _ = _
  refine Eq.trans (congrArg _ ?_) (RouterHost.weights_apply m c r k)
  funext a; apply Fin.ext
  match a with
  | ⟨0, _⟩ => show win0_1.index t 0 * 32 + 1 * r.val = r.val; rw [(index1 t).1]; omega
  | ⟨1, _⟩ => show win0_1.index t 1 * 4096 + 1 * k.val = k.val; rw [(index1 t).2]; omega

/-- The biases at a point. -/
theorem bias_apply (c : Dev nD) (t : Fin cfg0.N) (r : Fin 32) :
    iblk m c 2 t (ix2 r (0 : Fin 1)) = m ((c : Thread nD τ).loc main_arg2) (ix1 (Router.perm r)) := by
  unfold iblk
  rw [View.read_apply]
  show V m c main_v23 _ = _
  refine Eq.trans (congrArg _ ?_) (RouterHost.biases_apply m c r)
  funext a; apply Fin.ext
  match a with
  | ⟨0, _⟩ => show win0_2.index t 0 * 32 + 1 * r.val = r.val; rw [(index2 t).1]; omega
  | ⟨1, _⟩ => show win0_2.index t 1 * 1 + 1 * 0 = 0; rw [(index2 t).2]

/-- A column's probabilities, by group and place, are its token's. -/
theorem probs_apply (c : Dev nD) (t : Fin cfg0.N) (r : Fin 512) (i : Fin 32768) (h : i.val = t.val * 512 + r.val) :
    RouterPoint.p (iblk m c 0 t) (iblk m c 1 t) (iblk m c 2 t) r
      = RouterReference.probs (m ((c : Thread nD τ).loc main_arg0)) (m ((c : Thread nD τ).loc main_arg1)) (m ((c : Thread nD τ).loc main_arg2)) i := by
  funext g j
  have hl : RouterBlock.logit (iblk m c 1 t) (iblk m c 0 t) (iblk m c 2 t) r = fun ρ => RouterReference.logits (m ((c : Thread nD τ).loc main_arg0)) (m ((c : Thread nD τ).loc main_arg1)) (m ((c : Thread nD τ).loc main_arg2)) i (Router.perm ρ) := by
    funext ρ
    refine congrArg₂ (· + ·) (Finset.sum_congr rfl fun k _ => ?_) (bias_apply m c t ρ)
    exact (congrArg₂ (fun u v : EReal => u * v) (weight_apply m c t ρ k) (token_apply m c t r k i h)).trans (mul_comm (_ : EReal) _)
  refine (RouterBlock.pay10_apply _ _ _ r (⟨j.val * 8 + g.val, by omega⟩ : Fin 32)).trans ?_
  rw [hl, Router.soft_perm]
  refine congrArg (Router.soft _) (Fin.ext ?_)
  show (j.val * 8 + g.val) % 8 * 4 + (j.val * 8 + g.val) / 8 = g.val * 4 + j.val
  omega

/-- The arguments are real numbers. -/
def Finite (c : Dev nD) : Prop :=
  (∀ i, ∃ r : ℝ, m ((c : Thread nD τ).loc main_arg0) i = (r : EReal)) ∧ (∀ i, ∃ r : ℝ, m ((c : Thread nD τ).loc main_arg1) i = (r : EReal))
    ∧ ∀ i, ∃ r : ℝ, m ((c : Thread nD τ).loc main_arg2) i = (r : EReal)

variable {m}

/-- So every probability exceeds minus one. -/
theorem above {c : Dev nD} (hf : Finite m c) (t : Fin cfg0.N) (r : Fin 512) (g : Fin 8) (j : Fin 4) :
    ((-1 : ℝ) : EReal) < RouterPoint.p (iblk m c 0 t) (iblk m c 1 t) (iblk m c 2 t) r g j := by
  have ht : t.val < 64 := t.isLt
  rw [probs_apply m c t r ⟨t.val * 512 + r.val, by omega⟩ rfl]
  refine Router.soft_above _ (fun e => ?_) _
  exact RouterFinite.logit_real _ _ _ (fun k => hf.1 _) (fun k => hf.2.1 _) (hf.2.2 _)

/-- Every grid point writes back its own block of the results. -/
theorem flushed3_eq {c : Dev nD} (hf : Finite m c) (t : Fin cfg0.N) :
    (dats m 0 c).flushed 3 t = ((cfg0.win 3).blk t).view.read (Elt Ideal)
      (G3 (m ((c : Thread nD τ).loc main_arg0)) (m ((c : Thread nD τ).loc main_arg1)) (m ((c : Thread nD τ).loc main_arg2))) := by
  rw [Value.flushed3]
  funext j
  have ht : t.val < 64 := t.isLt
  have h1 : (j 1).val < 512 := (j 1).isLt
  have e : ((cfg0.win 3).blk t).view.emb j = (ix2 (j 0) ⟨t.val * 512 + (j 1).val, by omega⟩ : S2x32768.Idx) := by
    funext a; apply Fin.ext
    match a with
    | ⟨0, _⟩ => show win0_3.index t 0 * 2 + 1 * (j 0).val = (j 0).val; rw [(index3 t).1]; omega
    | ⟨1, _⟩ => show win0_3.index t 1 * 512 + 1 * (j 1).val = _; rw [(index3 t).2, one_mul]
  rw [View.read_apply, e]
  refine (congrArg (out0_3 (iblk m c 0 t) (iblk m c 1 t) (iblk m c 2 t)) (eq_ix2 (n0 := 2) (n1 := 512) j)).trans
    ((RouterPoint.out3_apply _ _ _ (j 1) (fun r g q => above hf t r g q) (j 0)).trans ?_)
  rw [probs_apply m c t (j 1) ⟨t.val * 512 + (j 1).val, by omega⟩ rfl]
  rfl

theorem flushed4_eq {c : Dev nD} (hf : Finite m c) (t : Fin cfg0.N) :
    (dats m 0 c).flushed 4 t = ((cfg0.win 4).blk t).view.read (Elt Ideal)
      (G4 (m ((c : Thread nD τ).loc main_arg0)) (m ((c : Thread nD τ).loc main_arg1)) (m ((c : Thread nD τ).loc main_arg2))) := by
  rw [Value.flushed4]
  funext j
  have ht : t.val < 64 := t.isLt
  have h1 : (j 1).val < 512 := (j 1).isLt
  have e : ((cfg0.win 4).blk t).view.emb j = (ix2 (j 0) ⟨t.val * 512 + (j 1).val, by omega⟩ : S2x32768.Idx) := by
    funext a; apply Fin.ext
    match a with
    | ⟨0, _⟩ => show win0_4.index t 0 * 2 + 1 * (j 0).val = (j 0).val; rw [(index4 t).1]; omega
    | ⟨1, _⟩ => show win0_4.index t 1 * 512 + 1 * (j 1).val = _; rw [(index4 t).2, one_mul]
  rw [View.read_apply, e]
  refine (congrArg (out0_4 (iblk m c 0 t) (iblk m c 1 t) (iblk m c 2 t)) (eq_ix2 (n0 := 2) (n1 := 512) j)).trans
    ((RouterPoint.out4_apply _ _ _ (j 1) (fun r g q => above hf t r g q) (j 0)).trans ?_)
  rw [probs_apply m c t (j 1) ⟨t.val * 512 + (j 1).val, by omega⟩ rfl]
  rfl

/-- Every entry of the first result lies in some point's block. -/
theorem cover3 (i : S2x32768.Idx) : ∃ t : Fin cfg0.N, (cfg0.win 3).flush t = true ∧ i ∈ ((cfg0.win 3).blk t).view.set := by
  have h0 : (i 0).val < 2 := (i 0).isLt
  have h1 : (i 1).val < 32768 := (i 1).isLt
  have hN : cfg0.N = 64 := by decide
  obtain ⟨t, ht⟩ : ∃ t : Fin grid0.N, t.val = (i 1).val / 512 := ⟨⟨(i 1).val / 512, by show _ < cfg0.N; rw [hN]; omega⟩, rfl⟩
  refine ⟨t, flush0_3 t, ?_⟩
  show i ∈ ((View.whole main_v24_0).slice (win0_3.rect t)).set
  rw [View.set_slice_whole, Rect.mem_set_unit]
  intro a
  match a with
  | ⟨0, _⟩ =>
    show win0_3.index t 0 * 2 ≤ (i 0).val ∧ (i 0).val < win0_3.index t 0 * 2 + 2
    rw [(index3 t).1]; omega
  | ⟨1, _⟩ =>
    show win0_3.index t 1 * 512 ≤ (i 1).val ∧ (i 1).val < win0_3.index t 1 * 512 + 512
    rw [(index3 t).2]; omega

/-- And of the second. -/
theorem cover4 (i : S2x32768.Idx) : ∃ t : Fin cfg0.N, (cfg0.win 4).flush t = true ∧ i ∈ ((cfg0.win 4).blk t).view.set := by
  have h0 : (i 0).val < 2 := (i 0).isLt
  have h1 : (i 1).val < 32768 := (i 1).isLt
  have hN : cfg0.N = 64 := by decide
  obtain ⟨t, ht⟩ : ∃ t : Fin grid0.N, t.val = (i 1).val / 512 := ⟨⟨(i 1).val / 512, by show _ < cfg0.N; rw [hN]; omega⟩, rfl⟩
  refine ⟨t, flush0_4 t, ?_⟩
  show i ∈ ((View.whole main_v24_1).slice (win0_4.rect t)).set
  rw [View.set_slice_whole, Rect.mem_set_unit]
  intro a
  match a with
  | ⟨0, _⟩ =>
    show win0_4.index t 0 * 2 ≤ (i 0).val ∧ (i 0).val < win0_4.index t 0 * 2 + 2
    rw [(index4 t).1]; omega
  | ⟨1, _⟩ =>
    show win0_4.index t 1 * 512 ≤ (i 1).val ∧ (i 1).val < win0_4.index t 1 * 512 + 512
    rw [(index4 t).2]; omega

/-- The results after the run. -/
theorem final3 {c : Dev nD} (hf : Finite m c) : (dats m 0 c).arrAt 3 cfg0.N
    = G3 (m ((c : Thread nD τ).loc main_arg0)) (m ((c : Thread nD τ).loc main_arg1)) (m ((c : Thread nD τ).loc main_arg2)) :=
  (dats m 0 c).arrAt_eq_of_cover 3 _ (fun t _ => flushed3_eq hf t) cover3

theorem final4 {c : Dev nD} (hf : Finite m c) : (dats m 0 c).arrAt 4 cfg0.N
    = G4 (m ((c : Thread nD τ).loc main_arg0)) (m ((c : Thread nD τ).loc main_arg1)) (m ((c : Thread nD τ).loc main_arg2)) :=
  (dats m 0 c).arrAt_eq_of_cover 4 _ (fun t _ => flushed4_eq hf t) cover4

/-- The reference's results. -/
theorem reference3_eq (x : Vec Ideal S32768x4096 .bf16) (w : Vec Ideal S4096x32 .f32) (b : Vec Ideal S32 .f32) :
    Cert.ReferenceRouterIdeal.Read.val_main_v29 (F := Ideal) x w b = G3 x w b :=
  funext fun j => (congrArg (Cert.ReferenceRouterIdeal.Read.val_main_v29 (F := Ideal) x w b) (eq_ix2 (n0 := 2) (n1 := 32768) j)).trans
    (RouterReference.expert_eq x w b (j 1) (j 0))

theorem reference4_eq (x : Vec Ideal S32768x4096 .bf16) (w : Vec Ideal S4096x32 .f32) (b : Vec Ideal S32 .f32) :
    Cert.ReferenceRouterIdeal.Read.val_main_v30 (F := Ideal) x w b = G4 x w b :=
  funext fun j => (congrArg (Cert.ReferenceRouterIdeal.Read.val_main_v30 (F := Ideal) x w b) (eq_ix2 (n0 := 2) (n1 := 32768) j)).trans
    (RouterReference.gate_eq x w b (j 1) (j 0))

/-- Kernel and reference end with the same results, entry by entry, from equal arguments. -/
theorem algebraic : Cert.algebraic_KernelRouterIdeal_ReferenceRouterIdeal_pre_router_finite := by
  intro m g m' g' hpre hargs
  have hf (c : Dev nD) : Finite m c := RouterFinite.finite _ _ _ (hpre c)
  refine ⟨fun c => G3 (m ((c : Thread nD τ).loc main_arg0)) (m ((c : Thread nD τ).loc main_arg1)) (m ((c : Thread nD τ).loc main_arg2)),
    fun c => G4 (m ((c : Thread nD τ).loc main_arg0)) (m ((c : Thread nD τ).loc main_arg1)) (m ((c : Thread nD τ).loc main_arg2)), ?_, ?_⟩
  · exact (θ_run Cert.KernelRouterIdeal.defs _ _).mono
      (fun r h c => ⟨(h c).1.trans (final3 (hf c)), (h c).2.1.trans (final4 (hf c)), (h c).2.2⟩) (Value.run_blocks m g)
  · refine (θ_run Cert.ReferenceRouterIdeal.defs _ _).mono
      (fun r h c => ⟨(h c).1.trans ?_, (h c).2.1.trans ?_, (h c).2.2⟩) (Cert.ReferenceRouterIdeal.Value.run m' g')
    · have ha := hargs c
      refine (Cert.ReferenceRouterIdeal.Read.val_main_v29_eq (F := Ideal) m' c).trans ?_
      rw [ha.1, ha.2.1, ha.2.2]
      exact reference3_eq _ _ _
    · have ha := hargs c
      refine (Cert.ReferenceRouterIdeal.Read.val_main_v30_eq (F := Ideal) m' c).trans ?_
      rw [ha.1, ha.2.1, ha.2.2]
      exact reference4_eq _ _ _

/-- The reference runs, leaves its arguments unchanged and every semaphore counter at zero. -/
theorem reference_quiescent : Cert.quiescent_ReferenceRouterIdeal := fun m g _ =>
  (θ_run Cert.ReferenceRouterIdeal.defs _ _).mono (fun _ h => ⟨fun c => (h c).2.2, sem_eq_zero_of_no_sems rfl _⟩)
    (Cert.ReferenceRouterIdeal.Value.run m g)

end Cert.RouterValue

end
-- ==== Proof.ExpertsPre.lean ====
/-
  The routing table's precondition: every entry names an expert, so every weight block is inside its array.
-/
module

public import proofs.«01_k».proof.Defs
public import proofs.«01_k».proof.Proof.Gen.Kernel.Frame
public import proofs.«01_k».proof.Proof.Gen.KernelIdeal.Frame
public import proofs.«01_k».proof.Proof.Gen.Pre_experts_exist
public import Idealize.ShloMosaic.Lib.ValueIdx

@[expose] public section

namespace Cert.Experts

open Idealize.ShloMosaic Idealize.ShloMosaic.TcCoe Idealize.ShloMosaic.ValueIdx

/-- Under the precondition an entry of the routing table, as a natural number, is below 32. -/
theorem word_named {F : FTy → Type} [FloatOps F] (x : FVec F Cert.Pre_experts_exist.S81920x4096 .bf16) (be : IVec Cert.Pre_experts_exist.S160 32)
    (nl : IVec Cert.Pre_experts_exist.S1 32) (g u : FVec F Cert.Pre_experts_exist.S4x32x4096x2048 .f32) (d : FVec F Cert.Pre_experts_exist.S4x32x2048x4096 .f32)
    (h : Cert.Pre_experts_exist.fn x be nl g u d = fun _ => 1#1) (w : Cert.Pre_experts_exist.S160.Idx) : (be w).toNat < 32 := by
  have both (a b : BitVec 1) : IntOp.andi a b = 1#1 ↔ a = 1#1 ∧ b = 1#1 := by revert a b; decide
  have bit (p : Bool) : (BitVec.ofBool p = 1#1) ↔ p = true := by cases p <;> decide
  have pre := congrFun h w
  simp only [Cert.Pre_experts_exist.fn, constantI, broadcastInDim, cmpi, andi, both] at pre
  simp only [IntOp.cmpi, bit, BitVec.sle, BitVec.slt, decide_eq_true_eq, BitVec.toInt, BitVec.toNat_ofNat] at pre
  have := (be w).isLt
  omega

/-- The hidden block read is below 8, whether the token block is live (the grid's) or not (the last). -/
theorem hidden_lt (b : BitVec 1) (j : Fin 8) : (Scalar.select b (BitVec.ofNat 32 j.val) (7#32)).toNat < 8 := by
  revert b j; decide

section bits

open Cert.Kernel Cert.Kernel.Gen

/-- With every table entry below 32 each weight block the pipeline reads is inside its array (over words). -/
theorem ok_of_named_bits (m : (ℓ : Loc nD τ sig) → Buf (Elt Bits) ℓ) (hw : ∀ w : S160.Idx, ((m (((0 : Dev nD) : Thread nD τ).loc main_arg1) w : BitVec 32)).toNat < 32) :
    Ok m := by
  refine ⟨fun i => ⟨fun a => ?_, .inl rfl⟩, fun i => ⟨fun a => ?_, .inl rfl⟩, fun i => ⟨fun a => ?_, .inl rfl⟩⟩
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => show (0 + 1) * 4096 ≤ 4096; omega
    | ⟨3, _⟩ => exact (Nat.mul_le_mul_right 256 (hidden_lt _ (i 1))).trans (show 8 * 256 ≤ 2048 by decide)
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => show (0 + 1) * 4096 ≤ 4096; omega
    | ⟨3, _⟩ => exact (Nat.mul_le_mul_right 256 (hidden_lt _ (i 1))).trans (show 8 * 256 ≤ 2048 by decide)
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => exact (Nat.mul_le_mul_right 256 (hidden_lt _ (i 1))).trans (show 8 * 256 ≤ 2048 by decide)
    | ⟨3, _⟩ => show (0 + 1) * 4096 ≤ 4096; omega

/-- The precondition gives the pipeline's side condition of its tables (over words). -/
theorem ok_of_pre_bits (m : (ℓ : Loc nD τ sig) → Buf (Elt Bits) ℓ) (h : Cert.Pre_Kernel m) : Ok m :=
  ok_of_named_bits m fun w => word_named _ _ _ _ _ _ (h 0) w

end bits

section ideal

open Cert.KernelIdeal Cert.KernelIdeal.Gen

/-- With every table entry below 32 each weight block the pipeline reads is inside its array (over extended reals). -/
theorem ok_of_named_ideal (m : (ℓ : Loc nD τ sig) → Buf (Elt Ideal) ℓ) (hw : ∀ w : S160.Idx, ((m (((0 : Dev nD) : Thread nD τ).loc main_arg1) w : BitVec 32)).toNat < 32) :
    Ok m := by
  refine ⟨fun i => ⟨fun a => ?_, .inl rfl⟩, fun i => ⟨fun a => ?_, .inl rfl⟩, fun i => ⟨fun a => ?_, .inl rfl⟩⟩
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => show (0 + 1) * 4096 ≤ 4096; omega
    | ⟨3, _⟩ => exact (Nat.mul_le_mul_right 256 (hidden_lt _ (i 1))).trans (show 8 * 256 ≤ 2048 by decide)
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => show (0 + 1) * 4096 ≤ 4096; omega
    | ⟨3, _⟩ => exact (Nat.mul_le_mul_right 256 (hidden_lt _ (i 1))).trans (show 8 * 256 ≤ 2048 by decide)
  · match a with
    | ⟨0, _⟩ => show (0 + 1) * 1 ≤ 4; omega
    | ⟨1, _⟩ => show (BitVec.toNat (m (((0 : Dev nD) : Thread nD τ).loc main_arg1) _ : BitVec 32) + 1) * 1 ≤ 32; rw [Nat.mul_one]; exact hw _
    | ⟨2, _⟩ => exact (Nat.mul_le_mul_right 256 (hidden_lt _ (i 1))).trans (show 8 * 256 ≤ 2048 by decide)
    | ⟨3, _⟩ => show (0 + 1) * 4096 ≤ 4096; omega

/-- The precondition gives the pipeline's side condition of its tables (over extended reals). -/
theorem ok_of_pre_ideal (m : (ℓ : Loc nD τ sig) → Buf (Elt Ideal) ℓ) (h : Cert.Pre_KernelIdeal m) : Ok m :=
  ok_of_named_ideal m fun w => word_named _ _ _ _ _ _ (h 0) w

end ideal

end Cert.Experts

end
-- ==== Proof.ExpertsBlock.lean ====
/-
  The expert block: what one grid point of the kernel leaves behind, case by case.
-/
module

public import proofs.«01_k».proof.Proof.Common
public import proofs.«01_k».proof.Proof.Gen.KernelIdeal.Frame

@[expose] public section

noncomputable section

namespace Cert.Experts

open Cert.KernelIdeal Cert.KernelIdeal.Gen Idealize.ShloMosaic Idealize.ShloMosaic.TcCoe Idealize.ShloMosaic.Tactic Idealize.SL.Sem
open Idealize.ShloMosaic.ValueIdx
open Idealize.ShloMosaic.Pipeline (Dat)
open scoped BigOperators

variable {F : FTy → Type} [FloatOps F]
variable (c : Dev nD) (i : grid0.Coords)
  (arg4 : Memref sig .tc .vmem S512x4096 .bf16) (harg4 : arg4.IsWhole)
  (arg5 : Memref sig .tc .vmem S1x1x4096x256 .f32) (harg5 : arg5.IsWhole)
  (arg6 : Memref sig .tc .vmem S1x1x4096x256 .f32) (harg6 : arg6.IsWhole)
  (arg7 : Memref sig .tc .vmem S1x1x256x4096 .f32) (harg7 : arg7.IsWhole)
  (arg8 : Memref sig .tc .vmem S512x4096 .bf16) (harg8 : arg8.IsWhole)
  (arg9 : Memref sig .tc .vmem S512x4096 .f32) (harg9 : arg9.IsWhole)
  (x0 : Vec F S512x4096 .bf16) (x1 : Vec F S1x1x4096x256 .f32) (x2 : Vec F S1x1x4096x256 .f32) (x3 : Vec F S1x1x256x4096 .f32)
  (xt0 : TbBuf0 (F := F) c tbM0_0) (xt1 : TbBuf0 (F := F) c tbM0_1) (xs0 : Vec F S512x4096 .f32)

/-- The first hidden block of a live token block: the accumulator is cleared and the block's product added. -/
theorem scratch_first_live (hc0 : cond0_0 i) (hc2 : ¬cond0_2 i)
    (hc1 : cond0_1 i (tbM0_1.view.readAt (Elt F) (Rect.unit (s := S1) ![0] S1.size inb_S1_S1_0).toLoadRect xt1 (Shape.Idx.first (numel1_S1.symm ▸ Nat.one_pos)))) :
    sout0_A_0 c i arg4 harg4 arg5 harg5 arg6 harg6 arg7 harg7 arg8 harg8 arg9 harg9 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg8 harg8 arg9 harg9 hc0 hc2 x0 x1 x2 x3 xt0 xt1 hc1)]
  unfold kernelRun0_A
  dsimp only
  sl_unfold_words
  rw [View.canon_cons_unit_zero (S := S512x4096) Common.zero2, View.readCov_unit_zero (S := S512x4096) _ Common.zero2]
  simp only [View.readAt_eq_ld, harg4.read_unread, harg5.read_unread, harg6.read_unread, harg7.read_unread, harg9.read_unread,
    View.ld_unit_zero (S := S512x4096) Common.zero2, View.ld_unit_zero (S := S1x1x4096x256) Common.zero4,
    View.ld_unit_zero (S := S1x1x256x4096) Common.zero4, shapeCast_self]

/-- The first hidden block of a token block that is not live: the accumulator is cleared. -/
theorem scratch_first_dead (hc0 : cond0_0 i) (hc2 : ¬cond0_2 i)
    (hc1 : ¬cond0_1 i (tbM0_1.view.readAt (Elt F) (Rect.unit (s := S1) ![0] S1.size inb_S1_S1_0).toLoadRect xt1 (Shape.Idx.first (numel1_S1.symm ▸ Nat.one_pos)))) :
    sout0_B_0 c i arg4 harg4 arg5 harg5 arg6 harg6 arg7 harg7 arg8 harg8 arg9 harg9 hc0 hc2 x0 x1 x2 x3 xt0 xt1 hc1 = k0_pay1 := by
  unfold sout0_B_0
  rw [View.read_writes_eq_canon _ _ _ (scover0_B_0 c i arg4 harg4 arg5 harg5 arg6 harg6 arg7 harg7 arg8 harg8 arg9 harg9 hc0 hc2 x0 x1 x2 x3 xt0 xt1 hc1)]
  unfold kernelRun0_B
  dsimp only
  rw [View.canon_unit_zero (S := S512x4096) Common.zero2]

/-- A later hidden block of a live token block: the block's product is added to the accumulator. -/
theorem scratch_next_live (hc0 : ¬cond0_0 i) (hc2 : ¬cond0_2 i)
    (hc1 : cond0_1 i (tbM0_1.view.readAt (Elt F) (Rect.unit (s := S1) ![0] S1.size inb_S1_S1_0).toLoadRect xt1 (Shape.Idx.first (numel1_S1.symm ▸ Nat.one_pos)))) :
    sout0_C_0 c i arg4 harg4 arg5 harg5 arg6 harg6 arg7 harg7 arg8 harg8 arg9 harg9 hc0 hc2 x0 x1 x2 x3 xt0 xt1 xs0 hc1 = k0_pay2 x0 x1 x2 xs0 x3 := by
  unfold sout0_C_0
  rw [View.read_writes_eq_canon _ _ _ (scover0_C_0 c i arg4 harg4 arg5 harg5 arg6 harg6 arg7 harg7 arg8 harg8 arg9 harg9 hc0 hc2 x0 x1 x2 x3 xt0 xt1 xs0 hc1)]
  unfold kernelRun0_C
  dsimp only
  rw [View.canon_unit_zero (S := S512x4096) Common.zero2]
  simp only [View.readAt_eq_ld, harg4.read_unread, harg5.read_unread, harg6.read_unread, harg7.read_unread, harg9.read_unread,
    View.ld_unit_zero (S := S512x4096) Common.zero2, View.ld_unit_zero (S := S1x1x4096x256) Common.zero4,
    View.ld_unit_zero (S := S1x1x256x4096) Common.zero4, shapeCast_self]

/-- The last hidden block of a live token block: the accumulator with the last product added is rounded and stored. -/
theorem out_last_live (hc0 : ¬cond0_0 i) (hc2 : cond0_2 i)
    (hc1 : cond0_1 i (tbM0_1.view.readAt (Elt F) (Rect.unit (s := S1) ![0] S1.size inb_S1_S1_0).toLoadRect xt1 (Shape.Idx.first (numel1_S1.symm ▸ Nat.one_pos)))) :
    out0_E_4 c i arg4 harg4 arg5 harg5 arg6 harg6 arg7 harg7 arg8 harg8 arg9 harg9 hc0 hc2 x0 x1 x2 x3 xt0 xt1 xs0 hc1 = k0_pay3 (k0_pay2 x0 x1 x2 xs0 x3) := by
  unfold out0_E_4
  rw [View.read_writes_eq_canon _ _ _ (cover0_E_4 c i arg4 harg4 arg5 harg5 arg6 harg6 arg7 harg7 arg8 harg8 arg9 harg9 hc0 hc2 x0 x1 x2 x3 xt0 xt1 xs0 hc1)]
  unfold kernelRun0_E
  dsimp only
  sl_unfold_words
  rw [View.canon_unit_zero (S := S512x4096) Common.zero2, View.readCov_unit_zero (S := S512x4096) _ Common.zero2]
  simp only [View.readAt_eq_ld, harg4.read_unread, harg5.read_unread, harg6.read_unread, harg7.read_unread, harg9.read_unread,
    View.ld_unit_zero (S := S512x4096) Common.zero2, View.ld_unit_zero (S := S1x1x4096x256) Common.zero4,
    View.ld_unit_zero (S := S1x1x256x4096) Common.zero4, shapeCast_self]

/-- The last hidden block of a token block that is not live: the accumulator is rounded and stored. -/
theorem out_last_dead (hc0 : ¬cond0_0 i) (hc2 : cond0_2 i)
    (hc1 : ¬cond0_1 i (tbM0_1.view.readAt (Elt F) (Rect.unit (s := S1) ![0] S1.size inb_S1_S1_0).toLoadRect xt1 (Shape.Idx.first (numel1_S1.symm ▸ Nat.one_pos)))) :
    out0_F_4 c i arg4 harg4 arg5 harg5 arg6 harg6 arg7 harg7 arg8 harg8 arg9 harg9 hc0 hc2 x0 x1 x2 x3 xt0 xt1 xs0 hc1 = k0_pay3 xs0 := by
  unfold out0_F_4
  rw [View.read_writes_eq_canon _ _ _ (cover0_F_4 c i arg4 harg4 arg5 harg5 arg6 harg6 arg7 harg7 arg8 harg8 arg9 harg9 hc0 hc2 x0 x1 x2 x3 xt0 xt1 xs0 hc1)]
  unfold kernelRun0_F
  dsimp only
  rw [View.canon_unit_zero (S := S512x4096) Common.zero2]
  simp only [View.readAt_eq_ld, harg4.read_unread, harg5.read_unread, harg6.read_unread, harg7.read_unread, harg9.read_unread,
    View.ld_unit_zero (S := S512x4096) Common.zero2, View.ld_unit_zero (S := S1x1x4096x256) Common.zero4,
    View.ld_unit_zero (S := S1x1x256x4096) Common.zero4, shapeCast_self]

end Cert.Experts

end
-- ==== Proof.ExpertsStep.lean ====
/-
  One hidden block of one expert, entry by entry, and the partial sums that a token block's accumulator runs through.
-/
module

public import proofs.«01_k».proof.Proof.ExpertsBlock

@[expose] public section

noncomputable section

namespace Cert.Experts

open Cert.KernelIdeal Cert.KernelIdeal.Gen Idealize.ShloMosaic Idealize.ShloMosaic.TcCoe
open Idealize.ShloMosaic.ValueIdx
open scoped BigOperators

/-- The gated unit: `g · σ(g) · u`. -/
def gated (g u : EReal) : EReal := g * Ideal.logistic g * u

/-- What one hidden block adds to the accumulator, entry by entry: the gated hidden activations of the block's 256 columns
    times the block's rows of the last weights. -/
theorem added_apply (x : Vec Ideal S512x4096 .bf16) (g u : Vec Ideal S1x1x4096x256 .f32) (acc : Vec Ideal S512x4096 .f32)
    (d : Vec Ideal S1x1x256x4096 .f32) (r : Fin 512) (q : Fin 4096) :
    k0_pay2 x g u acc d (ix2 r q) = acc (ix2 r q) + ∑ h : Fin 256,
      gated (∑ k : Fin 4096, x (ix2 r k) * g (ix4 0 0 k h)) (∑ k : Fin 4096, x (ix2 r k) * u (ix4 0 0 k h)) * d (ix4 0 0 h q) := by
  have flatG (w : Vec Ideal S1x1x4096x256 .f32) (k : Fin 4096) (h : Fin 256) :
      shapeCast S4096x256 w shapeCasts_S1x1x4096x256_S4096x256 (ix2 k h) = w (ix4 0 0 k h) :=
    shapeCast_apply _ _ _ _ (by rw [Shape.rowMajor_val_four, Shape.rowMajor_val_two]; simp [ix2, ix4])
  have flatD (w : Vec Ideal S1x1x256x4096 .f32) (h : Fin 256) (q : Fin 4096) :
      shapeCast S256x4096 w shapeCasts_S1x1x256x4096_S256x4096 (ix2 h q) = w (ix4 0 0 h q) :=
    shapeCast_apply _ _ _ _ (by rw [Shape.rowMajor_val_four, Shape.rowMajor_val_two]; simp [ix2, ix4])
  unfold k0_pay2
  simp only [shapeCast_self]
  refine congrArg (acc (ix2 r q) + ·) ((Common.product_apply _ rfl none _ _ r q).trans (Finset.sum_congr rfl fun h _ => ?_))
  refine congrArg₂ (· * ·) ?_ (flatD d h q)
  refine congrArg₂ gated ((Common.product_apply _ rfl none _ _ r h).trans (Finset.sum_congr rfl fun k _ => ?_))
    ((Common.product_apply _ rfl none _ _ r h).trans (Finset.sum_congr rfl fun k _ => ?_))
  · exact congrArg (x (ix2 r k) * ·) (flatG g k h)
  · exact congrArg (x (ix2 r k) * ·) (flatG u k h)

/-- The cleared accumulator is zero everywhere. -/
theorem cleared_apply (r : Fin 512) (q : Fin 4096) : (k0_pay1 (F := Ideal)) (ix2 r q) = (0 : EReal) := by
  unfold k0_pay1
  simp only [shapeCast_self]
  exact Ideal.ofBits_zero_f32

/-- Token row `r` of block `b`, among all rows. -/
def row (b : Fin 160) (r : Fin 512) : Fin 81920 := ⟨b.val * 512 + r.val, by omega⟩

variable (X : Vec Ideal S81920x4096 .bf16) (g u : Vec Ideal S4x32x4096x2048 .f32) (d : Vec Ideal S4x32x2048x4096 .f32)

/-- The share of hidden unit `f` of expert `e` in entry `q` of token `p`'s result. -/
def unit (e : Fin 32) (p : Fin 81920) (q : Fin 4096) (f : Fin 2048) : EReal :=
  gated (∑ k : Fin 4096, X (ix2 p k) * g (ix4 0 e k f)) (∑ k : Fin 4096, X (ix2 p k) * u (ix4 0 e k f)) * d (ix4 0 e f q)

/-- The same for any natural number, zero past the last hidden unit. -/
def unitAt (e : Fin 32) (p : Fin 81920) (q : Fin 4096) (f : ℕ) : EReal := if h : f < 2048 then unit X g u d e p q ⟨f, h⟩ else 0

/-- The sum of the first `n` hidden units. -/
def partialSum (e : Fin 32) (p : Fin 81920) (q : Fin 4096) (n : ℕ) : EReal := ∑ f ∈ Finset.range n, unitAt X g u d e p q f

/-- The sum of all hidden units. -/
theorem partialSum_all (e : Fin 32) (p : Fin 81920) (q : Fin 4096) :
    partialSum X g u d e p q 2048 = ∑ f : Fin 2048, unit X g u d e p q f := by
  unfold partialSum
  rw [← Fin.sum_univ_eq_sum_range]
  exact Finset.sum_congr rfl fun f _ => dif_pos f.isLt

/-- One hidden block `j` takes the sum of the units before it to the sum of the units through it, when the blocks handed to the
    body are the token's rows and the expert's columns of hidden block `j`. -/
theorem added_partialSum (e : Fin 32) (b : Fin 160) (j : ℕ) (hj : j < 8)
    (x : Vec Ideal S512x4096 .bf16) (gb ub : Vec Ideal S1x1x4096x256 .f32) (acc : Vec Ideal S512x4096 .f32) (db : Vec Ideal S1x1x256x4096 .f32)
    (hx : ∀ r k, x (ix2 r k) = X (ix2 (row b r) k))
    (hg : ∀ k (h : Fin 256), gb (ix4 0 0 k h) = g (ix4 0 e k ⟨j * 256 + h.val, by omega⟩))
    (hu : ∀ k (h : Fin 256), ub (ix4 0 0 k h) = u (ix4 0 e k ⟨j * 256 + h.val, by omega⟩))
    (hd : ∀ (h : Fin 256) q, db (ix4 0 0 h q) = d (ix4 0 e ⟨j * 256 + h.val, by omega⟩ q))
    (hacc : ∀ r q, acc (ix2 r q) = partialSum X g u d e (row b r) q (j * 256)) (r : Fin 512) (q : Fin 4096) :
    k0_pay2 x gb ub acc db (ix2 r q) = partialSum X g u d e (row b r) q ((j + 1) * 256) := by
  rw [added_apply, hacc]
  unfold partialSum
  rw [Nat.add_mul, Nat.one_mul, Finset.sum_range_add]
  refine congrArg (_ + ·) ?_
  rw [← Fin.sum_univ_eq_sum_range (fun f => unitAt X g u d e (row b r) q (j * 256 + f)) 256]
  refine Finset.sum_congr rfl fun h _ => ?_
  unfold unitAt
  rw [dif_pos (show j * 256 + h.val < 2048 by omega)]
  unfold unit
  simp only [hx, hg, hu, hd]

end Cert.Experts

end
-- ==== Proof.ExpertsTables.lean ====
/-
  What the routing tables select: the blocks of the rows and of the weights that each grid point is handed.
-/
module

public import proofs.«01_k».proof.Proof.ExpertsStep
public import proofs.«01_k».proof.Proof.ExpertsPre

@[expose] public section

noncomputable section

namespace Cert.Experts

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ)

/-- The argument arrays on device `c`: the rows, the routing table, the number of live blocks and the three weights. -/
abbrev rowsOf (c : Dev nD) : Vec Ideal S81920x4096 .bf16 := m ((c : Thread nD τ).loc main_arg0)
abbrev tableOf (c : Dev nD) : IVec S160 32 := m ((c : Thread nD τ).loc main_arg1)
abbrev countOf (c : Dev nD) : IVec S1 32 := m ((c : Thread nD τ).loc main_arg2)
abbrev gateOf (c : Dev nD) : Vec Ideal S4x32x4096x2048 .f32 := m ((c : Thread nD τ).loc main_arg3)
abbrev upOf (c : Dev nD) : Vec Ideal S4x32x4096x2048 .f32 := m ((c : Thread nD τ).loc main_arg4)
abbrev downOf (c : Dev nD) : Vec Ideal S4x32x2048x4096 .f32 := m ((c : Thread nD τ).loc main_arg5)

/-- Token block `b` is live when it is before the number of live blocks, as the machine compares them. -/
def Live (count : IVec S1 32) (b : ℕ) : Prop := IntOp.cmpi .slt (BitVec.ofNat 32 b) (count (ix1 0)) = 1#1

/-- The grid's coordinates: the token block and the hidden block. -/
theorem coords_val : ∀ t : Fin grid0.N, (grid0.coords t 0).val = t.val / 8 ∧ (grid0.coords t 1).val = t.val % 8 := by decide +kernel

/-- The one index of a one-entry array. -/
theorem only_index (i : S1.Idx) : i = ix1 0 := by
  funext a; apply Fin.ext
  match a with
  | ⟨0, _⟩ => exact Nat.lt_one_iff.mp (i 0).isLt

/-- The body's guard at a point is the liveness of its token block. -/
theorem guard_iff (t : Fin grid0.N) :
    cond0_1 (grid0.coords t) (tbM0_1.view.readAt (Elt Ideal) (Rect.unit (s := S1) ![0] S1.size inb_S1_S1_0).toLoadRect (tbl m 1) (Shape.Idx.first (numel1_S1.symm ▸ Nat.one_pos)))
      ↔ Live (countOf m 0) (t.val / 8) := by
  have bit (b : BitVec 1) : (Scalar.cmpi .ne (Scalar.extui b : BitVec 32) 0#32 = 1#1) ↔ b = 1#1 := by revert b; decide
  have word : tbM0_1.view.readAt (Elt Ideal) (Rect.unit (s := S1) ![0] S1.size inb_S1_S1_0).toLoadRect (tbl m 1) (Shape.Idx.first (numel1_S1.symm ▸ Nat.one_pos))
      = countOf m 0 (ix1 0) := congrArg (countOf m 0) (only_index _)
  rw [word]
  unfold Live
  rw [← (coords_val t).1]
  exact bit _

/-- The expert of a point's gate block is the one that the table names for its token block. -/
theorem selected_expert (i : grid0.Coords) :
    cc0_transform_1 k0_off1_inb numel1_S1 inb_S1_S1_0 (tbl m) i 1 = (tableOf m 0 (ix1 (i 0))).toNat := by
  refine congrArg (fun w => (tableOf m 0 w).toNat) (funext fun a => Fin.ext ?_)
  have hb : (i 0).val < 160 := (i 0).isLt
  match a with
  | ⟨0, _⟩ =>
    show (BitVec.ofNat 32 (i 0).val).toNat + 1 * 0 = (i 0).val
    rw [BitVec.toNat_ofNat, Nat.mod_eq_of_lt (by omega)]; omega

/-- The hidden block of a point's gate block: the grid's for a live token block, the last otherwise. -/
theorem selected_hidden (i : grid0.Coords) :
    cc0_transform_1 k0_off1_inb numel1_S1 inb_S1_S1_0 (tbl m) i 3
      = (Scalar.select (IntOp.cmpi .slt (BitVec.ofNat 32 (i 0).val) (countOf m 0 (ix1 0))) (BitVec.ofNat 32 (i 1).val) 7#32).toNat :=
  congrArg (fun w => (Scalar.select (IntOp.cmpi .slt (BitVec.ofNat 32 (i 0).val) (countOf m 0 w)) (BitVec.ofNat 32 (i 1).val) 7#32).toNat)
    (only_index _)

/-- The hidden block selected for a live token block is the grid's. -/
theorem hidden_of_live (count : IVec S1 32) (b : ℕ) (h : Live count b) (j : Fin 8) :
    (Scalar.select (IntOp.cmpi .slt (BitVec.ofNat 32 b) (count (ix1 0))) (BitVec.ofNat 32 j.val) 7#32).toNat = j.val := by
  rw [h]; revert j; decide

/-- At a point of a live token block the gate block is the named expert's and the grid's hidden block. -/
theorem selected_live (t : Fin grid0.N) (b : Fin 160) (hb : t.val / 8 = b.val) (hl : Live (countOf m 0) b.val)
    (e : Fin 32) (he : (tableOf m 0 (ix1 b)).toNat = e.val) :
    cc0_transform_1 k0_off1_inb numel1_S1 inb_S1_S1_0 (tbl m) (grid0.coords t) 1 = e.val
      ∧ cc0_transform_1 k0_off1_inb numel1_S1 inb_S1_S1_0 (tbl m) (grid0.coords t) 3 = t.val % 8 := by
  have hi : ((grid0.coords t 0 : Fin 160)) = b := Fin.ext ((coords_val t).1.trans hb)
  have hj : (grid0.coords t 1).val = t.val % 8 := (coords_val t).2
  have hs1 := selected_expert m (grid0.coords t)
  have hs3 := selected_hidden m (grid0.coords t)
  rw [hi, he] at hs1
  rw [hi, hidden_of_live _ _ hl (grid0.coords t 1), hj] at hs3
  exact ⟨hs1, hs3⟩

variable (hO : Ok m)

/-- The rows handed to a point are its token block's. -/
theorem rows_apply (c : Dev nD) (t : Fin (cfgM m hO).N) (b : Fin 160) (hb : t.val / 8 = b.val) (r : Fin 512) (k : Fin 4096) :
    iblk m hO c 0 t (ix2 r k) = rowsOf m c (ix2 (row b r) k) := by
  refine (View.read_apply (v := (((cfgM m hO).win 0).blk t).view) (V m c (Pipeline.arrRef spec0 0)) _).trans ?_
  show V m c main_arg0 _ = m ((c : Thread nD τ).loc main_arg0) _
  rw [V_main_arg0]
  congr 1
  funext a; apply Fin.ext
  match a with
  | ⟨0, _⟩ =>
    show (BitVec.ofNat 32 (grid0.coords t 0).val).toNat * 512 + 1 * r.val = b.val * 512 + r.val
    rw [(coords_val t).1, hb, BitVec.toNat_ofNat, Nat.mod_eq_of_lt (by omega), one_mul]
  | ⟨1, _⟩ => show 0 * 4096 + 1 * k.val = k.val; omega

/-- The gate weights handed to a point of a live token block: the named expert's, the columns of the grid's hidden block. -/
theorem gate_apply (c : Dev nD) (t : Fin (cfgM m hO).N) (b : Fin 160) (hb : t.val / 8 = b.val) (hl : Live (countOf m 0) b.val)
    (e : Fin 32) (he : (tableOf m 0 (ix1 b)).toNat = e.val) (k : Fin 4096) (h : Fin 256) (hf : t.val % 8 * 256 + h.val < 2048) :
    iblk m hO c 1 t (ix4 0 0 k h) = gateOf m c (ix4 0 e k ⟨t.val % 8 * 256 + h.val, hf⟩) := by
  refine (View.read_apply (v := (((cfgM m hO).win 1).blk t).view) (V m c (Pipeline.arrRef spec0 1)) _).trans ?_
  show V m c main_arg3 _ = m ((c : Thread nD τ).loc main_arg3) _
  rw [V_main_arg3]
  congr 1
  have hs := selected_live m t b hb hl e he
  funext a; apply Fin.ext
  match a with
  | ⟨0, _⟩ => show 0 * 1 + 1 * 0 = 0; omega
  | ⟨1, _⟩ => show cc0_transform_1 k0_off1_inb numel1_S1 inb_S1_S1_0 (tbl m) (grid0.coords t) 1 * 1 + 1 * 0 = e.val; rw [hs.1]; omega
  | ⟨2, _⟩ => show 0 * 4096 + 1 * k.val = k.val; omega
  | ⟨3, _⟩ =>
    show cc0_transform_1 k0_off1_inb numel1_S1 inb_S1_S1_0 (tbl m) (grid0.coords t) 3 * 256 + 1 * h.val = _
    rw [hs.2, one_mul]

/-- The up weights likewise. -/
theorem up_apply (c : Dev nD) (t : Fin (cfgM m hO).N) (b : Fin 160) (hb : t.val / 8 = b.val) (hl : Live (countOf m 0) b.val)
    (e : Fin 32) (he : (tableOf m 0 (ix1 b)).toNat = e.val) (k : Fin 4096) (h : Fin 256) (hf : t.val % 8 * 256 + h.val < 2048) :
    iblk m hO c 2 t (ix4 0 0 k h) = upOf m c (ix4 0 e k ⟨t.val % 8 * 256 + h.val, hf⟩) := by
  refine (View.read_apply (v := (((cfgM m hO).win 2).blk t).view) (V m c (Pipeline.arrRef spec0 2)) _).trans ?_
  show V m c main_arg4 _ = m ((c : Thread nD τ).loc main_arg4) _
  rw [V_main_arg4]
  congr 1
  have hs := selected_live m t b hb hl e he
  funext a; apply Fin.ext
  match a with
  | ⟨0, _⟩ => show 0 * 1 + 1 * 0 = 0; omega
  | ⟨1, _⟩ => show cc0_transform_1 k0_off1_inb numel1_S1 inb_S1_S1_0 (tbl m) (grid0.coords t) 1 * 1 + 1 * 0 = e.val; rw [hs.1]; omega
  | ⟨2, _⟩ => show 0 * 4096 + 1 * k.val = k.val; omega
  | ⟨3, _⟩ => show cc0_transform_1 k0_off1_inb numel1_S1 inb_S1_S1_0 (tbl m) (grid0.coords t) 3 * 256 + 1 * h.val = _; rw [hs.2, one_mul]

/-- The last weights likewise: the named expert's, the rows of the grid's hidden block. -/
theorem down_apply (c : Dev nD) (t : Fin (cfgM m hO).N) (b : Fin 160) (hb : t.val / 8 = b.val) (hl : Live (countOf m 0) b.val)
    (e : Fin 32) (he : (tableOf m 0 (ix1 b)).toNat = e.val) (h : Fin 256) (q : Fin 4096) (hf : t.val % 8 * 256 + h.val < 2048) :
    iblk m hO c 3 t (ix4 0 0 h q) = downOf m c (ix4 0 e ⟨t.val % 8 * 256 + h.val, hf⟩ q) := by
  refine (View.read_apply (v := (((cfgM m hO).win 3).blk t).view) (V m c (Pipeline.arrRef spec0 3)) _).trans ?_
  show V m c main_arg5 _ = m ((c : Thread nD τ).loc main_arg5) _
  rw [V_main_arg5]
  congr 1
  have hs := selected_live m t b hb hl e he
  funext a; apply Fin.ext
  match a with
  | ⟨0, _⟩ => show 0 * 1 + 1 * 0 = 0; omega
  | ⟨1, _⟩ => show cc0_transform_1 k0_off1_inb numel1_S1 inb_S1_S1_0 (tbl m) (grid0.coords t) 1 * 1 + 1 * 0 = e.val; rw [hs.1]; omega
  | ⟨2, _⟩ => show cc0_transform_1 k0_off1_inb numel1_S1 inb_S1_S1_0 (tbl m) (grid0.coords t) 3 * 256 + 1 * h.val = _; rw [hs.2, one_mul]
  | ⟨3, _⟩ => show 0 * 4096 + 1 * q.val = q.val; omega

end Cert.Experts

end
-- ==== Proof.ExpertsFold.lean ====
/-
  The accumulator through a token block's hidden blocks, and the block that is written back.
-/
module

public import proofs.«01_k».proof.Proof.ExpertsTables

@[expose] public section

noncomputable section

namespace Cert.Experts

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ) (hO : Ok m) (c : Dev nD)

/-- The sum of the first `n` hidden units of expert `e`, over the arrays that the launch memory holds. -/
abbrev sumOf (e : Fin 32) (b : Fin 160) (r : Fin 512) (q : Fin 4096) (n : ℕ) : EReal :=
  partialSum (rowsOf m c) (gateOf m c) (upOf m c) (downOf m c) e (row b r) q n

/-- A live token block's step at a point: the sum grows by the point's hidden block. -/
theorem step_live (t : Fin (cfgM m hO).N) (b : Fin 160) (hb : t.val / 8 = b.val) (hl : Live (countOf m 0) b.val)
    (e : Fin 32) (he : (tableOf m 0 (ix1 b)).toNat = e.val) (acc : Vec Ideal S512x4096 .f32)
    (hacc : ∀ r q, acc (ix2 r q) = sumOf m c e b r q (t.val % 8 * 256)) (r : Fin 512) (q : Fin 4096) :
    k0_pay2 (iblk m hO c 0 t) (iblk m hO c 1 t) (iblk m hO c 2 t) acc (iblk m hO c 3 t) (ix2 r q)
      = sumOf m c e b r q ((t.val % 8 + 1) * 256) :=
  added_partialSum _ _ _ _ e b (t.val % 8) (by omega) (iblk m hO c 0 t) (iblk m hO c 1 t) (iblk m hO c 2 t) acc (iblk m hO c 3 t)
    (rows_apply m hO c t b hb)
    (fun k h => gate_apply m hO c t b hb hl e he k h (by omega))
    (fun k h => up_apply m hO c t b hb hl e he k h (by omega))
    (fun h q => down_apply m hO c t b hb hl e he h q (by omega)) hacc r q

/-- What the six cases leave, at a point: the accumulator at the first hidden block and later, the block stored at the last. -/
theorem first_live (t : Fin (cfgM m hO).N) (h0 : t.val % 8 = 0) (hl : Live (countOf m 0) (t.val / 8)) :
    (outsAt0 m hO c t.val t.isLt).2 = k0_pay2 (iblk m hO c 0 t) (iblk m hO c 1 t) (iblk m hO c 2 t) (k0_pay1 (F := Ideal)) (iblk m hO c 3 t) :=
  (congrArg Prod.snd (outsAt0_A m hO c t h0 ((guard_iff m t).mpr hl) (by omega))).trans (by
    dsimp only
    exact scratch_first_live c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _)
      (iblk m hO c 0 t) (iblk m hO c 1 t) (iblk m hO c 2 t) (iblk m hO c 3 t) (tbl m 0) (tbl m 1) _ _ _)
theorem first_dead (t : Fin (cfgM m hO).N) (h0 : t.val % 8 = 0) (hl : ¬Live (countOf m 0) (t.val / 8)) :
    (outsAt0 m hO c t.val t.isLt).2 = k0_pay1 (F := Ideal) :=
  (congrArg Prod.snd (outsAt0_B m hO c t h0 (fun g => hl ((guard_iff m t).mp g)) (by omega))).trans (by
    dsimp only
    exact scratch_first_dead c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _)
      (iblk m hO c 0 t) (iblk m hO c 1 t) (iblk m hO c 2 t) (iblk m hO c 3 t) (tbl m 0) (tbl m 1) _ _ _)
theorem next_live (t : Fin (cfgM m hO).N) (h0 : ¬t.val % 8 = 0) (h2 : ¬t.val % 8 = 7) (hl : Live (countOf m 0) (t.val / 8)) :
    (outsAt0 m hO c t.val t.isLt).2 = k0_pay2 (iblk m hO c 0 t) (iblk m hO c 1 t) (iblk m hO c 2 t)
      (outsAt0 m hO c (t.val - 1) (Nat.lt_of_le_of_lt (Nat.sub_le _ _) t.isLt)).2 (iblk m hO c 3 t) :=
  (congrArg Prod.snd (outsAt0_C m hO c t h0 ((guard_iff m t).mpr hl) h2)).trans (by
    dsimp only
    exact scratch_next_live c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _)
      (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 _ _ _)
theorem next_dead (t : Fin (cfgM m hO).N) (h0 : ¬t.val % 8 = 0) (h2 : ¬t.val % 8 = 7) (hl : ¬Live (countOf m 0) (t.val / 8)) :
    (outsAt0 m hO c t.val t.isLt).2 = (outsAt0 m hO c (t.val - 1) (Nat.lt_of_le_of_lt (Nat.sub_le _ _) t.isLt)).2 :=
  (congrArg Prod.snd (outsAt0_D m hO c t h0 (fun g => hl ((guard_iff m t).mp g)) h2)).trans rfl
theorem last_live (t : Fin (cfgM m hO).N) (h2 : t.val % 8 = 7) (hl : Live (countOf m 0) (t.val / 8)) :
    (outsAt0 m hO c t.val t.isLt).1 = k0_pay3 (k0_pay2 (iblk m hO c 0 t) (iblk m hO c 1 t) (iblk m hO c 2 t)
      (outsAt0 m hO c (t.val - 1) (Nat.lt_of_le_of_lt (Nat.sub_le _ _) t.isLt)).2 (iblk m hO c 3 t)) :=
  (congrArg Prod.fst (outsAt0_E m hO c t (by omega) ((guard_iff m t).mpr hl) h2)).trans (by
    dsimp only
    exact out_last_live c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _)
      (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 _ _ _)
theorem last_dead (t : Fin (cfgM m hO).N) (h2 : t.val % 8 = 7) (hl : ¬Live (countOf m 0) (t.val / 8)) :
    (outsAt0 m hO c t.val t.isLt).1 = k0_pay3 (outsAt0 m hO c (t.val - 1) (Nat.lt_of_le_of_lt (Nat.sub_le _ _) t.isLt)).2 :=
  (congrArg Prod.fst (outsAt0_F m hO c t (by omega) (fun g => hl ((guard_iff m t).mp g)) h2)).trans (by
    dsimp only
    exact out_last_dead c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _)
      (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 _ _ _)

/-- After hidden block `j` of a live token block the accumulator holds the sum of the units through it. -/
theorem scratch_live (b : Fin 160) (hl : Live (countOf m 0) b.val) (e : Fin 32) (he : (tableOf m 0 (ix1 b)).toNat = e.val)
    (j : ℕ) : ∀ (_ : j < 7) (h : b.val * 8 + j < (cfgM m hO).N) (r : Fin 512) (q : Fin 4096),
      (outsAt0 m hO c (b.val * 8 + j) h).2 (ix2 r q) = sumOf m c e b r q ((j + 1) * 256) := by
  induction j with
  | zero =>
    intro hj h r q
    have hb : (b.val * 8 + 0) / 8 = b.val := by omega
    have hm : (b.val * 8 + 0) % 8 = 0 := by omega
    refine (congrFun (first_live m hO c ⟨b.val * 8 + 0, h⟩ hm (hb.symm ▸ hl)) _).trans ?_
    refine (step_live m hO c ⟨b.val * 8 + 0, h⟩ b hb hl e he _ (fun r q => ?_) r q).trans ?_
    · show _ = sumOf m c e b r q ((b.val * 8 + 0) % 8 * 256)
      rw [hm]; exact cleared_apply r q
    · show sumOf m c e b r q (((b.val * 8 + 0) % 8 + 1) * 256) = _
      rw [hm]
  | succ j ih =>
    intro hj h r q
    have hb : (b.val * 8 + (j + 1)) / 8 = b.val := by omega
    have hm : (b.val * 8 + (j + 1)) % 8 = j + 1 := by omega
    refine (congrFun (next_live m hO c ⟨b.val * 8 + (j + 1), h⟩ (by show ¬ (b.val * 8 + (j + 1)) % 8 = 0; omega)
      (by show ¬ (b.val * 8 + (j + 1)) % 8 = 7; omega) (hb.symm ▸ hl)) _).trans ?_
    refine (step_live m hO c ⟨b.val * 8 + (j + 1), h⟩ b hb hl e he _ (fun r q => ?_) r q).trans ?_
    · show _ = sumOf m c e b r q ((b.val * 8 + (j + 1)) % 8 * 256)
      rw [hm]; exact ih (by omega) _ r q
    · show sumOf m c e b r q (((b.val * 8 + (j + 1)) % 8 + 1) * 256) = _
      rw [hm]

/-- The block written back for a live token block: the sum of all hidden units. -/
theorem out_live (b : Fin 160) (hl : Live (countOf m 0) b.val) (e : Fin 32) (he : (tableOf m 0 (ix1 b)).toNat = e.val)
    (h : b.val * 8 + 7 < (cfgM m hO).N) (r : Fin 512) (q : Fin 4096) :
    (outsAt0 m hO c (b.val * 8 + 7) h).1 (ix2 r q) = sumOf m c e b r q 2048 := by
  have hb : (b.val * 8 + 7) / 8 = b.val := by omega
  have hm : (b.val * 8 + 7) % 8 = 7 := by omega
  refine (congrFun (last_live m hO c ⟨b.val * 8 + 7, h⟩ hm (hb.symm ▸ hl)) _).trans ?_
  refine (step_live m hO c ⟨b.val * 8 + 7, h⟩ b hb hl e he _ (fun r q => ?_) r q).trans ?_
  · show _ = sumOf m c e b r q ((b.val * 8 + 7) % 8 * 256)
    rw [hm]; exact scratch_live m hO c b hl e he 6 (by omega) _ r q
  · show sumOf m c e b r q (((b.val * 8 + 7) % 8 + 1) * 256) = _
    rw [hm]

/-- Through a token block that is not live the accumulator stays zero. -/
theorem scratch_dead (b : Fin 160) (hl : ¬Live (countOf m 0) b.val)
    (j : ℕ) : ∀ (_ : j < 7) (h : b.val * 8 + j < (cfgM m hO).N), (outsAt0 m hO c (b.val * 8 + j) h).2 = k0_pay1 (F := Ideal) := by
  induction j with
  | zero =>
    intro hj h
    have hb : (b.val * 8 + 0) / 8 = b.val := by omega
    exact first_dead m hO c ⟨b.val * 8 + 0, h⟩ (by show (b.val * 8 + 0) % 8 = 0; omega) (hb.symm ▸ hl)
  | succ j ih =>
    intro hj h
    have hb : (b.val * 8 + (j + 1)) / 8 = b.val := by omega
    exact (next_dead m hO c ⟨b.val * 8 + (j + 1), h⟩ (by show ¬ (b.val * 8 + (j + 1)) % 8 = 0; omega)
      (by show ¬ (b.val * 8 + (j + 1)) % 8 = 7; omega) (hb.symm ▸ hl)).trans (ih (by omega) _)

/-- The block written back for a token block that is not live is zero. -/
theorem out_dead (b : Fin 160) (hl : ¬Live (countOf m 0) b.val) (h : b.val * 8 + 7 < (cfgM m hO).N) (r : Fin 512) (q : Fin 4096) :
    (outsAt0 m hO c (b.val * 8 + 7) h).1 (ix2 r q) = (0 : EReal) := by
  have hb : (b.val * 8 + 7) / 8 = b.val := by omega
  refine (congrFun (last_dead m hO c ⟨b.val * 8 + 7, h⟩ (by show (b.val * 8 + 7) % 8 = 7; omega) (hb.symm ▸ hl)) _).trans ?_
  exact (congrFun (scratch_dead m hO c b hl 6 (by omega) _) _).trans (cleared_apply r q)

end Cert.Experts

end
-- ==== Proof.ExpertsArray.lean ====
/-
  The expert call's result: each live token row is its expert's gated feed-forward, every other row is zero.
-/
module

public import proofs.«01_k».proof.Proof.ExpertsFold

@[expose] public section

noncomputable section

namespace Cert.Experts

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

instance (count : IVec S1 32) (b : ℕ) : Decidable (Live count b) := by unfold Live; infer_instance

/-- The token block of a row. -/
def blockOf (p : Fin 81920) : Fin 160 := ⟨p.val / 512, by omega⟩

/-- The expert that the table names for token block `b` (its entry taken below 32, where the precondition has it). -/
def expertOf (table : IVec S160 32) (b : Fin 160) : Fin 32 := ⟨(table (ix1 b)).toNat % 32, Nat.mod_lt _ (by omega)⟩

/-- The result, entry by entry. -/
def G (x : Vec Ideal S81920x4096 .bf16) (table : IVec S160 32) (count : IVec S1 32) (g u : Vec Ideal S4x32x4096x2048 .f32)
    (d : Vec Ideal S4x32x2048x4096 .f32) : Vec Ideal S81920x4096 .bf16 :=
  fun i => if Live count (blockOf (i 0)).val then ∑ f : Fin 2048, unit x g u d (expertOf table (blockOf (i 0))) (i 0) (i 1) f else 0

theorem G_apply (x : Vec Ideal S81920x4096 .bf16) (table : IVec S160 32) (count : IVec S1 32) (g u : Vec Ideal S4x32x4096x2048 .f32)
    (d : Vec Ideal S4x32x2048x4096 .f32) (p : Fin 81920) (q : Fin 4096) :
    G x table count g u d (ix2 p q)
      = if Live count (blockOf p).val then ∑ f : Fin 2048, unit x g u d (expertOf table (blockOf p)) p q f else 0 := rfl

variable (m : (ℓ : Loc nD τ sig) → Buf (Elt Ideal) ℓ) (hO : Ok m) (c : Dev nD)
  (hw : ∀ w : S160.Idx, (tableOf m 0 w).toNat < 32)

/-- `G` of the argument arrays. -/
abbrev result : Vec Ideal S81920x4096 .bf16 := G (rowsOf m c) (tableOf m 0) (countOf m 0) (gateOf m c) (upOf m c) (downOf m c)

include hw in
/-- The block stored at a token block's last point is that block of the result. -/
theorem stored_apply (t : Fin (cfgM m hO).N) (ht : t.val % 8 = 7) (b : Fin 160) (hb : t.val / 8 = b.val) (r : Fin 512) (q : Fin 4096) :
    (outsAt0 m hO c t.val t.isLt).1 (ix2 r q) = result m c (ix2 (row b r) q) := by
  have hB : blockOf (row b r) = b := Fin.ext (by show (b.val * 512 + r.val) / 512 = b.val; omega)
  have hE : (tableOf m 0 (ix1 b)).toNat = (expertOf (tableOf m 0) b).val := (Nat.mod_eq_of_lt (hw _)).symm
  obtain ⟨n, hn⟩ := t
  have hn' : n = b.val * 8 + 7 := by simp only at ht hb; omega
  subst hn'
  refine Eq.trans ?_ (G_apply _ _ _ _ _ _ _ _).symm
  rw [hB]
  by_cases hl : Live (countOf m 0) b.val
  · rw [if_pos hl]
    exact (out_live m hO c b hl _ hE hn r q).trans (partialSum_all _ _ _ _ _ _ _)
  · rw [if_neg hl]
    exact out_dead m hO c b hl hn r q

/-- The result's block at a point is its token block. -/
theorem stored_index (t : Fin grid0.N) : (BitVec.ofNat 32 (grid0.coords t 0).val).toNat = t.val / 8 := by
  have ht : t.val < 1280 := lt_of_lt_of_eq t.isLt N_0
  rw [(coords_val t).1, BitVec.toNat_ofNat, Nat.mod_eq_of_lt (by omega)]

include hw in
/-- Every point that writes back writes its own block of the result. -/
theorem flushed_eq (t : Fin (cfgM m hO).N) (hf : ((cfgM m hO).win 4).flush t = true) :
    (dats m hO 0 c).flushed 4 t = (((cfgM m hO).win 4).blk t).view.read (Elt Ideal) (result m c) := by
  have ht : t.val < 1280 := lt_of_lt_of_eq t.isLt N_0
  have h7 : t.val % 8 = 7 := (flush0_4 (adm m hO) t).mp hf
  show ((cfgM m hO).win 4).cut (grid0.coords t) ((dats m hO 0 c).after 4 t) = _
  rw [after0_4]
  refine funext fun (j : S512x4096.Idx) => ?_
  have h0 : (j 0).val < 512 := (j 0).isLt
  have h1 : (j 1).val < 4096 := (j 1).isLt
  have e : (((cfgM m hO).win 4).blk t).view.emb j = (ix2 (row ⟨t.val / 8, by omega⟩ (j 0)) (j 1) : S81920x4096.Idx) := by
    funext a; apply Fin.ext
    match a with
    | ⟨0, _⟩ => show (BitVec.ofNat 32 (grid0.coords t 0).val).toNat * 512 + 1 * (j 0).val = t.val / 8 * 512 + (j 0).val; rw [stored_index, one_mul]
    | ⟨1, _⟩ => show 0 * 4096 + 1 * (j 1).val = (j 1).val; omega
  refine Eq.trans ?_ ((View.read_apply (v := (((cfgM m hO).win 4).blk t).view) (result m c) j).trans (congrArg (result m c) e)).symm
  refine (congrArg (outsAt0 m hO c t.val t.isLt).1 (eq_ix2 (n0 := 512) (n1 := 4096) j)).trans ?_
  exact stored_apply m hO c hw t h7 ⟨t.val / 8, by omega⟩ rfl (j 0) (j 1)

/-- Every entry of the result lies in the block that some point writes back. -/
theorem cover (i : S81920x4096.Idx) :
    ∃ t : Fin (cfgM m hO).N, ((cfgM m hO).win 4).flush t = true ∧ i ∈ (((cfgM m hO).win 4).blk t).view.set := by
  have h0 : (i 0).val < 81920 := (i 0).isLt
  have h1 : (i 1).val < 4096 := (i 1).isLt
  obtain ⟨t, ht⟩ : ∃ t : Fin grid0.N, t.val = (i 0).val / 512 * 8 + 7 :=
    ⟨⟨(i 0).val / 512 * 8 + 7, lt_of_lt_of_eq (by omega : _ < 1280) N_0.symm⟩, rfl⟩
  refine ⟨t, (flush0_4 (adm m hO) t).mpr (by rw [ht]; omega), ?_⟩
  refine (View.set_slice_whole main_v0 (((cfgM m hO).win 4).rect t)).symm ▸ (Rect.mem_set_unit (s := S81920x4096)).mpr ?_
  intro a
  match a with
  | ⟨0, _⟩ =>
    show (BitVec.ofNat 32 (grid0.coords t 0).val).toNat * 512 ≤ (i 0).val ∧ (i 0).val < (BitVec.ofNat 32 (grid0.coords t 0).val).toNat * 512 + 512
    rw [stored_index]; omega
  | ⟨1, _⟩ => show 0 * 4096 ≤ (i 1).val ∧ (i 1).val < 0 * 4096 + 4096; omega

include hw in
/-- The array after the run is the result. -/
theorem final : (dats m hO 0 c).arrAt 4 (cfgM m hO).N = result m c :=
  (dats m hO 0 c).arrAt_eq_of_cover 4 _ (fun t hf => flushed_eq m hO c hw t hf) (cover m hO)

end Cert.Experts

end
-- ==== Proof.ExpertsReference.lean ====
/-
  What the reference computes for the expert call, entry by entry, and the equation of the two.
-/
module

public import Idealize.ShloMosaic.Lib.IdealHost
public import proofs.«01_k».proof.Proof.ExpertsPre
public import proofs.«01_k».proof.Proof.ExpertsArray
public import proofs.«01_k».proof.Proof.Gen.ReferenceIdeal.Read
public import proofs.«01_k».proof.Proof.Gen.ReferenceIdeal.Run

@[expose] public section

noncomputable section

namespace Cert.Experts

open Cert.ReferenceIdeal Cert.ReferenceIdeal.Gen Cert.ReferenceIdeal.Read Idealize.ShloMosaic Idealize.ShloMosaic.TcCoe Idealize.SL.Sem
open Idealize.ShloMosaic.ValueIdx
open scoped BigOperators

/-- The expert taken by a gather: its start word, read signed and clamped, names the expert. -/
theorem taken (idx : IVec Cert.ReferenceIdeal.S160x1 32) (b : Fin 160) (e : Fin 32) (he : (idx (ix2 b 0)).toInt = e.val) :
    min (idx (ix2 b 0)).toInt.toNat (32 - 1) = e.val := by
  rw [he]; omega

/-- The weights gathered for a token block are the named expert's: two weights of `4096 × 2048` an expert. -/
theorem gathered_wide (w : Vec Ideal S32x4096x2048 .f32) (idx : IVec S160x1 32) (b : Fin 160) (e : Fin 32)
    (he : (idx (ix2 b 0)).toInt = e.val) (k : Fin 4096) (f : Fin 2048) :
    Host.gather gather_S32x4096x2048_S160x1_S160x4096x2048_12_0_n_n_0_1_140962048 w idx (ix3 b k f) = w (ix3 e k f) := by
  refine congrArg w (funext fun a => Fin.ext ?_)
  match a with
  | ⟨0, _⟩ =>
    refine (congrArg (fun i => min (idx i).toInt.toNat (32 - 1) + 0 + 0) (?_ : _ = ix2 b 0)).trans (taken idx b e he)
    funext a
    match a with
    | ⟨0, _⟩ => rfl
    | ⟨1, _⟩ => rfl
  | ⟨1, _⟩ => show 0 + 0 + k.val = k.val; omega
  | ⟨2, _⟩ => show 0 + 0 + f.val = f.val; omega

/-- The same for the weights of `2048 × 4096` an expert. -/
theorem gathered_tall (w : Vec Ideal S32x2048x4096 .f32) (idx : IVec S160x1 32) (b : Fin 160) (e : Fin 32)
    (he : (idx (ix2 b 0)).toInt = e.val) (f : Fin 2048) (q : Fin 4096) :
    Host.gather gather_S32x2048x4096_S160x1_S160x2048x4096_12_0_n_n_0_1_120484096 w idx (ix3 b f q) = w (ix3 e f q) := by
  refine congrArg w (funext fun a => Fin.ext ?_)
  match a with
  | ⟨0, _⟩ =>
    refine (congrArg (fun i => min (idx i).toInt.toNat (32 - 1) + 0 + 0) (?_ : _ = ix2 b 0)).trans (taken idx b e he)
    funext a
    match a with
    | ⟨0, _⟩ => rfl
    | ⟨1, _⟩ => rfl
  | ⟨1, _⟩ => show 0 + 0 + f.val = f.val; omega
  | ⟨2, _⟩ => show 0 + 0 + q.val = q.val; omega

/-- A named word is not negative, so the reference's wrap of negative words keeps it. -/
theorem kept (w : BitVec 32) (hw : w.toNat < 32) :
    Scalar.select (IntOp.cmpi .slt w 0#32) (IntOp.addi w 32#32) w = w := by
  have hn : IntOp.cmpi .slt w 0#32 = 0#1 := by
    have : w.slt 0#32 = false := by
      rw [BitVec.slt_eq_decide, decide_eq_false_iff_not]
      have := BitVec.toInt_eq_toNat_of_lt (x := w) (by omega)
      rw [this]; simp
    show BitVec.ofBool (w.slt 0#32) = 0#1
    rw [this]; rfl
  rw [hn]; rfl

/-- A named word read signed is its expert. -/
theorem signed (w : BitVec 32) (hw : w.toNat < 32) : w.toInt = ((w.toNat % 32 : ℕ) : ℤ) := by
  rw [BitVec.toInt_eq_toNat_of_lt (by omega), Nat.mod_eq_of_lt hw]

variable (x : Vec Ideal S81920x4096 .bf16) (table : IVec S160 32) (count : IVec S1 32) (g u : Vec Ideal S4x32x4096x2048 .f32)
  (d : Vec Ideal S4x32x2048x4096 .f32)

/-- The rows, block by block. -/
theorem rows_reference (b : Fin 160) (r : Fin 512) (k : Fin 4096) :
    val_main_v1 (F := Ideal) x (ix3 b r k) = x (ix2 (row b r) k) := by
  rw [val_main_v1_apply]
  refine (congrArg x (funext fun a => Fin.ext ?_) : x (idx_main_v1 (ix3 b r k)) = x (ix2 (row b r) k))
  match a with
  | ⟨0, _⟩ => show ((b.val * 512 + r.val) * 4096 + k.val) / 4096 = b.val * 512 + r.val; omega
  | ⟨1, _⟩ => show ((b.val * 512 + r.val) * 4096 + k.val) % 4096 = k.val; omega

/-- The first layer's gate weights, expert by expert. -/
theorem gate_reference (e : Fin 32) (k : Fin 4096) (f : Fin 2048) :
    val_main_v3 (F := Ideal) g (ix3 e k f) = g (ix4 0 e k f) := by
  rw [val_main_v3_apply, val_main_v2_apply]
  refine congrArg g (funext fun a => Fin.ext ?_)
  match a with
  | ⟨0, _⟩ => rfl
  | ⟨1, _⟩ => show ((e.val * 4096 + k.val) * 2048 + f.val) / 8388608 % 32 = e.val; omega
  | ⟨2, _⟩ => show ((e.val * 4096 + k.val) * 2048 + f.val) / 2048 % 4096 = k.val; omega
  | ⟨3, _⟩ => show ((e.val * 4096 + k.val) * 2048 + f.val) % 2048 = f.val; omega

/-- The first layer's up weights, expert by expert. -/
theorem up_reference (e : Fin 32) (k : Fin 4096) (f : Fin 2048) :
    val_main_v5 (F := Ideal) u (ix3 e k f) = u (ix4 0 e k f) := by
  rw [val_main_v5_apply, val_main_v4_apply]
  refine congrArg u (funext fun a => Fin.ext ?_)
  match a with
  | ⟨0, _⟩ => rfl
  | ⟨1, _⟩ => show ((e.val * 4096 + k.val) * 2048 + f.val) / 8388608 % 32 = e.val; omega
  | ⟨2, _⟩ => show ((e.val * 4096 + k.val) * 2048 + f.val) / 2048 % 4096 = k.val; omega
  | ⟨3, _⟩ => show ((e.val * 4096 + k.val) * 2048 + f.val) % 2048 = f.val; omega

/-- The first layer's down weights, expert by expert. -/
theorem down_reference (e : Fin 32) (k : Fin 2048) (f : Fin 4096) :
    val_main_v7 (F := Ideal) d (ix3 e k f) = d (ix4 0 e k f) := by
  rw [val_main_v7_apply, val_main_v6_apply]
  refine congrArg d (funext fun a => Fin.ext ?_)
  match a with
  | ⟨0, _⟩ => rfl
  | ⟨1, _⟩ => show ((e.val * 2048 + k.val) * 4096 + f.val) / 8388608 % 32 = e.val; omega
  | ⟨2, _⟩ => show ((e.val * 2048 + k.val) * 4096 + f.val) / 4096 % 2048 = k.val; omega
  | ⟨3, _⟩ => show ((e.val * 2048 + k.val) * 4096 + f.val) % 4096 = f.val; omega

/-- The start word of the gate gather for token block `b`. -/
theorem gate_word (hw : ∀ w : S160.Idx, (table w).toNat < 32) (b : Fin 160) :
    (val_main_v13 (F := Ideal) table (ix2 b 0)).toInt = ((expertOf table b).val : ℤ) := by
  have e : val_main_v13 (F := Ideal) table (ix2 b 0) = table (ix1 b) := by
    rw [val_main_v13_apply]
    have i : idx_main_v13 (ix2 b 0) = ix1 b := by
      funext a
      match a with
      | ⟨0, _⟩ => rfl
    rw [i]
    exact kept (table (ix1 b)) (hw _)
  rw [e]
  exact signed _ (hw _)

/-- The start word of the up gather for token block `b`. -/
theorem up_word (hw : ∀ w : S160.Idx, (table w).toNat < 32) (b : Fin 160) :
    (val_main_v22 (F := Ideal) table (ix2 b 0)).toInt = ((expertOf table b).val : ℤ) := by
  have e : val_main_v22 (F := Ideal) table (ix2 b 0) = table (ix1 b) := by
    rw [val_main_v22_apply]
    have i : idx_main_v22 (ix2 b 0) = ix1 b := by
      funext a
      match a with
      | ⟨0, _⟩ => rfl
    rw [i]
    exact kept (table (ix1 b)) (hw _)
  rw [e]
  exact signed _ (hw _)

/-- The start word of the down gather for token block `b`. -/
theorem down_word (hw : ∀ w : S160.Idx, (table w).toNat < 32) (b : Fin 160) :
    (val_main_v31 (F := Ideal) table (ix2 b 0)).toInt = ((expertOf table b).val : ℤ) := by
  have e : val_main_v31 (F := Ideal) table (ix2 b 0) = table (ix1 b) := by
    rw [val_main_v31_apply]
    have i : idx_main_v31 (ix2 b 0) = ix1 b := by
      funext a
      match a with
      | ⟨0, _⟩ => rfl
    rw [i]
    exact kept (table (ix1 b)) (hw _)
  rw [e]
  exact signed _ (hw _)

/-- The gate weights gathered for a token block. -/
theorem gate_gathered (hw : ∀ w : S160.Idx, (table w).toNat < 32) (b : Fin 160) (k : Fin 4096) (f : Fin 2048) :
    val_main_v14 (F := Ideal) table g (ix3 b k f) = g (ix4 0 (expertOf table b) k f) :=
  (gathered_wide _ _ b _ (gate_word table hw b) k f).trans (gate_reference g _ k f)

/-- The up weights gathered for a token block. -/
theorem up_gathered (hw : ∀ w : S160.Idx, (table w).toNat < 32) (b : Fin 160) (k : Fin 4096) (f : Fin 2048) :
    val_main_v23 (F := Ideal) table u (ix3 b k f) = u (ix4 0 (expertOf table b) k f) :=
  (gathered_wide _ _ b _ (up_word table hw b) k f).trans (up_reference u _ k f)

/-- The last weights gathered for a token block. -/
theorem down_gathered (hw : ∀ w : S160.Idx, (table w).toNat < 32) (b : Fin 160) (f : Fin 2048) (q : Fin 4096) :
    val_main_v32 (F := Ideal) table d (ix3 b f q) = d (ix4 0 (expertOf table b) f q) :=
  (gathered_tall _ _ b _ (down_word table hw b) f q).trans (down_reference d _ f q)

/-- The gate activations. -/
theorem gate_activation (hw : ∀ w : S160.Idx, (table w).toNat < 32) (b : Fin 160) (r : Fin 512) (f : Fin 2048) :
    val_main_v15 (F := Ideal) x table g (ix3 b r f)
      = ∑ k : Fin 4096, x (ix2 (row b r) k) * g (ix4 0 (expertOf table b) k f) := by
  refine (val_main_v15_apply x table g (ix3 b r f)).trans (Finset.sum_congr rfl fun k _ => ?_)
  have hl : lidx_main_v15 (ix3 b r f) k = ix3 b r k := by
    funext a
    match a with
    | ⟨0, _⟩ => rfl
    | ⟨1, _⟩ => rfl
    | ⟨2, _⟩ => rfl
  have hr : ridx_main_v15 (ix3 b r f) k = ix3 b k f := by
    funext a
    match a with
    | ⟨0, _⟩ => rfl
    | ⟨1, _⟩ => rfl
    | ⟨2, _⟩ => rfl
  rw [hl, hr]
  exact congrArg₂ (· * ·) (rows_reference x b r k) (gate_gathered table g hw b k f)

/-- The up activations. -/
theorem up_activation (hw : ∀ w : S160.Idx, (table w).toNat < 32) (b : Fin 160) (r : Fin 512) (f : Fin 2048) :
    val_main_v24 (F := Ideal) x table u (ix3 b r f)
      = ∑ k : Fin 4096, x (ix2 (row b r) k) * u (ix4 0 (expertOf table b) k f) := by
  refine (val_main_v24_apply x table u (ix3 b r f)).trans (Finset.sum_congr rfl fun k _ => ?_)
  have hl : lidx_main_v24 (ix3 b r f) k = ix3 b r k := by
    funext a
    match a with
    | ⟨0, _⟩ => rfl
    | ⟨1, _⟩ => rfl
    | ⟨2, _⟩ => rfl
  have hr : ridx_main_v24 (ix3 b r f) k = ix3 b k f := by
    funext a
    match a with
    | ⟨0, _⟩ => rfl
    | ⟨1, _⟩ => rfl
    | ⟨2, _⟩ => rfl
  rw [hl, hr]
  exact congrArg₂ (· * ·) (rows_reference x b r k) (up_gathered table u hw b k f)

/-- The gated hidden activations: `silu` of the gate times the up activation. -/
theorem hidden_reference (hw : ∀ w : S160.Idx, (table w).toNat < 32) (b : Fin 160) (r : Fin 512) (f : Fin 2048) :
    val_main_v25 (F := Ideal) x table g u (ix3 b r f)
      = gated (∑ k : Fin 4096, x (ix2 (row b r) k) * g (ix4 0 (expertOf table b) k f))
          (∑ k : Fin 4096, x (ix2 (row b r) k) * u (ix4 0 (expertOf table b) k f)) := by
  have one : Ideal.ofBits .f32 0x3F800000#32 = 1 := Ideal.ofBits_one_f32
  rw [val_main_v25_apply, val_main_v16_apply, val_main_call0_v5_apply, val_main_call0_v3_apply, val_main_call0_v4_apply,
    val_main_call0_v2_apply, val_main_call0_cst_apply, val_main_call0_cst_0_apply, val_main_call0_v1_apply, val_main_call0_v0_apply,
    gate_activation x table g hw, up_activation x table u hw]
  generalize (∑ k : Fin 4096, x (ix2 (row b r) k) * g (ix4 0 (expertOf table b) k f)) = s
  generalize (∑ k : Fin 4096, x (ix2 (row b r) k) * u (ix4 0 (expertOf table b) k f)) = v
  show s * Ideal.div (Ideal.ofBits .f32 0x3F800000#32) (Ideal.ofBits .f32 0x3F800000#32 + Ideal.exp (-s)) * v = s * Ideal.logistic s * v
  rw [one]; rfl

/-- The unmasked result of a token block. -/
theorem unmasked_reference (hw : ∀ w : S160.Idx, (table w).toNat < 32) (b : Fin 160) (r : Fin 512) (q : Fin 4096) :
    val_main_v33 (F := Ideal) x table g u d (ix3 b r q) = ∑ f : Fin 2048, unit x g u d (expertOf table b) (row b r) q f := by
  refine (val_main_v33_apply x table g u d (ix3 b r q)).trans (Finset.sum_congr rfl fun f _ => ?_)
  have hl : lidx_main_v33 (ix3 b r q) f = ix3 b r f := by
    funext a
    match a with
    | ⟨0, _⟩ => rfl
    | ⟨1, _⟩ => rfl
    | ⟨2, _⟩ => rfl
  have hr : ridx_main_v33 (ix3 b r q) f = ix3 b f q := by
    funext a
    match a with
    | ⟨0, _⟩ => rfl
    | ⟨1, _⟩ => rfl
    | ⟨2, _⟩ => rfl
  rw [hl, hr]
  exact congrArg₂ (· * ·) (hidden_reference x table g u hw b r f) (down_gathered table d hw b f q)

/-- The mask of a token block: whether it is live. -/
theorem mask_reference (b : Fin 160) (r : Fin 512) (q : Fin 4096) :
    val_main_call1_v1 (F := Ideal) count (ix3 b r q) = IntOp.cmpi .slt (BitVec.ofNat 32 b.val) (count (ix1 0)) := by
  refine congrArg (fun w => IntOp.cmpi .slt (BitVec.ofNat 32 b.val) (count w)) (only_index _)

/-- The reference's result, entry by entry. -/
theorem reference_eq (hw : ∀ w : S160.Idx, (table w).toNat < 32) :
    val_main_v41 (F := Ideal) x table count g u d = G x table count g u d := by
  refine funext fun (i : S81920x4096.Idx) => ?_
  obtain ⟨b, r, q, hi⟩ : ∃ b r q, i = ix2 (row b r) q :=
    ⟨blockOf (i 0), ⟨(i 0).val % 512, Nat.mod_lt _ (by omega)⟩, i 1, by
      funext a; apply Fin.ext
      match a with
      | ⟨0, _⟩ => show (i 0).val = (i 0).val / 512 * 512 + (i 0).val % 512; omega
      | ⟨1, _⟩ => rfl⟩
  subst hi
  have hB : blockOf (row b r) = b := Fin.ext (by show (b.val * 512 + r.val) / 512 = b.val; omega)
  have hx : idx_main_v40 (ix2 (row b r) q) = ix3 b r q := by
    funext a; apply Fin.ext
    match a with
    | ⟨0, _⟩ => show ((b.val * 512 + r.val) * 4096 + q.val) / 2097152 = b.val; omega
    | ⟨1, _⟩ => show ((b.val * 512 + r.val) * 4096 + q.val) / 4096 % 512 = r.val; omega
    | ⟨2, _⟩ => show ((b.val * 512 + r.val) * 4096 + q.val) % 4096 = q.val; omega
  refine Eq.trans ?_ (G_apply _ _ _ _ _ _ _ _).symm
  rw [hB]
  refine ((val_main_v40_apply (F := Ideal) x table count g u d (ix2 (row b r) q)).trans ?_ :
    val_main_v40 (F := Ideal) x table count g u d (ix2 (row b r) q) = _)
  rw [hx, val_main_v39_apply, mask_reference, unmasked_reference x table g u d hw]
  rcases BitVec.eq_zero_or_eq_one (IntOp.cmpi .slt (BitVec.ofNat 32 b.val) (count (ix1 0))) with h | h
  · have hl : ¬ Live count b.val := fun e => absurd (h.symm.trans e) (by decide)
    rw [if_neg hl, h]
    exact Ideal.ofBits_zero_f32
  · have hl : Live count b.val := h
    rw [if_pos hl, h]
    rfl

/-- The expert call and the reference, run from the same arguments, have equal results. -/
theorem algebraic : Cert.algebraic_KernelIdeal_ReferenceIdeal := by
  intro m g m' g' hpre hargs
  have hw : ∀ w : S160.Idx, (tableOf m 0 w).toNat < 32 := fun w => word_named _ _ _ _ _ _ (hpre 0) w
  have hO := ok_of_pre_ideal m hpre
  refine ⟨fun c => result m c, ?_, ?_⟩
  · refine (θ_run Cert.KernelIdeal.defs _ _).mono (fun r h c => ⟨((h.1 c).1 4).trans (final m hO c hw), h.2 c⟩)
      (θ_run_and (Cert.KernelIdeal.Gen.run_main m g hO) (Cert.KernelIdeal.Gen.unchanged m g hO))
  · refine (θ_run Cert.ReferenceIdeal.defs _ _).mono (fun r h c => ⟨(h c).1.trans ?_, (h c).2⟩) (Cert.ReferenceIdeal.Value.run m' g')
    have ha := hargs c
    have hc : c = 0 := Subsingleton.elim _ _
    subst hc
    rw [ha.1, ha.2.1, ha.2.2.1, ha.2.2.2.1, ha.2.2.2.2.1, ha.2.2.2.2.2]
    exact (val_main_v41_eq (F := Ideal) _ _ _ _ _ _).trans (reference_eq _ _ _ _ _ _ hw)

/-- The reference runs, leaves its arguments unchanged and every semaphore counter at zero. -/
theorem reference_quiescent : Cert.quiescent_ReferenceIdeal := fun m g _ =>
  (θ_run Cert.ReferenceIdeal.defs _ _).mono (fun _ h => ⟨fun c => (h c).2, sem_eq_zero_of_no_sems rfl _⟩)
    (Cert.ReferenceIdeal.Value.run m g)

end Cert.Experts

end
-- ==== Proof.lean ====
/-
  The claims of this certificate, assembled: each call's kernel and reference run, keep their arguments and leave every semaphore
  counter at zero, and over the extended reals they have equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelMl
public import proofs.«01_k».proof.Proof.Gen.KernelMl.Skeleton
public import proofs.«01_k».proof.Proof.Gen.KernelMl.Launch
public import proofs.«01_k».proof.Proof.Gen.KernelMl.Points
public import proofs.«01_k».proof.Proof.Gen.KernelMl.Frame
public import proofs.«01_k».proof.Proof.Gen.KernelMlIdeal
public import proofs.«01_k».proof.Proof.Gen.KernelMlIdeal.Skeleton
public import proofs.«01_k».proof.Proof.Gen.KernelMlIdeal.Launch
public import proofs.«01_k».proof.Proof.Gen.KernelMlIdeal.Points
public import proofs.«01_k».proof.Proof.Gen.KernelMlIdeal.Frame
public import proofs.«01_k».proof.Proof.Gen.ReferenceMlIdeal
public import proofs.«01_k».proof.Proof.Gen.KernelNa
public import proofs.«01_k».proof.Proof.Gen.KernelNa.Skeleton
public import proofs.«01_k».proof.Proof.Gen.KernelNa.Launch
public import proofs.«01_k».proof.Proof.Gen.KernelNa.Points
public import proofs.«01_k».proof.Proof.Gen.KernelNa.Frame
public import proofs.«01_k».proof.Proof.Gen.KernelNaIdeal
public import proofs.«01_k».proof.Proof.Gen.KernelNaIdeal.Skeleton
public import proofs.«01_k».proof.Proof.Gen.KernelNaIdeal.Launch
public import proofs.«01_k».proof.Proof.Gen.KernelNaIdeal.Points
public import proofs.«01_k».proof.Proof.Gen.KernelNaIdeal.Frame
public import proofs.«01_k».proof.Proof.Gen.ReferenceNaIdeal
public import proofs.«01_k».proof.Proof.Gen.KernelQk
public import proofs.«01_k».proof.Proof.Gen.KernelQk.Skeleton
public import proofs.«01_k».proof.Proof.Gen.KernelQk.Launch
public import proofs.«01_k».proof.Proof.Gen.KernelQk.Points
public import proofs.«01_k».proof.Proof.Gen.KernelQk.Frame
public import proofs.«01_k».proof.Proof.Gen.KernelQkIdeal
public import proofs.«01_k».proof.Proof.Gen.KernelQkIdeal.Skeleton
public import proofs.«01_k».proof.Proof.Gen.KernelQkIdeal.Launch
public import proofs.«01_k».proof.Proof.Gen.KernelQkIdeal.Points
public import proofs.«01_k».proof.Proof.Gen.KernelQkIdeal.Frame
public import proofs.«01_k».proof.Proof.Gen.ReferenceQkIdeal
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.Pre_experts_exist
public import proofs.«01_k».proof.Proof.Gen.KernelDiff
public import proofs.«01_k».proof.Proof.Gen.KernelDiff.Skeleton
public import proofs.«01_k».proof.Proof.Gen.KernelDiff.Loops
public import proofs.«01_k».proof.Proof.Gen.KernelDiff.Launch
public import proofs.«01_k».proof.Proof.Gen.KernelDiff.Points
public import proofs.«01_k».proof.Proof.Gen.KernelDiffIdeal
public import proofs.«01_k».proof.Proof.Gen.KernelDiffIdeal.Skeleton
public import proofs.«01_k».proof.Proof.Gen.KernelDiffIdeal.Loops
public import proofs.«01_k».proof.Proof.Gen.KernelDiffIdeal.Launch
public import proofs.«01_k».proof.Proof.Gen.KernelDiffIdeal.Points
public import proofs.«01_k».proof.Proof.Gen.ReferenceDiffIdeal
public import proofs.«01_k».proof.Proof.Gen.Pre_diff_finite
public import proofs.«01_k».proof.Proof.Gen.ReferenceDiffIdeal.Run
public import proofs.«01_k».proof.Proof.Gen.ReferenceDiffIdeal.Read
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.ReferenceGatesIdeal.Read
public import proofs.«01_k».proof.Proof.Gen.KernelLn
public import proofs.«01_k».proof.Proof.Gen.KernelLn.Skeleton
public import proofs.«01_k».proof.Proof.Gen.KernelLn.Launch
public import proofs.«01_k».proof.Proof.Gen.KernelLn.Points
public import proofs.«01_k».proof.Proof.Gen.KernelLn.Frame
public import proofs.«01_k».proof.Proof.Gen.KernelLnIdeal
public import proofs.«01_k».proof.Proof.Gen.KernelLnIdeal.Skeleton
public import proofs.«01_k».proof.Proof.Gen.KernelLnIdeal.Launch
public import proofs.«01_k».proof.Proof.Gen.KernelLnIdeal.Points
public import proofs.«01_k».proof.Proof.Gen.KernelLnIdeal.Frame
public import proofs.«01_k».proof.Proof.Gen.KernelLnIdeal.Value
public import proofs.«01_k».proof.Proof.Gen.ReferenceLnIdeal
public import proofs.«01_k».proof.Proof.Gen.ReferenceLnIdeal.Run
public import proofs.«01_k».proof.Proof.Gen.ReferenceLnIdeal.Read
public import proofs.«01_k».proof.Proof.Gen.KernelComb
public import proofs.«01_k».proof.Proof.Gen.KernelComb.Skeleton
public import proofs.«01_k».proof.Proof.Gen.KernelComb.Launch
public import proofs.«01_k».proof.Proof.Gen.KernelComb.Points
public import proofs.«01_k».proof.Proof.Gen.KernelComb.Frame
public import proofs.«01_k».proof.Proof.Gen.KernelCombIdeal
public import proofs.«01_k».proof.Proof.Gen.KernelCombIdeal.Skeleton
public import proofs.«01_k».proof.Proof.Gen.KernelCombIdeal.Launch
public import proofs.«01_k».proof.Proof.Gen.KernelCombIdeal.Points
public import proofs.«01_k».proof.Proof.Gen.KernelCombIdeal.Frame
public import proofs.«01_k».proof.Proof.Gen.KernelCombIdeal.Value
public import proofs.«01_k».proof.Proof.Gen.ReferenceCombIdeal
public import proofs.«01_k».proof.Proof.Gen.ReferenceCombIdeal.Run
public import proofs.«01_k».proof.Proof.Gen.ReferenceCombIdeal.Read
public import proofs.«01_k».proof.Proof.Gen.KernelRopeQ
public import proofs.«01_k».proof.Proof.Gen.KernelRopeQIdeal
public import proofs.«01_k».proof.Proof.Gen.KernelRopeQ.Skeleton
public import proofs.«01_k».proof.Proof.Gen.KernelRopeQIdeal.Skeleton
public import proofs.«01_k».proof.Proof.Gen.KernelRopeQ.Launch
public import proofs.«01_k».proof.Proof.Gen.KernelRopeQIdeal.Launch
public import proofs.«01_k».proof.Proof.Gen.KernelRopeQ.Points
public import proofs.«01_k».proof.Proof.Gen.KernelRopeQIdeal.Points
public import proofs.«01_k».proof.Proof.Gen.KernelRopeQ.Frame
public import proofs.«01_k».proof.Proof.Gen.KernelRopeQIdeal.Frame
public import proofs.«01_k».proof.Proof.Gen.KernelRopeQIdeal.Value
public import proofs.«01_k».proof.Proof.Gen.ReferenceRopeQIdeal
public import proofs.«01_k».proof.Proof.Gen.ReferenceRopeQIdeal.Run
public import proofs.«01_k».proof.Proof.Gen.ReferenceRopeQIdeal.Read
public import proofs.«01_k».proof.Proof.Gen.KernelRopeK
public import proofs.«01_k».proof.Proof.Gen.KernelRopeKIdeal
public import proofs.«01_k».proof.Proof.Gen.KernelRopeK.Skeleton
public import proofs.«01_k».proof.Proof.Gen.KernelRopeKIdeal.Skeleton
public import proofs.«01_k».proof.Proof.Gen.KernelRopeK.Launch
public import proofs.«01_k».proof.Proof.Gen.KernelRopeKIdeal.Launch
public import proofs.«01_k».proof.Proof.Gen.KernelRopeK.Points
public import proofs.«01_k».proof.Proof.Gen.KernelRopeKIdeal.Points
public import proofs.«01_k».proof.Proof.Gen.KernelRopeK.Frame
public import proofs.«01_k».proof.Proof.Gen.KernelRopeKIdeal.Frame
public import proofs.«01_k».proof.Proof.Gen.KernelRopeKIdeal.Value
public import proofs.«01_k».proof.Proof.Gen.ReferenceRopeKIdeal
public import proofs.«01_k».proof.Proof.Gen.ReferenceRopeKIdeal.Run
public import proofs.«01_k».proof.Proof.Gen.ReferenceRopeKIdeal.Read
public import proofs.«01_k».proof.Proof.Gen.KernelRouter
public import proofs.«01_k».proof.Proof.Gen.KernelRouterIdeal
public import proofs.«01_k».proof.Proof.Gen.Pre_router_finite
public import proofs.«01_k».proof.Proof.Gen.KernelRouter.Skeleton
public import proofs.«01_k».proof.Proof.Gen.KernelRouterIdeal.Skeleton
public import proofs.«01_k».proof.Proof.Gen.KernelRouter.Launch
public import proofs.«01_k».proof.Proof.Gen.KernelRouterIdeal.Launch
public import proofs.«01_k».proof.Proof.Gen.KernelRouter.Points
public import proofs.«01_k».proof.Proof.Gen.KernelRouterIdeal.Points
public import proofs.«01_k».proof.Proof.Gen.KernelRouter.Frame
public import proofs.«01_k».proof.Proof.Gen.KernelRouterIdeal.Frame
public import proofs.«01_k».proof.Proof.Gen.KernelRouterIdeal.Value
public import proofs.«01_k».proof.Proof.Gen.ReferenceRouterIdeal
public import proofs.«01_k».proof.Proof.Gen.ReferenceRouterIdeal.Run
public import proofs.«01_k».proof.Proof.Gen.ReferenceRouterIdeal.Read
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Gen.ReferenceMlIdeal.Run
public import proofs.«01_k».proof.Proof.Gen.ReferenceMlIdeal.Read
public import proofs.«01_k».proof.Proof.Gen.ReferenceNaIdeal.Run
public import proofs.«01_k».proof.Proof.Gen.ReferenceNaIdeal.Read
public import proofs.«01_k».proof.Proof.Gen.ReferenceQkIdeal.Run
public import proofs.«01_k».proof.Proof.Gen.ReferenceQkIdeal.Read
public import proofs.«01_k».proof.Proof.Gen.ReferenceVIdeal.Run
public import proofs.«01_k».proof.Proof.Gen.ReferenceVIdeal.Read
public import proofs.«01_k».proof.Proof.Gen.ReferenceOutIdeal.Run
public import proofs.«01_k».proof.Proof.Gen.ReferenceOutIdeal.Read
public import proofs.«01_k».proof.Proof.Gen.KernelMlIdeal.Value
public import proofs.«01_k».proof.Proof.Gen.KernelNaIdeal.Value
public import proofs.«01_k».proof.Proof.Gen.KernelQkIdeal.Value
public import proofs.«01_k».proof.Proof.Gen.KernelVIdeal.Value
public import proofs.«01_k».proof.Proof.Gen.KernelOutIdeal.Value
public import proofs.«01_k».proof.Proof.MlValue
public import proofs.«01_k».proof.Proof.NaValue
public import proofs.«01_k».proof.Proof.QkValue
public import proofs.«01_k».proof.Proof.VValue
public import proofs.«01_k».proof.Proof.OutValue
public import proofs.«01_k».proof.Proof.DiffFrameP
public import proofs.«01_k».proof.Proof.DiffValue
public import proofs.«01_k».proof.Proof.GatesValue
public import proofs.«01_k».proof.Proof.LnValue
public import proofs.«01_k».proof.Proof.CombValue
public import proofs.«01_k».proof.Proof.RopeQValue
public import proofs.«01_k».proof.Proof.RopeKValue
public import proofs.«01_k».proof.Proof.RouterValue
public import proofs.«01_k».proof.Proof.ExpertsPre
public import proofs.«01_k».proof.Proof.ExpertsReference

@[expose] public section

noncomputable section

namespace Cert.Proof

open Idealize.ShloMosaic Idealize.SL.Sem

/-- All claims together. -/
theorem claim : Cert.Claim :=
  ⟨Cert.Kernel.Gen.facts,
    Cert.KernelIdeal.Gen.facts,
    Cert.ReferenceIdeal.Gen.facts,
    Cert.KernelMl.Gen.facts,
    Cert.KernelMlIdeal.Gen.facts,
    Cert.ReferenceMlIdeal.Gen.facts,
    Cert.KernelNa.Gen.facts,
    Cert.KernelNaIdeal.Gen.facts,
    Cert.ReferenceNaIdeal.Gen.facts,
    Cert.KernelQk.Gen.facts,
    Cert.KernelQkIdeal.Gen.facts,
    Cert.ReferenceQkIdeal.Gen.facts,
    Cert.KernelV.Gen.facts,
    Cert.KernelVIdeal.Gen.facts,
    Cert.ReferenceVIdeal.Gen.facts,
    Cert.KernelOut.Gen.facts,
    Cert.KernelOutIdeal.Gen.facts,
    Cert.ReferenceOutIdeal.Gen.facts,
    Cert.KernelDiff.Gen.facts,
    Cert.KernelDiffIdeal.Gen.facts,
    Cert.ReferenceDiffIdeal.Gen.facts,
    Cert.KernelGates.Gen.facts,
    Cert.KernelGatesIdeal.Gen.facts,
    Cert.ReferenceGatesIdeal.Gen.facts,
    Cert.KernelLn.Gen.facts,
    Cert.KernelLnIdeal.Gen.facts,
    Cert.ReferenceLnIdeal.Gen.facts,
    Cert.KernelComb.Gen.facts,
    Cert.KernelCombIdeal.Gen.facts,
    Cert.ReferenceCombIdeal.Gen.facts,
    Cert.KernelRopeQ.Gen.facts,
    Cert.KernelRopeQIdeal.Gen.facts,
    Cert.ReferenceRopeQIdeal.Gen.facts,
    Cert.KernelRopeK.Gen.facts,
    Cert.KernelRopeKIdeal.Gen.facts,
    Cert.ReferenceRopeKIdeal.Gen.facts,
    Cert.KernelRouter.Gen.facts,
    Cert.KernelRouterIdeal.Gen.facts,
    Cert.ReferenceRouterIdeal.Gen.facts,
    Cert.Pre_experts_exist.Gen.facts,
    Cert.Pre_diff_finite.Gen.facts,
    Cert.Pre_router_finite.Gen.facts,
    fun m g h => Cert.Kernel.Gen.frame m g (Cert.Experts.ok_of_pre_bits m h),
    fun m g h => Cert.KernelIdeal.Gen.frame m g (Cert.Experts.ok_of_pre_ideal m h),
    Cert.Experts.reference_quiescent,
    fun m g _ => Cert.KernelMl.Gen.frame m g,
    fun m g _ => Cert.KernelMlIdeal.Gen.frame m g,
    Cert.MlValue.reference_quiescent,
    fun m g _ => Cert.KernelNa.Gen.frame m g,
    fun m g _ => Cert.KernelNaIdeal.Gen.frame m g,
    Cert.NaValue.reference_quiescent,
    fun m g _ => Cert.KernelQk.Gen.frame m g,
    fun m g _ => Cert.KernelQkIdeal.Gen.frame m g,
    Cert.QkValue.reference_quiescent,
    fun m g _ => Cert.KernelV.Gen.frame m g,
    fun m g _ => Cert.KernelVIdeal.Gen.frame m g,
    Cert.VValue.reference_quiescent,
    fun m g _ => Cert.KernelOut.Gen.frame m g,
    fun m g _ => Cert.KernelOutIdeal.Gen.frame m g,
    Cert.OutValue.reference_quiescent,
    fun m g _ => Cert.KernelDiff.Run.frame m g,
    fun m g _ => Cert.KernelDiffIdeal.Run.frame m g,
    fun m g _ => Cert.KernelDiffIdeal.Run.frame m g,
    Cert.DiffValue.reference_quiescent,
    fun m g _ => Cert.DiffValue.reference_quiescent m g trivial,
    fun m g _ => Cert.KernelGates.Gen.frame m g,
    fun m g _ => Cert.KernelGatesIdeal.Gen.frame m g,
    Cert.GatesValue.reference_quiescent,
    fun m g _ => Cert.KernelLn.Gen.frame m g,
    fun m g _ => Cert.KernelLnIdeal.Gen.frame m g,
    Cert.LnValue.reference_quiescent,
    fun m g _ => Cert.KernelComb.Gen.frame m g,
    fun m g _ => Cert.KernelCombIdeal.Gen.frame m g,
    Cert.CombValue.reference_quiescent,
    fun m g _ => Cert.KernelRopeQ.Gen.frame m g,
    fun m g _ => Cert.KernelRopeQIdeal.Gen.frame m g,
    Cert.RopeQValue.reference_quiescent,
    fun m g _ => Cert.KernelRopeK.Gen.frame m g,
    fun m g _ => Cert.KernelRopeKIdeal.Gen.frame m g,
    Cert.RopeKValue.reference_quiescent,
    fun m g _ => Cert.KernelRouter.Gen.frame m g,
    fun m g _ => Cert.KernelRouterIdeal.Gen.frame m g,
    fun m g _ => Cert.KernelRouterIdeal.Gen.frame m g,
    Cert.RouterValue.reference_quiescent,
    fun m g _ => Cert.RouterValue.reference_quiescent m g trivial,
    trivial,
    Cert.Experts.algebraic,
    trivial,
    Cert.MlValue.algebraic,
    trivial,
    Cert.NaValue.algebraic,
    trivial,
    Cert.QkValue.algebraic,
    trivial,
    Cert.VValue.algebraic,
    trivial,
    Cert.OutValue.algebraic,
    trivial,
    Cert.DiffValue.algebraic,
    trivial,
    Cert.GatesValue.algebraic,
    trivial,
    Cert.LnValue.algebraic,
    trivial,
    Cert.CombValue.algebraic,
    trivial,
    Cert.RopeQValue.algebraic,
    trivial,
    Cert.RopeKValue.algebraic,
    trivial,
    Cert.RouterValue.algebraic⟩

end Cert.Proof

end
